-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)) (v2 : (c : Dev Cert.Kernel2Ideal.nD) → Buf (Elt Ideal) ((c.tc : Thread Cert.Kernel2Ideal.nD Cert.Kernel2Ideal.τ).loc Cert.Kernel2Ideal.main_v20_2)) (v3 : (c : Dev Cert.Kernel2Ideal.nD) → Buf (Elt Ideal) ((c.tc : Thread Cert.Kernel2Ideal.nD Cert.Kernel2Ideal.τ).loc Cert.Kernel2Ideal.main_v20_3)) (v4 : (c : Dev Cert.Kernel2Ideal.nD) → Buf (Elt Ideal) ((c.tc : Thread Cert.Kernel2Ideal.nD Cert.Kernel2Ideal.τ).loc Cert.Kernel2Ideal.main_v20_4)) (v5 : (c : Dev Cert.Kernel2Ideal.nD) → Buf (Elt Ideal) ((c.tc : Thread Cert.Kernel2Ideal.nD Cert.Kernel2Ideal.τ).loc Cert.Kernel2Ideal.main_v20_5)) (v6 : (c : Dev Cert.Kernel2Ideal.nD) → Buf (Elt Ideal) ((c.tc : Thread Cert.Kernel2Ideal.nD Cert.Kernel2Ideal.τ).loc Cert.Kernel2Ideal.main_v20_6)) (v7 : (c : Dev Cert.Kernel2Ideal.nD) → Buf (Elt Ideal) ((c.tc : Thread Cert.Kernel2Ideal.nD Cert.Kernel2Ideal.τ).loc Cert.Kernel2Ideal.main_v20_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_v20_2) = v2 c
          ∧ r.2.mem ((c.tc : Thread Cert.Kernel2Ideal.nD Cert.Kernel2Ideal.τ).loc Cert.Kernel2Ideal.main_v20_3) = v3 c
          ∧ r.2.mem ((c.tc : Thread Cert.Kernel2Ideal.nD Cert.Kernel2Ideal.τ).loc Cert.Kernel2Ideal.main_v20_4) = v4 c
          ∧ r.2.mem ((c.tc : Thread Cert.Kernel2Ideal.nD Cert.Kernel2Ideal.τ).loc Cert.Kernel2Ideal.main_v20_5) = v5 c
          ∧ r.2.mem ((c.tc : Thread Cert.Kernel2Ideal.nD Cert.Kernel2Ideal.τ).loc Cert.Kernel2Ideal.main_v20_6) = v6 c
          ∧ r.2.mem ((c.tc : Thread Cert.Kernel2Ideal.nD Cert.Kernel2Ideal.τ).loc Cert.Kernel2Ideal.main_v20_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v80) = v0 c
          ∧ r.2.mem ((c.tc : Thread Cert.Reference2Ideal.nD Cert.Reference2Ideal.τ).loc Cert.Reference2Ideal.main_v81) = v1 c
          ∧ r.2.mem ((c.tc : Thread Cert.Reference2Ideal.nD Cert.Reference2Ideal.τ).loc Cert.Reference2Ideal.main_v100) = v2 c
          ∧ r.2.mem ((c.tc : Thread Cert.Reference2Ideal.nD Cert.Reference2Ideal.τ).loc Cert.Reference2Ideal.main_v117) = v3 c
          ∧ r.2.mem ((c.tc : Thread Cert.Reference2Ideal.nD Cert.Reference2Ideal.τ).loc Cert.Reference2Ideal.main_v134) = v4 c
          ∧ r.2.mem ((c.tc : Thread Cert.Reference2Ideal.nD Cert.Reference2Ideal.τ).loc Cert.Reference2Ideal.main_v143) = v5 c
          ∧ r.2.mem ((c.tc : Thread Cert.Reference2Ideal.nD Cert.Reference2Ideal.τ).loc Cert.Reference2Ideal.main_v152) = v6 c
          ∧ r.2.mem ((c.tc : Thread Cert.Reference2Ideal.nD Cert.Reference2Ideal.τ).loc Cert.Reference2Ideal.main_v161) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v108) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16))

def preserves_Kernel4_Kernel4Ideal : Prop :=
  IdealRules.named_const.Statement Cert.Kernel4Ideal.κ "mask" .f32 0xF149F2CA#32 ⊥

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v11_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  IdealRules.named_const.Statement Cert.Kernel5Ideal.κ "mask" .f32 0xF149F2CA#32 ⊥

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v11_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S2x8192x768 : Shape := ⟨3, ![2, 8192, 768]⟩
abbrev S32x768 : Shape := ⟨2, ![32, 768]⟩
abbrev S32x1536 : Shape := ⟨2, ![32, 1536]⟩
abbrev S1x32x512x2x4x64 : Shape := ⟨6, ![1, 32, 512, 2, 4, 64]⟩
abbrev S_ : Shape := ⟨0, ![]⟩

class Facts : Prop where
  bitsLt_bf16_f32 : FTy.bits .bf16 < FTy.bits .f32
  bcast_S_S2x8192x768 : S_.BroadcastsInDim S2x8192x768 (![] : Fin 0 → Fin S2x8192x768.rank)
  reducesTo_S2x8192x768_S_d0_1_2 : S2x8192x768.ReducesTo [0, 1, 2] S_
  h_S_ : 0 < S_.numel

variable [Facts]

def fn {F : FTy → Type} [FloatOps F] (main_arg0 : FVec F S2x8192x768 .bf16) (main_arg1 : FVec F S2x8192x768 .bf16) (main_arg2 : FVec F S2x8192x768 .bf16) (main_arg3 : FVec F S32x768 .bf16) (main_arg4 : FVec F S32x1536 .f32) (main_arg5 : FVec F S1x32x512x2x4x64 .f32) : IVec S_ 1 :=
  let main_v0 : FVec F S2x8192x768 .f32 := (extf .f32 · bitsLt_bf16_f32) main_arg0
  let main_v1 : FVec F S2x8192x768 .f32 := Host.absf main_v0
  let main_cst : FVec F S_ .f32 := constant S_ .f32 0x7F800000#32
  let main_v2 : FVec F S2x8192x768 .f32 := broadcastInDim S2x8192x768 ![] bcast_S_S2x8192x768 main_cst
  let main_v3 : IVec S2x8192x768 1 := cmpf .olt main_v1 main_v2
  let main_c : IVec S_ 1 := constantI S_ 1 1#1
  let main_v4 : IVec S_ 1 := (fun x v => Host.reduce IntOp.andi x v reducesTo_S2x8192x768_S_d0_1_2 h_S_) main_v3 main_c
  let main_v5 : FVec F S2x8192x768 .f32 := (extf .f32 · bitsLt_bf16_f32) main_arg1
  let main_v6 : FVec F S2x8192x768 .f32 := Host.absf main_v5
  let main_cst_0 : FVec F S_ .f32 := constant S_ .f32 0x7F800000#32
  let main_v7 : FVec F S2x8192x768 .f32 := broadcastInDim S2x8192x768 ![] bcast_S_S2x8192x768 main_cst_0
  let main_v8 : IVec S2x8192x768 1 := cmpf .olt main_v6 main_v7
  let main_c_1 : IVec S_ 1 := constantI S_ 1 1#1
  let main_v9 : IVec S_ 1 := (fun x v => Host.reduce IntOp.andi x v reducesTo_S2x8192x768_S_d0_1_2 h_S_) main_v8 main_c_1
  let main_v10 : IVec S_ 1 := andi main_v4 main_v9
  main_v10
-- ==== Pre_finite3.lean ====
abbrev S16384x1024 : Shape := ⟨2, ![16384, 1024]⟩
abbrev S16384x512 : Shape := ⟨2, ![16384, 512]⟩
abbrev S16384x256 : Shape := ⟨2, ![16384, 256]⟩
abbrev S16384x128 : Shape := ⟨2, ![16384, 128]⟩
abbrev S1024 : Shape := ⟨1, ![1024]⟩
abbrev S1024x2048 : Shape := ⟨2, ![1024, 2048]⟩
abbrev S512x1024 : Shape := ⟨2, ![512, 1024]⟩
abbrev S256x1024 : Shape := ⟨2, ![256, 1024]⟩
abbrev S1024x1024 : Shape := ⟨2, ![1024, 1024]⟩
abbrev S1024x2816 : Shape := ⟨2, ![1024, 2816]⟩
abbrev S2816x1024 : Shape := ⟨2, ![2816, 1024]⟩
abbrev S16384x4 : Shape := ⟨2, ![16384, 4]⟩
abbrev S_ : Shape := ⟨0, ![]⟩

class Facts : Prop where
  slices_S16384x128_S16384x4_0_0 : S16384x128.Slices ![0, 0] S16384x4
  bcast_S_S16384x4 : S_.BroadcastsInDim S16384x4 (![] : Fin 0 → Fin S16384x4.rank)
  reducesTo_S16384x4_S_d0_1 : S16384x4.ReducesTo [0, 1] S_
  h_S_ : 0 < S_.numel

variable [Facts]

def fn {F : FTy → Type} [FloatOps F] (main_arg0 : FVec F S16384x1024 .f32) (main_arg1 : FVec F S16384x512 .bf16) (main_arg2 : FVec F S16384x256 .bf16) (main_arg3 : FVec F S16384x256 .bf16) (main_arg4 : FVec F S16384x256 .bf16) (main_arg5 : FVec F S16384x128 .f32) (main_arg6 : FVec F S16384x128 .f32) (main_arg7 : FVec F S16384x128 .f32) (main_arg8 : FVec F S1024 .f32) (main_arg9 : FVec F S1024x2048 .bf16) (main_arg10 : FVec F S512x1024 .bf16) (main_arg11 : FVec F S256x1024 .bf16) (main_arg12 : FVec F S1024x1024 .bf16) (main_arg13 : FVec F S1024 .f32) (main_arg14 : FVec F S1024x2816 .bf16) (main_arg15 : FVec F S1024x2816 .bf16) (main_arg16 : FVec F S2816x1024 .bf16) : IVec S_ 1 :=
  let main_v0 : FVec F S16384x4 .f32 := (extractStridedSlice S16384x4 ![0, 0] · slices_S16384x128_S16384x4_0_0) main_arg5
  let main_v1 : FVec F S16384x4 .f32 := Host.absf main_v0
  let main_cst : FVec F S_ .f32 := constant S_ .f32 0x7F800000#32
  let main_v2 : FVec F S16384x4 .f32 := broadcastInDim S16384x4 ![] bcast_S_S16384x4 main_cst
  let main_v3 : IVec S16384x4 1 := cmpf .olt main_v1 main_v2
  let main_c : IVec S_ 1 := constantI S_ 1 1#1
  let main_v4 : IVec S_ 1 := (fun x v => Host.reduce IntOp.andi x v reducesTo_S16384x4_S_d0_1 h_S_) main_v3 main_c
  let main_v5 : FVec F S16384x4 .f32 := (extractStridedSlice S16384x4 ![0, 0] · slices_S16384x128_S16384x4_0_0) main_arg6
  let main_v6 : FVec F S16384x4 .f32 := Host.absf main_v5
  let main_cst_0 : FVec F S_ .f32 := constant S_ .f32 0x7F800000#32
  let main_v7 : FVec F S16384x4 .f32 := broadcastInDim S16384x4 ![] bcast_S_S16384x4 main_cst_0
  let main_v8 : IVec S16384x4 1 := cmpf .olt main_v6 main_v7
  let main_c_1 : IVec S_ 1 := constantI S_ 1 1#1
  let main_v9 : IVec S_ 1 := (fun x v => Host.reduce IntOp.andi x v reducesTo_S16384x4_S_d0_1 h_S_) main_v8 main_c_1
  let main_v10 : IVec S_ 1 := andi main_v4 main_v9
  let main_v11 : FVec F S16384x4 .f32 := (extractStridedSlice S16384x4 ![0, 0] · slices_S16384x128_S16384x4_0_0) main_arg7
  let main_v12 : FVec F S16384x4 .f32 := Host.absf main_v11
  let main_cst_2 : FVec F S_ .f32 := constant S_ .f32 0x7F800000#32
  let main_v13 : FVec F S16384x4 .f32 := broadcastInDim S16384x4 ![] bcast_S_S16384x4 main_cst_2
  let main_v14 : IVec S16384x4 1 := cmpf .olt main_v12 main_v13
  let main_c_3 : IVec S_ 1 := constantI S_ 1 1#1
  let main_v15 : IVec S_ 1 := (fun x v => Host.reduce IntOp.andi x v reducesTo_S16384x4_S_d0_1 h_S_) main_v14 main_c_3
  let main_v16 : IVec S_ 1 := andi main_v10 main_v15
  main_v16
-- ==== Kernel.lean ====
abbrev S2x8192x768 : Shape := ⟨3, ![2, 8192, 768]⟩
abbrev S32x768 : Shape := ⟨2, ![32, 768]⟩
abbrev S32x1536 : Shape := ⟨2, ![32, 1536]⟩
abbrev S1x32x512x2x4x64 : Shape := ⟨6, ![1, 32, 512, 2, 4, 64]⟩
abbrev S32x512x2x4x64 : Shape := ⟨5, ![32, 512, 2, 4, 64]⟩
abbrev S32x2x4x64x512 : Shape := ⟨5, ![32, 2, 4, 64, 512]⟩
abbrev S32x512x512 : Shape := ⟨3, ![32, 512, 512]⟩
abbrev S2x16x4x128x768 : Shape := ⟨5, ![2, 16, 4, 128, 768]⟩
abbrev S32x1x768 : Shape := ⟨3, ![32, 1, 768]⟩
abbrev S32x1x1536 : Shape := ⟨3, ![32, 1, 1536]⟩
abbrev S2x16x4x128x256 : Shape := ⟨5, ![2, 16, 4, 128, 256]⟩
abbrev S2x16x4x128x128 : Shape := ⟨5, ![2, 16, 4, 128, 128]⟩
abbrev S32x1x256 : Shape := ⟨3, ![32, 1, 256]⟩
abbrev S32x1x128 : Shape := ⟨3, ![32, 1, 128]⟩
abbrev S1x4x1x128x256 : Shape := ⟨5, ![1, 4, 1, 128, 256]⟩
abbrev S1x1x1x128x256 : Shape := ⟨5, ![1, 1, 1, 128, 256]⟩
abbrev S1x1x256 : Shape := ⟨3, ![1, 1, 256]⟩
abbrev S1x512x512 : Shape := ⟨3, ![1, 512, 512]⟩
abbrev S1x4x1x128x128 : Shape := ⟨5, ![1, 4, 1, 128, 128]⟩
abbrev S1x1x128 : Shape := ⟨3, ![1, 1, 128]⟩
abbrev S128x256 : Shape := ⟨2, ![128, 256]⟩
abbrev S512x256 : Shape := ⟨2, ![512, 256]⟩
abbrev S640x256 : Shape := ⟨2, ![640, 256]⟩
abbrev S1x256 : Shape := ⟨2, ![1, 256]⟩
abbrev S1x128 : Shape := ⟨2, ![1, 128]⟩
abbrev S256x256 : Shape := ⟨2, ![256, 256]⟩
abbrev S4x128x256 : Shape := ⟨3, ![4, 128, 256]⟩
abbrev S1x128x256 : Shape := ⟨3, ![1, 128, 256]⟩
abbrev S512 : Shape := ⟨1, ![512]⟩
abbrev S512x1 : Shape := ⟨2, ![512, 1]⟩
abbrev S128x128 : Shape := ⟨2, ![128, 128]⟩
abbrev S128x1 : Shape := ⟨2, ![128, 1]⟩
abbrev S1x1x1x128x128 : Shape := ⟨5, ![1, 1, 1, 128, 128]⟩
abbrev S512x512 : Shape := ⟨2, ![512, 512]⟩
abbrev S8x256 : Shape := ⟨2, ![8, 256]⟩
abbrev S8x128 : Shape := ⟨2, ![8, 128]⟩
abbrev S8x512 : Shape := ⟨2, ![8, 512]⟩
abbrev S256x512 : Shape := ⟨2, ![256, 512]⟩
abbrev S8 : Shape := ⟨1, ![8]⟩
abbrev S8x1 : Shape := ⟨2, ![8, 1]⟩
abbrev S256 : Shape := ⟨1, ![256]⟩
abbrev S128 : Shape := ⟨1, ![128]⟩
abbrev S1x512 : Shape := ⟨2, ![1, 512]⟩

abbrev nBuf : Space → Nat
  | .hbm => 22
  | .vmem => 28
  | .smem => 0
  | _ => 0

abbrev bufTy : (tb : Table) → Fin (tcTables nBuf tb) → BufTy
  | .hbm, ⟨0, _⟩ => ⟨S2x8192x768, .bf16⟩
  | .hbm, ⟨1, _⟩ => ⟨S2x8192x768, .bf16⟩
  | .hbm, ⟨2, _⟩ => ⟨S2x8192x768, .bf16⟩
  | .hbm, ⟨3, _⟩ => ⟨S32x768, .bf16⟩
  | .hbm, ⟨4, _⟩ => ⟨S32x1536, .f32⟩
  | .hbm, ⟨5, _⟩ => ⟨S1x32x512x2x4x64, .f32⟩
  | .hbm, ⟨6, _⟩ => ⟨S32x512x2x4x64, .f32⟩
  | .hbm, ⟨7, _⟩ => ⟨S32x2x4x64x512, .f32⟩
  | .hbm, ⟨8, _⟩ => ⟨S32x512x512, .f32⟩
  | .hbm, ⟨9, _⟩ => ⟨S2x16x4x128x768, .bf16⟩
  | .hbm, ⟨10, _⟩ => ⟨S2x16x4x128x768, .bf16⟩
  | .hbm, ⟨11, _⟩ => ⟨S2x16x4x128x768, .bf16⟩
  | .hbm, ⟨12, _⟩ => ⟨S2x16x4x128x768, .bf16⟩
  | .hbm, ⟨13, _⟩ => ⟨S2x16x4x128x768, .bf16⟩
  | .hbm, ⟨14, _⟩ => ⟨S32x1x768, .bf16⟩
  | .hbm, ⟨15, _⟩ => ⟨S32x1x1536, .f32⟩
  | .hbm, ⟨16, _⟩ => ⟨S32x1x1536, .f32⟩
  | .hbm, ⟨17, _⟩ => ⟨S2x16x4x128x256, .bf16⟩
  | .hbm, ⟨18, _⟩ => ⟨S2x16x4x128x128, .f32⟩
  | .hbm, ⟨19, _⟩ => ⟨S32x1x256, .bf16⟩
  | .hbm, ⟨20, _⟩ => ⟨S32x1x128, .f32⟩
  | .hbm, ⟨21, _⟩ => ⟨S32x512x512, .f32⟩
  | .local _ .vmem, ⟨0, _⟩ => ⟨S1x4x1x128x256, .bf16⟩
  | .local _ .vmem, ⟨1, _⟩ => ⟨S1x4x1x128x256, .bf16⟩
  | .local _ .vmem, ⟨2, _⟩ => ⟨S1x4x1x128x256, .bf16⟩
  | .local _ .vmem, ⟨3, _⟩ => ⟨S1x4x1x128x256, .bf16⟩
  | .local _ .vmem, ⟨4, _⟩ => ⟨S1x4x1x128x256, .bf16⟩
  | .local _ .vmem, ⟨5, _⟩ => ⟨S1x4x1x128x256, .bf16⟩
  | .local _ .vmem, ⟨6, _⟩ => ⟨S1x1x1x128x256, .bf16⟩
  | .local _ .vmem, ⟨7, _⟩ => ⟨S1x1x1x128x256, .bf16⟩
  | .local _ .vmem, ⟨8, _⟩ => ⟨S1x1x1x128x256, .bf16⟩
  | .local _ .vmem, ⟨9, _⟩ => ⟨S1x1x1x128x256, .bf16⟩
  | .local _ .vmem, ⟨10, _⟩ => ⟨S1x1x256, .bf16⟩
  | .local _ .vmem, ⟨11, _⟩ => ⟨S1x1x256, .bf16⟩
  | .local _ .vmem, ⟨12, _⟩ => ⟨S1x1x256, .f32⟩
  | .local _ .vmem, ⟨13, _⟩ => ⟨S1x1x256, .f32⟩
  | .local _ .vmem, ⟨14, _⟩ => ⟨S1x1x256, .f32⟩
  | .local _ .vmem, ⟨15, _⟩ => ⟨S1x1x256, .f32⟩
  | .local _ .vmem, ⟨16, _⟩ => ⟨S1x512x512, .f32⟩
  | .local _ .vmem, ⟨17, _⟩ => ⟨S1x512x512, .f32⟩
  | .local _ .vmem, ⟨18, _⟩ => ⟨S1x4x1x128x256, .bf16⟩
  | .local _ .vmem, ⟨19, _⟩ => ⟨S1x4x1x128x256, .bf16⟩
  | .local _ .vmem, ⟨20, _⟩ => ⟨S1x4x1x128x128, .f32⟩
  | .local _ .vmem, ⟨21, _⟩ => ⟨S1x4x1x128x128, .f32⟩
  | .local _ .vmem, ⟨22, _⟩ => ⟨S1x1x256, .bf16⟩
  | .local _ .vmem, ⟨23, _⟩ => ⟨S1x1x256, .bf16⟩
  | .local _ .vmem, ⟨24, _⟩ => ⟨S1x1x128, .f32⟩
  | .local _ .vmem, ⟨25, _⟩ => ⟨S1x1x128, .f32⟩
  | .local _ .vmem, ⟨26, _⟩ => ⟨S1x512x512, .f32⟩
  | .local _ .vmem, ⟨27, _⟩ => ⟨S1x512x512, .f32⟩
  | _, _ => ⟨S2x8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨3, ![2, 4, 4], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![arg0.toNat, arg2.toNat, arg1.toNat, c0_i32.toNat, c1_i32.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![arg0.toNat, arg2.toNat, arg1.toNat, c0_i32.toNat, c1_i32.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![arg0.toNat, arg2.toNat, arg1.toNat, c0_i32.toNat, c1_i32.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c1_i32_1 : BitVec 32 := 1#32
  let c0_i32_2 : BitVec 32 := 0#32
  ![arg0.toNat, v2.toNat, arg1.toNat, c0_i32_0.toNat, c1_i32_1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c1_i32_1 : BitVec 32 := 1#32
  let c0_i32_2 : BitVec 32 := 0#32
  ![arg0.toNat, v2.toNat, arg1.toNat, c0_i32_0.toNat, c1_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c31_i32 : BitVec 32 := 31#32
  let v4 : BitVec 32 := Scalar.minsi v3 c31_i32
  let c0_i32 : BitVec 32 := 0#32
  let c1_i32 : BitVec 32 := 1#32
  let c0_i32_1 : BitVec 32 := 0#32
  ![v4.toNat, c0_i32.toNat, c1_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c31_i32 : BitVec 32 := 31#32
  let v4 : BitVec 32 := Scalar.minsi v3 c31_i32
  let c0_i32 : BitVec 32 := 0#32
  let c1_i32 : BitVec 32 := 1#32
  let c0_i32_1 : BitVec 32 := 0#32
  ![v4.toNat, c0_i32.toNat, c1_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c31_i32 : BitVec 32 := 31#32
  let v4 : BitVec 32 := Scalar.minsi v3 c31_i32
  let c0_i32 : BitVec 32 := 0#32
  let c4_i32_1 : BitVec 32 := 4#32
  let c0_i32_2 : BitVec 32 := 0#32
  ![v4.toNat, c0_i32.toNat, c4_i32_1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c31_i32 : BitVec 32 := 31#32
  let v4 : BitVec 32 := Scalar.minsi v3 c31_i32
  let c0_i32 : BitVec 32 := 0#32
  let c0_i32_1 : BitVec 32 := 0#32
  let c0_i32_2 : BitVec 32 := 0#32
  ![v4.toNat, c0_i32.toNat, c0_i32_1.toNat]

def cc0_transform_9 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_10 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c31_i32 : BitVec 32 := 31#32
  let v4 : BitVec 32 := Scalar.minsi v3 c31_i32
  let c0_i32 : BitVec 32 := 0#32
  let c0_i32_1 : BitVec 32 := 0#32
  let c0_i32_2 : BitVec 32 := 0#32
  ![v4.toNat, c0_i32.toNat, c0_i32_1.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c31_i32 : BitVec 32 := 31#32
  let v4 : BitVec 32 := Scalar.minsi v3 c31_i32
  let c0_i32 : BitVec 32 := 0#32
  let c0_i32_1 : BitVec 32 := 0#32
  let c0_i32_2 : BitVec 32 := 0#32
  ![v4.toNat, c0_i32.toNat, c0_i32_1.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c31_i32 : BitVec 32 := 31#32
  let v4 : BitVec 32 := Scalar.minsi v3 c31_i32
  let c0_i32 : BitVec 32 := 0#32
  let c0_i32_1 : BitVec 32 := 0#32
  let c0_i32_2 : BitVec 32 := 0#32
  ![v4.toNat, c0_i32.toNat, c0_i32_1.toNat]

abbrev stage0_0 : Fin 2 → Memref sig .tc .vmem S1x4x1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4x1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x4x1x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x4x1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8192x768 : Shape := ⟨3, ![2, 8192, 768]⟩
abbrev S32x768 : Shape := ⟨2, ![32, 768]⟩
abbrev S32x1536 : Shape := ⟨2, ![32, 1536]⟩
abbrev S1x32x512x2x4x64 : Shape := ⟨6, ![1, 32, 512, 2, 4, 64]⟩
abbrev S2x8192x256 : Shape := ⟨3, ![2, 8192, 256]⟩
abbrev S2x16x4x128x256 : Shape := ⟨5, ![2, 16, 4, 128, 256]⟩
abbrev S2x16x128x4x256 : Shape := ⟨5, ![2, 16, 128, 4, 256]⟩
abbrev S2x8192x4x64 : Shape := ⟨4, ![2, 8192, 4, 64]⟩
abbrev S_ : Shape := ⟨0, ![]⟩
abbrev S2x512x4x64 : Shape := ⟨4, ![2, 512, 4, 64]⟩
abbrev S2x8704x4x64 : Shape := ⟨4, ![2, 8704, 4, 64]⟩
abbrev S8192x129 : Shape := ⟨2, ![8192, 129]⟩
abbrev S8192x129x1 : Shape := ⟨3, ![8192, 129, 1]⟩
abbrev S2x8192x129x4x64 : Shape := ⟨5, ![2, 8192, 129, 4, 64]⟩
abbrev S2x8192x4x129 : Shape := ⟨4, ![2, 8192, 4, 129]⟩
abbrev S1x8192x1x129 : Shape := ⟨4, ![1, 8192, 1, 129]⟩
abbrev S2x8192x4 : Shape := ⟨3, ![2, 8192, 4]⟩
abbrev S2x8192x4x1 : Shape := ⟨4, ![2, 8192, 4, 1]⟩
abbrev S2x16x128x4x4 : Shape := ⟨5, ![2, 16, 128, 4, 4]⟩
abbrev S2x16x4x128x4 : Shape := ⟨5, ![2, 16, 4, 128, 4]⟩
abbrev S2x16x4x128x124 : Shape := ⟨5, ![2, 16, 4, 128, 124]⟩
abbrev S2x16x4x128x128 : Shape := ⟨5, ![2, 16, 4, 128, 128]⟩
abbrev S32x256 : Shape := ⟨2, ![32, 256]⟩
abbrev S32x1x256 : Shape := ⟨3, ![32, 1, 256]⟩
abbrev S32x2x256 : Shape := ⟨3, ![32, 2, 256]⟩
abbrev S32x1x2x4x64 : Shape := ⟨5, ![32, 1, 2, 4, 64]⟩
abbrev S32x512x2x4x64 : Shape := ⟨5, ![32, 512, 2, 4, 64]⟩
abbrev S32x513x2x4x64 : Shape := ⟨5, ![32, 513, 2, 4, 64]⟩
abbrev S32x2x4x64x512 : Shape := ⟨5, ![32, 2, 4, 64, 512]⟩
abbrev S32x512x512 : Shape := ⟨3, ![32, 512, 512]⟩

abbrev nBuf : Space → Nat
  | .hbm => 81
  | .vmem => 0
  | .smem => 0
  | _ => 0

abbrev bufTy : (tb : Table) → Fin (tcTables nBuf tb) → BufTy
  | .hbm, ⟨0, _⟩ => ⟨S2x8192x768, .bf16⟩
  | .hbm, ⟨1, _⟩ => ⟨S2x8192x768, .bf16⟩
  | .hbm, ⟨2, _⟩ => ⟨S2x8192x768, .bf16⟩
  | .hbm, ⟨3, _⟩ => ⟨S32x768, .bf16⟩
  | .hbm, ⟨4, _⟩ => ⟨S32x1536, .f32⟩
  | .hbm, ⟨5, _⟩ => ⟨S1x32x512x2x4x64, .f32⟩
  | .hbm, ⟨6, _⟩ => ⟨S2x8192x256, .bf16⟩
  | .hbm, ⟨7, _⟩ => ⟨S2x8192x256, .f32⟩
  | .hbm, ⟨8, _⟩ => ⟨S2x16x4x128x256, .f32⟩
  | .hbm, ⟨9, _⟩ => ⟨S2x16x128x4x256, .f32⟩
  | .hbm, ⟨10, _⟩ => ⟨S2x8192x4x64, .f32⟩
  | .hbm, ⟨11, _⟩ => ⟨S_, .f32⟩
  | .hbm, ⟨12, _⟩ => ⟨S2x512x4x64, .f32⟩
  | .hbm, ⟨13, _⟩ => ⟨S2x8192x256, .bf16⟩
  | .hbm, ⟨14, _⟩ => ⟨S2x8192x256, .f32⟩
  | .hbm, ⟨15, _⟩ => ⟨S2x16x4x128x256, .f32⟩
  | .hbm, ⟨16, _⟩ => ⟨S2x16x128x4x256, .f32⟩
  | .hbm, ⟨17, _⟩ => ⟨S2x8192x4x64, .f32⟩
  | .hbm, ⟨18, _⟩ => ⟨S2x8704x4x64, .f32⟩
  | .hbm, ⟨19, _⟩ => ⟨S2x8192x256, .bf16⟩
  | .hbm, ⟨20, _⟩ => ⟨S2x8192x256, .f32⟩
  | .hbm, ⟨21, _⟩ => ⟨S2x16x4x128x256, .f32⟩
  | .hbm, ⟨22, _⟩ => ⟨S2x16x128x4x256, .f32⟩
  | .hbm, ⟨23, _⟩ => ⟨S2x8192x4x64, .f32⟩
  | .hbm, ⟨24, _⟩ => ⟨S2x8704x4x64, .f32⟩
  | .hbm, ⟨25, _⟩ => ⟨S8192x129, .i32⟩
  | .hbm, ⟨26, _⟩ => ⟨S_, .i32⟩
  | .hbm, ⟨27, _⟩ => ⟨S8192x129, .i32⟩
  | .hbm, ⟨28, _⟩ => ⟨S8192x129, .i32⟩
  | .hbm, ⟨29, _⟩ => ⟨S8192x129, .i32⟩
  | .hbm, ⟨30, _⟩ => ⟨S_, .i32⟩
  | .hbm, ⟨31, _⟩ => ⟨S8192x129, .i32⟩
  | .hbm, ⟨32, _⟩ => ⟨S8192x129, .i32⟩
  | .hbm, ⟨33, _⟩ => ⟨S8192x129, .i32⟩
  | .hbm, ⟨34, _⟩ => ⟨S8192x129x1, .i32⟩
  | .hbm, ⟨35, _⟩ => ⟨S2x8192x129x4x64, .f32⟩
  | .hbm, ⟨36, _⟩ => ⟨S8192x129x1, .i32⟩
  | .hbm, ⟨37, _⟩ => ⟨S2x8192x129x4x64, .f32⟩
  | .hbm, ⟨38, _⟩ => ⟨S2x8192x4x129, .f32⟩
  | .hbm, ⟨39, _⟩ => ⟨S_, .i32⟩
  | .hbm, ⟨40, _⟩ => ⟨S8192x129, .i32⟩
  | .hbm, ⟨41, _⟩ => ⟨S8192x129, .i1⟩
  | .hbm, ⟨42, _⟩ => ⟨S1x8192x1x129, .i1⟩
  | .hbm, ⟨43, _⟩ => ⟨S_, .f32⟩
  | .hbm, ⟨44, _⟩ => ⟨S_, .f32⟩
  | .hbm, ⟨45, _⟩ => ⟨S2x8192x4x129, .i1⟩
  | .hbm, ⟨46, _⟩ => ⟨S2x8192x4x129, .f32⟩
  | .hbm, ⟨47, _⟩ => ⟨S2x8192x4x129, .f32⟩
  | .hbm, ⟨48, _⟩ => ⟨S_, .f32⟩
  | .hbm, ⟨49, _⟩ => ⟨S2x8192x4, .f32⟩
  | .hbm, ⟨50, _⟩ => ⟨S2x8192x4x1, .f32⟩
  | .hbm, ⟨51, _⟩ => ⟨S2x8192x4x129, .f32⟩
  | .hbm, ⟨52, _⟩ => ⟨S2x8192x4x129, .f32⟩
  | .hbm, ⟨53, _⟩ => ⟨S2x8192x4x129, .f32⟩
  | .hbm, ⟨54, _⟩ => ⟨S_, .f32⟩
  | .hbm, ⟨55, _⟩ => ⟨S2x8192x4, .f32⟩
  | .hbm, ⟨56, _⟩ => ⟨S2x8192x4x64, .f32⟩
  | .hbm, ⟨57, _⟩ => ⟨S2x8192x4x1, .f32⟩
  | .hbm, ⟨58, _⟩ => ⟨S2x8192x4x64, .f32⟩
  | .hbm, ⟨59, _⟩ => ⟨S2x8192x4x64, .f32⟩
  | .hbm, ⟨60, _⟩ => ⟨S2x8192x4, .f32⟩
  | .hbm, ⟨61, _⟩ => ⟨S2x8192x4, .f32⟩
  | .hbm, ⟨62, _⟩ => ⟨S2x16x128x4x256, .f32⟩
  | .hbm, ⟨63, _⟩ => ⟨S2x16x4x128x256, .f32⟩
  | .hbm, ⟨64, _⟩ => ⟨S2x16x4x128x256, .bf16⟩
  | .hbm, ⟨65, _⟩ => ⟨S2x16x128x4x4, .f32⟩
  | .hbm, ⟨66, _⟩ => ⟨S2x16x4x128x4, .f32⟩
  | .hbm, ⟨67, _⟩ => ⟨S_, .f32⟩
  | .hbm, ⟨68, _⟩ => ⟨S2x16x4x128x124, .f32⟩
  | .hbm, ⟨69, _⟩ => ⟨S2x16x4x128x128, .f32⟩
  | .hbm, ⟨70, _⟩ => ⟨S32x256, .f32⟩
  | .hbm, ⟨71, _⟩ => ⟨S32x256, .f32⟩
  | .hbm, ⟨72, _⟩ => ⟨S32x1x256, .f32⟩
  | .hbm, ⟨73, _⟩ => ⟨S32x1x256, .f32⟩
  | .hbm, ⟨74, _⟩ => ⟨S32x2x256, .f32⟩
  | .hbm, ⟨75, _⟩ => ⟨S32x1x2x4x64, .f32⟩
  | .hbm, ⟨76, _⟩ => ⟨S32x512x2x4x64, .f32⟩
  | .hbm, ⟨77, _⟩ => ⟨S32x513x2x4x64, .f32⟩
  | .hbm, ⟨78, _⟩ => ⟨S32x512x2x4x64, .f32⟩
  | .hbm, ⟨79, _⟩ => ⟨S32x2x4x64x512, .f32⟩
  | .hbm, ⟨80, _⟩ => ⟨S32x512x512, .f32⟩
  | _, _ => ⟨S2x8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_1 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_5 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩

abbrev nD : Nat := 1
abbrev τ : Topo := Topo.v7x

variable {F : FTy → Type} [FloatOps F]
-- ==== Kernel2.lean ====
abbrev S2x8192x1024 : Shape := ⟨3, ![2, 8192, 1024]⟩
abbrev S1024 : Shape := ⟨1, ![1024]⟩
abbrev S1024x2816 : Shape := ⟨2, ![1024, 2816]⟩
abbrev S2816x1024 : Shape := ⟨2, ![2816, 1024]⟩
abbrev S3x64 : Shape := ⟨2, ![3, 64]⟩
abbrev S1x1024 : Shape := ⟨2, ![1, 1024]⟩
abbrev S3x1x64 : Shape := ⟨3, ![3, 1, 64]⟩
abbrev S3x4x64 : Shape := ⟨3, ![3, 4, 64]⟩
abbrev S1x768 : Shape := ⟨2, ![1, 768]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S16384x1024 : Shape := ⟨2, ![16384, 1024]⟩
abbrev S16384x512 : Shape := ⟨2, ![16384, 512]⟩
abbrev S16384x768 : Shape := ⟨2, ![16384, 768]⟩
abbrev S2x512x128 : Shape := ⟨3, ![2, 512, 128]⟩
abbrev S2x512x512 : Shape := ⟨3, ![2, 512, 512]⟩
abbrev S2x512x2048 : Shape := ⟨3, ![2, 512, 2048]⟩
abbrev S512x1024 : Shape := ⟨2, ![512, 1024]⟩
abbrev S512x512 : Shape := ⟨2, ![512, 512]⟩
abbrev S512x768 : Shape := ⟨2, ![512, 768]⟩
abbrev S1x512x128 : Shape := ⟨3, ![1, 512, 128]⟩
abbrev S1x512x512 : Shape := ⟨3, ![1, 512, 512]⟩
abbrev S12x512x128 : Shape := ⟨3, ![12, 512, 128]⟩
abbrev S512 : Shape := ⟨1, ![512]⟩
abbrev S512x1 : Shape := ⟨2, ![512, 1]⟩
abbrev S1024x1024 : Shape := ⟨2, ![1024, 1024]⟩
abbrev S1024x768 : Shape := ⟨2, ![1024, 768]⟩
abbrev S768x1024 : Shape := ⟨2, ![768, 1024]⟩
abbrev S512x2816 : Shape := ⟨2, ![512, 2816]⟩
abbrev S512x256 : Shape := ⟨2, ![512, 256]⟩
abbrev S512x128 : Shape := ⟨2, ![512, 128]⟩
abbrev S1x128x128 : Shape := ⟨3, ![1, 128, 128]⟩
abbrev S128x128 : Shape := ⟨2, ![128, 128]⟩
abbrev S1x32x128 : Shape := ⟨3, ![1, 32, 128]⟩
abbrev S32x128 : Shape := ⟨2, ![32, 128]⟩
abbrev S256x512 : Shape := ⟨2, ![256, 512]⟩
abbrev S256x128 : Shape := ⟨2, ![256, 128]⟩
abbrev S1x256x128 : Shape := ⟨3, ![1, 256, 128]⟩
abbrev S1x256x512 : Shape := ⟨3, ![1, 256, 512]⟩

abbrev nBuf : Space → Nat
  | .hbm => 55
  | .vmem => 28
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1024, .f32⟩
  | .hbm, ⟨6, _⟩ => ⟨S1024x2816, .bf16⟩
  | .hbm, ⟨7, _⟩ => ⟨S3x64, .f32⟩
  | .hbm, ⟨8, _⟩ => ⟨S3x64, .f32⟩
  | .hbm, ⟨9, _⟩ => ⟨S1x1024, .f32⟩
  | .hbm, ⟨10, _⟩ => ⟨S1x1024, .f32⟩
  | .hbm, ⟨11, _⟩ => ⟨S3x1x64, .f32⟩
  | .hbm, ⟨12, _⟩ => ⟨S3x4x64, .f32⟩
  | .hbm, ⟨13, _⟩ => ⟨S1x768, .f32⟩
  | .hbm, ⟨14, _⟩ => ⟨S3x1x64, .f32⟩
  | .hbm, ⟨15, _⟩ => ⟨S3x4x64, .f32⟩
  | .hbm, ⟨16, _⟩ => ⟨S1x768, .f32⟩
  | .hbm, ⟨17, _⟩ => ⟨S256, .i32⟩
  | .hbm, ⟨18, _⟩ => ⟨S_, .i32⟩
  | .hbm, ⟨19, _⟩ => ⟨S_, .i32⟩
  | .hbm, ⟨20, _⟩ => ⟨S256, .i32⟩
  | .hbm, ⟨21, _⟩ => ⟨S256, .i32⟩
  | .hbm, ⟨22, _⟩ => ⟨S256, .i32⟩
  | .hbm, ⟨23, _⟩ => ⟨S_, .i32⟩
  | .hbm, ⟨24, _⟩ => ⟨S256, .i32⟩
  | .hbm, ⟨25, _⟩ => ⟨S256, .i1⟩
  | .hbm, ⟨26, _⟩ => ⟨S256, .i32⟩
  | .hbm, ⟨27, _⟩ => ⟨S256, .i32⟩
  | .hbm, ⟨28, _⟩ => ⟨S_, .i32⟩
  | .hbm, ⟨29, _⟩ => ⟨S256, .i32⟩
  | .hbm, ⟨30, _⟩ => ⟨S256, .i1⟩
  | .hbm, ⟨31, _⟩ => ⟨S256, .i1⟩
  | .hbm, ⟨32, _⟩ => ⟨S_, .i32⟩
  | .hbm, ⟨33, _⟩ => ⟨S256, .i32⟩
  | .hbm, ⟨34, _⟩ => ⟨S256, .i32⟩
  | .hbm, ⟨35, _⟩ => ⟨S256, .i32⟩
  | .hbm, ⟨36, _⟩ => ⟨S256x1, .i32⟩
  | .hbm, ⟨37, _⟩ => ⟨S1x256, .i32⟩
  | .hbm, ⟨38, _⟩ => ⟨S256x256, .i32⟩
  | .hbm, ⟨39, _⟩ => ⟨S256x256, .i32⟩
  | .hbm, ⟨40, _⟩ => ⟨S256x256, .i1⟩
  | .hbm, ⟨41, _⟩ => ⟨S256x256, .f32⟩
  | .hbm, ⟨42, _⟩ => ⟨S_, .f32⟩
  | .hbm, ⟨43, _⟩ => ⟨S256x256, .f32⟩
  | .hbm, ⟨44, _⟩ => ⟨S256x256, .f32⟩
  | .hbm, ⟨45, _⟩ => ⟨S256x256, .bf16⟩
  | .hbm, ⟨46, _⟩ => ⟨S16384x1024, .f32⟩
  | .hbm, ⟨47, _⟩ => ⟨S16384x1024, .f32⟩
  | .hbm, ⟨48, _⟩ => ⟨S16384x512, .f32⟩
  | .hbm, ⟨49, _⟩ => ⟨S16384x768, .bf16⟩
  | .hbm, ⟨50, _⟩ => ⟨S16384x768, .bf16⟩
  | .hbm, ⟨51, _⟩ => ⟨S16384x768, .bf16⟩
  | .hbm, ⟨52, _⟩ => ⟨S2x512x128, .f32⟩
  | .hbm, ⟨53, _⟩ => ⟨S2x512x512, .f32⟩
  | .hbm, ⟨54, _⟩ => ⟨S2x512x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x2816, .bf16⟩
  | .local _ .vmem, ⟨8, _⟩ => ⟨S1x768, .f32⟩
  | .local _ .vmem, ⟨9, _⟩ => ⟨S1x768, .f32⟩
  | .local _ .vmem, ⟨10, _⟩ => ⟨S256x256, .bf16⟩
  | .local _ .vmem, ⟨11, _⟩ => ⟨S512x1024, .f32⟩
  | .local _ .vmem, ⟨12, _⟩ => ⟨S512x1024, .f32⟩
  | .local _ .vmem, ⟨13, _⟩ => ⟨S512x512, .f32⟩
  | .local _ .vmem, ⟨14, _⟩ => ⟨S512x512, .f32⟩
  | .local _ .vmem, ⟨15, _⟩ => ⟨S512x768, .bf16⟩
  | .local _ .vmem, ⟨16, _⟩ => ⟨S512x768, .bf16⟩
  | .local _ .vmem, ⟨17, _⟩ => ⟨S512x768, .bf16⟩
  | .local _ .vmem, ⟨18, _⟩ => ⟨S512x768, .bf16⟩
  | .local _ .vmem, ⟨19, _⟩ => ⟨S512x768, .bf16⟩
  | .local _ .vmem, ⟨20, _⟩ => ⟨S512x768, .bf16⟩
  | .local _ .vmem, ⟨21, _⟩ => ⟨S1x512x128, .f32⟩
  | .local _ .vmem, ⟨22, _⟩ => ⟨S1x512x128, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | .local _ .vmem, ⟨27, _⟩ => ⟨S12x512x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20_0 : Ref sig .tc := ⟨.hbm, 47, rfl⟩
abbrev main_v20_1 : Ref sig .tc := ⟨.hbm, 48, rfl⟩
abbrev main_v20_2 : Ref sig .tc := ⟨.hbm, 49, rfl⟩
abbrev main_v20_3 : Ref sig .tc := ⟨.hbm, 50, rfl⟩
abbrev main_v20_4 : Ref sig .tc := ⟨.hbm, 51, rfl⟩
abbrev main_v20_5 : Ref sig .tc := ⟨.hbm, 52, rfl⟩
abbrev main_v20_6 : Ref sig .tc := ⟨.hbm, 53, rfl⟩
abbrev main_v20_7 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c16_i32 : BitVec 32 := 16#32
  let c0_i32 : BitVec 32 := 0#32
  let v668 : BitVec 1 := Scalar.cmpi .eq c16_i32 c0_i32
  let c1_i32 : BitVec 32 := 1#32
  let v669 : BitVec 32 := Scalar.select v668 c1_i32 c16_i32
  let v670 : BitVec 32 := Scalar.remsi arg0 v669
  let c0_i32_678 : BitVec 32 := 0#32
  let v672 : BitVec 1 := Scalar.cmpi .slt v670 c0_i32_678
  let c0_i32_679 : BitVec 32 := 0#32
  let v673 : BitVec 1 := Scalar.cmpi .slt v669 c0_i32_679
  let v674 : BitVec 1 := Scalar.xori v672 v673
  let c0_i32_677 : BitVec 32 := 0#32
  let v671 : BitVec 1 := Scalar.cmpi .ne v670 c0_i32_677
  let v675 : BitVec 1 := Scalar.andi v674 v671
  let v676 : BitVec 32 := Scalar.addi v670 v669
  let v677 : BitVec 32 := Scalar.select v675 v676 v670
  let c15_i32 : BitVec 32 := 15#32
  let v678 : BitVec 1 := Scalar.cmpi .sge v677 c15_i32
  let v679 : BitVec 32 := Scalar.extui v678
  let c0_i32_680 : BitVec 32 := 0#32
  let v680 : BitVec 1 := Scalar.cmpi .ne v679 c0_i32_680
  v680

def k0_cond2 (i : grid0.Coords) : BitVec 1 :=
  let arg0 : BitVec 32 := BitVec.ofNat 32 (i 0).val
  let c16_i32 : BitVec 32 := 16#32
  let c0_i32 : BitVec 32 := 0#32
  let v668 : BitVec 1 := Scalar.cmpi .eq c16_i32 c0_i32
  let c1_i32 : BitVec 32 := 1#32
  let v669 : BitVec 32 := Scalar.select v668 c1_i32 c16_i32
  let v670 : BitVec 32 := Scalar.remsi arg0 v669
  let c0_i32_678 : BitVec 32 := 0#32
  let v672 : BitVec 1 := Scalar.cmpi .slt v670 c0_i32_678
  let c0_i32_679 : BitVec 32 := 0#32
  let v673 : BitVec 1 := Scalar.cmpi .slt v669 c0_i32_679
  let v674 : BitVec 1 := Scalar.xori v672 v673
  let c0_i32_677 : BitVec 32 := 0#32
  let v671 : BitVec 1 := Scalar.cmpi .ne v670 c0_i32_677
  let v675 : BitVec 1 := Scalar.andi v674 v671
  let v676 : BitVec 32 := Scalar.addi v670 v669
  let v677 : BitVec 32 := Scalar.select v675 v676 v670
  let c15_i32_681 : BitVec 32 := 15#32
  let v681 : BitVec 1 := Scalar.cmpi .sge v677 c15_i32_681
  let v682 : BitVec 32 := Scalar.extui v681
  let c0_i32_682 : BitVec 32 := 0#32
  let v683 : BitVec 1 := Scalar.cmpi .ne v682 c0_i32_682
  v683

def k0_cond3 (i : grid0.Coords) : BitVec 1 :=
  let arg0 : BitVec 32 := BitVec.ofNat 32 (i 0).val
  let c16_i32 : BitVec 32 := 16#32
  let c0_i32 : BitVec 32 := 0#32
  let v668 : BitVec 1 := Scalar.cmpi .eq c16_i32 c0_i32
  let c1_i32 : BitVec 32 := 1#32
  let v669 : BitVec 32 := Scalar.select v668 c1_i32 c16_i32
  let v670 : BitVec 32 := Scalar.remsi arg0 v669
  let c0_i32_678 : BitVec 32 := 0#32
  let v672 : BitVec 1 := Scalar.cmpi .slt v670 c0_i32_678
  let c0_i32_679 : BitVec 32 := 0#32
  let v673 : BitVec 1 := Scalar.cmpi .slt v669 c0_i32_679
  let v674 : BitVec 1 := Scalar.xori v672 v673
  let c0_i32_677 : BitVec 32 := 0#32
  let v671 : BitVec 1 := Scalar.cmpi .ne v670 c0_i32_677
  let v675 : BitVec 1 := Scalar.andi v674 v671
  let v676 : BitVec 32 := Scalar.addi v670 v669
  let v677 : BitVec 32 := Scalar.select v675 v676 v670
  let c12_i32 : BitVec 32 := 12#32
  let v684 : BitVec 1 := Scalar.cmpi .sge v677 c12_i32
  let v685 : BitVec 32 := Scalar.extui v684
  let c0_i32_683 : BitVec 32 := 0#32
  let v686 : BitVec 1 := Scalar.cmpi .ne v685 c0_i32_683
  v686

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c15_i32 : BitVec 32 := 15#32
  let v27 : BitVec 32 := Scalar.subi v26 c15_i32
  let c0_i32_10 : BitVec 32 := 0#32
  let v28 : BitVec 32 := Scalar.maxsi v27 c0_i32_10
  let c0_i32_11 : BitVec 32 := 0#32
  let c0_i32_12 : BitVec 32 := 0#32
  ![v16.toNat, c0_i32_11.toNat, v28.toNat]

def cc0_transform_16 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c15_i32 : BitVec 32 := 15#32
  let v27 : BitVec 32 := Scalar.subi v26 c15_i32
  let c0_i32_10 : BitVec 32 := 0#32
  let v28 : BitVec 32 := Scalar.maxsi v27 c0_i32_10
  let c0_i32_11 : BitVec 32 := 0#32
  let c0_i32_12 : BitVec 32 := 0#32
  ![v16.toNat, c0_i32_11.toNat, v28.toNat]

def cc0_transform_17 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c12_i32 : BitVec 32 := 12#32
  let v27 : BitVec 32 := Scalar.subi v26 c12_i32
  let c0_i32_10 : BitVec 32 := 0#32
  let v28 : BitVec 32 := Scalar.maxsi v27 c0_i32_10
  let c0_i32_11 : BitVec 32 := 0#32
  let c0_i32_12 : BitVec 32 := 0#32
  ![v16.toNat, c0_i32_11.toNat, v28.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x768 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference2Ideal.lean ====
abbrev S2x8192x1024 : Shape := ⟨3, ![2, 8192, 1024]⟩
abbrev S1024 : Shape := ⟨1, ![1024]⟩
abbrev S1024x2816 : Shape := ⟨2, ![1024, 2816]⟩
abbrev S2816x1024 : Shape := ⟨2, ![2816, 1024]⟩
abbrev S3x64 : Shape := ⟨2, ![3, 64]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩
abbrev S2x8192x512 : Shape := ⟨3, ![2, 8192, 512]⟩
abbrev S2x8192x768 : Shape := ⟨3, ![2, 8192, 768]⟩
abbrev S2x8192x3x4x64 : Shape := ⟨5, ![2, 8192, 3, 4, 64]⟩
abbrev S3x1x64 : Shape := ⟨3, ![3, 1, 64]⟩
abbrev S2x8192x3x4 : Shape := ⟨4, ![2, 8192, 3, 4]⟩
abbrev S2x8192x3x4x1 : Shape := ⟨5, ![2, 8192, 3, 4, 1]⟩
abbrev S1x1x3x1x64 : Shape := ⟨5, ![1, 1, 3, 1, 64]⟩
abbrev S16384x1024 : Shape := ⟨2, ![16384, 1024]⟩
abbrev S16384x512 : Shape := ⟨2, ![16384, 512]⟩
abbrev S2x8192x1x4x64 : Shape := ⟨5, ![2, 8192, 1, 4, 64]⟩
abbrev S2x8192x4x64 : Shape := ⟨4, ![2, 8192, 4, 64]⟩
abbrev S2x16x512x1x256 : Shape := ⟨5, ![2, 16, 512, 1, 256]⟩
abbrev S2x16x1x512x256 : Shape := ⟨5, ![2, 16, 1, 512, 256]⟩
abbrev S16384x256 : Shape := ⟨2, ![16384, 256]⟩
abbrev S2x16x128x4x256 : Shape := ⟨5, ![2, 16, 128, 4, 256]⟩
abbrev S2x16x4x128x256 : Shape := ⟨5, ![2, 16, 4, 128, 256]⟩
abbrev S2x16x32x16x256 : Shape := ⟨5, ![2, 16, 32, 16, 256]⟩
abbrev S2x16x16x32x256 : Shape := ⟨5, ![2, 16, 16, 32, 256]⟩
abbrev S16384x768 : Shape := ⟨2, ![16384, 768]⟩
abbrev S2x128x1x4x64 : Shape := ⟨5, ![2, 128, 1, 4, 64]⟩
abbrev S2x128x4x64 : Shape := ⟨4, ![2, 128, 4, 64]⟩
abbrev S2x128x2x4x64 : Shape := ⟨5, ![2, 128, 2, 4, 64]⟩
abbrev S2x2x4x64x128 : Shape := ⟨5, ![2, 2, 4, 64, 128]⟩
abbrev S2x512x128 : Shape := ⟨3, ![2, 512, 128]⟩
abbrev S2x512x1x4x64 : Shape := ⟨5, ![2, 512, 1, 4, 64]⟩
abbrev S2x512x4x64 : Shape := ⟨4, ![2, 512, 4, 64]⟩
abbrev S2x512x2x4x64 : Shape := ⟨5, ![2, 512, 2, 4, 64]⟩
abbrev S2x2x4x64x512 : Shape := ⟨5, ![2, 2, 4, 64, 512]⟩
abbrev S2x512x512 : Shape := ⟨3, ![2, 512, 512]⟩
abbrev S2x2048x1x4x64 : Shape := ⟨5, ![2, 2048, 1, 4, 64]⟩
abbrev S2x2048x4x64 : Shape := ⟨4, ![2, 2048, 4, 64]⟩
abbrev S2x2048x2x4x64 : Shape := ⟨5, ![2, 2048, 2, 4, 64]⟩
abbrev S2x2x4x64x2048 : Shape := ⟨5, ![2, 2, 4, 64, 2048]⟩
abbrev S2x512x2048 : Shape := ⟨3, ![2, 512, 2048]⟩

abbrev nBuf : Space → Nat
  | .hbm => 187
  | .vmem => 0
  | .smem => 0
  | _ => 0

abbrev hbmTy0_0 (i : Nat) : BufTy := match i % 128 with
  | 0 => ⟨S2x8192x1024, .f32⟩
  | 1 => ⟨S1024, .f32⟩
  | 2 => ⟨S1024x2816, .bf16⟩
  | 3 => ⟨S1024x2816, .bf16⟩
  | 4 => ⟨S2816x1024, .bf16⟩
  | 5 => ⟨S1024, .f32⟩
  | 6 => ⟨S1024x2816, .bf16⟩
  | 7 => ⟨S3x64, .f32⟩
  | 8 => ⟨S3x64, .f32⟩
  | 9 => ⟨S2x8192x1024, .f32⟩
  | 10 => ⟨S_, .f32⟩
  | 11 => ⟨S2x8192, .f32⟩
  | 12 => ⟨S2x8192x1, .f32⟩
  | 13 => ⟨S_, .f32⟩
  | 14 => ⟨S2x8192x1, .f32⟩
  | 15 => ⟨S2x8192x1, .f32⟩
  | 16 => ⟨S_, .f32⟩
  | 17 => ⟨S2x8192x1, .f32⟩
  | 18 => ⟨S2x8192x1, .f32⟩
  | 19 => ⟨S2x8192x1, .f32⟩
  | 20 => ⟨S2x8192x1024, .f32⟩
  | 21 => ⟨S2x8192x1024, .f32⟩
  | 22 => ⟨S1x1x1024, .f32⟩
  | 23 => ⟨S2x8192x1024, .f32⟩
  | 24 => ⟨S2x8192x1024, .f32⟩
  | 25 => ⟨S1024x2816, .f32⟩
  | 26 => ⟨S2x8192x2816, .f32⟩
  | 27 => ⟨S2x8192x2816, .f32⟩
  | 28 => ⟨S2x8192x2816, .f32⟩
  | 29 => ⟨S_, .f32⟩
  | 30 => ⟨S2x8192x2816, .f32⟩
  | 31 => ⟨S2x8192x2816, .f32⟩
  | 32 => ⟨S_, .f32⟩
  | 33 => ⟨S2x8192x2816, .f32⟩
  | 34 => ⟨S2x8192x2816, .f32⟩
  | 35 => ⟨S2x8192x2816, .f32⟩
  | 36 => ⟨S1024x2816, .f32⟩
  | 37 => ⟨S2x8192x2816, .f32⟩
  | 38 => ⟨S2x8192x2816, .f32⟩
  | 39 => ⟨S2816x1024, .f32⟩
  | 40 => ⟨S2x8192x1024, .f32⟩
  | 41 => ⟨S_, .f32⟩
  | 42 => ⟨S2x8192x1024, .f32⟩
  | 43 => ⟨S2x8192x1024, .f32⟩
  | 44 => ⟨S2x8192x1024, .f32⟩
  | 45 => ⟨S2x8192x1024, .f32⟩
  | 46 => ⟨S_, .f32⟩
  | 47 => ⟨S2x8192, .f32⟩
  | 48 => ⟨S2x8192x1, .f32⟩
  | 49 => ⟨S_, .f32⟩
  | 50 => ⟨S2x8192x1, .f32⟩
  | 51 => ⟨S2x8192x1, .f32⟩
  | 52 => ⟨S_, .f32⟩
  | 53 => ⟨S2x8192x1, .f32⟩
  | 54 => ⟨S2x8192x1, .f32⟩
  | 55 => ⟨S2x8192x1, .f32⟩
  | 56 => ⟨S2x8192x1024, .f32⟩
  | 57 => ⟨S2x8192x1024, .f32⟩
  | 58 => ⟨S1x1x1024, .f32⟩
  | 59 => ⟨S2x8192x1024, .f32⟩
  | 60 => ⟨S2x8192x1024, .f32⟩
  | 61 => ⟨S1024x2816, .f32⟩
  | 62 => ⟨S2x8192x2816, .f32⟩
  | 63 => ⟨S2x8192x512, .f32⟩
  | 64 => ⟨S2x8192x768, .f32⟩
  | 65 => ⟨S2x8192x3x4x64, .f32⟩
  | 66 => ⟨S3x1x64, .f32⟩
  | 67 => ⟨S2x8192x3x4x64, .f32⟩
  | 68 => ⟨S_, .f32⟩
  | 69 => ⟨S2x8192x3x4, .f32⟩
  | 70 => ⟨S2x8192x3x4x1, .f32⟩
  | 71 => ⟨S_, .f32⟩
  | 72 => ⟨S2x8192x3x4x1, .f32⟩
  | 73 => ⟨S2x8192x3x4x1, .f32⟩
  | 74 => ⟨S_, .f32⟩
  | 75 => ⟨S2x8192x3x4x1, .f32⟩
  | 76 => ⟨S2x8192x3x4x1, .f32⟩
  | 77 => ⟨S2x8192x3x4x1, .f32⟩
  | 78 => ⟨S2x8192x3x4x64, .f32⟩
  | 79 => ⟨S2x8192x3x4x64, .f32⟩
  | 80 => ⟨S1x1x3x1x64, .f32⟩
  | 81 => ⟨S2x8192x3x4x64, .f32⟩
  | 82 => ⟨S2x8192x3x4x64, .f32⟩
  | 83 => ⟨S2x8192x768, .f32⟩
  | 84 => ⟨S2x8192x3x4x64, .f32⟩
  | 85 => ⟨S3x1x64, .f32⟩
  | 86 => ⟨S2x8192x3x4x64, .f32⟩
  | 87 => ⟨S_, .f32⟩
  | 88 => ⟨S2x8192x3x4, .f32⟩
  | 89 => ⟨S2x8192x3x4x1, .f32⟩
  | 90 => ⟨S_, .f32⟩
  | 91 => ⟨S2x8192x3x4x1, .f32⟩
  | 92 => ⟨S2x8192x3x4x1, .f32⟩
  | 93 => ⟨S_, .f32⟩
  | 94 => ⟨S2x8192x3x4x1, .f32⟩
  | 95 => ⟨S2x8192x3x4x1, .f32⟩
  | 96 => ⟨S2x8192x3x4x1, .f32⟩
  | 97 => ⟨S2x8192x3x4x64, .f32⟩
  | 98 => ⟨S2x8192x3x4x64, .f32⟩
  | 99 => ⟨S1x1x3x1x64, .f32⟩
  | 100 => ⟨S2x8192x3x4x64, .f32⟩
  | 101 => ⟨S2x8192x3x4x64, .f32⟩
  | 102 => ⟨S2x8192x768, .f32⟩
  | 103 => ⟨S2x8192x3x4x64, .f32⟩
  | 104 => ⟨S16384x1024, .f32⟩
  | 105 => ⟨S16384x512, .f32⟩
  | 106 => ⟨S_, .f32⟩
  | 107 => ⟨S2x8192x3x4x64, .f32⟩
  | 108 => ⟨S2x8192x3x4x64, .f32⟩
  | 109 => ⟨S2x8192x1x4x64, .f32⟩
  | 110 => ⟨S2x8192x4x64, .f32⟩
  | 111 => ⟨S2x16x512x1x256, .f32⟩
  | 112 => ⟨S2x16x1x512x256, .f32⟩
  | 113 => ⟨S16384x256, .f32⟩
  | 114 => ⟨S2x8192x1x4x64, .f32⟩
  | 115 => ⟨S2x8192x4x64, .f32⟩
  | 116 => ⟨S2x16x128x4x256, .f32⟩
  | 117 => ⟨S2x16x4x128x256, .f32⟩
  | 118 => ⟨S16384x256, .f32⟩
  | 119 => ⟨S2x8192x1x4x64, .f32⟩
  | 120 => ⟨S2x8192x4x64, .f32⟩
  | 121 => ⟨S2x16x32x16x256, .f32⟩
  | 122 => ⟨S2x16x16x32x256, .f32⟩
  | 123 => ⟨S16384x256, .f32⟩
  | 124 => ⟨S16384x768, .f32⟩
  | 125 => ⟨S16384x768, .bf16⟩
  | 126 => ⟨S2x8192x1x4x64, .f32⟩
  | 127 => ⟨S2x8192x4x64, .f32⟩
  | _ => ⟨S2x8192x1024, .f32⟩

abbrev hbmTy0_1 (i : Nat) : BufTy := match i % 128 with
  | 0 => ⟨S2x16x512x1x256, .f32⟩
  | 1 => ⟨S2x16x1x512x256, .f32⟩
  | 2 => ⟨S16384x256, .f32⟩
  | 3 => ⟨S2x8192x1x4x64, .f32⟩
  | 4 => ⟨S2x8192x4x64, .f32⟩
  | 5 => ⟨S2x16x128x4x256, .f32⟩
  | 6 => ⟨S2x16x4x128x256, .f32⟩
  | 7 => ⟨S16384x256, .f32⟩
  | 8 => ⟨S2x8192x1x4x64, .f32⟩
  | 9 => ⟨S2x8192x4x64, .f32⟩
  | 10 => ⟨S2x16x32x16x256, .f32⟩
  | 11 => ⟨S2x16x16x32x256, .f32⟩
  | 12 => ⟨S16384x256, .f32⟩
  | 13 => ⟨S16384x768, .f32⟩
  | 14 => ⟨S16384x768, .bf16⟩
  | 15 => ⟨S2x8192x1x4x64, .f32⟩
  | 16 => ⟨S2x8192x4x64, .f32⟩
  | 17 => ⟨S2x16x512x1x256, .f32⟩
  | 18 => ⟨S2x16x1x512x256, .f32⟩
  | 19 => ⟨S16384x256, .f32⟩
  | 20 => ⟨S2x8192x1x4x64, .f32⟩
  | 21 => ⟨S2x8192x4x64, .f32⟩
  | 22 => ⟨S2x16x128x4x256, .f32⟩
  | 23 => ⟨S2x16x4x128x256, .f32⟩
  | 24 => ⟨S16384x256, .f32⟩
  | 25 => ⟨S2x8192x1x4x64, .f32⟩
  | 26 => ⟨S2x8192x4x64, .f32⟩
  | 27 => ⟨S2x16x32x16x256, .f32⟩
  | 28 => ⟨S2x16x16x32x256, .f32⟩
  | 29 => ⟨S16384x256, .f32⟩
  | 30 => ⟨S16384x768, .f32⟩
  | 31 => ⟨S16384x768, .bf16⟩
  | 32 => ⟨S2x128x1x4x64, .f32⟩
  | 33 => ⟨S2x128x4x64, .f32⟩
  | 34 => ⟨S2x128x1x4x64, .f32⟩
  | 35 => ⟨S2x128x4x64, .f32⟩
  | 36 => ⟨S2x128x1x4x64, .f32⟩
  | 37 => ⟨S2x128x1x4x64, .f32⟩
  | 38 => ⟨S2x128x2x4x64, .f32⟩
  | 39 => ⟨S2x2x4x64x128, .f32⟩
  | 40 => ⟨S2x512x128, .f32⟩
  | 41 => ⟨S2x512x1x4x64, .f32⟩
  | 42 => ⟨S2x512x4x64, .f32⟩
  | 43 => ⟨S2x512x1x4x64, .f32⟩
  | 44 => ⟨S2x512x4x64, .f32⟩
  | 45 => ⟨S2x512x1x4x64, .f32⟩
  | 46 => ⟨S2x512x1x4x64, .f32⟩
  | 47 => ⟨S2x512x2x4x64, .f32⟩
  | 48 => ⟨S2x2x4x64x512, .f32⟩
  | 49 => ⟨S2x512x512, .f32⟩
  | 50 => ⟨S2x2048x1x4x64, .f32⟩
  | 51 => ⟨S2x2048x4x64, .f32⟩
  | 52 => ⟨S2x2048x1x4x64, .f32⟩
  | 53 => ⟨S2x2048x4x64, .f32⟩
  | 54 => ⟨S2x2048x1x4x64, .f32⟩
  | 55 => ⟨S2x2048x1x4x64, .f32⟩
  | 56 => ⟨S2x2048x2x4x64, .f32⟩
  | 57 => ⟨S2x2x4x64x2048, .f32⟩
  | 58 => ⟨S2x512x2048, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_11 : Ref sig .tc := ⟨.hbm, 87, rfl⟩
abbrev main_v66 : Ref sig .tc := ⟨.hbm, 88, rfl⟩
abbrev main_v67 : Ref sig .tc := ⟨.hbm, 89, rfl⟩
abbrev main_cst_12 : Ref sig .tc := ⟨.hbm, 90, rfl⟩
abbrev main_v68 : Ref sig .tc := ⟨.hbm, 91, rfl⟩
abbrev main_v69 : Ref sig .tc := ⟨.hbm, 92, rfl⟩
abbrev main_cst_13 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_14 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩

abbrev nD : Nat := 1
abbrev τ : Topo := Topo.v7x

variable {F : FTy → Type} [FloatOps F]
-- ==== Kernel3.lean ====
abbrev S16384x1024 : Shape := ⟨2, ![16384, 1024]⟩
abbrev S16384x512 : Shape := ⟨2, ![16384, 512]⟩
abbrev S16384x256 : Shape := ⟨2, ![16384, 256]⟩
abbrev S16384x128 : Shape := ⟨2, ![16384, 128]⟩
abbrev S1024 : Shape := ⟨1, ![1024]⟩
abbrev S1024x2048 : Shape := ⟨2, ![1024, 2048]⟩
abbrev S512x1024 : Shape := ⟨2, ![512, 1024]⟩
abbrev S256x1024 : Shape := ⟨2, ![256, 1024]⟩
abbrev S1024x1024 : Shape := ⟨2, ![1024, 1024]⟩
abbrev S1024x2816 : Shape := ⟨2, ![1024, 2816]⟩
abbrev S2816x1024 : Shape := ⟨2, ![2816, 1024]⟩
abbrev S1x1024 : Shape := ⟨2, ![1, 1024]⟩
abbrev S256 : Shape := ⟨1, ![256]⟩
abbrev S_ : Shape := ⟨0, ![]⟩
abbrev S128 : Shape := ⟨1, ![128]⟩
abbrev S128x1 : Shape := ⟨2, ![128, 1]⟩
abbrev S1x256 : Shape := ⟨2, ![1, 256]⟩
abbrev S128x256 : Shape := ⟨2, ![128, 256]⟩
abbrev S512x512 : Shape := ⟨2, ![512, 512]⟩
abbrev S512x256 : Shape := ⟨2, ![512, 256]⟩
abbrev S512x128 : Shape := ⟨2, ![512, 128]⟩
abbrev S6x512x128 : Shape := ⟨3, ![6, 512, 128]⟩
abbrev S512 : Shape := ⟨1, ![512]⟩
abbrev S512x1 : Shape := ⟨2, ![512, 1]⟩
abbrev S512x2048 : Shape := ⟨2, ![512, 2048]⟩
abbrev S128x128 : Shape := ⟨2, ![128, 128]⟩
abbrev S1x128x128 : Shape := ⟨3, ![1, 128, 128]⟩
abbrev S1x512x128 : Shape := ⟨3, ![1, 512, 128]⟩
abbrev S32x128 : Shape := ⟨2, ![32, 128]⟩
abbrev S1x32x128 : Shape := ⟨3, ![1, 32, 128]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 46
  | .vmem => 29
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x256, .bf16⟩
  | .hbm, ⟨3, _⟩ => ⟨S16384x256, .bf16⟩
  | .hbm, ⟨4, _⟩ => ⟨S16384x256, .bf16⟩
  | .hbm, ⟨5, _⟩ => ⟨S16384x128, .f32⟩
  | .hbm, ⟨6, _⟩ => ⟨S16384x128, .f32⟩
  | .hbm, ⟨7, _⟩ => ⟨S16384x128, .f32⟩
  | .hbm, ⟨8, _⟩ => ⟨S1024, .f32⟩
  | .hbm, ⟨9, _⟩ => ⟨S1024x2048, .bf16⟩
  | .hbm, ⟨10, _⟩ => ⟨S512x1024, .bf16⟩
  | .hbm, ⟨11, _⟩ => ⟨S256x1024, .bf16⟩
  | .hbm, ⟨12, _⟩ => ⟨S1024x1024, .bf16⟩
  | .hbm, ⟨13, _⟩ => ⟨S1024, .f32⟩
  | .hbm, ⟨14, _⟩ => ⟨S1024x2816, .bf16⟩
  | .hbm, ⟨15, _⟩ => ⟨S1024x2816, .bf16⟩
  | .hbm, ⟨16, _⟩ => ⟨S2816x1024, .bf16⟩
  | .hbm, ⟨17, _⟩ => ⟨S1x1024, .f32⟩
  | .hbm, ⟨18, _⟩ => ⟨S1x1024, .f32⟩
  | .hbm, ⟨19, _⟩ => ⟨S256, .i32⟩
  | .hbm, ⟨20, _⟩ => ⟨S_, .i32⟩
  | .hbm, ⟨21, _⟩ => ⟨S_, .i32⟩
  | .hbm, ⟨22, _⟩ => ⟨S256, .i32⟩
  | .hbm, ⟨23, _⟩ => ⟨S256, .i32⟩
  | .hbm, ⟨24, _⟩ => ⟨S256, .i32⟩
  | .hbm, ⟨25, _⟩ => ⟨S_, .i32⟩
  | .hbm, ⟨26, _⟩ => ⟨S256, .i32⟩
  | .hbm, ⟨27, _⟩ => ⟨S256, .i1⟩
  | .hbm, ⟨28, _⟩ => ⟨S256, .i32⟩
  | .hbm, ⟨29, _⟩ => ⟨S256, .i32⟩
  | .hbm, ⟨30, _⟩ => ⟨S_, .i32⟩
  | .hbm, ⟨31, _⟩ => ⟨S256, .i32⟩
  | .hbm, ⟨32, _⟩ => ⟨S256, .i1⟩
  | .hbm, ⟨33, _⟩ => ⟨S256, .i1⟩
  | .hbm, ⟨34, _⟩ => ⟨S_, .i32⟩
  | .hbm, ⟨35, _⟩ => ⟨S256, .i32⟩
  | .hbm, ⟨36, _⟩ => ⟨S256, .i32⟩
  | .hbm, ⟨37, _⟩ => ⟨S256, .i32⟩
  | .hbm, ⟨38, _⟩ => ⟨S128, .i32⟩
  | .hbm, ⟨39, _⟩ => ⟨S128x1, .i32⟩
  | .hbm, ⟨40, _⟩ => ⟨S1x256, .i32⟩
  | .hbm, ⟨41, _⟩ => ⟨S128x256, .i32⟩
  | .hbm, ⟨42, _⟩ => ⟨S128x256, .i32⟩
  | .hbm, ⟨43, _⟩ => ⟨S128x256, .i1⟩
  | .hbm, ⟨44, _⟩ => ⟨S128x256, .bf16⟩
  | .hbm, ⟨45, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S1x1024, .f32⟩
  | .local _ .vmem, ⟨17, _⟩ => ⟨S1024x2048, .bf16⟩
  | .local _ .vmem, ⟨18, _⟩ => ⟨S512x1024, .bf16⟩
  | .local _ .vmem, ⟨19, _⟩ => ⟨S256x1024, .bf16⟩
  | .local _ .vmem, ⟨20, _⟩ => ⟨S1024x1024, .bf16⟩
  | .local _ .vmem, ⟨21, _⟩ => ⟨S128x256, .bf16⟩
  | .local _ .vmem, ⟨22, _⟩ => ⟨S1x1024, .f32⟩
  | .local _ .vmem, ⟨23, _⟩ => ⟨S1024x2816, .bf16⟩
  | .local _ .vmem, ⟨24, _⟩ => ⟨S1024x2816, .bf16⟩
  | .local _ .vmem, ⟨25, _⟩ => ⟨S2816x1024, .bf16⟩
  | .local _ .vmem, ⟨26, _⟩ => ⟨S512x1024, .f32⟩
  | .local _ .vmem, ⟨27, _⟩ => ⟨S512x1024, .f32⟩
  | .local _ .vmem, ⟨28, _⟩ => ⟨S6x512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg18_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x2816 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x2816 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2816x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference3Ideal.lean ====
abbrev S16384x1024 : Shape := ⟨2, ![16384, 1024]⟩
abbrev S16384x512 : Shape := ⟨2, ![16384, 512]⟩
abbrev S16384x256 : Shape := ⟨2, ![16384, 256]⟩
abbrev S16384x128 : Shape := ⟨2, ![16384, 128]⟩
abbrev S1024 : Shape := ⟨1, ![1024]⟩
abbrev S1024x2048 : Shape := ⟨2, ![1024, 2048]⟩
abbrev S512x1024 : Shape := ⟨2, ![512, 1024]⟩
abbrev S256x1024 : Shape := ⟨2, ![256, 1024]⟩
abbrev S1024x1024 : Shape := ⟨2, ![1024, 1024]⟩
abbrev S1024x2816 : Shape := ⟨2, ![1024, 2816]⟩
abbrev S2816x1024 : Shape := ⟨2, ![2816, 1024]⟩
abbrev S32x1x512x256 : Shape := ⟨4, ![32, 1, 512, 256]⟩
abbrev S32x512x1x256 : Shape := ⟨4, ![32, 512, 1, 256]⟩
abbrev S32x4x128x256 : Shape := ⟨4, ![32, 4, 128, 256]⟩
abbrev S32x128x4x256 : Shape := ⟨4, ![32, 128, 4, 256]⟩
abbrev S32x16x32x256 : Shape := ⟨4, ![32, 16, 32, 256]⟩
abbrev S32x32x16x256 : Shape := ⟨4, ![32, 32, 16, 256]⟩
abbrev S1x16384x256 : Shape := ⟨3, ![1, 16384, 256]⟩
abbrev S3x16384x256 : Shape := ⟨3, ![3, 16384, 256]⟩
abbrev S3x16384x4x64 : Shape := ⟨4, ![3, 16384, 4, 64]⟩
abbrev S32x1x512x128 : Shape := ⟨4, ![32, 1, 512, 128]⟩
abbrev S32x512x1x128 : Shape := ⟨4, ![32, 512, 1, 128]⟩
abbrev S32x4x128x128 : Shape := ⟨4, ![32, 4, 128, 128]⟩
abbrev S32x128x4x128 : Shape := ⟨4, ![32, 128, 4, 128]⟩
abbrev S32x16x32x128 : Shape := ⟨4, ![32, 16, 32, 128]⟩
abbrev S32x32x16x128 : Shape := ⟨4, ![32, 32, 16, 128]⟩
abbrev S1x16384x128 : Shape := ⟨3, ![1, 16384, 128]⟩
abbrev S3x16384x128 : Shape := ⟨3, ![3, 16384, 128]⟩
abbrev S3x16384x4 : Shape := ⟨3, ![3, 16384, 4]⟩
abbrev S_ : Shape := ⟨0, ![]⟩
abbrev S16384x4 : Shape := ⟨2, ![16384, 4]⟩
abbrev S1x16384x4 : Shape := ⟨3, ![1, 16384, 4]⟩
abbrev S3x16384x4x1 : Shape := ⟨4, ![3, 16384, 4, 1]⟩
abbrev S16384x4x64 : Shape := ⟨3, ![16384, 4, 64]⟩
abbrev S16384x4x1 : Shape := ⟨3, ![16384, 4, 1]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩
abbrev S16384x2816 : Shape := ⟨2, ![16384, 2816]⟩

abbrev nBuf : Space → Nat
  | .hbm => 140
  | .vmem => 0
  | .smem => 0
  | _ => 0

abbrev hbmTy0_0 (i : Nat) : BufTy := match i % 128 with
  | 0 => ⟨S16384x1024, .f32⟩
  | 1 => ⟨S16384x512, .bf16⟩
  | 2 => ⟨S16384x256, .bf16⟩
  | 3 => ⟨S16384x256, .bf16⟩
  | 4 => ⟨S16384x256, .bf16⟩
  | 5 => ⟨S16384x128, .f32⟩
  | 6 => ⟨S16384x128, .f32⟩
  | 7 => ⟨S16384x128, .f32⟩
  | 8 => ⟨S1024, .f32⟩
  | 9 => ⟨S1024x2048, .bf16⟩
  | 10 => ⟨S512x1024, .bf16⟩
  | 11 => ⟨S256x1024, .bf16⟩
  | 12 => ⟨S1024x1024, .bf16⟩
  | 13 => ⟨S1024, .f32⟩
  | 14 => ⟨S1024x2816, .bf16⟩
  | 15 => ⟨S1024x2816, .bf16⟩
  | 16 => ⟨S2816x1024, .bf16⟩
  | 17 => ⟨S16384x256, .f32⟩
  | 18 => ⟨S32x1x512x256, .f32⟩
  | 19 => ⟨S32x512x1x256, .f32⟩
  | 20 => ⟨S16384x256, .f32⟩
  | 21 => ⟨S16384x256, .f32⟩
  | 22 => ⟨S32x4x128x256, .f32⟩
  | 23 => ⟨S32x128x4x256, .f32⟩
  | 24 => ⟨S16384x256, .f32⟩
  | 25 => ⟨S16384x256, .f32⟩
  | 26 => ⟨S32x16x32x256, .f32⟩
  | 27 => ⟨S32x32x16x256, .f32⟩
  | 28 => ⟨S16384x256, .f32⟩
  | 29 => ⟨S1x16384x256, .f32⟩
  | 30 => ⟨S1x16384x256, .f32⟩
  | 31 => ⟨S1x16384x256, .f32⟩
  | 32 => ⟨S3x16384x256, .f32⟩
  | 33 => ⟨S3x16384x4x64, .f32⟩
  | 34 => ⟨S32x1x512x128, .f32⟩
  | 35 => ⟨S32x512x1x128, .f32⟩
  | 36 => ⟨S16384x128, .f32⟩
  | 37 => ⟨S32x4x128x128, .f32⟩
  | 38 => ⟨S32x128x4x128, .f32⟩
  | 39 => ⟨S16384x128, .f32⟩
  | 40 => ⟨S32x16x32x128, .f32⟩
  | 41 => ⟨S32x32x16x128, .f32⟩
  | 42 => ⟨S16384x128, .f32⟩
  | 43 => ⟨S1x16384x128, .f32⟩
  | 44 => ⟨S1x16384x128, .f32⟩
  | 45 => ⟨S1x16384x128, .f32⟩
  | 46 => ⟨S3x16384x128, .f32⟩
  | 47 => ⟨S3x16384x4, .f32⟩
  | 48 => ⟨S_, .f32⟩
  | 49 => ⟨S16384x4, .f32⟩
  | 50 => ⟨S1x16384x4, .f32⟩
  | 51 => ⟨S3x16384x4, .f32⟩
  | 52 => ⟨S3x16384x4, .f32⟩
  | 53 => ⟨S3x16384x4, .f32⟩
  | 54 => ⟨S3x16384x4x1, .f32⟩
  | 55 => ⟨S3x16384x4x64, .f32⟩
  | 56 => ⟨S3x16384x4x64, .f32⟩
  | 57 => ⟨S_, .f32⟩
  | 58 => ⟨S16384x4x64, .f32⟩
  | 59 => ⟨S_, .f32⟩
  | 60 => ⟨S16384x4, .f32⟩
  | 61 => ⟨S16384x4x1, .f32⟩
  | 62 => ⟨S16384x4x64, .f32⟩
  | 63 => ⟨S16384x4x64, .f32⟩
  | 64 => ⟨S16384x1024, .f32⟩
  | 65 => ⟨S_, .f32⟩
  | 66 => ⟨S16384, .f32⟩
  | 67 => ⟨S16384x1, .f32⟩
  | 68 => ⟨S_, .f32⟩
  | 69 => ⟨S16384x1, .f32⟩
  | 70 => ⟨S16384x1, .f32⟩
  | 71 => ⟨S_, .f32⟩
  | 72 => ⟨S16384x1, .f32⟩
  | 73 => ⟨S16384x1, .f32⟩
  | 74 => ⟨S16384x1, .f32⟩
  | 75 => ⟨S16384x1024, .f32⟩
  | 76 => ⟨S16384x1024, .f32⟩
  | 77 => ⟨S1x1024, .f32⟩
  | 78 => ⟨S16384x1024, .f32⟩
  | 79 => ⟨S16384x1024, .f32⟩
  | 80 => ⟨S1024x2048, .f32⟩
  | 81 => ⟨S16384x2048, .f32⟩
  | 82 => ⟨S16384x2048, .f32⟩
  | 83 => ⟨S16384x2048, .f32⟩
  | 84 => ⟨S_, .f32⟩
  | 85 => ⟨S16384x2048, .f32⟩
  | 86 => ⟨S16384x2048, .f32⟩
  | 87 => ⟨S_, .f32⟩
  | 88 => ⟨S16384x2048, .f32⟩
  | 89 => ⟨S16384x2048, .f32⟩
  | 90 => ⟨S16384x1024, .f32⟩
  | 91 => ⟨S16384x512, .f32⟩
  | 92 => ⟨S512x1024, .f32⟩
  | 93 => ⟨S16384x1024, .f32⟩
  | 94 => ⟨S16384x1024, .f32⟩
  | 95 => ⟨S16384x1024, .f32⟩
  | 96 => ⟨S16384x256, .f32⟩
  | 97 => ⟨S256x1024, .f32⟩
  | 98 => ⟨S16384x1024, .f32⟩
  | 99 => ⟨S16384x1024, .f32⟩
  | 100 => ⟨S16384x1024, .f32⟩
  | 101 => ⟨S1024x1024, .f32⟩
  | 102 => ⟨S16384x1024, .f32⟩
  | 103 => ⟨S16384x1024, .f32⟩
  | 104 => ⟨S16384x1024, .f32⟩
  | 105 => ⟨S_, .f32⟩
  | 106 => ⟨S16384, .f32⟩
  | 107 => ⟨S16384x1, .f32⟩
  | 108 => ⟨S_, .f32⟩
  | 109 => ⟨S16384x1, .f32⟩
  | 110 => ⟨S16384x1, .f32⟩
  | 111 => ⟨S_, .f32⟩
  | 112 => ⟨S16384x1, .f32⟩
  | 113 => ⟨S16384x1, .f32⟩
  | 114 => ⟨S16384x1, .f32⟩
  | 115 => ⟨S16384x1024, .f32⟩
  | 116 => ⟨S16384x1024, .f32⟩
  | 117 => ⟨S1x1024, .f32⟩
  | 118 => ⟨S16384x1024, .f32⟩
  | 119 => ⟨S16384x1024, .f32⟩
  | 120 => ⟨S1024x2816, .f32⟩
  | 121 => ⟨S16384x2816, .f32⟩
  | 122 => ⟨S16384x2816, .f32⟩
  | 123 => ⟨S16384x2816, .f32⟩
  | 124 => ⟨S_, .f32⟩
  | 125 => ⟨S16384x2816, .f32⟩
  | 126 => ⟨S16384x2816, .f32⟩
  | 127 => ⟨S_, .f32⟩
  | _ => ⟨S16384x1024, .f32⟩

abbrev hbmTy0_1 (i : Nat) : BufTy := match i % 128 with
  | 0 => ⟨S16384x2816, .f32⟩
  | 1 => ⟨S16384x2816, .f32⟩
  | 2 => ⟨S16384x2816, .f32⟩
  | 3 => ⟨S1024x2816, .f32⟩
  | 4 => ⟨S16384x2816, .f32⟩
  | 5 => ⟨S16384x2816, .f32⟩
  | 6 => ⟨S2816x1024, .f32⟩
  | 7 => ⟨S16384x1024, .f32⟩
  | 8 => ⟨S_, .f32⟩
  | 9 => ⟨S16384x1024, .f32⟩
  | 10 => ⟨S16384x1024, .f32⟩
  | 11 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_0 : Ref sig .tc := ⟨.hbm, 57, rfl⟩
abbrev main_v39 : Ref sig .tc := ⟨.hbm, 58, rfl⟩
abbrev main_cst_1 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_2 : Ref sig .tc := ⟨.hbm, 65, rfl⟩
abbrev main_v45 : Ref sig .tc := ⟨.hbm, 66, rfl⟩
abbrev main_v46 : Ref sig .tc := ⟨.hbm, 67, rfl⟩
abbrev main_cst_3 : Ref sig .tc := ⟨.hbm, 68, rfl⟩
abbrev main_v47 : Ref sig .tc := ⟨.hbm, 69, rfl⟩
abbrev main_v48 : Ref sig .tc := ⟨.hbm, 70, rfl⟩
abbrev main_cst_4 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_5 : Ref sig .tc := ⟨.hbm, 84, rfl⟩
abbrev main_v61 : Ref sig .tc := ⟨.hbm, 85, rfl⟩
abbrev main_v62 : Ref sig .tc := ⟨.hbm, 86, rfl⟩
abbrev main_cst_6 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_7 : Ref sig .tc := ⟨.hbm, 105, rfl⟩
abbrev main_v80 : Ref sig .tc := ⟨.hbm, 106, rfl⟩
abbrev main_v81 : Ref sig .tc := ⟨.hbm, 107, rfl⟩
abbrev main_cst_8 : Ref sig .tc := ⟨.hbm, 108, rfl⟩
abbrev main_v82 : Ref sig .tc := ⟨.hbm, 109, rfl⟩
abbrev main_v83 : Ref sig .tc := ⟨.hbm, 110, rfl⟩
abbrev main_cst_9 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_10 : Ref sig .tc := ⟨.hbm, 124, rfl⟩
abbrev main_v96 : Ref sig .tc := ⟨.hbm, 125, rfl⟩
abbrev main_v97 : Ref sig .tc := ⟨.hbm, 126, rfl⟩
abbrev main_cst_11 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_cst_12 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩

abbrev nD : Nat := 1
abbrev τ : Topo := Topo.v7x

variable {F : FTy → Type} [FloatOps F]
-- ==== Kernel4.lean ====
abbrev S2x8192x768 : Shape := ⟨3, ![2, 8192, 768]⟩
abbrev S32x768 : Shape := ⟨2, ![32, 768]⟩
abbrev S32x1536 : Shape := ⟨2, ![32, 1536]⟩
abbrev S1x32x128x2x4x64 : Shape := ⟨6, ![1, 32, 128, 2, 4, 64]⟩
abbrev S32x128x2x4x64 : Shape := ⟨5, ![32, 128, 2, 4, 64]⟩
abbrev S32x2x4x64x128 : Shape := ⟨5, ![32, 2, 4, 64, 128]⟩
abbrev S32x512x128 : Shape := ⟨3, ![32, 512, 128]⟩
abbrev S2x16x1x512x768 : Shape := ⟨5, ![2, 16, 1, 512, 768]⟩
abbrev S32x1x768 : Shape := ⟨3, ![32, 1, 768]⟩
abbrev S32x1x1536 : Shape := ⟨3, ![32, 1, 1536]⟩
abbrev S2x16x1x512x256 : Shape := ⟨5, ![2, 16, 1, 512, 256]⟩
abbrev S2x16x1x512x128 : Shape := ⟨5, ![2, 16, 1, 512, 128]⟩
abbrev S32x1x256 : Shape := ⟨3, ![32, 1, 256]⟩
abbrev S32x1x128 : Shape := ⟨3, ![32, 1, 128]⟩
abbrev S1x1x1x512x256 : Shape := ⟨5, ![1, 1, 1, 512, 256]⟩
abbrev S1x1x1x128x256 : Shape := ⟨5, ![1, 1, 1, 128, 256]⟩
abbrev S1x1x256 : Shape := ⟨3, ![1, 1, 256]⟩
abbrev S1x512x128 : Shape := ⟨3, ![1, 512, 128]⟩
abbrev S1x1x1x512x128 : Shape := ⟨5, ![1, 1, 1, 512, 128]⟩
abbrev S1x1x128 : Shape := ⟨3, ![1, 1, 128]⟩
abbrev S512x256 : Shape := ⟨2, ![512, 256]⟩
abbrev S128x256 : Shape := ⟨2, ![128, 256]⟩
abbrev S640x256 : Shape := ⟨2, ![640, 256]⟩
abbrev S1x256 : Shape := ⟨2, ![1, 256]⟩
abbrev S1x128 : Shape := ⟨2, ![1, 128]⟩
abbrev S256x256 : Shape := ⟨2, ![256, 256]⟩
abbrev S4x128x256 : Shape := ⟨3, ![4, 128, 256]⟩
abbrev S1x128x256 : Shape := ⟨3, ![1, 128, 256]⟩
abbrev S512 : Shape := ⟨1, ![512]⟩
abbrev S512x1 : Shape := ⟨2, ![512, 1]⟩
abbrev S128x128 : Shape := ⟨2, ![128, 128]⟩
abbrev S128x1 : Shape := ⟨2, ![128, 1]⟩
abbrev S1x1x1x128x128 : Shape := ⟨5, ![1, 1, 1, 128, 128]⟩
abbrev S512x128 : Shape := ⟨2, ![512, 128]⟩
abbrev S8x256 : Shape := ⟨2, ![8, 256]⟩
abbrev S8x128 : Shape := ⟨2, ![8, 128]⟩
abbrev S256x128 : Shape := ⟨2, ![256, 128]⟩
abbrev S8 : Shape := ⟨1, ![8]⟩
abbrev S8x1 : Shape := ⟨2, ![8, 1]⟩
abbrev S256 : Shape := ⟨1, ![256]⟩
abbrev S128 : Shape := ⟨1, ![128]⟩
abbrev S512x512 : Shape := ⟨2, ![512, 512]⟩
abbrev S1x512 : Shape := ⟨2, ![1, 512]⟩

abbrev nBuf : Space → Nat
  | .hbm => 22
  | .vmem => 28
  | .smem => 0
  | _ => 0

abbrev bufTy : (tb : Table) → Fin (tcTables nBuf tb) → BufTy
  | .hbm, ⟨0, _⟩ => ⟨S2x8192x768, .bf16⟩
  | .hbm, ⟨1, _⟩ => ⟨S2x8192x768, .bf16⟩
  | .hbm, ⟨2, _⟩ => ⟨S2x8192x768, .bf16⟩
  | .hbm, ⟨3, _⟩ => ⟨S32x768, .bf16⟩
  | .hbm, ⟨4, _⟩ => ⟨S32x1536, .f32⟩
  | .hbm, ⟨5, _⟩ => ⟨S1x32x128x2x4x64, .f32⟩
  | .hbm, ⟨6, _⟩ => ⟨S32x128x2x4x64, .f32⟩
  | .hbm, ⟨7, _⟩ => ⟨S32x2x4x64x128, .f32⟩
  | .hbm, ⟨8, _⟩ => ⟨S32x512x128, .f32⟩
  | .hbm, ⟨9, _⟩ => ⟨S2x16x1x512x768, .bf16⟩
  | .hbm, ⟨10, _⟩ => ⟨S2x16x1x512x768, .bf16⟩
  | .hbm, ⟨11, _⟩ => ⟨S2x16x1x512x768, .bf16⟩
  | .hbm, ⟨12, _⟩ => ⟨S2x16x1x512x768, .bf16⟩
  | .hbm, ⟨13, _⟩ => ⟨S2x16x1x512x768, .bf16⟩
  | .hbm, ⟨14, _⟩ => ⟨S32x1x768, .bf16⟩
  | .hbm, ⟨15, _⟩ => ⟨S32x1x1536, .f32⟩
  | .hbm, ⟨16, _⟩ => ⟨S32x1x1536, .f32⟩
  | .hbm, ⟨17, _⟩ => ⟨S2x16x1x512x256, .bf16⟩
  | .hbm, ⟨18, _⟩ => ⟨S2x16x1x512x128, .f32⟩
  | .hbm, ⟨19, _⟩ => ⟨S32x1x256, .bf16⟩
  | .hbm, ⟨20, _⟩ => ⟨S32x1x128, .f32⟩
  | .hbm, ⟨21, _⟩ => ⟨S32x512x128, .f32⟩
  | .local _ .vmem, ⟨0, _⟩ => ⟨S1x1x1x512x256, .bf16⟩
  | .local _ .vmem, ⟨1, _⟩ => ⟨S1x1x1x512x256, .bf16⟩
  | .local _ .vmem, ⟨2, _⟩ => ⟨S1x1x1x512x256, .bf16⟩
  | .local _ .vmem, ⟨3, _⟩ => ⟨S1x1x1x512x256, .bf16⟩
  | .local _ .vmem, ⟨4, _⟩ => ⟨S1x1x1x512x256, .bf16⟩
  | .local _ .vmem, ⟨5, _⟩ => ⟨S1x1x1x512x256, .bf16⟩
  | .local _ .vmem, ⟨6, _⟩ => ⟨S1x1x1x128x256, .bf16⟩
  | .local _ .vmem, ⟨7, _⟩ => ⟨S1x1x1x128x256, .bf16⟩
  | .local _ .vmem, ⟨8, _⟩ => ⟨S1x1x1x128x256, .bf16⟩
  | .local _ .vmem, ⟨9, _⟩ => ⟨S1x1x1x128x256, .bf16⟩
  | .local _ .vmem, ⟨10, _⟩ => ⟨S1x1x256, .bf16⟩
  | .local _ .vmem, ⟨11, _⟩ => ⟨S1x1x256, .bf16⟩
  | .local _ .vmem, ⟨12, _⟩ => ⟨S1x1x256, .f32⟩
  | .local _ .vmem, ⟨13, _⟩ => ⟨S1x1x256, .f32⟩
  | .local _ .vmem, ⟨14, _⟩ => ⟨S1x1x256, .f32⟩
  | .local _ .vmem, ⟨15, _⟩ => ⟨S1x1x256, .f32⟩
  | .local _ .vmem, ⟨16, _⟩ => ⟨S1x512x128, .f32⟩
  | .local _ .vmem, ⟨17, _⟩ => ⟨S1x512x128, .f32⟩
  | .local _ .vmem, ⟨18, _⟩ => ⟨S1x1x1x512x256, .bf16⟩
  | .local _ .vmem, ⟨19, _⟩ => ⟨S1x1x1x512x256, .bf16⟩
  | .local _ .vmem, ⟨20, _⟩ => ⟨S1x1x1x512x128, .f32⟩
  | .local _ .vmem, ⟨21, _⟩ => ⟨S1x1x1x512x128, .f32⟩
  | .local _ .vmem, ⟨22, _⟩ => ⟨S1x1x256, .bf16⟩
  | .local _ .vmem, ⟨23, _⟩ => ⟨S1x1x256, .bf16⟩
  | .local _ .vmem, ⟨24, _⟩ => ⟨S1x1x128, .f32⟩
  | .local _ .vmem, ⟨25, _⟩ => ⟨S1x1x128, .f32⟩
  | .local _ .vmem, ⟨26, _⟩ => ⟨S1x512x128, .f32⟩
  | .local _ .vmem, ⟨27, _⟩ => ⟨S1x512x128, .f32⟩
  | _, _ => ⟨S2x8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c1_i32_0 : BitVec 32 := 1#32
  let v1 : BitVec 32 := Scalar.subi v0 c1_i32_0
  let c0_i32 : BitVec 32 := 0#32
  let v2 : BitVec 32 := Scalar.maxsi v1 c0_i32
  let c3_i32 : BitVec 32 := 3#32
  let c0_i32_1 : BitVec 32 := 0#32
  let c0_i32_2 : BitVec 32 := 0#32
  ![arg0.toNat, v2.toNat, arg1.toNat, c3_i32.toNat, c0_i32_1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c1_i32_0 : BitVec 32 := 1#32
  let v1 : BitVec 32 := Scalar.subi v0 c1_i32_0
  let c0_i32 : BitVec 32 := 0#32
  let v2 : BitVec 32 := Scalar.maxsi v1 c0_i32
  let c3_i32 : BitVec 32 := 3#32
  let c0_i32_1 : BitVec 32 := 0#32
  let c0_i32_2 : BitVec 32 := 0#32
  ![arg0.toNat, v2.toNat, arg1.toNat, c3_i32.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  let c0_i32_1 : BitVec 32 := 0#32
  ![v4.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  let c0_i32_1 : BitVec 32 := 0#32
  ![v4.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c31_i32 : BitVec 32 := 31#32
  let v4 : BitVec 32 := Scalar.minsi v3 c31_i32
  let c0_i32 : BitVec 32 := 0#32
  let c3_i32 : BitVec 32 := 3#32
  let c0_i32_0 : BitVec 32 := 0#32
  ![v4.toNat, c0_i32.toNat, c3_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  let c0_i32_1 : BitVec 32 := 0#32
  ![v4.toNat, c0_i32.toNat, c0_i32_0.toNat]

def cc0_transform_9 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_10 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  let c0_i32_1 : BitVec 32 := 0#32
  ![v4.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  let c0_i32_1 : BitVec 32 := 0#32
  ![v4.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  let c0_i32_1 : BitVec 32 := 0#32
  ![v4.toNat, c0_i32.toNat, c0_i32_0.toNat]

abbrev stage0_0 : Fin 2 → Memref sig .tc .vmem S1x1x1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x1x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== Kernel4Ideal.lean ====
variable {F : FTy → Type} [FloatOps F] [Named F]
def κ : String → Option EReal := fun
  | "mask" => some ⊥
  | _ => none
-- ==== Reference4Ideal.lean ====
abbrev S2x8192x768 : Shape := ⟨3, ![2, 8192, 768]⟩
abbrev S32x768 : Shape := ⟨2, ![32, 768]⟩
abbrev S32x1536 : Shape := ⟨2, ![32, 1536]⟩
abbrev S1x32x128x2x4x64 : Shape := ⟨6, ![1, 32, 128, 2, 4, 64]⟩
abbrev S32x256 : Shape := ⟨2, ![32, 256]⟩
abbrev S32x1x256 : Shape := ⟨3, ![32, 1, 256]⟩
abbrev S32x2x256 : Shape := ⟨3, ![32, 2, 256]⟩
abbrev S32x1x2x4x64 : Shape := ⟨5, ![32, 1, 2, 4, 64]⟩
abbrev S32x128x2x4x64 : Shape := ⟨5, ![32, 128, 2, 4, 64]⟩
abbrev S32x129x2x4x64 : Shape := ⟨5, ![32, 129, 2, 4, 64]⟩
abbrev S32x2x4x64x128 : Shape := ⟨5, ![32, 2, 4, 64, 128]⟩
abbrev S32x512x128 : Shape := ⟨3, ![32, 512, 128]⟩

abbrev nBuf : Space → Nat
  | .hbm => 17
  | .vmem => 0
  | .smem => 0
  | _ => 0

abbrev bufTy : (tb : Table) → Fin (tcTables nBuf tb) → BufTy
  | .hbm, ⟨0, _⟩ => ⟨S2x8192x768, .bf16⟩
  | .hbm, ⟨1, _⟩ => ⟨S2x8192x768, .bf16⟩
  | .hbm, ⟨2, _⟩ => ⟨S2x8192x768, .bf16⟩
  | .hbm, ⟨3, _⟩ => ⟨S32x768, .bf16⟩
  | .hbm, ⟨4, _⟩ => ⟨S32x1536, .f32⟩
  | .hbm, ⟨5, _⟩ => ⟨S1x32x128x2x4x64, .f32⟩
  | .hbm, ⟨6, _⟩ => ⟨S32x256, .f32⟩
  | .hbm, ⟨7, _⟩ => ⟨S32x256, .f32⟩
  | .hbm, ⟨8, _⟩ => ⟨S32x1x256, .f32⟩
  | .hbm, ⟨9, _⟩ => ⟨S32x1x256, .f32⟩
  | .hbm, ⟨10, _⟩ => ⟨S32x2x256, .f32⟩
  | .hbm, ⟨11, _⟩ => ⟨S32x1x2x4x64, .f32⟩
  | .hbm, ⟨12, _⟩ => ⟨S32x128x2x4x64, .f32⟩
  | .hbm, ⟨13, _⟩ => ⟨S32x129x2x4x64, .f32⟩
  | .hbm, ⟨14, _⟩ => ⟨S32x128x2x4x64, .f32⟩
  | .hbm, ⟨15, _⟩ => ⟨S32x2x4x64x128, .f32⟩
  | .hbm, ⟨16, _⟩ => ⟨S32x512x128, .f32⟩
  | _, _ => ⟨S2x8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel5.lean ====
abbrev S2x8192x768 : Shape := ⟨3, ![2, 8192, 768]⟩
abbrev S32x768 : Shape := ⟨2, ![32, 768]⟩
abbrev S32x1536 : Shape := ⟨2, ![32, 1536]⟩
abbrev S1x32x2048x2x4x64 : Shape := ⟨6, ![1, 32, 2048, 2, 4, 64]⟩
abbrev S32x2048x2x4x64 : Shape := ⟨5, ![32, 2048, 2, 4, 64]⟩
abbrev S32x2x4x64x2048 : Shape := ⟨5, ![32, 2, 4, 64, 2048]⟩
abbrev S32x512x2048 : Shape := ⟨3, ![32, 512, 2048]⟩
abbrev S2x16x16x32x768 : Shape := ⟨5, ![2, 16, 16, 32, 768]⟩
abbrev S32x1x768 : Shape := ⟨3, ![32, 1, 768]⟩
abbrev S32x1x1536 : Shape := ⟨3, ![32, 1, 1536]⟩
abbrev S2x16x16x32x256 : Shape := ⟨5, ![2, 16, 16, 32, 256]⟩
abbrev S2x16x16x32x128 : Shape := ⟨5, ![2, 16, 16, 32, 128]⟩
abbrev S32x1x256 : Shape := ⟨3, ![32, 1, 256]⟩
abbrev S32x1x128 : Shape := ⟨3, ![32, 1, 128]⟩
abbrev S1x16x1x32x256 : Shape := ⟨5, ![1, 16, 1, 32, 256]⟩
abbrev S1x4x1x32x256 : Shape := ⟨5, ![1, 4, 1, 32, 256]⟩
abbrev S1x1x256 : Shape := ⟨3, ![1, 1, 256]⟩
abbrev S1x16x1x32x128 : Shape := ⟨5, ![1, 16, 1, 32, 128]⟩
abbrev S1x1x128 : Shape := ⟨3, ![1, 1, 128]⟩
abbrev S1x512x2048 : Shape := ⟨3, ![1, 512, 2048]⟩
abbrev S3x512x2048 : Shape := ⟨3, ![3, 512, 2048]⟩
abbrev S3 : Shape := ⟨1, ![3]⟩
abbrev S1x1x1x32x256 : Shape := ⟨5, ![1, 1, 1, 32, 256]⟩
abbrev S32x256 : Shape := ⟨2, ![32, 256]⟩
abbrev S512x256 : Shape := ⟨2, ![512, 256]⟩
abbrev S128x256 : Shape := ⟨2, ![128, 256]⟩
abbrev S640x256 : Shape := ⟨2, ![640, 256]⟩
abbrev S1x256 : Shape := ⟨2, ![1, 256]⟩
abbrev S1x128 : Shape := ⟨2, ![1, 128]⟩
abbrev S256x256 : Shape := ⟨2, ![256, 256]⟩
abbrev S4x128x256 : Shape := ⟨3, ![4, 128, 256]⟩
abbrev S1x128x256 : Shape := ⟨3, ![1, 128, 256]⟩
abbrev S512 : Shape := ⟨1, ![512]⟩
abbrev S512x1 : Shape := ⟨2, ![512, 1]⟩
abbrev S128x128 : Shape := ⟨2, ![128, 128]⟩
abbrev S128x1 : Shape := ⟨2, ![128, 1]⟩
abbrev S32x128 : Shape := ⟨2, ![32, 128]⟩
abbrev S1x1x1x32x128 : Shape := ⟨5, ![1, 1, 1, 32, 128]⟩
abbrev S1 : Shape := ⟨1, ![1]⟩
abbrev S_ : Shape := ⟨0, ![]⟩
abbrev S512x2048 : Shape := ⟨2, ![512, 2048]⟩
abbrev S8x256 : Shape := ⟨2, ![8, 256]⟩
abbrev S8x128 : Shape := ⟨2, ![8, 128]⟩
abbrev S8x2048 : Shape := ⟨2, ![8, 2048]⟩
abbrev S256x2048 : Shape := ⟨2, ![256, 2048]⟩
abbrev S8 : Shape := ⟨1, ![8]⟩
abbrev S8x1 : Shape := ⟨2, ![8, 1]⟩
abbrev S256 : Shape := ⟨1, ![256]⟩
abbrev S128 : Shape := ⟨1, ![128]⟩
abbrev S512x512 : Shape := ⟨2, ![512, 512]⟩
abbrev S1x512 : Shape := ⟨2, ![1, 512]⟩

abbrev nBuf : Space → Nat
  | .hbm => 22
  | .vmem => 27
  | .smem => 0
  | _ => 0

abbrev bufTy : (tb : Table) → Fin (tcTables nBuf tb) → BufTy
  | .hbm, ⟨0, _⟩ => ⟨S2x8192x768, .bf16⟩
  | .hbm, ⟨1, _⟩ => ⟨S2x8192x768, .bf16⟩
  | .hbm, ⟨2, _⟩ => ⟨S2x8192x768, .bf16⟩
  | .hbm, ⟨3, _⟩ => ⟨S32x768, .bf16⟩
  | .hbm, ⟨4, _⟩ => ⟨S32x1536, .f32⟩
  | .hbm, ⟨5, _⟩ => ⟨S1x32x2048x2x4x64, .f32⟩
  | .hbm, ⟨6, _⟩ => ⟨S32x2048x2x4x64, .f32⟩
  | .hbm, ⟨7, _⟩ => ⟨S32x2x4x64x2048, .f32⟩
  | .hbm, ⟨8, _⟩ => ⟨S32x512x2048, .f32⟩
  | .hbm, ⟨9, _⟩ => ⟨S2x16x16x32x768, .bf16⟩
  | .hbm, ⟨10, _⟩ => ⟨S2x16x16x32x768, .bf16⟩
  | .hbm, ⟨11, _⟩ => ⟨S2x16x16x32x768, .bf16⟩
  | .hbm, ⟨12, _⟩ => ⟨S2x16x16x32x768, .bf16⟩
  | .hbm, ⟨13, _⟩ => ⟨S2x16x16x32x768, .bf16⟩
  | .hbm, ⟨14, _⟩ => ⟨S32x1x768, .bf16⟩
  | .hbm, ⟨15, _⟩ => ⟨S32x1x1536, .f32⟩
  | .hbm, ⟨16, _⟩ => ⟨S32x1x1536, .f32⟩
  | .hbm, ⟨17, _⟩ => ⟨S2x16x16x32x256, .bf16⟩
  | .hbm, ⟨18, _⟩ => ⟨S2x16x16x32x128, .f32⟩
  | .hbm, ⟨19, _⟩ => ⟨S32x1x256, .bf16⟩
  | .hbm, ⟨20, _⟩ => ⟨S32x1x128, .f32⟩
  | .hbm, ⟨21, _⟩ => ⟨S32x512x2048, .f32⟩
  | .local _ .vmem, ⟨0, _⟩ => ⟨S1x16x1x32x256, .bf16⟩
  | .local _ .vmem, ⟨1, _⟩ => ⟨S1x16x1x32x256, .bf16⟩
  | .local _ .vmem, ⟨2, _⟩ => ⟨S1x16x1x32x256, .bf16⟩
  | .local _ .vmem, ⟨3, _⟩ => ⟨S1x16x1x32x256, .bf16⟩
  | .local _ .vmem, ⟨4, _⟩ => ⟨S1x16x1x32x256, .bf16⟩
  | .local _ .vmem, ⟨5, _⟩ => ⟨S1x16x1x32x256, .bf16⟩
  | .local _ .vmem, ⟨6, _⟩ => ⟨S1x4x1x32x256, .bf16⟩
  | .local _ .vmem, ⟨7, _⟩ => ⟨S1x4x1x32x256, .bf16⟩
  | .local _ .vmem, ⟨8, _⟩ => ⟨S1x4x1x32x256, .bf16⟩
  | .local _ .vmem, ⟨9, _⟩ => ⟨S1x4x1x32x256, .bf16⟩
  | .local _ .vmem, ⟨10, _⟩ => ⟨S1x1x256, .bf16⟩
  | .local _ .vmem, ⟨11, _⟩ => ⟨S1x1x256, .bf16⟩
  | .local _ .vmem, ⟨12, _⟩ => ⟨S1x1x256, .f32⟩
  | .local _ .vmem, ⟨13, _⟩ => ⟨S1x1x256, .f32⟩
  | .local _ .vmem, ⟨14, _⟩ => ⟨S1x1x256, .f32⟩
  | .local _ .vmem, ⟨15, _⟩ => ⟨S1x1x256, .f32⟩
  | .local _ .vmem, ⟨16, _⟩ => ⟨S1x16x1x32x256, .bf16⟩
  | .local _ .vmem, ⟨17, _⟩ => ⟨S1x16x1x32x256, .bf16⟩
  | .local _ .vmem, ⟨18, _⟩ => ⟨S1x16x1x32x128, .f32⟩
  | .local _ .vmem, ⟨19, _⟩ => ⟨S1x16x1x32x128, .f32⟩
  | .local _ .vmem, ⟨20, _⟩ => ⟨S1x1x256, .bf16⟩
  | .local _ .vmem, ⟨21, _⟩ => ⟨S1x1x256, .bf16⟩
  | .local _ .vmem, ⟨22, _⟩ => ⟨S1x1x128, .f32⟩
  | .local _ .vmem, ⟨23, _⟩ => ⟨S1x1x128, .f32⟩
  | .local _ .vmem, ⟨24, _⟩ => ⟨S1x512x2048, .f32⟩
  | .local _ .vmem, ⟨25, _⟩ => ⟨S1x512x2048, .f32⟩
  | .local _ .vmem, ⟨26, _⟩ => ⟨S3x512x2048, .f32⟩
  | _, _ => ⟨S2x8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![2, 16, 1], ![false, false, false]⟩

def k0_cond1 (i : grid0.Coords) : BitVec 1 :=
  let arg0 : BitVec 32 := BitVec.ofNat 32 (i 0).val
  let c16_i32 : BitVec 32 := 16#32
  let v724 : BitVec 32 := Scalar.muli arg0 c16_i32
  let arg1 : BitVec 32 := BitVec.ofNat 32 (i 1).val
  let v725 : BitVec 32 := Scalar.addi v724 arg1
  let c1_i32_525 : BitVec 32 := 1#32
  let v726 : BitVec 32 := Scalar.muli v725 c1_i32_525
  let arg2 : BitVec 32 := BitVec.ofNat 32 (i 2).val
  let v727 : BitVec 32 := Scalar.addi v726 arg2
  let c0_i32_526 : BitVec 32 := 0#32
  let v728 : BitVec 1 := Scalar.cmpi .eq v727 c0_i32_526
  let v729 : BitVec 32 := Scalar.extui v728
  let c0_i32_527 : BitVec 32 := 0#32
  let v730 : BitVec 1 := Scalar.cmpi .ne v729 c0_i32_527
  v730

def k0_off1 (c0_i32_533 : BitVec 32) : Fin 1 → Nat :=
  let c3_i32_534 : BitVec 32 := 3#32
  let c0_i32_535 : BitVec 32 := 0#32
  let v739 : BitVec 1 := Scalar.cmpi .eq c3_i32_534 c0_i32_535
  let c1_i32_536 : BitVec 32 := 1#32
  let v740 : BitVec 32 := Scalar.select v739 c1_i32_536 c3_i32_534
  let v741 : BitVec 32 := Scalar.remsi c0_i32_533 v740
  let c0_i32_538 : BitVec 32 := 0#32
  let v743 : BitVec 1 := Scalar.cmpi .slt v741 c0_i32_538
  let c0_i32_539 : BitVec 32 := 0#32
  let v744 : BitVec 1 := Scalar.cmpi .slt v740 c0_i32_539
  let v745 : BitVec 1 := Scalar.xori v743 v744
  let c0_i32_537 : BitVec 32 := 0#32
  let v742 : BitVec 1 := Scalar.cmpi .ne v741 c0_i32_537
  let v746 : BitVec 1 := Scalar.andi v745 v742
  let v747 : BitVec 32 := Scalar.addi v741 v740
  let v748 : BitVec 32 := Scalar.select v746 v747 v741
  ![v748.toNat]
def k0_off2 (c0_i32_533 : BitVec 32) : Fin 3 → Nat :=
  let c3_i32_534 : BitVec 32 := 3#32
  let c0_i32_535 : BitVec 32 := 0#32
  let v739 : BitVec 1 := Scalar.cmpi .eq c3_i32_534 c0_i32_535
  let c1_i32_536 : BitVec 32 := 1#32
  let v740 : BitVec 32 := Scalar.select v739 c1_i32_536 c3_i32_534
  let v741 : BitVec 32 := Scalar.remsi c0_i32_533 v740
  let c0_i32_538 : BitVec 32 := 0#32
  let v743 : BitVec 1 := Scalar.cmpi .slt v741 c0_i32_538
  let c0_i32_539 : BitVec 32 := 0#32
  let v744 : BitVec 1 := Scalar.cmpi .slt v740 c0_i32_539
  let v745 : BitVec 1 := Scalar.xori v743 v744
  let c0_i32_537 : BitVec 32 := 0#32
  let v742 : BitVec 1 := Scalar.cmpi .ne v741 c0_i32_537
  let v746 : BitVec 1 := Scalar.andi v745 v742
  let v747 : BitVec 32 := Scalar.addi v741 v740
  let v748 : BitVec 32 := Scalar.select v746 v747 v741
  let c0_i32_541 : BitVec 32 := 0#32
  let c0_i32_542 : BitVec 32 := 0#32
  ![v748.toNat, 0, 0]
def k0_off3 (c0_i32_540 : BitVec 32) : Fin 3 → Nat :=
  let c31_i32 : BitVec 32 := 31#32
  let v749 : BitVec 32 := Scalar.minsi c0_i32_540 c31_i32
  let c0_i32_543 : BitVec 32 := 0#32
  let c0_i32_544 : BitVec 32 := 0#32
  ![v749.toNat, 0, 0]
def k0_cond2 (i : grid0.Coords) : BitVec 1 :=
  let arg0 : BitVec 32 := BitVec.ofNat 32 (i 0).val
  let c16_i32 : BitVec 32 := 16#32
  let v724 : BitVec 32 := Scalar.muli arg0 c16_i32
  let arg1 : BitVec 32 := BitVec.ofNat 32 (i 1).val
  let v725 : BitVec 32 := Scalar.addi v724 arg1
  let c1_i32_525 : BitVec 32 := 1#32
  let v726 : BitVec 32 := Scalar.muli v725 c1_i32_525
  let arg2 : BitVec 32 := BitVec.ofNat 32 (i 2).val
  let v727 : BitVec 32 := Scalar.addi v726 arg2
  let c3_i32_528 : BitVec 32 := 3#32
  let v731 : BitVec 32 := Scalar.addi v727 c3_i32_528
  let c1_i32_529 : BitVec 32 := 1#32
  let v732 : BitVec 32 := Scalar.subi v731 c1_i32_529
  let c32_i32 : BitVec 32 := 32#32
  let v733 : BitVec 1 := Scalar.cmpi .slt v732 c32_i32
  let v734 : BitVec 32 := Scalar.extui v733
  let c0_i32_530 : BitVec 32 := 0#32
  let v735 : BitVec 1 := Scalar.cmpi .ne v734 c0_i32_530
  v735

def k0_off4 (i : grid0.Coords) : Fin 1 → Nat :=
  let arg0 : BitVec 32 := BitVec.ofNat 32 (i 0).val
  let c16_i32 : BitVec 32 := 16#32
  let v724 : BitVec 32 := Scalar.muli arg0 c16_i32
  let arg1 : BitVec 32 := BitVec.ofNat 32 (i 1).val
  let v725 : BitVec 32 := Scalar.addi v724 arg1
  let c1_i32_525 : BitVec 32 := 1#32
  let v726 : BitVec 32 := Scalar.muli v725 c1_i32_525
  let arg2 : BitVec 32 := BitVec.ofNat 32 (i 2).val
  let v727 : BitVec 32 := Scalar.addi v726 arg2
  let c3_i32_533 : BitVec 32 := 3#32
  let v739 : BitVec 32 := Scalar.addi v727 c3_i32_533
  let c1_i32_534 : BitVec 32 := 1#32
  let v740 : BitVec 32 := Scalar.subi v739 c1_i32_534
  let c3_i32_535 : BitVec 32 := 3#32
  let c0_i32_536 : BitVec 32 := 0#32
  let v741 : BitVec 1 := Scalar.cmpi .eq c3_i32_535 c0_i32_536
  let c1_i32_537 : BitVec 32 := 1#32
  let v742 : BitVec 32 := Scalar.select v741 c1_i32_537 c3_i32_535
  let v743 : BitVec 32 := Scalar.remsi v740 v742
  let c0_i32_539 : BitVec 32 := 0#32
  let v745 : BitVec 1 := Scalar.cmpi .slt v743 c0_i32_539
  let c0_i32_540 : BitVec 32 := 0#32
  let v746 : BitVec 1 := Scalar.cmpi .slt v742 c0_i32_540
  let v747 : BitVec 1 := Scalar.xori v745 v746
  let c0_i32_538 : BitVec 32 := 0#32
  let v744 : BitVec 1 := Scalar.cmpi .ne v743 c0_i32_538
  let v748 : BitVec 1 := Scalar.andi v747 v744
  let v749 : BitVec 32 := Scalar.addi v743 v742
  let v750 : BitVec 32 := Scalar.select v748 v749 v743
  ![v750.toNat]
def k0_off5 (i : grid0.Coords) : Fin 3 → Nat :=
  let arg0 : BitVec 32 := BitVec.ofNat 32 (i 0).val
  let c16_i32 : BitVec 32 := 16#32
  let v724 : BitVec 32 := Scalar.muli arg0 c16_i32
  let arg1 : BitVec 32 := BitVec.ofNat 32 (i 1).val
  let v725 : BitVec 32 := Scalar.addi v724 arg1
  let c1_i32_525 : BitVec 32 := 1#32
  let v726 : BitVec 32 := Scalar.muli v725 c1_i32_525
  let arg2 : BitVec 32 := BitVec.ofNat 32 (i 2).val
  let v727 : BitVec 32 := Scalar.addi v726 arg2
  let c3_i32_533 : BitVec 32 := 3#32
  let v739 : BitVec 32 := Scalar.addi v727 c3_i32_533
  let c1_i32_534 : BitVec 32 := 1#32
  let v740 : BitVec 32 := Scalar.subi v739 c1_i32_534
  let c3_i32_535 : BitVec 32 := 3#32
  let c0_i32_536 : BitVec 32 := 0#32
  let v741 : BitVec 1 := Scalar.cmpi .eq c3_i32_535 c0_i32_536
  let c1_i32_537 : BitVec 32 := 1#32
  let v742 : BitVec 32 := Scalar.select v741 c1_i32_537 c3_i32_535
  let v743 : BitVec 32 := Scalar.remsi v740 v742
  let c0_i32_539 : BitVec 32 := 0#32
  let v745 : BitVec 1 := Scalar.cmpi .slt v743 c0_i32_539
  let c0_i32_540 : BitVec 32 := 0#32
  let v746 : BitVec 1 := Scalar.cmpi .slt v742 c0_i32_540
  let v747 : BitVec 1 := Scalar.xori v745 v746
  let c0_i32_538 : BitVec 32 := 0#32
  let v744 : BitVec 1 := Scalar.cmpi .ne v743 c0_i32_538
  let v748 : BitVec 1 := Scalar.andi v747 v744
  let v749 : BitVec 32 := Scalar.addi v743 v742
  let v750 : BitVec 32 := Scalar.select v748 v749 v743
  let c0_i32_541 : BitVec 32 := 0#32
  let c0_i32_542 : BitVec 32 := 0#32
  ![v750.toNat, 0, 0]
def k0_off6 (i : grid0.Coords) : Fin 3 → Nat :=
  let arg0 : BitVec 32 := BitVec.ofNat 32 (i 0).val
  let c16_i32 : BitVec 32 := 16#32
  let v724 : BitVec 32 := Scalar.muli arg0 c16_i32
  let arg1 : BitVec 32 := BitVec.ofNat 32 (i 1).val
  let v725 : BitVec 32 := Scalar.addi v724 arg1
  let c1_i32_525 : BitVec 32 := 1#32
  let v726 : BitVec 32 := Scalar.muli v725 c1_i32_525
  let arg2 : BitVec 32 := BitVec.ofNat 32 (i 2).val
  let v727 : BitVec 32 := Scalar.addi v726 arg2
  let c3_i32_533 : BitVec 32 := 3#32
  let v739 : BitVec 32 := Scalar.addi v727 c3_i32_533
  let c1_i32_534 : BitVec 32 := 1#32
  let v740 : BitVec 32 := Scalar.subi v739 c1_i32_534
  let c31_i32 : BitVec 32 := 31#32
  let v751 : BitVec 32 := Scalar.minsi v740 c31_i32
  let c0_i32_543 : BitVec 32 := 0#32
  let c0_i32_544 : BitVec 32 := 0#32
  ![v751.toNat, 0, 0]
def k0_cond3 (i : grid0.Coords) : BitVec 1 :=
  let arg0 : BitVec 32 := BitVec.ofNat 32 (i 0).val
  let c16_i32 : BitVec 32 := 16#32
  let v724 : BitVec 32 := Scalar.muli arg0 c16_i32
  let arg1 : BitVec 32 := BitVec.ofNat 32 (i 1).val
  let v725 : BitVec 32 := Scalar.addi v724 arg1
  let c1_i32_525 : BitVec 32 := 1#32
  let v726 : BitVec 32 := Scalar.muli v725 c1_i32_525
  let arg2 : BitVec 32 := BitVec.ofNat 32 (i 2).val
  let v727 : BitVec 32 := Scalar.addi v726 arg2
  let c0_i32_531 : BitVec 32 := 0#32
  let v736 : BitVec 1 := Scalar.cmpi .sge v727 c0_i32_531
  let v737 : BitVec 32 := Scalar.extui v736
  let c0_i32_532 : BitVec 32 := 0#32
  let v738 : BitVec 1 := Scalar.cmpi .ne v737 c0_i32_532
  v738

def k0_off7 (i : grid0.Coords) : Fin 1 → Nat :=
  let arg0 : BitVec 32 := BitVec.ofNat 32 (i 0).val
  let c16_i32 : BitVec 32 := 16#32
  let v724 : BitVec 32 := Scalar.muli arg0 c16_i32
  let arg1 : BitVec 32 := BitVec.ofNat 32 (i 1).val
  let v725 : BitVec 32 := Scalar.addi v724 arg1
  let c1_i32_525 : BitVec 32 := 1#32
  let v726 : BitVec 32 := Scalar.muli v725 c1_i32_525
  let arg2 : BitVec 32 := BitVec.ofNat 32 (i 2).val
  let v727 : BitVec 32 := Scalar.addi v726 arg2
  let c3_i32_533 : BitVec 32 := 3#32
  let c0_i32_534 : BitVec 32 := 0#32
  let v739 : BitVec 1 := Scalar.cmpi .eq c3_i32_533 c0_i32_534
  let c1_i32_535 : BitVec 32 := 1#32
  let v740 : BitVec 32 := Scalar.select v739 c1_i32_535 c3_i32_533
  let v741 : BitVec 32 := Scalar.remsi v727 v740
  let c0_i32_537 : BitVec 32 := 0#32
  let v743 : BitVec 1 := Scalar.cmpi .slt v741 c0_i32_537
  let c0_i32_538 : BitVec 32 := 0#32
  let v744 : BitVec 1 := Scalar.cmpi .slt v740 c0_i32_538
  let v745 : BitVec 1 := Scalar.xori v743 v744
  let c0_i32_536 : BitVec 32 := 0#32
  let v742 : BitVec 1 := Scalar.cmpi .ne v741 c0_i32_536
  let v746 : BitVec 1 := Scalar.andi v745 v742
  let v747 : BitVec 32 := Scalar.addi v741 v740
  let v748 : BitVec 32 := Scalar.select v746 v747 v741
  ![v748.toNat]
def k0_off8 (i : grid0.Coords) : Fin 3 → Nat :=
  let arg0 : BitVec 32 := BitVec.ofNat 32 (i 0).val
  let c16_i32 : BitVec 32 := 16#32
  let v724 : BitVec 32 := Scalar.muli arg0 c16_i32
  let arg1 : BitVec 32 := BitVec.ofNat 32 (i 1).val
  let v725 : BitVec 32 := Scalar.addi v724 arg1
  let c1_i32_525 : BitVec 32 := 1#32
  let v726 : BitVec 32 := Scalar.muli v725 c1_i32_525
  let arg2 : BitVec 32 := BitVec.ofNat 32 (i 2).val
  let v727 : BitVec 32 := Scalar.addi v726 arg2
  let c3_i32_533 : BitVec 32 := 3#32
  let c0_i32_534 : BitVec 32 := 0#32
  let v739 : BitVec 1 := Scalar.cmpi .eq c3_i32_533 c0_i32_534
  let c1_i32_535 : BitVec 32 := 1#32
  let v740 : BitVec 32 := Scalar.select v739 c1_i32_535 c3_i32_533
  let v741 : BitVec 32 := Scalar.remsi v727 v740
  let c0_i32_537 : BitVec 32 := 0#32
  let v743 : BitVec 1 := Scalar.cmpi .slt v741 c0_i32_537
  let c0_i32_538 : BitVec 32 := 0#32
  let v744 : BitVec 1 := Scalar.cmpi .slt v740 c0_i32_538
  let v745 : BitVec 1 := Scalar.xori v743 v744
  let c0_i32_536 : BitVec 32 := 0#32
  let v742 : BitVec 1 := Scalar.cmpi .ne v741 c0_i32_536
  let v746 : BitVec 1 := Scalar.andi v745 v742
  let v747 : BitVec 32 := Scalar.addi v741 v740
  let v748 : BitVec 32 := Scalar.select v746 v747 v741
  let c0_i32_539 : BitVec 32 := 0#32
  let c0_i32_540 : BitVec 32 := 0#32
  ![v748.toNat, 0, 0]
def k0_off9 (i : grid0.Coords) : Fin 3 → Nat :=
  let arg0 : BitVec 32 := BitVec.ofNat 32 (i 0).val
  let c16_i32 : BitVec 32 := 16#32
  let v724 : BitVec 32 := Scalar.muli arg0 c16_i32
  let arg1 : BitVec 32 := BitVec.ofNat 32 (i 1).val
  let v725 : BitVec 32 := Scalar.addi v724 arg1
  let c1_i32_525 : BitVec 32 := 1#32
  let v726 : BitVec 32 := Scalar.muli v725 c1_i32_525
  let arg2 : BitVec 32 := BitVec.ofNat 32 (i 2).val
  let v727 : BitVec 32 := Scalar.addi v726 arg2
  let c31_i32 : BitVec 32 := 31#32
  let v749 : BitVec 32 := Scalar.minsi v727 c31_i32
  let c0_i32_541 : BitVec 32 := 0#32
  let c0_i32_542 : BitVec 32 := 0#32
  ![v749.toNat, 0, 0]
def k0_off10 (i : grid0.Coords) : Fin 3 → Nat :=
  let arg0 : BitVec 32 := BitVec.ofNat 32 (i 0).val
  let c16_i32 : BitVec 32 := 16#32
  let v724 : BitVec 32 := Scalar.muli arg0 c16_i32
  let arg1 : BitVec 32 := BitVec.ofNat 32 (i 1).val
  let v725 : BitVec 32 := Scalar.addi v724 arg1
  let c1_i32_525 : BitVec 32 := 1#32
  let v726 : BitVec 32 := Scalar.muli v725 c1_i32_525
  let arg2 : BitVec 32 := BitVec.ofNat 32 (i 2).val
  let v727 : BitVec 32 := Scalar.addi v726 arg2
  let c3_i32_543 : BitVec 32 := 3#32
  let c0_i32_544 : BitVec 32 := 0#32
  let v756 : BitVec 1 := Scalar.cmpi .eq c3_i32_543 c0_i32_544
  let c1_i32_545 : BitVec 32 := 1#32
  let v757 : BitVec 32 := Scalar.select v756 c1_i32_545 c3_i32_543
  let v758 : BitVec 32 := Scalar.remsi v727 v757
  let c0_i32_547 : BitVec 32 := 0#32
  let v760 : BitVec 1 := Scalar.cmpi .slt v758 c0_i32_547
  let c0_i32_548 : BitVec 32 := 0#32
  let v761 : BitVec 1 := Scalar.cmpi .slt v757 c0_i32_548
  let v762 : BitVec 1 := Scalar.xori v760 v761
  let c0_i32_546 : BitVec 32 := 0#32
  let v759 : BitVec 1 := Scalar.cmpi .ne v758 c0_i32_546
  let v763 : BitVec 1 := Scalar.andi v762 v759
  let v764 : BitVec 32 := Scalar.addi v758 v757
  let v765 : BitVec 32 := Scalar.select v763 v764 v758
  let v766 : Index := Scalar.indexCast v765
  let c0_549 : Index := 0#32
  let c0_550 : Index := 0#32
  ![v766.toNat, 0, 0]
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c2_i32 : BitVec 32 := 2#32
  let c0_i32_0 : BitVec 32 := 0#32
  ![arg0.toNat, arg2.toNat, arg1.toNat, c0_i32.toNat, c2_i32.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c2_i32 : BitVec 32 := 2#32
  let c0_i32_0 : BitVec 32 := 0#32
  ![arg0.toNat, arg2.toNat, arg1.toNat, c0_i32.toNat, c2_i32.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c2_i32 : BitVec 32 := 2#32
  let c0_i32_0 : BitVec 32 := 0#32
  ![arg0.toNat, arg2.toNat, arg1.toNat, c0_i32.toNat, c2_i32.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c2_i32 : BitVec 32 := 2#32
  let c0_i32_1 : BitVec 32 := 0#32
  ![arg0.toNat, v2.toNat, arg1.toNat, c0_i32_0.toNat, c2_i32.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c2_i32 : BitVec 32 := 2#32
  let c0_i32_1 : BitVec 32 := 0#32
  ![arg0.toNat, v2.toNat, arg1.toNat, c0_i32_0.toNat, c2_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.muli v1 c1_i32
  let v3 : BitVec 32 := Scalar.addi v2 arg2
  let c31_i32 : BitVec 32 := 31#32
  let v4 : BitVec 32 := Scalar.minsi v3 c31_i32
  let c0_i32 : BitVec 32 := 0#32
  let c2_i32 : BitVec 32 := 2#32
  let c0_i32_0 : BitVec 32 := 0#32
  ![v4.toNat, c0_i32.toNat, c2_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.muli v1 c1_i32
  let v3 : BitVec 32 := Scalar.addi v2 arg2
  let c31_i32 : BitVec 32 := 31#32
  let v4 : BitVec 32 := Scalar.minsi v3 c31_i32
  let c0_i32 : BitVec 32 := 0#32
  let c2_i32 : BitVec 32 := 2#32
  let c0_i32_0 : BitVec 32 := 0#32
  ![v4.toNat, c0_i32.toNat, c2_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.muli v1 c1_i32
  let v3 : BitVec 32 := Scalar.addi v2 arg2
  let c31_i32 : BitVec 32 := 31#32
  let v4 : BitVec 32 := Scalar.minsi v3 c31_i32
  let c0_i32 : BitVec 32 := 0#32
  let c5_i32 : BitVec 32 := 5#32
  let c0_i32_0 : BitVec 32 := 0#32
  ![v4.toNat, c0_i32.toNat, c5_i32.toNat]

def cc0_transform_9 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_10 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.muli v1 c1_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  let c0_i32_1 : BitVec 32 := 0#32
  ![v4.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.muli v1 c1_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  let c0_i32_1 : BitVec 32 := 0#32
  ![v4.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.muli v1 c1_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  let c0_i32_1 : BitVec 32 := 0#32
  ![v4.toNat, c0_i32.toNat, c0_i32_0.toNat]

abbrev stage0_0 : Fin 2 → Memref sig .tc .vmem S1x16x1x32x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x1x32x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16x1x32x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4x1x32x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x4x1x32x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x16x1x32x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x16x1x32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== Kernel5Ideal.lean ====
variable {F : FTy → Type} [FloatOps F] [Named F]
def κ : String → Option EReal := fun
  | "mask" => some ⊥
  | _ => none
-- ==== Reference5Ideal.lean ====
abbrev S2x8192x768 : Shape := ⟨3, ![2, 8192, 768]⟩
abbrev S32x768 : Shape := ⟨2, ![32, 768]⟩
abbrev S32x1536 : Shape := ⟨2, ![32, 1536]⟩
abbrev S1x32x2048x2x4x64 : Shape := ⟨6, ![1, 32, 2048, 2, 4, 64]⟩
abbrev S32x256 : Shape := ⟨2, ![32, 256]⟩
abbrev S32x1x256 : Shape := ⟨3, ![32, 1, 256]⟩
abbrev S32x2x256 : Shape := ⟨3, ![32, 2, 256]⟩
abbrev S32x1x2x4x64 : Shape := ⟨5, ![32, 1, 2, 4, 64]⟩
abbrev S32x2048x2x4x64 : Shape := ⟨5, ![32, 2048, 2, 4, 64]⟩
abbrev S32x2049x2x4x64 : Shape := ⟨5, ![32, 2049, 2, 4, 64]⟩
abbrev S32x2x4x64x2048 : Shape := ⟨5, ![32, 2, 4, 64, 2048]⟩
abbrev S32x512x2048 : Shape := ⟨3, ![32, 512, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2x8192x768, .bf16⟩
  | .hbm, ⟨1, _⟩ => ⟨S2x8192x768, .bf16⟩
  | .hbm, ⟨2, _⟩ => ⟨S2x8192x768, .bf16⟩
  | .hbm, ⟨3, _⟩ => ⟨S32x768, .bf16⟩
  | .hbm, ⟨4, _⟩ => ⟨S32x1536, .f32⟩
  | .hbm, ⟨5, _⟩ => ⟨S1x32x2048x2x4x64, .f32⟩
  | .hbm, ⟨6, _⟩ => ⟨S32x256, .f32⟩
  | .hbm, ⟨7, _⟩ => ⟨S32x256, .f32⟩
  | .hbm, ⟨8, _⟩ => ⟨S32x1x256, .f32⟩
  | .hbm, ⟨9, _⟩ => ⟨S32x1x256, .f32⟩
  | .hbm, ⟨10, _⟩ => ⟨S32x2x256, .f32⟩
  | .hbm, ⟨11, _⟩ => ⟨S32x1x2x4x64, .f32⟩
  | .hbm, ⟨12, _⟩ => ⟨S32x2048x2x4x64, .f32⟩
  | .hbm, ⟨13, _⟩ => ⟨S32x2049x2x4x64, .f32⟩
  | .hbm, ⟨14, _⟩ => ⟨S32x2048x2x4x64, .f32⟩
  | .hbm, ⟨15, _⟩ => ⟨S32x2x4x64x2048, .f32⟩
  | .hbm, ⟨16, _⟩ => ⟨S32x512x2048, .f32⟩
  | _, _ => ⟨S2x8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Proof.Win5iRunA.lean ====
module

public import proofs.«01_k».proof.Proof.Gen.Kernel5Ideal.Frame.Runs

@[expose] public section

-- membership in a rectangle of production extents (`View.cover_of_tiled`): the elaborator's structural look
-- recurses once per coordinate of the long axes
set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

-- (the run's proof term is large: the definition's epilogue — `abstractNestedProofs` — walks it past the default budget)
set_option maxHeartbeats 1400000 in
/-- What the body's stores leave in each output's staging memref, as pieces (last first) IN CASE A (`scf.if` 0 taken, `scf.if` 1 taken, `scf.if` 2 taken: points 0), WITH the
    proof that on whole staging memrefs — the inputs' at their contents, the other outputs' at
    anything, each ring's pieces for the point's role (the blocks it starts, still home at the operand's launch contents `fh·`; the flights it waits for; the free slots it fills: `pieces`), any other HBM operand whole and own cell at zero, and the core's `owes`, the body runs to the continuation holding the inputs' as they were,
    each ring's pieces as the next point takes them (the block waited home again, the transfer started in flight, the slot read free), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : cond0_0 (grid0.coords t)) (hc1 : cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) :
    Σ' (L8 : List (View.Piece (Elt F) S1x16x1x32x256 .bf16)), Σ' (L9 : List (View.Piece (Elt F) S1x16x1x32x128 .f32)), Σ' (L10 : List (View.Piece (Elt F) S1x1x256 .bf16)), Σ' (L11 : List (View.Piece (Elt F) S1x1x128 .f32)), { L12 : List (View.Piece (Elt F) S1x512x2048 .f32) //
      ∀ (W : Waits sig Unit) (K : PUnit → sProp (MT nD τ sig Unit (Elt F) ℕ (Pipeline.UD sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ Ring.free (cellP0_0 c) (slotW0_0 c fh0) (Ring.sl 3 t.val) ∗ Ring.free (cellP0_0 c) (slotW0_0 c fh0) (Ring.sl 3 (t.val + 1)) ∗ Ring.free (cellP0_0 c) (slotW0_0 c fh0) (Ring.sl 3 (t.val + 2)) ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg12.view.loc (c : Thread nD τ) ↦[arg12.view.set]{fullShare} arg12.view.writes (Elt F) f L8) ∗ (∃ f, arg13.view.loc (c : Thread nD τ) ↦[arg13.view.set]{fullShare} arg13.view.writes (Elt F) f L9) ∗ (∃ f, arg14.view.loc (c : Thread nD τ) ↦[arg14.view.set]{fullShare} arg14.view.writes (Elt F) f L10) ∗ (∃ f, arg15.view.loc (c : Thread nD τ) ↦[arg15.view.set]{fullShare} arg15.view.writes (Elt F) f L11) ∗ (∃ f, arg16.view.loc (c : Thread nD τ) ↦[arg16.view.set]{fullShare} arg16.view.writes (Elt F) f L12) ∗ Ring.inflight (flightW0_0 c fh0) (Ring.sl 3 (t.val + 1)) (Ring.bk 32 (t.val + 1)) ∗ Ring.inflight (flightW0_0 c fh0) (Ring.sl 3 (t.val + 2)) (Ring.bk 32 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0_swa_g2 (grid0.coords t) arg3 harg3 arg4 harg4 arg5 harg5 arg6 harg6 arg7 harg7 arg8 harg8 arg9 harg9 arg10 harg10 (Memref.whole main_v2) (Memref.isWhole_whole _) arg12 harg12 arg13 harg13 arg14 harg14 arg15 harg15 arg16 harg16 scM0_0 (Memref.isWhole_whole _) cc0_scratch1) K } := by
  refine ⟨?_, ?_, ?_, ?_, ?_, fun W K => ?run⟩
  case run =>
    haveI : Fact (cond0_0 (grid0.coords t)) := ⟨hc0⟩
    haveI : Fact (cond0_1 (grid0.coords t)) := ⟨hc1⟩
    haveI : Fact (cond0_2 (grid0.coords t)) := ⟨hc2⟩
    simp only [cc0_swa_g2_eq_skeleton]; unfold cc0_swa_g2_skel
    simp -proj -dsimp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part1_eq_skeleton, k0_part2_eq_skeleton, k0_part3_eq_skeleton, k0_part4_eq_skeleton]
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨Hc0_0_0, ⟨%fs0_0_0, Hs0_0_0, Hw0_0_0⟩⟩, ⟨Hc0_0_1, ⟨%fs0_0_1, Hs0_0_1, Hw0_0_1⟩⟩, ⟨Hc0_0_2, ⟨%fs0_0_2, Hs0_0_2, Hw0_0_2⟩⟩, HW, Hk⟩
    ihave Hsp0_0_0 := (src0_0_split c fh0 (Ring.sl 3 t.val) (Ring.bk 32 t.val)).1 $$ Hw0_0_0
    icases Hsp0_0_0 with ⟨Hh0_0_0, Hr0_0_0⟩
    ihave Hsp0_0_1 := (src0_0_split c fh0 (Ring.sl 3 (t.val + 1)) (Ring.bk 32 (t.val + 1))).1 $$ Hw0_0_1
    icases Hsp0_0_1 with ⟨Hh0_0_1, Hr0_0_1⟩
    ihave Hsp0_0_2 := (src0_0_split c fh0 (Ring.sl 3 (t.val + 2)) (Ring.bk 32 (t.val + 2))).1 $$ Hw0_0_2
    icases Hsp0_0_2 with ⟨Hh0_0_2, Hr0_0_2⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [Hc0_0_1 Hr0_0_1]
    · iexists _; isplitl [Hc0_0_1]; · iexact Hc0_0_1
      iexact Hr0_0_1
    isplitl [Hc0_0_2 Hr0_0_2]
    · iexists _; isplitl [Hc0_0_2]; · iexact Hc0_0_2
      iexact Hr0_0_2
    isplitl [Hc0_0_0 Hs0_0_0 Hh0_0_0 Hr0_0_0]
    · isplitl [Hc0_0_0]; · iexact Hc0_0_0
      iexists _; isplitl [Hs0_0_0]; · iexact Hs0_0_0
      iapply (src0_0_split c fh0 (Ring.sl 3 t.val) (Ring.bk 32 t.val)).2; isplitl [Hh0_0_0]; · iexact Hh0_0_0
      iexact Hr0_0_0
    iexists _; iexact HW

end Cert.Kernel5Ideal.Gen

end
-- ==== Proof.Win5iRunB.lean ====
module

public import proofs.«01_k».proof.Proof.Gen.Kernel5Ideal.Frame.Runs

@[expose] public section

-- membership in a rectangle of production extents (`View.cover_of_tiled`): the elaborator's structural look
-- recurses once per coordinate of the long axes
set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

-- (the run's proof term is large: the definition's epilogue — `abstractNestedProofs` — walks it past the default budget)
set_option maxHeartbeats 1228000 in
/-- What the body's stores leave in each output's staging memref, as pieces (last first) IN CASE B (`scf.if` 0 not taken, `scf.if` 1 taken, `scf.if` 2 taken: points 1, 2, … 29: 29 of 32), WITH the
    proof that on whole staging memrefs — the inputs' at their contents, the other outputs' at
    anything, each ring's pieces for the point's role (the blocks it starts, still home at the operand's launch contents `fh·`; the flights it waits for; the free slots it fills: `pieces`), any other HBM operand whole and own cell at zero, and the core's `owes`, the body runs to the continuation holding the inputs' as they were,
    each ring's pieces as the next point takes them (the block waited home again, the transfer started in flight, the slot read free), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : ¬cond0_0 (grid0.coords t)) (hc1 : cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) :
    Σ' (L8 : List (View.Piece (Elt F) S1x16x1x32x256 .bf16)), Σ' (L9 : List (View.Piece (Elt F) S1x16x1x32x128 .f32)), Σ' (L10 : List (View.Piece (Elt F) S1x1x256 .bf16)), Σ' (L11 : List (View.Piece (Elt F) S1x1x128 .f32)), { L12 : List (View.Piece (Elt F) S1x512x2048 .f32) //
      ∀ (W : Waits sig Unit) (K : PUnit → sProp (MT nD τ sig Unit (Elt F) ℕ (Pipeline.UD sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ Ring.inflight (flightW0_0 c fh0) (Ring.sl 3 t.val) (Ring.bk 32 t.val) ∗ Ring.inflight (flightW0_0 c fh0) (Ring.sl 3 (t.val + 1)) (Ring.bk 32 (t.val + 1)) ∗ Ring.free (cellP0_0 c) (slotW0_0 c fh0) (Ring.sl 3 (t.val + 2)) ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg12.view.loc (c : Thread nD τ) ↦[arg12.view.set]{fullShare} arg12.view.writes (Elt F) f L8) ∗ (∃ f, arg13.view.loc (c : Thread nD τ) ↦[arg13.view.set]{fullShare} arg13.view.writes (Elt F) f L9) ∗ (∃ f, arg14.view.loc (c : Thread nD τ) ↦[arg14.view.set]{fullShare} arg14.view.writes (Elt F) f L10) ∗ (∃ f, arg15.view.loc (c : Thread nD τ) ↦[arg15.view.set]{fullShare} arg15.view.writes (Elt F) f L11) ∗ (∃ f, arg16.view.loc (c : Thread nD τ) ↦[arg16.view.set]{fullShare} arg16.view.writes (Elt F) f L12) ∗ Ring.inflight (flightW0_0 c fh0) (Ring.sl 3 (t.val + 1)) (Ring.bk 32 (t.val + 1)) ∗ Ring.inflight (flightW0_0 c fh0) (Ring.sl 3 (t.val + 2)) (Ring.bk 32 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0_swa_g2 (grid0.coords t) arg3 harg3 arg4 harg4 arg5 harg5 arg6 harg6 arg7 harg7 arg8 harg8 arg9 harg9 arg10 harg10 (Memref.whole main_v2) (Memref.isWhole_whole _) arg12 harg12 arg13 harg13 arg14 harg14 arg15 harg15 arg16 harg16 scM0_0 (Memref.isWhole_whole _) cc0_scratch1) K } := by
  refine ⟨?_, ?_, ?_, ?_, ?_, fun W K => ?run⟩
  case run =>
    haveI : Fact (¬cond0_0 (grid0.coords t)) := ⟨hc0⟩
    haveI : Fact (cond0_1 (grid0.coords t)) := ⟨hc1⟩
    haveI : Fact (cond0_2 (grid0.coords t)) := ⟨hc2⟩
    simp only [cc0_swa_g2_eq_skeleton]; unfold cc0_swa_g2_skel
    simp -proj -dsimp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part2_eq_skeleton, k0_part3_eq_skeleton, k0_part4_eq_skeleton]
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%ff0_0_0, Hf0_0_0, Hrf0_0_0⟩, ⟨%ff0_0_1, Hf0_0_1, Hrf0_0_1⟩, ⟨Hc0_0_2, ⟨%fs0_0_2, Hs0_0_2, Hw0_0_2⟩⟩, HW, Hk⟩
    ihave Hsp0_0_2 := (src0_0_split c fh0 (Ring.sl 3 (t.val + 2)) (Ring.bk 32 (t.val + 2))).1 $$ Hw0_0_2
    icases Hsp0_0_2 with ⟨Hh0_0_2, Hr0_0_2⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [Hf0_0_1 Hrf0_0_1]
    · iexists ff0_0_1; isplitl [Hf0_0_1]; · iexact Hf0_0_1
      iexact Hrf0_0_1
    isplitl [Hc0_0_2 Hr0_0_2]
    · iexists _; isplitl [Hc0_0_2]; · iexact Hc0_0_2
      iexact Hr0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 32 t.val)).2; isplitl [Hf0_0_0_src]; · iexact Hf0_0_0_src
      iexact Hrf0_0_0
    iexists _; iexact HW

end Cert.Kernel5Ideal.Gen

end
-- ==== Proof.Win5iRunC.lean ====
module

public import proofs.«01_k».proof.Proof.Gen.Kernel5Ideal.Frame.Runs

@[expose] public section

-- membership in a rectangle of production extents (`View.cover_of_tiled`): the elaborator's structural look
-- recurses once per coordinate of the long axes
set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

-- (the run's proof term is large: the definition's epilogue — `abstractNestedProofs` — walks it past the default budget)
set_option maxHeartbeats 1148000 in
/-- What the body's stores leave in each output's staging memref, as pieces (last first) IN CASE C (`scf.if` 0 not taken, `scf.if` 1 not taken, `scf.if` 2 taken: points 30, 31), WITH the
    proof that on whole staging memrefs — the inputs' at their contents, the other outputs' at
    anything, each ring's pieces for the point's role (the blocks it starts, still home at the operand's launch contents `fh·`; the flights it waits for; the free slots it fills: `pieces`), any other HBM operand whole and own cell at zero, and the core's `owes`, the body runs to the continuation holding the inputs' as they were,
    each ring's pieces as the next point takes them (the block waited home again, the transfer started in flight, the slot read free), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : ¬cond0_0 (grid0.coords t)) (hc1 : ¬cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) :
    Σ' (L8 : List (View.Piece (Elt F) S1x16x1x32x256 .bf16)), Σ' (L9 : List (View.Piece (Elt F) S1x16x1x32x128 .f32)), Σ' (L10 : List (View.Piece (Elt F) S1x1x256 .bf16)), Σ' (L11 : List (View.Piece (Elt F) S1x1x128 .f32)), { L12 : List (View.Piece (Elt F) S1x512x2048 .f32) //
      ∀ (W : Waits sig Unit) (K : PUnit → sProp (MT nD τ sig Unit (Elt F) ℕ (Pipeline.UD sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ Ring.inflight (flightW0_0 c fh0) (Ring.sl 3 t.val) (Ring.bk 32 t.val) ∗ Ring.slotAt 2 (cellP0_0 c) (slotW0_0 c fh0) (flightW0_0 c fh0) t.val 1 ∗ Ring.free (cellP0_0 c) (slotW0_0 c fh0) (Ring.sl 3 (t.val + 2)) ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg12.view.loc (c : Thread nD τ) ↦[arg12.view.set]{fullShare} arg12.view.writes (Elt F) f L8) ∗ (∃ f, arg13.view.loc (c : Thread nD τ) ↦[arg13.view.set]{fullShare} arg13.view.writes (Elt F) f L9) ∗ (∃ f, arg14.view.loc (c : Thread nD τ) ↦[arg14.view.set]{fullShare} arg14.view.writes (Elt F) f L10) ∗ (∃ f, arg15.view.loc (c : Thread nD τ) ↦[arg15.view.set]{fullShare} arg15.view.writes (Elt F) f L11) ∗ (∃ f, arg16.view.loc (c : Thread nD τ) ↦[arg16.view.set]{fullShare} arg16.view.writes (Elt F) f L12) ∗ Ring.slotAt 2 (cellP0_0 c) (slotW0_0 c fh0) (flightW0_0 c fh0) t.val 1 ∗ Ring.free (cellP0_0 c) (slotW0_0 c fh0) (Ring.sl 3 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0_swa_g2 (grid0.coords t) arg3 harg3 arg4 harg4 arg5 harg5 arg6 harg6 arg7 harg7 arg8 harg8 arg9 harg9 arg10 harg10 (Memref.whole main_v2) (Memref.isWhole_whole _) arg12 harg12 arg13 harg13 arg14 harg14 arg15 harg15 arg16 harg16 scM0_0 (Memref.isWhole_whole _) cc0_scratch1) K } := by
  refine ⟨?_, ?_, ?_, ?_, ?_, fun W K => ?run⟩
  case run =>
    haveI : Fact (¬cond0_0 (grid0.coords t)) := ⟨hc0⟩
    haveI : Fact (¬cond0_1 (grid0.coords t)) := ⟨hc1⟩
    haveI : Fact (cond0_2 (grid0.coords t)) := ⟨hc2⟩
    simp only [cc0_swa_g2_eq_skeleton]; unfold cc0_swa_g2_skel
    simp -proj -dsimp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part2_eq_skeleton, k0_part3_eq_skeleton, k0_part4_eq_skeleton]
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%ff0_0_0, Hf0_0_0, Hrf0_0_0⟩, Hro0_0_1, ⟨Hc0_0_2, ⟨%fs0_0_2, Hs0_0_2, Hw0_0_2⟩⟩, HW, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [Hro0_0_1]; · iexact Hro0_0_1
    isplitl [Hc0_0_2 Hs0_0_2 Hw0_0_2]
    · isplitl [Hc0_0_2]; · iexact Hc0_0_2
      iexists _; isplitl [Hs0_0_2]; · iexact Hs0_0_2
      iexact Hw0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 32 t.val)).2; isplitl [Hf0_0_0_src]; · iexact Hf0_0_0_src
      iexact Hrf0_0_0
    iexists _; iexact HW

end Cert.Kernel5Ideal.Gen

end
-- ==== Proof.Win5iFrame.lean ====
module

public import proofs.«01_k».proof.Proof.Win5iRunA
public import proofs.«01_k».proof.Proof.Win5iRunB
public import proofs.«01_k».proof.Proof.Win5iRunC
public import Idealize.ShloMosaic.Lib.Claim

@[expose] public section

-- membership in a rectangle of production extents (`View.cover_of_tiled`): the elaborator's structural look
-- recurses once per coordinate of the long axes
set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)
/-- Case A's pieces for output 8 tile its block (16 stores of `S1x1x1x32x256`, checked by the kernel's evaluation: Lib/Ring.lean `Piece.tiledL`, linear in the pieces, through a loop's `@[irreducible]` trip theorem too), so they cover it. -/
theorem cover0_A_8 (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : cond0_0 (grid0.coords t)) (hc1 : cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) (y : S1x16x1x32x256.Idx) :
    ∃ pc ∈ (kernelRun0_A c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).1, y ∈ pc.1.set :=
  View.cover_of_tiledL (kernelRun0_A c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).1 S1x1x1x32x256.size (by sl_kernel_rfl) y

/-- What case A leaves in output 8's staging buffer: its pieces read back over junk. -/
def out0_A_8 (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : cond0_0 (grid0.coords t)) (hc1 : cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) : Vec F S1x16x1x32x256 .bf16 :=
  VO0_8.read (Elt F) (VO0_8.writes (Elt F) VO0_8.junk (kernelRun0_A c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).1)

/-- Case A's pieces for output 9 tile its block (16 stores of `S1x1x1x32x128`, checked by the kernel's evaluation: Lib/Ring.lean `Piece.tiledL`, linear in the pieces, through a loop's `@[irreducible]` trip theorem too), so they cover it. -/
theorem cover0_A_9 (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : cond0_0 (grid0.coords t)) (hc1 : cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) (y : S1x16x1x32x128.Idx) :
    ∃ pc ∈ (kernelRun0_A c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.1, y ∈ pc.1.set :=
  View.cover_of_tiledL (kernelRun0_A c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.1 S1x1x1x32x128.size (by sl_kernel_rfl) y

/-- What case A leaves in output 9's staging buffer: its pieces read back over junk. -/
def out0_A_9 (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : cond0_0 (grid0.coords t)) (hc1 : cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) : Vec F S1x16x1x32x128 .f32 :=
  VO0_9.read (Elt F) (VO0_9.writes (Elt F) VO0_9.junk (kernelRun0_A c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.1)

/-- Case A's pieces for output 10 tile its block (1 store of `S1x1x256`, checked by the kernel's evaluation: Lib/Ring.lean `Piece.tiledL`, linear in the pieces, through a loop's `@[irreducible]` trip theorem too), so they cover it. -/
theorem cover0_A_10 (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : cond0_0 (grid0.coords t)) (hc1 : cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) (y : S1x1x256.Idx) :
    ∃ pc ∈ (kernelRun0_A c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.2.1, y ∈ pc.1.set :=
  View.cover_of_tiledL (kernelRun0_A c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.2.1 S1x1x256.size (by sl_kernel_rfl) y

/-- What case A leaves in output 10's staging buffer: its pieces read back over junk. -/
def out0_A_10 (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : cond0_0 (grid0.coords t)) (hc1 : cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) : Vec F S1x1x256 .bf16 :=
  VO0_10.read (Elt F) (VO0_10.writes (Elt F) VO0_10.junk (kernelRun0_A c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.2.1)

/-- Case A's pieces for output 11 tile its block (1 store of `S1x1x128`, checked by the kernel's evaluation: Lib/Ring.lean `Piece.tiledL`, linear in the pieces, through a loop's `@[irreducible]` trip theorem too), so they cover it. -/
theorem cover0_A_11 (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : cond0_0 (grid0.coords t)) (hc1 : cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) (y : S1x1x128.Idx) :
    ∃ pc ∈ (kernelRun0_A c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.2.2.1, y ∈ pc.1.set :=
  View.cover_of_tiledL (kernelRun0_A c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.2.2.1 S1x1x128.size (by sl_kernel_rfl) y

/-- What case A leaves in output 11's staging buffer: its pieces read back over junk. -/
def out0_A_11 (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : cond0_0 (grid0.coords t)) (hc1 : cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) : Vec F S1x1x128 .f32 :=
  VO0_11.read (Elt F) (VO0_11.writes (Elt F) VO0_11.junk (kernelRun0_A c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.2.2.1)

/-- Case A's pieces for output 12 tile its block (1 store of `S1x512x2048`, checked by the kernel's evaluation: Lib/Ring.lean `Piece.tiledL`, linear in the pieces, through a loop's `@[irreducible]` trip theorem too), so they cover it. -/
theorem cover0_A_12 (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : cond0_0 (grid0.coords t)) (hc1 : cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) (y : S1x512x2048.Idx) :
    ∃ pc ∈ (kernelRun0_A c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.2.2.2.1, y ∈ pc.1.set :=
  View.cover_of_tiledL (kernelRun0_A c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.2.2.2.1 S1x512x2048.size (by sl_kernel_rfl) y

/-- What case A leaves in output 12's staging buffer: its pieces read back over junk. -/
def out0_A_12 (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : cond0_0 (grid0.coords t)) (hc1 : cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) : Vec F S1x512x2048 .f32 :=
  VO0_12.read (Elt F) (VO0_12.writes (Elt F) VO0_12.junk (kernelRun0_A c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.2.2.2.1)

/-- Case B's pieces for output 8 tile its block (16 stores of `S1x1x1x32x256`, checked by the kernel's evaluation: Lib/Ring.lean `Piece.tiledL`, linear in the pieces, through a loop's `@[irreducible]` trip theorem too), so they cover it. -/
theorem cover0_B_8 (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : ¬cond0_0 (grid0.coords t)) (hc1 : cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) (y : S1x16x1x32x256.Idx) :
    ∃ pc ∈ (kernelRun0_B c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).1, y ∈ pc.1.set :=
  View.cover_of_tiledL (kernelRun0_B c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).1 S1x1x1x32x256.size (by sl_kernel_rfl) y

/-- What case B leaves in output 8's staging buffer: its pieces read back over junk. -/
def out0_B_8 (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : ¬cond0_0 (grid0.coords t)) (hc1 : cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) : Vec F S1x16x1x32x256 .bf16 :=
  VO0_8.read (Elt F) (VO0_8.writes (Elt F) VO0_8.junk (kernelRun0_B c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).1)

/-- Case B's pieces for output 9 tile its block (16 stores of `S1x1x1x32x128`, checked by the kernel's evaluation: Lib/Ring.lean `Piece.tiledL`, linear in the pieces, through a loop's `@[irreducible]` trip theorem too), so they cover it. -/
theorem cover0_B_9 (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : ¬cond0_0 (grid0.coords t)) (hc1 : cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) (y : S1x16x1x32x128.Idx) :
    ∃ pc ∈ (kernelRun0_B c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.1, y ∈ pc.1.set :=
  View.cover_of_tiledL (kernelRun0_B c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.1 S1x1x1x32x128.size (by sl_kernel_rfl) y

/-- What case B leaves in output 9's staging buffer: its pieces read back over junk. -/
def out0_B_9 (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : ¬cond0_0 (grid0.coords t)) (hc1 : cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) : Vec F S1x16x1x32x128 .f32 :=
  VO0_9.read (Elt F) (VO0_9.writes (Elt F) VO0_9.junk (kernelRun0_B c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.1)

/-- Case B's pieces for output 10 tile its block (1 store of `S1x1x256`, checked by the kernel's evaluation: Lib/Ring.lean `Piece.tiledL`, linear in the pieces, through a loop's `@[irreducible]` trip theorem too), so they cover it. -/
theorem cover0_B_10 (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : ¬cond0_0 (grid0.coords t)) (hc1 : cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) (y : S1x1x256.Idx) :
    ∃ pc ∈ (kernelRun0_B c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.2.1, y ∈ pc.1.set :=
  View.cover_of_tiledL (kernelRun0_B c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.2.1 S1x1x256.size (by sl_kernel_rfl) y

/-- What case B leaves in output 10's staging buffer: its pieces read back over junk. -/
def out0_B_10 (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : ¬cond0_0 (grid0.coords t)) (hc1 : cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) : Vec F S1x1x256 .bf16 :=
  VO0_10.read (Elt F) (VO0_10.writes (Elt F) VO0_10.junk (kernelRun0_B c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.2.1)

/-- Case B's pieces for output 11 tile its block (1 store of `S1x1x128`, checked by the kernel's evaluation: Lib/Ring.lean `Piece.tiledL`, linear in the pieces, through a loop's `@[irreducible]` trip theorem too), so they cover it. -/
theorem cover0_B_11 (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : ¬cond0_0 (grid0.coords t)) (hc1 : cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) (y : S1x1x128.Idx) :
    ∃ pc ∈ (kernelRun0_B c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.2.2.1, y ∈ pc.1.set :=
  View.cover_of_tiledL (kernelRun0_B c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.2.2.1 S1x1x128.size (by sl_kernel_rfl) y

/-- What case B leaves in output 11's staging buffer: its pieces read back over junk. -/
def out0_B_11 (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : ¬cond0_0 (grid0.coords t)) (hc1 : cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) : Vec F S1x1x128 .f32 :=
  VO0_11.read (Elt F) (VO0_11.writes (Elt F) VO0_11.junk (kernelRun0_B c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.2.2.1)

/-- Case B's pieces for output 12 tile its block (1 store of `S1x512x2048`, checked by the kernel's evaluation: Lib/Ring.lean `Piece.tiledL`, linear in the pieces, through a loop's `@[irreducible]` trip theorem too), so they cover it. -/
theorem cover0_B_12 (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : ¬cond0_0 (grid0.coords t)) (hc1 : cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) (y : S1x512x2048.Idx) :
    ∃ pc ∈ (kernelRun0_B c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.2.2.2.1, y ∈ pc.1.set :=
  View.cover_of_tiledL (kernelRun0_B c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.2.2.2.1 S1x512x2048.size (by sl_kernel_rfl) y

/-- What case B leaves in output 12's staging buffer: its pieces read back over junk. -/
def out0_B_12 (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : ¬cond0_0 (grid0.coords t)) (hc1 : cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) : Vec F S1x512x2048 .f32 :=
  VO0_12.read (Elt F) (VO0_12.writes (Elt F) VO0_12.junk (kernelRun0_B c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.2.2.2.1)

/-- Case C's pieces for output 8 tile its block (16 stores of `S1x1x1x32x256`, checked by the kernel's evaluation: Lib/Ring.lean `Piece.tiledL`, linear in the pieces, through a loop's `@[irreducible]` trip theorem too), so they cover it. -/
theorem cover0_C_8 (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : ¬cond0_0 (grid0.coords t)) (hc1 : ¬cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) (y : S1x16x1x32x256.Idx) :
    ∃ pc ∈ (kernelRun0_C c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).1, y ∈ pc.1.set :=
  View.cover_of_tiledL (kernelRun0_C c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).1 S1x1x1x32x256.size (by sl_kernel_rfl) y

/-- What case C leaves in output 8's staging buffer: its pieces read back over junk. -/
def out0_C_8 (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : ¬cond0_0 (grid0.coords t)) (hc1 : ¬cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) : Vec F S1x16x1x32x256 .bf16 :=
  VO0_8.read (Elt F) (VO0_8.writes (Elt F) VO0_8.junk (kernelRun0_C c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).1)

/-- Case C's pieces for output 9 tile its block (16 stores of `S1x1x1x32x128`, checked by the kernel's evaluation: Lib/Ring.lean `Piece.tiledL`, linear in the pieces, through a loop's `@[irreducible]` trip theorem too), so they cover it. -/
theorem cover0_C_9 (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : ¬cond0_0 (grid0.coords t)) (hc1 : ¬cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) (y : S1x16x1x32x128.Idx) :
    ∃ pc ∈ (kernelRun0_C c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.1, y ∈ pc.1.set :=
  View.cover_of_tiledL (kernelRun0_C c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.1 S1x1x1x32x128.size (by sl_kernel_rfl) y

/-- What case C leaves in output 9's staging buffer: its pieces read back over junk. -/
def out0_C_9 (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : ¬cond0_0 (grid0.coords t)) (hc1 : ¬cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) : Vec F S1x16x1x32x128 .f32 :=
  VO0_9.read (Elt F) (VO0_9.writes (Elt F) VO0_9.junk (kernelRun0_C c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.1)

/-- Case C's pieces for output 10 tile its block (1 store of `S1x1x256`, checked by the kernel's evaluation: Lib/Ring.lean `Piece.tiledL`, linear in the pieces, through a loop's `@[irreducible]` trip theorem too), so they cover it. -/
theorem cover0_C_10 (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : ¬cond0_0 (grid0.coords t)) (hc1 : ¬cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) (y : S1x1x256.Idx) :
    ∃ pc ∈ (kernelRun0_C c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.2.1, y ∈ pc.1.set :=
  View.cover_of_tiledL (kernelRun0_C c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.2.1 S1x1x256.size (by sl_kernel_rfl) y

/-- What case C leaves in output 10's staging buffer: its pieces read back over junk. -/
def out0_C_10 (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : ¬cond0_0 (grid0.coords t)) (hc1 : ¬cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) : Vec F S1x1x256 .bf16 :=
  VO0_10.read (Elt F) (VO0_10.writes (Elt F) VO0_10.junk (kernelRun0_C c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.2.1)

/-- Case C's pieces for output 11 tile its block (1 store of `S1x1x128`, checked by the kernel's evaluation: Lib/Ring.lean `Piece.tiledL`, linear in the pieces, through a loop's `@[irreducible]` trip theorem too), so they cover it. -/
theorem cover0_C_11 (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : ¬cond0_0 (grid0.coords t)) (hc1 : ¬cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) (y : S1x1x128.Idx) :
    ∃ pc ∈ (kernelRun0_C c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.2.2.1, y ∈ pc.1.set :=
  View.cover_of_tiledL (kernelRun0_C c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.2.2.1 S1x1x128.size (by sl_kernel_rfl) y

/-- What case C leaves in output 11's staging buffer: its pieces read back over junk. -/
def out0_C_11 (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : ¬cond0_0 (grid0.coords t)) (hc1 : ¬cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) : Vec F S1x1x128 .f32 :=
  VO0_11.read (Elt F) (VO0_11.writes (Elt F) VO0_11.junk (kernelRun0_C c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.2.2.1)

/-- Case C's pieces for output 12 tile its block (1 store of `S1x512x2048`, checked by the kernel's evaluation: Lib/Ring.lean `Piece.tiledL`, linear in the pieces, through a loop's `@[irreducible]` trip theorem too), so they cover it. -/
theorem cover0_C_12 (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : ¬cond0_0 (grid0.coords t)) (hc1 : ¬cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) (y : S1x512x2048.Idx) :
    ∃ pc ∈ (kernelRun0_C c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.2.2.2.1, y ∈ pc.1.set :=
  View.cover_of_tiledL (kernelRun0_C c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.2.2.2.1 S1x512x2048.size (by sl_kernel_rfl) y

/-- What case C leaves in output 12's staging buffer: its pieces read back over junk. -/
def out0_C_12 (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : ¬cond0_0 (grid0.coords t)) (hc1 : ¬cond0_1 (grid0.coords t)) (hc2 : cond0_2 (grid0.coords t))
    (x0 : Vec F S1x16x1x32x256 .bf16) (x1 : Vec F S1x16x1x32x256 .bf16) (x2 : Vec F S1x16x1x32x256 .bf16) (x3 : Vec F S1x4x1x32x256 .bf16) (x4 : Vec F S1x4x1x32x256 .bf16) (x5 : Vec F S1x1x256 .bf16) (x6 : Vec F S1x1x256 .f32) (x7 : Vec F S1x1x256 .f32) (fh0 : HbBuf0 (F := F) c hbM0_0) : Vec F S1x512x2048 .f32 :=
  VO0_12.read (Elt F) (VO0_12.writes (Elt F) VO0_12.junk (kernelRun0_C c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.2.2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x16x1x32x256 .bf16 × Vec F S1x16x1x32x128 .f32 × Vec F S1x1x256 .bf16 × Vec F S1x1x128 .f32 × Vec F S1x512x2048 .f32
  | 0, hn => (out0_A_8 c ⟨0, hn⟩ (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) ((hcond0_0 ⟨0, hn⟩).mpr (Nat.zero_mod _)) ((hcond0_1 ⟨0, hn⟩).mpr (by (try dsimp only); omega)) (hcond0_2 ⟨0, hn⟩) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (V m c main_v2), out0_A_9 c ⟨0, hn⟩ (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) ((hcond0_0 ⟨0, hn⟩).mpr (Nat.zero_mod _)) ((hcond0_1 ⟨0, hn⟩).mpr (by (try dsimp only); omega)) (hcond0_2 ⟨0, hn⟩) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (V m c main_v2), out0_A_10 c ⟨0, hn⟩ (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) ((hcond0_0 ⟨0, hn⟩).mpr (Nat.zero_mod _)) ((hcond0_1 ⟨0, hn⟩).mpr (by (try dsimp only); omega)) (hcond0_2 ⟨0, hn⟩) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (V m c main_v2), out0_A_11 c ⟨0, hn⟩ (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) ((hcond0_0 ⟨0, hn⟩).mpr (Nat.zero_mod _)) ((hcond0_1 ⟨0, hn⟩).mpr (by (try dsimp only); omega)) (hcond0_2 ⟨0, hn⟩) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (V m c main_v2), out0_A_12 c ⟨0, hn⟩ (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) ((hcond0_0 ⟨0, hn⟩).mpr (Nat.zero_mod _)) ((hcond0_1 ⟨0, hn⟩).mpr (by (try dsimp only); omega)) (hcond0_2 ⟨0, hn⟩) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (V m c main_v2))
  | n + 1, hn =>
    if h0 : (n + 1) % 32 = 0 then
      if h1 : (n + 1) < 30 then
        (out0_A_8 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) ((hcond0_0 ⟨n + 1, hn⟩).mpr h0) ((hcond0_1 ⟨n + 1, hn⟩).mpr h1) (hcond0_2 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (V m c main_v2), out0_A_9 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) ((hcond0_0 ⟨n + 1, hn⟩).mpr h0) ((hcond0_1 ⟨n + 1, hn⟩).mpr h1) (hcond0_2 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (V m c main_v2), out0_A_10 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) ((hcond0_0 ⟨n + 1, hn⟩).mpr h0) ((hcond0_1 ⟨n + 1, hn⟩).mpr h1) (hcond0_2 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (V m c main_v2), out0_A_11 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) ((hcond0_0 ⟨n + 1, hn⟩).mpr h0) ((hcond0_1 ⟨n + 1, hn⟩).mpr h1) (hcond0_2 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (V m c main_v2), out0_A_12 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) ((hcond0_0 ⟨n + 1, hn⟩).mpr h0) ((hcond0_1 ⟨n + 1, hn⟩).mpr h1) (hcond0_2 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (V m c main_v2))
      else
        False.elim (by have hN : n + 1 < 32 := lt_of_lt_of_eq hn (show cfg0.N = 32 from N_0); omega)
    else
      if h1 : (n + 1) < 30 then
        (out0_B_8 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (fun h => h0 ((hcond0_0 ⟨n + 1, hn⟩).mp h)) ((hcond0_1 ⟨n + 1, hn⟩).mpr h1) (hcond0_2 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (V m c main_v2), out0_B_9 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (fun h => h0 ((hcond0_0 ⟨n + 1, hn⟩).mp h)) ((hcond0_1 ⟨n + 1, hn⟩).mpr h1) (hcond0_2 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (V m c main_v2), out0_B_10 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (fun h => h0 ((hcond0_0 ⟨n + 1, hn⟩).mp h)) ((hcond0_1 ⟨n + 1, hn⟩).mpr h1) (hcond0_2 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (V m c main_v2), out0_B_11 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (fun h => h0 ((hcond0_0 ⟨n + 1, hn⟩).mp h)) ((hcond0_1 ⟨n + 1, hn⟩).mpr h1) (hcond0_2 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (V m c main_v2), out0_B_12 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (fun h => h0 ((hcond0_0 ⟨n + 1, hn⟩).mp h)) ((hcond0_1 ⟨n + 1, hn⟩).mpr h1) (hcond0_2 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (V m c main_v2))
      else
        (out0_C_8 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (fun h => h0 ((hcond0_0 ⟨n + 1, hn⟩).mp h)) (fun h => h1 ((hcond0_1 ⟨n + 1, hn⟩).mp h)) (hcond0_2 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (V m c main_v2), out0_C_9 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (fun h => h0 ((hcond0_0 ⟨n + 1, hn⟩).mp h)) (fun h => h1 ((hcond0_1 ⟨n + 1, hn⟩).mp h)) (hcond0_2 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (V m c main_v2), out0_C_10 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (fun h => h0 ((hcond0_0 ⟨n + 1, hn⟩).mp h)) (fun h => h1 ((hcond0_1 ⟨n + 1, hn⟩).mp h)) (hcond0_2 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (V m c main_v2), out0_C_11 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (fun h => h0 ((hcond0_0 ⟨n + 1, hn⟩).mp h)) (fun h => h1 ((hcond0_1 ⟨n + 1, hn⟩).mp h)) (hcond0_2 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (V m c main_v2), out0_C_12 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (fun h => h0 ((hcond0_0 ⟨n + 1, hn⟩).mp h)) (fun h => h1 ((hcond0_1 ⟨n + 1, hn⟩).mp h)) (hcond0_2 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (V m c main_v2))

/-- `outsAt0` at a point of case A: that case's contents. -/
theorem outsAt0_A (c : Dev nD) (t : Fin cfg0.N) (h0 : t.val % 32 = 0) (h1 : t.val < 30) :
    outsAt0 m c t.val t.isLt = (out0_A_8 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) ((hcond0_1 t).mpr h1) (hcond0_2 t) (iblk m c 0 t) (iblk m c 1 t) (iblk m c 2 t) (iblk m c 3 t) (iblk m c 4 t) (iblk m c 5 t) (iblk m c 6 t) (iblk m c 7 t) (V m c main_v2), out0_A_9 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) ((hcond0_1 t).mpr h1) (hcond0_2 t) (iblk m c 0 t) (iblk m c 1 t) (iblk m c 2 t) (iblk m c 3 t) (iblk m c 4 t) (iblk m c 5 t) (iblk m c 6 t) (iblk m c 7 t) (V m c main_v2), out0_A_10 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) ((hcond0_1 t).mpr h1) (hcond0_2 t) (iblk m c 0 t) (iblk m c 1 t) (iblk m c 2 t) (iblk m c 3 t) (iblk m c 4 t) (iblk m c 5 t) (iblk m c 6 t) (iblk m c 7 t) (V m c main_v2), out0_A_11 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) ((hcond0_1 t).mpr h1) (hcond0_2 t) (iblk m c 0 t) (iblk m c 1 t) (iblk m c 2 t) (iblk m c 3 t) (iblk m c 4 t) (iblk m c 5 t) (iblk m c 6 t) (iblk m c 7 t) (V m c main_v2), out0_A_12 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) ((hcond0_1 t).mpr h1) (hcond0_2 t) (iblk m c 0 t) (iblk m c 1 t) (iblk m c 2 t) (iblk m c 3 t) (iblk m c 4 t) (iblk m c 5 t) (iblk m c 6 t) (iblk m c 7 t) (V m c main_v2)) := by
  obtain ⟨n, hn⟩ := t
  cases n with
  | zero => exact rfl
  | succ n => exact (dif_pos h0).trans ((dif_pos h1).trans rfl)

/-- `outsAt0` at a point of case B: that case's contents. -/
theorem outsAt0_B (c : Dev nD) (t : Fin cfg0.N) (h0 : ¬t.val % 32 = 0) (h1 : t.val < 30) :
    outsAt0 m c t.val t.isLt = (out0_B_8 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) ((hcond0_1 t).mpr h1) (hcond0_2 t) (iblk m c 0 t) (iblk m c 1 t) (iblk m c 2 t) (iblk m c 3 t) (iblk m c 4 t) (iblk m c 5 t) (iblk m c 6 t) (iblk m c 7 t) (V m c main_v2), out0_B_9 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) ((hcond0_1 t).mpr h1) (hcond0_2 t) (iblk m c 0 t) (iblk m c 1 t) (iblk m c 2 t) (iblk m c 3 t) (iblk m c 4 t) (iblk m c 5 t) (iblk m c 6 t) (iblk m c 7 t) (V m c main_v2), out0_B_10 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) ((hcond0_1 t).mpr h1) (hcond0_2 t) (iblk m c 0 t) (iblk m c 1 t) (iblk m c 2 t) (iblk m c 3 t) (iblk m c 4 t) (iblk m c 5 t) (iblk m c 6 t) (iblk m c 7 t) (V m c main_v2), out0_B_11 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) ((hcond0_1 t).mpr h1) (hcond0_2 t) (iblk m c 0 t) (iblk m c 1 t) (iblk m c 2 t) (iblk m c 3 t) (iblk m c 4 t) (iblk m c 5 t) (iblk m c 6 t) (iblk m c 7 t) (V m c main_v2), out0_B_12 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) ((hcond0_1 t).mpr h1) (hcond0_2 t) (iblk m c 0 t) (iblk m c 1 t) (iblk m c 2 t) (iblk m c 3 t) (iblk m c 4 t) (iblk m c 5 t) (iblk m c 6 t) (iblk m c 7 t) (V m c main_v2)) := by
  obtain ⟨n, hn⟩ := t
  cases n with
  | zero => exact (by exfalso; (try dsimp only at h0); exact absurd (Nat.zero_mod _) h0)
  | succ n => exact (dif_neg h0).trans ((dif_pos h1).trans rfl)

/-- `outsAt0` at a point of case C: that case's contents. -/
theorem outsAt0_C (c : Dev nD) (t : Fin cfg0.N) (h0 : ¬t.val % 32 = 0) (h1 : ¬t.val < 30) :
    outsAt0 m c t.val t.isLt = (out0_C_8 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (fun h => h1 ((hcond0_1 t).mp h)) (hcond0_2 t) (iblk m c 0 t) (iblk m c 1 t) (iblk m c 2 t) (iblk m c 3 t) (iblk m c 4 t) (iblk m c 5 t) (iblk m c 6 t) (iblk m c 7 t) (V m c main_v2), out0_C_9 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (fun h => h1 ((hcond0_1 t).mp h)) (hcond0_2 t) (iblk m c 0 t) (iblk m c 1 t) (iblk m c 2 t) (iblk m c 3 t) (iblk m c 4 t) (iblk m c 5 t) (iblk m c 6 t) (iblk m c 7 t) (V m c main_v2), out0_C_10 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (fun h => h1 ((hcond0_1 t).mp h)) (hcond0_2 t) (iblk m c 0 t) (iblk m c 1 t) (iblk m c 2 t) (iblk m c 3 t) (iblk m c 4 t) (iblk m c 5 t) (iblk m c 6 t) (iblk m c 7 t) (V m c main_v2), out0_C_11 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (fun h => h1 ((hcond0_1 t).mp h)) (hcond0_2 t) (iblk m c 0 t) (iblk m c 1 t) (iblk m c 2 t) (iblk m c 3 t) (iblk m c 4 t) (iblk m c 5 t) (iblk m c 6 t) (iblk m c 7 t) (V m c main_v2), out0_C_12 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (fun h => h1 ((hcond0_1 t).mp h)) (hcond0_2 t) (iblk m c 0 t) (iblk m c 1 t) (iblk m c 2 t) (iblk m c 3 t) (iblk m c 4 t) (iblk m c 5 t) (iblk m c 6 t) (iblk m c 7 t) (V m c main_v2)) := by
  obtain ⟨n, hn⟩ := t
  cases n with
  | zero => exact (by exfalso; (try dsimp only at h0); exact absurd (Nat.zero_mod _) h0)
  | succ n => exact (dif_neg h0).trans ((dif_neg h1).trans rfl)

/-! ## The pipeline's proof data -/

/-- The region invariant before point `k`: the generator register at some state, and each ring
    before point `k`. -/
def PhiR (c : Dev nD) (k : ℕ) : sProp (MT nD τ sig Unit (Elt F) ℕ (Pipeline.UD sig nD τ) ℕ) := iprop((∃ r, prngReg c r) ∗ ringAt0_0 c (V m c main_v2) k)

/-- The proof data of the one pipeline on core `c`: the arrays as the region finds them (`V`); after the body at
    point `t` each input's buffer at its block and the outputs' at `outsAt0`; the invariant
    (`PhiR`: each ring's Lib/Ring.lean `Ring.At` before the point, beside the register and what the body takes whole);
    nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2.1
    | ⟨12, _⟩ => (outsAt0 m c t.val t.isLt).2.2.2.2
  Φ t := PhiR m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiR_castSucc (c : Dev nD) (t : Fin cfg0.N) : (dats m 0 c).Φ t.castSucc = PhiR m c t.val := by
  dsimp only [dats]; simp only [Fin.coe_castSucc]
/-- The invariant at a point's end (the proof data at `t.succ`), restated at `t.val + 1`. -/
theorem PhiR_succ (c : Dev nD) (t : Fin cfg0.N) : (dats m 0 c).Φ t.succ = PhiR m c (t.val + 1) := by
  dsimp only [dats]; simp only [Fin.val_succ]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem after0_11 (c : Dev nD) (t : Fin cfg0.N) : (dats m 0 c).after 11 t = (outsAt0 m c t.val t.isLt).2.2.2.1 := by dsimp only [dats]
theorem after0_12 (c : Dev nD) (t : Fin cfg0.N) : (dats m 0 c).after 12 t = (outsAt0 m c t.val t.isLt).2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (Pipeline.UD sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp (MT nD τ sig Unit (Elt F) ℕ (Pipeline.UD sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 20000000 in
/-- The body at any point: the inputs' memrefs hold their blocks (`before0_W`); the closed forms say which case the point is in (`by_cases`), an output the case reads before covering holds what the point before left (`before0_W_κ`); so the
    run applies; the invariant (`PhiR`) is rewritten, per case, to the ring pieces the point's role takes (Lib/Ring.lean `AtK2_here`, `At₀_eq2'`, …, by the case's step facts `rstepK_R_κ`) and reassembled from what the run hands back (`AtK2_next`, `AtK2_one'`, …; `Ring.with_homes`: no block is held apart); the core's `owes` goes in at whatever the points before recorded and comes back with this point's wait, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0
  have hgN : grid0.N = 32 := N_0
  have hN : t.val < 32 := lt_of_lt_of_eq t.isLt (show cfg0.N = 32 from N_0)
  by_cases h0 : t.val % 32 = 0
  · by_cases h1 : t.val < 30
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10_A t ((hcond0_0 t).mpr h0) ((hcond0_1 t).mpr h1) (hcond0_2 t)], after0_10]
      rw [show (dats m 0 c).leavesExact 11 t = owns (c : Thread nD τ) (ms0_11 t) fullShare ((dats m 0 c).after 11 t) from by
      unfold Dat.leavesExact; rw [liveAt0_11_A t ((hcond0_0 t).mpr h0) ((hcond0_1 t).mpr h1) (hcond0_2 t)], after0_11]
      rw [show (dats m 0 c).leavesExact 12 t = owns (c : Thread nD τ) (ms0_12 t) fullShare ((dats m 0 c).after 12 t) from by
      unfold Dat.leavesExact; rw [liveAt0_12_A t ((hcond0_0 t).mpr h0) ((hcond0_1 t).mpr h1) (hcond0_2 t)], after0_12]
      rw [outsAt0_A m c t h0 h1]
      unfold out0_A_8 out0_A_9 out0_A_10 out0_A_11 out0_A_12; (try dsimp only)
      have hr0 := rstep0_0_A t ((hcond0_0 t).mpr h0) ((hcond0_1 t).mpr h1) (hcond0_2 t)
      obtain ⟨hK00, hK10⟩ := hr0
      rw [if_pos hK00, if_neg (show ¬t.val + 1 = 0 by omega)]
      rw [Ring.At₀_eq3' _ _ _ t.val hK00 (by decide : 3 ≤ 32), Ring.At3_one' _ _ _ _ t.val hK00 (by decide : 3 ≤ 32)]
      iintro ⟨⟨Hg, ⟨-, Hfr0_0_0, Hfr0_0_1, Hfr0_0_2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_A c t _ _ _ _ _ _ _ _ _ _ _ _ _ _ _ _ _ _ _ _ _ _ _ _ _ _ ((hcond0_0 t).mpr h0) ((hcond0_1 t).mpr h1) (hcond0_2 t) (iblk m c 0 t) (iblk m c 1 t) (iblk m c 2 t) (iblk m c 3 t) (iblk m c 4 t) (iblk m c 5 t) (iblk m c 6 t) (iblk m c 7 t) (V m c main_v2)).2.2.2.2.2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [Hfr0_0_0]; · iexact Hfr0_0_0
      isplitl [Hfr0_0_1]; · iexact Hfr0_0_1
      isplitl [Hfr0_0_2]; · iexact Hfr0_0_2
      isplitl [HW]; · iexact HW
      iintro ⟨H0, H1, H2, H3, H4, H5, H6, H7, ⟨%e8, H8⟩, ⟨%e9, H9⟩, ⟨%e10, H10⟩, ⟨%e11, H11⟩, ⟨%e12, H12⟩, Hfa0_0', Hfb0_0', Hfc0_0', ⟨%W', HW'⟩⟩
      isplitl [Hg Hfa0_0' Hfb0_0' Hfc0_0']
      · isplitl [Hg]; · iexact Hg
        iapply (Ring.with_homes (Idealize.SL.BI.Entails.refl _))
        isplitl [Hfa0_0']; · iexact Hfa0_0'
        isplitl [Hfb0_0']; · iexact Hfb0_0'
        iexact Hfc0_0'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _)
    · exfalso; omega
  · by_cases h1 : t.val < 30
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10_B t (fun h => h0 ((hcond0_0 t).mp h)) ((hcond0_1 t).mpr h1) (hcond0_2 t)], after0_10]
      rw [show (dats m 0 c).leavesExact 11 t = owns (c : Thread nD τ) (ms0_11 t) fullShare ((dats m 0 c).after 11 t) from by
      unfold Dat.leavesExact; rw [liveAt0_11_B t (fun h => h0 ((hcond0_0 t).mp h)) ((hcond0_1 t).mpr h1) (hcond0_2 t)], after0_11]
      rw [show (dats m 0 c).leavesExact 12 t = owns (c : Thread nD τ) (ms0_12 t) fullShare ((dats m 0 c).after 12 t) from by
      unfold Dat.leavesExact; rw [liveAt0_12_B t (fun h => h0 ((hcond0_0 t).mp h)) ((hcond0_1 t).mpr h1) (hcond0_2 t)], after0_12]
      rw [outsAt0_B m c t h0 h1]
      unfold out0_B_8 out0_B_9 out0_B_10 out0_B_11 out0_B_12; (try dsimp only)
      have hr0 := rstep0_0_B t (fun h => h0 ((hcond0_0 t).mp h)) ((hcond0_1 t).mpr h1) (hcond0_2 t)
      obtain ⟨hK10, hKB0, hKs0⟩ := hr0
      rw [if_neg (show ¬t.val = 0 by omega), if_neg (show ¬t.val + 1 = 0 by omega)]
      rw [Ring.At3_here _ _ _ _ t.val hKB0, Ring.At3_next _ _ _ _ t.val hKB0, Ring.slotAt3_next0 _ _ _ t.val (by omega), Ring.slotAt3_next1 _ _ _ t.val hKB0]
      iintro ⟨⟨Hg, ⟨-, Hfr0_0_0, Hfr0_0_1, Hfr0_0_2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_B c t _ _ _ _ _ _ _ _ _ _ _ _ _ _ _ _ _ _ _ _ _ _ _ _ _ _ (fun h => h0 ((hcond0_0 t).mp h)) ((hcond0_1 t).mpr h1) (hcond0_2 t) (iblk m c 0 t) (iblk m c 1 t) (iblk m c 2 t) (iblk m c 3 t) (iblk m c 4 t) (iblk m c 5 t) (iblk m c 6 t) (iblk m c 7 t) (V m c main_v2)).2.2.2.2.2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [Hfr0_0_0]; · iexact Hfr0_0_0
      isplitl [Hfr0_0_1]; · iexact Hfr0_0_1
      isplitl [Hfr0_0_2]; · iexact Hfr0_0_2
      isplitl [HW]; · iexact HW
      iintro ⟨H0, H1, H2, H3, H4, H5, H6, H7, ⟨%e8, H8⟩, ⟨%e9, H9⟩, ⟨%e10, H10⟩, ⟨%e11, H11⟩, ⟨%e12, H12⟩, Hfa0_0', Hfb0_0', Hfc0_0', ⟨%W', HW'⟩⟩
      isplitl [Hg Hfa0_0' Hfb0_0' Hfc0_0']
      · isplitl [Hg]; · iexact Hg
        iapply (Ring.with_homes (Idealize.SL.BI.Entails.refl _))
        isplitl [Hfa0_0']; · iexact Hfa0_0'
        isplitl [Hfb0_0']; · iexact Hfb0_0'
        iexact Hfc0_0'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover0_B_12 c _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10_C t (fun h => h0 ((hcond0_0 t).mp h)) (fun h => h1 ((hcond0_1 t).mp h)) (hcond0_2 t)], after0_10]
      rw [show (dats m 0 c).leavesExact 11 t = owns (c : Thread nD τ) (ms0_11 t) fullShare ((dats m 0 c).after 11 t) from by
      unfold Dat.leavesExact; rw [liveAt0_11_C t (fun h => h0 ((hcond0_0 t).mp h)) (fun h => h1 ((hcond0_1 t).mp h)) (hcond0_2 t)], after0_11]
      rw [show (dats m 0 c).leavesExact 12 t = owns (c : Thread nD τ) (ms0_12 t) fullShare ((dats m 0 c).after 12 t) from by
      unfold Dat.leavesExact; rw [liveAt0_12_C t (fun h => h0 ((hcond0_0 t).mp h)) (fun h => h1 ((hcond0_1 t).mp h)) (hcond0_2 t)], after0_12]
      rw [outsAt0_C m c t h0 h1]
      unfold out0_C_8 out0_C_9 out0_C_10 out0_C_11 out0_C_12; (try dsimp only)
      have hr0 := rstep0_0_C t (fun h => h0 ((hcond0_0 t).mp h)) (fun h => h1 ((hcond0_1 t).mp h)) (hcond0_2 t)
      obtain ⟨hK10, hKB0, hKlt0, hKs0⟩ := hr0
      rw [if_neg (show ¬t.val = 0 by omega), if_neg (show ¬t.val + 1 = 0 by omega)]
      rw [Ring.At3_here_tail _ _ _ _ t.val hKlt0, Ring.At3_next_tail _ _ _ _ t.val hKB0 hKlt0, Ring.slotAt3_tail_role _ _ _ t.val]
      iintro ⟨⟨Hg, ⟨-, Hfr0_0_0, Hfr0_0_1, Hfr0_0_2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_C c t _ _ _ _ _ _ _ _ _ _ _ _ _ _ _ _ _ _ _ _ _ _ _ _ _ _ (fun h => h0 ((hcond0_0 t).mp h)) (fun h => h1 ((hcond0_1 t).mp h)) (hcond0_2 t) (iblk m c 0 t) (iblk m c 1 t) (iblk m c 2 t) (iblk m c 3 t) (iblk m c 4 t) (iblk m c 5 t) (iblk m c 6 t) (iblk m c 7 t) (V m c main_v2)).2.2.2.2.2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [Hfr0_0_0]; · iexact Hfr0_0_0
      isplitl [Hfr0_0_1]; · iexact Hfr0_0_1
      isplitl [Hfr0_0_2]; · iexact Hfr0_0_2
      isplitl [HW]; · iexact HW
      iintro ⟨H0, H1, H2, H3, H4, H5, H6, H7, ⟨%e8, H8⟩, ⟨%e9, H9⟩, ⟨%e10, H10⟩, ⟨%e11, H11⟩, ⟨%e12, H12⟩, Hfa0_0', Hfb0_0', Hfc0_0', ⟨%W', HW'⟩⟩
      isplitl [Hg Hfa0_0' Hfb0_0' Hfc0_0']
      · isplitl [Hg]; · iexact Hg
        iapply (Ring.with_homes (Idealize.SL.BI.Entails.refl _))
        isplitl [Hfa0_0']; · iexact Hfa0_0'
        isplitl [Hfb0_0']; · iexact Hfb0_0'
        iexact Hfc0_0'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_C_9 c _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_C_10 c _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_C_11 c _ _ _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover0_C_12 c _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`: the scratch, the register, the cells at zero, the HBM operands whole) is the
    invariant before the first point, and the invariant after the last point hands it back. -/
theorem hin (c : Dev nD) : Pipeline.ΦD osem0 spec0 H0 (V m) c ⊢ (dats m 0 c).Φ 0 := by
  rw [PhiD0_eq, show (dats m 0 c).Φ 0 = PhiR m c 0 from rfl]
  unfold PhiR
  iintro ⟨HR0_0, Hg, ⟨Hq0, Hq1, Hq2⟩, Hh0⟩
  isplitl [Hg]; · iexact Hg
  iapply (ring0_0_in (F := F) m c)
  isplitl [HR0_0]; · iexact HR0_0
  isplitl [Hq0 Hq1 Hq2]
  · isplitl [Hq0]; · iexact Hq0
    isplitl [Hq1]; · iexact Hq1
    iexact Hq2
  iexact Hh0
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 32 by rw [N_0]]
  iintro ⟨Hg, HR0_0⟩
  ihave HX0_0 := (ring0_0_out (F := F) m c) $$ HR0_0
  icases HX0_0 with ⟨HR0_0, ⟨Hq0, Hq1, Hq2⟩, Hh0⟩
  isplitl [HR0_0]
  · iexact HR0_0
  isplitl [Hg]
  · iexact Hg
  isplitl [Hq0 Hq1 Hq2]
  · isplitl [Hq0]; · iexact Hq0
    isplitl [Hq1]; · iexact Hq1
    iexact Hq2
  iexact Hh0

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_Kernel5Ideal`'s statement (Defs.lean) at any `F` — Proof.lean cites it at `Bits`:
    `theorem Cert.Proof.claim : Cert.Claim := ⟨Cert.Kernel5Ideal.Gen.facts, fun m ρ _ => Cert.Kernel5Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel5Ideal.Gen

end
-- ==== Proof.Win5iValue.lean ====
module

public import proofs.«01_k».proof.Proof.Win5iFrame
public import Idealize.ShloMosaic.Lib.Pipeline.Value

@[expose] public section

noncomputable section

namespace Cert.Kernel5Ideal.Value

open Cert.Kernel5Ideal Cert.Kernel5Ideal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v11_0) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v11_1) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v11_2) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v11_3) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v11_4) = (dats m 0 c).arrAt 12 cfg0.N :=
  (h c).1 12

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N` —,
    the arguments unchanged. -/
theorem run_blocks : θ_run defs (onTc (τ := τ) (main (F := F))) ⟨m, fun _ => 0, ρ⟩ fun r => ∀ c : Dev nD,
      r.2.mem ((c : Thread nD τ).loc main_v11_0) = (dats m 0 c).arrAt 8 cfg0.N
      ∧ r.2.mem ((c : Thread nD τ).loc main_v11_1) = (dats m 0 c).arrAt 9 cfg0.N
      ∧ r.2.mem ((c : Thread nD τ).loc main_v11_2) = (dats m 0 c).arrAt 10 cfg0.N
      ∧ r.2.mem ((c : Thread nD τ).loc main_v11_3) = (dats m 0 c).arrAt 11 cfg0.N
      ∧ r.2.mem ((c : Thread nD τ).loc main_v11_4) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post8 m r h c,
      post9 m r h c,
      post10 m r h c,
      post11 m r h c,
      post12 m r h c,
      kept_main_arg0 m r h c,
      kept_main_arg1 m r h c,
      kept_main_arg2 m r h c,
      kept_main_arg3 m r h c,
      kept_main_arg4 m r h c,
      kept_main_arg5 m r h c⟩)
    (run_main m ρ)

end Cert.Kernel5Ideal.Value

end
-- ==== Proof.Band.lean ====
/-
  Softmax attention over a finite row of scores, at the extended reals, and the passage from a row with masked
  columns to the row of the keys that are attended.
-/
module

public import Idealize.ShloMosaic.PureOps.Ideal.Laws

@[expose] public section

noncomputable section

namespace Cert.Band

open Idealize.ShloMosaic

/-- The largest score. -/
def smax {n : ℕ} (s : Fin n → EReal) : EReal := Finset.univ.fold max ⊥ s

/-- The weight of a key before normalization. -/
def wgt {n : ℕ} (s : Fin n → EReal) (j : Fin n) : EReal := Ideal.exp (s j - smax s)

/-- The normalizer. -/
def den {n : ℕ} (s : Fin n → EReal) : EReal := ∑ j, wgt s j

/-- The weighted sum of the values. -/
def num {n : ℕ} (s v : Fin n → EReal) : EReal := ∑ j, wgt s j * v j

theorem smax_eq_sup {n : ℕ} (s : Fin n → EReal) : smax s = Finset.univ.sup s := rfl

theorem exp_bot_sub (x : EReal) : Ideal.exp (⊥ - x) = 0 := by
  rw [EReal.bot_sub]; rfl

/-- Columns outside the range of `e` carry the score `⊥`: the largest score is that of the attended keys. -/
theorem smax_range {n k : ℕ} (e : Fin k → Fin n) (S : Fin n → EReal) (s : Fin k → EReal)
    (hin : ∀ j, S (e j) = s j) (hout : ∀ c, c ∉ Set.range e → S c = ⊥) : smax S = smax s := by
  rw [smax_eq_sup, smax_eq_sup]
  apply le_antisymm
  · refine Finset.sup_le fun c _ => ?_
    by_cases hc : c ∈ Set.range e
    · obtain ⟨j, rfl⟩ := hc
      rw [hin]; exact Finset.le_sup (f := s) (Finset.mem_univ j)
    · rw [hout c hc]; exact bot_le
  · refine Finset.sup_le fun j _ => ?_
    rw [← hin]; exact Finset.le_sup (f := S) (Finset.mem_univ (e j))

theorem num_range {n k : ℕ} (e : Fin k → Fin n) (he : Function.Injective e) (S V : Fin n → EReal)
    (s v : Fin k → EReal) (hin : ∀ j, S (e j) = s j) (hout : ∀ c, c ∉ Set.range e → S c = ⊥)
    (hv : ∀ j, s j = ⊥ ∨ V (e j) = v j) : num S V = num s v := by
  have hm := smax_range e S s hin hout
  refine (Fintype.sum_of_injective e he _ _ (fun c hc => ?_) (fun j => ?_)).symm
  · unfold wgt; rw [hout c hc, exp_bot_sub, zero_mul]
  · unfold wgt; rw [hm, hin]
    rcases hv j with h | h
    · rw [h, exp_bot_sub, zero_mul, zero_mul]
    · rw [h]

theorem den_range {n k : ℕ} (e : Fin k → Fin n) (he : Function.Injective e) (S : Fin n → EReal)
    (s : Fin k → EReal) (hin : ∀ j, S (e j) = s j) (hout : ∀ c, c ∉ Set.range e → S c = ⊥) : den S = den s := by
  have h := num_range e he S (fun _ => 1) s (fun _ => 1) hin hout (fun _ => .inr rfl)
  simpa [num, den] using h

theorem exp_nonneg (x : EReal) : 0 ≤ Ideal.exp x := by
  induction x using EReal.rec with
  | bot => exact le_refl _
  | top => exact le_top
  | coe r => exact EReal.coe_nonneg.mpr (Real.exp_pos r).le

/-- The normalizer is not zero once no score is infinite above and one is finite. -/
theorem den_ne_zero {n : ℕ} (s : Fin n → EReal) (htop : ∀ j, s j ≠ ⊤) (j0 : Fin n) (h0 : s j0 ≠ ⊥) : den s ≠ 0 := by
  obtain ⟨j, -, hj⟩ := Finset.exists_mem_eq_sup (Finset.univ : Finset (Fin n)) ⟨j0, Finset.mem_univ _⟩ s
  have hne : s j ≠ ⊥ := by
    intro h
    apply h0
    rw [← le_bot_iff, ← h, ← hj]; exact Finset.le_sup (f := s) (Finset.mem_univ j0)
  have h1 : wgt s j = 1 := by
    unfold wgt
    rw [smax_eq_sup, hj]
    lift s j to ℝ using ⟨htop j, hne⟩ with r
    rw [← EReal.coe_sub, sub_self]
    show ((Real.exp 0 : ℝ) : EReal) = 1
    rw [Real.exp_zero]; rfl
  have h2 : wgt s j ≤ den s := Finset.single_le_sum (f := wgt s) (fun i _ => exp_nonneg _) (Finset.mem_univ j)
  intro h3
  rw [h1, h3] at h2
  exact absurd h2 (not_le.mpr zero_lt_one)

theorem mul_div_one (x y : EReal) (hy : y ≠ 0) : x * Ideal.div 1 y = Ideal.div x y := by
  unfold Ideal.div
  rw [if_neg hy, if_neg hy, one_mul]

/-- Neither infinity. -/
def Fin' (x : EReal) : Prop := x ≠ ⊥ ∧ x ≠ ⊤

theorem Fin'.zero : Fin' 0 := ⟨EReal.zero_ne_bot, EReal.zero_ne_top⟩

theorem Fin'.add {x y : EReal} (hx : Fin' x) (hy : Fin' y) : Fin' (x + y) := by
  lift x to ℝ using hx.symm
  lift y to ℝ using hy.symm
  rw [← EReal.coe_add]
  exact ⟨EReal.coe_ne_bot _, EReal.coe_ne_top _⟩

theorem Fin'.mul {x y : EReal} (hx : Fin' x) (hy : Fin' y) : Fin' (x * y) := by
  lift x to ℝ using hx.symm
  lift y to ℝ using hy.symm
  rw [← EReal.coe_mul]
  exact ⟨EReal.coe_ne_bot _, EReal.coe_ne_top _⟩

theorem Fin'.sum {n : ℕ} {f : Fin n → EReal} (h : ∀ i, Fin' (f i)) : Fin' (∑ i, f i) :=
  Finset.sum_induction f Fin' (fun _ _ => Fin'.add) Fin'.zero (fun i _ => h i)

/-- A sum over the 256 lanes of a row in which only head `h`'s 64 lanes count. -/
theorem sum_head (h : Fin 4) (f : Fin 256 → EReal) :
    (∑ d : Fin 256, if d.val / 64 = h.val then f d else 0)
      = ∑ d : Fin 64, f ⟨h.val * 64 + d.val, by omega⟩ := by
  refine (Fintype.sum_of_injective (fun d : Fin 64 => (⟨h.val * 64 + d.val, by omega⟩ : Fin 256)) ?_ _ _ ?_ ?_).symm
  · intro a b hab
    have := congrArg Fin.val hab
    apply Fin.ext; simp only at this; omega
  · intro c hc
    rw [if_neg]
    intro hch
    apply hc
    refine ⟨⟨c.val - h.val * 64, by omega⟩, Fin.ext ?_⟩
    simp only; omega
  · intro d
    simp only
    rw [if_pos (by omega)]

end Cert.Band

end
-- ==== Proof.Blk.lean ====
/-
  One 128-query block of the kernel: what the body does four times per grid point, at its own index.
-/
module

public import proofs.«01_k».proof.Proof.Gen.KernelIdeal.Value
public import Idealize.ShloMosaic.Lib.Pointwise
public import proofs.«01_k».proof.Proof.Band

@[expose] public section

set_option maxRecDepth 16384

noncomputable section

namespace Cert.KernelIdeal.Blk

open Idealize.ShloMosaic Idealize.ShloMosaic.TcCoe Cert.KernelIdeal Cert.KernelIdeal.Gen Cert.Band
open Idealize.ShloMosaic.Pointwise

variable {F : FTy → Type} [FloatOps F] [Named F]

/-- Head 0's lanes of the queries, the other lanes zero. -/
def qz (qj : FVec F S128x256 .bf16) : FVec F S128x256 .bf16 :=
  select (broadcastTo S128x256 (shapeCast S1x256 (cmpi .eq k0_pay14 (broadcast S1x256 0#32)) shapeCasts_S1x256_S1x256) broadcasts_S1x256_S128x256)
    qj (broadcast S128x256 (Scalar.ofBits .bf16 0x0000#16))

/-- The scores of a block: rows are 128 queries of head 0, then of heads 1, 2 and 3. -/
def bS (b : FVec F S128x256 .f32) (qj : FVec F S128x256 .bf16) (kj : FVec F S256x256 .bf16) : FVec F S512x256 .f32 :=
  k0_pay20 b k0_pay14 qj kj (qz qj) k0_pay19

/-- The block of the first result. -/
def bO (b : FVec F S128x256 .f32) (qj : FVec F S128x256 .bf16) (kj vj : FVec F S256x256 .bf16) : FVec F S128x256 .bf16 :=
  k0_pay29 k0_pay14 (k0_pay24 b k0_pay14 qj kj vj (qz qj) k0_pay19) (k0_pay27 b k0_pay14 qj kj vj (qz qj) k0_pay19)

/-- The block of the second result. -/
def bL (b : FVec F S128x256 .f32) (qj : FVec F S128x256 .bf16) (kj : FVec F S256x256 .bf16) : FVec F S128x128 .f32 :=
  k0_pay28 (iota .tc S1x128 32 [1] iota_S1x128_d1_w32) (k0_pay25 b k0_pay14 qj kj (qz qj) k0_pay19) k0_pay26

/-- The four blocks of a grid point's rows. -/
def qSl (q : FVec F S512x256 .bf16) : Fin 4 → FVec F S128x256 .bf16
  | 0 => k0_pay15 q
  | 1 => extractStridedSlice S128x256 ![128, 0] q slices_S512x256_o128_0_S128x256
  | 2 => extractStridedSlice S128x256 ![256, 0] q slices_S512x256_o256_0_S128x256
  | 3 => extractStridedSlice S128x256 ![384, 0] q slices_S512x256_o384_0_S128x256
def kSl (k : FVec F S640x256 .bf16) : Fin 4 → FVec F S256x256 .bf16
  | 0 => k0_pay16 k
  | 1 => extractStridedSlice S256x256 ![128, 0] k slices_S640x256_o128_0_S256x256
  | 2 => extractStridedSlice S256x256 ![256, 0] k slices_S640x256_o256_0_S256x256
  | 3 => extractStridedSlice S256x256 ![384, 0] k slices_S640x256_o384_0_S256x256

/-- The lane's head. -/
theorem pay14_val (d : Fin 256) : k0_pay14 (ix2 0 d) = BitVec.ofNat 32 (d.val / 64) := by
  revert d; decide +kernel

theorem out9_eq (i : grid0.Coords) (x0 : Vec F S1x4x1x128x256 .bf16) (x1 : Vec F S1x4x1x128x256 .bf16) (x2 : Vec F S1x4x1x128x256 .bf16) (x3 : Vec F S1x1x1x128x256 .bf16) (x4 : Vec F S1x1x1x128x256 .bf16) (x5 : Vec F S1x1x256 .bf16) (x6 : Vec F S1x1x256 .f32) (x7 : Vec F S1x1x256 .f32) (x8 : Vec F S1x512x512 .f32) :
    out0_9 i x0 x1 x2 x3 x4 x5 x6 x7 x8 =
      View.canon [⟨r0_3, k0_pay30 (bO (k0_pay100 i x0 x1 x2 x3 x4 x5 x6 x7 x8) (qSl (k0_pay94 i x0 x1 x2 x3 x4 x5 x6 x7 x8) 3) (kSl (k0_pay95 i x0 x1 x2 x3 x4 x5 x6 x7 x8) 3) (kSl (k0_pay96 i x0 x1 x2 x3 x4 x5 x6 x7 x8) 3))⟩,
        ⟨r0_2, k0_pay30 (bO (k0_pay100 i x0 x1 x2 x3 x4 x5 x6 x7 x8) (qSl (k0_pay94 i x0 x1 x2 x3 x4 x5 x6 x7 x8) 2) (kSl (k0_pay95 i x0 x1 x2 x3 x4 x5 x6 x7 x8) 2) (kSl (k0_pay96 i x0 x1 x2 x3 x4 x5 x6 x7 x8) 2))⟩,
        ⟨r0_1, k0_pay30 (bO (k0_pay100 i x0 x1 x2 x3 x4 x5 x6 x7 x8) (qSl (k0_pay94 i x0 x1 x2 x3 x4 x5 x6 x7 x8) 1) (kSl (k0_pay95 i x0 x1 x2 x3 x4 x5 x6 x7 x8) 1) (kSl (k0_pay96 i x0 x1 x2 x3 x4 x5 x6 x7 x8) 1))⟩,
        ⟨r0_0, k0_pay30 (bO (k0_pay101 i x0 x1 x2 x3 x4 x5 x6 x7 x8) (qSl (k0_pay94 i x0 x1 x2 x3 x4 x5 x6 x7 x8) 0) (kSl (k0_pay95 i x0 x1 x2 x3 x4 x5 x6 x7 x8) 0) (kSl (k0_pay96 i x0 x1 x2 x3 x4 x5 x6 x7 x8) 0))⟩] := by
  rfl

theorem out10_eq (i : grid0.Coords) (x0 : Vec F S1x4x1x128x256 .bf16) (x1 : Vec F S1x4x1x128x256 .bf16) (x2 : Vec F S1x4x1x128x256 .bf16) (x3 : Vec F S1x1x1x128x256 .bf16) (x4 : Vec F S1x1x1x128x256 .bf16) (x5 : Vec F S1x1x256 .bf16) (x6 : Vec F S1x1x256 .f32) (x7 : Vec F S1x1x256 .f32) (x8 : Vec F S1x512x512 .f32) :
    out0_10 i x0 x1 x2 x3 x4 x5 x6 x7 x8 =
      View.canon [⟨r0_8, k0_pay31 (bL (k0_pay100 i x0 x1 x2 x3 x4 x5 x6 x7 x8) (qSl (k0_pay94 i x0 x1 x2 x3 x4 x5 x6 x7 x8) 3) (kSl (k0_pay95 i x0 x1 x2 x3 x4 x5 x6 x7 x8) 3))⟩,
        ⟨r0_7, k0_pay31 (bL (k0_pay100 i x0 x1 x2 x3 x4 x5 x6 x7 x8) (qSl (k0_pay94 i x0 x1 x2 x3 x4 x5 x6 x7 x8) 2) (kSl (k0_pay95 i x0 x1 x2 x3 x4 x5 x6 x7 x8) 2))⟩,
        ⟨r0_6, k0_pay31 (bL (k0_pay100 i x0 x1 x2 x3 x4 x5 x6 x7 x8) (qSl (k0_pay94 i x0 x1 x2 x3 x4 x5 x6 x7 x8) 1) (kSl (k0_pay95 i x0 x1 x2 x3 x4 x5 x6 x7 x8) 1))⟩,
        ⟨r0_5, k0_pay31 (bL (k0_pay101 i x0 x1 x2 x3 x4 x5 x6 x7 x8) (qSl (k0_pay94 i x0 x1 x2 x3 x4 x5 x6 x7 x8) 0) (kSl (k0_pay95 i x0 x1 x2 x3 x4 x5 x6 x7 x8) 0))⟩] := by
  rfl

end Cert.KernelIdeal.Blk

end
-- ==== Proof.BlkVal.lean ====
/-
  A block of the kernel at an index.
-/
module

public import proofs.«01_k».proof.Proof.Blk
public import Idealize.ShloMosaic.PureOps.Ideal.Laws

@[expose] public section

set_option maxRecDepth 16384

noncomputable section

namespace Cert.KernelIdeal.Blk

open Idealize.ShloMosaic Idealize.ShloMosaic.TcCoe Cert.KernelIdeal Cert.KernelIdeal.Gen Cert.Band
open Idealize.ShloMosaic.Pointwise

/-- A row's scores: the head's lanes of the query row against every key row, and the bias. -/
def rowS (h : Fin 4) (q : Fin 256 → EReal) (k : Fin 256 → Fin 256 → EReal) (b : Fin 256 → EReal) (c : Fin 256) : EReal :=
  (∑ d : Fin 64, q ⟨h.val * 64 + d.val, by omega⟩ * k c ⟨h.val * 64 + d.val, by omega⟩) + b c

theorem lane_eq (h : Fin 4) (d : Fin 256) :
    IntOp.cmpi CmpIPredicate.eq (k0_pay14 (ix2 0 d)) (BitVec.ofNat 32 h.val) = if d.val / 64 = h.val then 1#1 else 0#1 := by
  revert h d; decide +kernel

theorem lane_sel (h : Fin 4) (d : Fin 256) (x y : EReal) :
    Scalar.select (IntOp.cmpi CmpIPredicate.eq (k0_pay14 (ix2 0 d)) (BitVec.ofNat 32 h.val)) x y
      = if d.val / 64 = h.val then x else y := by
  rw [lane_eq]; split
  · rfl
  · rfl

/-- Head `h`'s lanes of the queries, the other lanes zero. -/
def qm (h : BitVec 32) (qj : FVec Ideal S128x256 .bf16) : FVec Ideal S128x256 .bf16 :=
  select (broadcastTo S128x256 (shapeCast S1x256 (cmpi .eq k0_pay14 (broadcast S1x256 h)) shapeCasts_S1x256_S1x256) broadcasts_S1x256_S128x256)
    qj (broadcast S128x256 (Scalar.ofBits .bf16 0x0000#16))

theorem qm_apply (h : Fin 4) (qj : FVec Ideal S128x256 .bf16) (r : Fin 128) (d : Fin 256) :
    qm (BitVec.ofNat 32 h.val) qj (ix2 r d) = if d.val / 64 = h.val then qj (ix2 r d) else 0 := by
  unfold qm
  pointwise
  exact lane_sel h d _ _

/-- The masked queries of the four heads, one below the other. -/
def qs (qj : FVec Ideal S128x256 .bf16) : FVec Ideal S512x256 .bf16 :=
  concatenate S512x256 0 [⟨S128x256, qm 0#32 qj⟩, ⟨S128x256, qm 1#32 qj⟩, ⟨S128x256, qm 2#32 qj⟩, ⟨S128x256, qm 3#32 qj⟩] concatenates_S128x256_S128x256_S128x256_S128x256_S512x256_d0

theorem qs_apply (qj : FVec Ideal S128x256 .bf16) (h : Fin 4) (r : Fin 128) (d : Fin 256) :
    qs qj (ix2 ⟨h.val * 128 + r.val, by omega⟩ d) = if d.val / 64 = h.val then qj (ix2 r d) else 0 := by
  rw [← qm_apply]
  unfold qs
  pointwise
  obtain rfl | rfl | rfl | rfl : h = 0 ∨ h = 1 ∨ h = 2 ∨ h = 3 := by omega
  · rw [dif_pos (by have := r.isLt; simp)]
    congr 2; apply Fin.ext; simp
  · rw [dif_neg (by simp), dif_pos (by have := r.isLt; simp)]
    congr 2; apply Fin.ext; simp
  · rw [dif_neg (by simp; omega), dif_neg (by simp; omega), dif_pos (by have := r.isLt; simp; omega)]
    congr 2; apply Fin.ext; simp; omega
  · rw [dif_neg (by simp; omega), dif_neg (by simp; omega), dif_neg (by simp; omega)]
    congr 2; apply Fin.ext; simp; omega

theorem bS_eq (b : FVec Ideal S128x256 .f32) (qj : FVec Ideal S128x256 .bf16) (kj : FVec Ideal S256x256 .bf16) :
    bS b qj kj = shapeCast S512x256 (addf (shapeCast S4x128x256 (matmul (F := Ideal) dot_S512x256_S256x256_S512x256_1_1_0_0_n_n none (qs qj) kj (constant S512x256 .f32 0x00000000#32)) shapeCasts_S512x256_S4x128x256)
      (broadcastTo S4x128x256 (shapeCast S1x128x256 b shapeCasts_S128x256_S1x128x256) broadcasts_S1x128x256_S4x128x256)) shapeCasts_S4x128x256_S512x256 := rfl

theorem bS_apply (b : FVec Ideal S128x256 .f32) (qj : FVec Ideal S128x256 .bf16) (kj : FVec Ideal S256x256 .bf16)
    (h : Fin 4) (r : Fin 128) (c : Fin 256) :
    bS b qj kj (ix2 ⟨h.val * 128 + r.val, by omega⟩ c)
      = rowS h (fun d => qj (ix2 r d)) (fun c d => kj (ix2 c d)) (fun c => b (ix2 r c)) c := by
  rw [bS_eq]
  pointwise
  unfold rowS
  rw [← sum_head h (fun d => qj (ix2 r d) * kj (ix2 c d))]
  simp only [qs_apply, ite_mul, zero_mul]

theorem lmask (k : Fin 4) (l : Fin 128) (x y : EReal) :
    Scalar.select (IntOp.cmpi CmpIPredicate.eq (BitVec.ofNat 32 l.val) (BitVec.ofNat 32 k.val)) x y
      = if l.val = k.val then x else y := by
  have h : IntOp.cmpi CmpIPredicate.eq (BitVec.ofNat 32 l.val) (BitVec.ofNat 32 k.val) = if l.val = k.val then 1#1 else 0#1 := by
    revert k l; decide +kernel
  rw [h]; split
  · rfl
  · rfl

theorem neg_inf : Ideal.ofBits FTy.f32 4286578688#32 = ⊥ := by
  simp [Ideal.ofBits, Ideal.ieee]

theorem bM_apply (b : FVec Ideal S128x256 .f32) (qj : FVec Ideal S128x256 .bf16) (kj : FVec Ideal S256x256 .bf16)
    (a : Fin 512) :
    k0_pay21 b k0_pay14 qj kj (qz qj) k0_pay19 (ix2 a 0) = smax (fun c => bS b qj kj (ix2 a c)) := by
  pointwise [k0_pay21]
  rw [neg_inf]
  rfl

theorem bD_apply (b : FVec Ideal S128x256 .f32) (qj : FVec Ideal S128x256 .bf16) (kj : FVec Ideal S256x256 .bf16)
    (a : Fin 512) :
    k0_pay23 b k0_pay14 qj kj (qz qj) k0_pay19 (ix2 a 0) = den (fun c => bS b qj kj (ix2 a c)) := by
  pointwise [k0_pay23, k0_pay22]
  rw [bM_apply]
  rfl

theorem bN_apply (b : FVec Ideal S128x256 .f32) (qj : FVec Ideal S128x256 .bf16) (kj vj : FVec Ideal S256x256 .bf16)
    (a : Fin 512) (d : Fin 256) :
    k0_pay24 b k0_pay14 qj kj vj (qz qj) k0_pay19 (ix2 a d) = num (fun c => bS b qj kj (ix2 a c)) (fun c => vj (ix2 c d))
      * Ideal.div 1 (den (fun c => bS b qj kj (ix2 a c))) := by
  pointwise [k0_pay24, k0_pay22]
  rw [bM_apply, bD_apply]
  rfl

theorem bO_apply (b : FVec Ideal S128x256 .f32) (qj : FVec Ideal S128x256 .bf16) (kj vj : FVec Ideal S256x256 .bf16)
    (h : Fin 4) (r : Fin 128) (d : Fin 64) :
    bO b qj kj vj (ix2 r ⟨h.val * 64 + d.val, by omega⟩)
      = k0_pay24 b k0_pay14 qj kj vj (qz qj) k0_pay19 (ix2 ⟨h.val * 128 + r.val, by omega⟩ ⟨h.val * 64 + d.val, by omega⟩) := by
  unfold bO
  have h0 := fun d x y => lane_sel 0 d x y
  have h1 := fun d x y => lane_sel 1 d x y
  have h2 := fun d x y => lane_sel 2 d x y
  have h3 := fun d x y => lane_sel 3 d x y
  simp only [Fin.isValue, Fin.val_zero, show ((1 : Fin 4) : ℕ) = 1 from rfl, show ((2 : Fin 4) : ℕ) = 2 from rfl, show ((3 : Fin 4) : ℕ) = 3 from rfl] at h0 h1 h2 h3
  pointwise [k0_pay29, k0_pay27]
  have hd : (h.val * 64 + d.val) / 64 = h.val := by omega
  rw [h0, h1, h2, h3]
  simp only [hd]
  obtain rfl | rfl | rfl | rfl : h = 0 ∨ h = 1 ∨ h = 2 ∨ h = 3 := by omega
  all_goals simp

theorem bL_apply (b : FVec Ideal S128x256 .f32) (qj : FVec Ideal S128x256 .bf16) (kj : FVec Ideal S256x256 .bf16)
    (r : Fin 128) (l : Fin 128) :
    bL b qj kj (ix2 r l)
      = if h : l.val < 4 then k0_pay21 b k0_pay14 qj kj (qz qj) k0_pay19 (ix2 ⟨l.val * 128 + r.val, by omega⟩ 0)
          + Ideal.log (k0_pay23 b k0_pay14 qj kj (qz qj) k0_pay19 (ix2 ⟨l.val * 128 + r.val, by omega⟩ 0)) else 0 := by
  unfold bL
  have h0 := fun d x y => lmask 0 d x y
  have h1 := fun d x y => lmask 1 d x y
  have h2 := fun d x y => lmask 2 d x y
  have h3 := fun d x y => lmask 3 d x y
  simp only [Fin.isValue, Fin.val_zero, show ((1 : Fin 4) : ℕ) = 1 from rfl, show ((2 : Fin 4) : ℕ) = 2 from rfl, show ((3 : Fin 4) : ℕ) = 3 from rfl] at h0 h1 h2 h3
  pointwise [k0_pay28, k0_pay25, k0_pay26]
  rw [h0, h1, h2, h3]
  by_cases hl : l.val < 4
  · rw [dif_pos hl]
    obtain rfl | rfl | rfl | rfl : l = 0 ∨ l = 1 ∨ l = 2 ∨ l = 3 := by omega
    all_goals simp
  · rw [dif_neg hl, if_neg (by omega), if_neg (by omega), if_neg (by omega), if_neg (by omega)]

end Cert.KernelIdeal.Blk

end
-- ==== Proof.Rows.lean ====
/-
  The rows of queries, keys and values of each block, and the block's bias, at an index.
-/
module

public import proofs.«01_k».proof.Proof.BlkVal
public import Idealize.ShloMosaic.Lib.Pipeline.ValueKit
public import Idealize.ShloMosaic.Lib.Claim

@[expose] public section

set_option maxRecDepth 16384

noncomputable section

namespace Cert.KernelIdeal.Blk

open Idealize.ShloMosaic Idealize.ShloMosaic.TcCoe Cert.KernelIdeal Cert.KernelIdeal.Gen Cert.Band
open Idealize.ShloMosaic.Pointwise

theorem mask_eq : (Named.named Cert.KernelIdeal.κ "mask" 0xF149F2CA#32 : Ideal .f32) = ⊥ := by
  simp [Named.named, Cert.KernelIdeal.κ]

variable (i : grid0.Coords) (x0 x1 x2 : Vec Ideal S1x4x1x128x256 .bf16) (x3 x4 : Vec Ideal S1x1x1x128x256 .bf16)
  (x5 : Vec Ideal S1x1x256 .bf16) (x6 x7 : Vec Ideal S1x1x256 .f32) (x8 : Vec Ideal S1x512x512 .f32)

theorem qSl_apply (q : FVec Ideal S512x256 .bf16) (j : Fin 4) (r : Fin 128) (d : Fin 256) :
    qSl q j (ix2 r d) = q (ix2 ⟨j.val * 128 + r.val, by omega⟩ d) := by
  match j with
  | 0 => show k0_pay15 q (ix2 r d) = _; pointwise [k0_pay15]
  | 1 => pointwise [qSl]
  | 2 => pointwise [qSl]
  | 3 => pointwise [qSl]

theorem kSl_apply (q : FVec Ideal S640x256 .bf16) (j : Fin 4) (r : Fin 256) (d : Fin 256) :
    kSl q j (ix2 r d) = q (ix2 ⟨j.val * 128 + r.val, by omega⟩ d) := by
  match j with
  | 0 => show k0_pay16 q (ix2 r d) = _; pointwise [k0_pay16]
  | 1 => pointwise [kSl]
  | 2 => pointwise [kSl]
  | 3 => pointwise [kSl]

theorem pay94_apply (R : Fin 512) (d : Fin 256) :
    k0_pay94 i x0 x1 x2 x3 x4 x5 x6 x7 x8 (ix2 R d) = x0 (ix5 0 ⟨R.val / 128, by omega⟩ 0 ⟨R.val % 128, by omega⟩ d) := by
  pointwise [k0_pay94, k0_pay4]
  split
  · blk_ext []
  split
  · blk_ext []
  split
  · blk_ext []
  · blk_ext []

theorem pay95_apply (R : Fin 640) (d : Fin 256) :
    k0_pay95 i x0 x1 x2 x3 x4 x5 x6 x7 x8 (ix2 R d) =
      if hc : R.val < 128 then x3 (ix5 0 0 0 ⟨R.val, hc⟩ d)
      else x1 (ix5 0 ⟨(R.val - 128) / 128, by omega⟩ 0 ⟨(R.val-128) % 128, by omega⟩ d) := by
  pointwise [k0_pay95, k0_pay5, k0_pay6, k0_pay7, k0_pay8]
  split
  · rfl
  split
  · blk_ext []
  split
  · blk_ext []
  split
  · blk_ext []
  · blk_ext []

theorem pay96_apply (R : Fin 640) (d : Fin 256) :
    k0_pay96 i x0 x1 x2 x3 x4 x5 x6 x7 x8 (ix2 R d) =
      if hc : R.val < 128 then x4 (ix5 0 0 0 ⟨R.val, hc⟩ d)
      else x2 (ix5 0 ⟨(R.val - 128) / 128, by omega⟩ 0 ⟨(R.val-128) % 128, by omega⟩ d) := by
  pointwise [k0_pay96, k0_pay9]
  split
  · rfl
  split
  · blk_ext []
  split
  · blk_ext []
  split
  · blk_ext []
  · blk_ext []

theorem w_ge (c : Fin 256) (r : Fin 128) :
    IntOp.cmpi CmpIPredicate.sge (BitVec.ofNat 32 c.val) (BitVec.ofNat 32 r.val) = if r.val ≤ c.val then 1#1 else 0#1 := by
  revert c r; decide +kernel

theorem w_le (c : Fin 256) (r : Fin 128) :
    IntOp.cmpi CmpIPredicate.sle (BitVec.ofNat 32 c.val) (IntOp.addi (BitVec.ofNat 32 r.val) 128#32) = if c.val ≤ r.val + 128 then 1#1 else 0#1 := by
  revert c r; decide +kernel

theorem w_lt (c : Fin 256) :
    IntOp.cmpi CmpIPredicate.slt (BitVec.ofNat 32 c.val) 128#32 = if c.val < 128 then 1#1 else 0#1 := by
  revert c; decide +kernel

theorem w_eq (c : Fin 4) :
    Scalar.cmpi CmpIPredicate.eq (BitVec.ofNat 32 c.val) 0#32 = if c.val = 0 then 1#1 else 0#1 := by
  revert c; decide +kernel

theorem sel_if {α : Type} (p : Prop) [Decidable p] (x y : α) :
    Scalar.select (if p then 1#1 else 0#1) x y = if p then x else y := by
  split <;> rfl

theorem bias_apply (r : Fin 128) (c : Fin 256) :
    k0_pay100 i x0 x1 x2 x3 x4 x5 x6 x7 x8 (ix2 r c) = if r.val ≤ c.val ∧ c.val ≤ r.val + 128 then (0 : EReal) else ⊥ := by
  pointwise [k0_pay100, k0_pay12, k0_pay97, k0_pay98, k0_pay10, k0_pay11]
  rw [w_ge, w_le, mask_eq, sel_if, sel_if]
  split_ifs <;> first | rfl | omega

theorem bias0_apply (r : Fin 128) (c : Fin 256) :
    k0_pay101 i x0 x1 x2 x3 x4 x5 x6 x7 x8 (ix2 r c)
      = if (r.val ≤ c.val ∧ c.val ≤ r.val + 128) ∧ ((i 2).val = 0 → 128 ≤ c.val) then (0 : EReal) else ⊥ := by
  pointwise [k0_pay101, k0_pay13, k0_pay97, k0_pay98, k0_pay10, k0_pay11, k0_pay12]
  have h2 : (i 2).val < 4 := (i 2).isLt
  have := w_eq ⟨(i 2).val, h2⟩
  dsimp only at this
  rw [w_ge, w_le, w_lt, this, mask_eq, sel_if, sel_if, sel_if, sel_if]
  split_ifs <;> first | rfl | omega | simp

variable (m : (ℓ : Loc nD τ sig) → Buf (Elt Ideal) ℓ)

theorem idx0 : ∀ t : Fin cfg0.N, win0_0.index t = ![(grid0.coords t 0).val, (grid0.coords t 2).val, (grid0.coords t 1).val, 0, 1] :=
  (by decide +kernel : ∀ t : Fin grid0.N, _)
theorem idx1 : ∀ t : Fin cfg0.N, win0_1.index t = ![(grid0.coords t 0).val, (grid0.coords t 2).val, (grid0.coords t 1).val, 0, 1] :=
  (by decide +kernel : ∀ t : Fin grid0.N, _)
theorem idx2 : ∀ t : Fin cfg0.N, win0_2.index t = ![(grid0.coords t 0).val, (grid0.coords t 2).val, (grid0.coords t 1).val, 0, 1] :=
  (by decide +kernel : ∀ t : Fin grid0.N, _)
theorem idx3 : ∀ t : Fin cfg0.N, win0_3.index t = ![(grid0.coords t 0).val, (grid0.coords t 2).val * 4 - 1, (grid0.coords t 1).val, 0, 1] :=
  (by decide +kernel : ∀ t : Fin grid0.N, _)
theorem idx4 : ∀ t : Fin cfg0.N, win0_4.index t = ![(grid0.coords t 0).val, (grid0.coords t 2).val * 4 - 1, (grid0.coords t 1).val, 0, 1] :=
  (by decide +kernel : ∀ t : Fin grid0.N, _)
theorem idx9 : ∀ t : Fin cfg0.N, win0_9.index t = ![(grid0.coords t 0).val, (grid0.coords t 2).val, (grid0.coords t 1).val, 0, 0] :=
  (by decide +kernel : ∀ t : Fin grid0.N, _)
theorem idx10 : ∀ t : Fin cfg0.N, win0_10.index t = ![(grid0.coords t 0).val, (grid0.coords t 2).val, (grid0.coords t 1).val, 0, 0] :=
  (by decide +kernel : ∀ t : Fin grid0.N, _)

theorem blk0 (c : Dev nD) (t : Fin cfg0.N) (j : Fin 4) (a : Fin 128) (d : Fin 256)
    (hr : ((grid0.coords t 2).val * 4 + j.val) * 512 + (grid0.coords t 1).val * 128 + a.val < 8192) :
    iblk m c 0 t (ix5 0 j 0 a d) = m ((c : Thread nD τ).loc main_arg0)
      (ix3 (n0 := 2) (n1 := 8192) (n2 := 768) ⟨(grid0.coords t 0).val, (grid0.coords t 0).isLt⟩ ⟨((grid0.coords t 2).val * 4 + j.val) * 512 + (grid0.coords t 1).val * 128 + a.val, hr⟩ ⟨256 + d.val, by omega⟩) := by
  blk_simp [iblk, idx0 t]
  entry_read
  pointwise
  blk_ext [idx0 t]

theorem blk1 (c : Dev nD) (t : Fin cfg0.N) (j : Fin 4) (a : Fin 128) (d : Fin 256)
    (hr : ((grid0.coords t 2).val * 4 + j.val) * 512 + (grid0.coords t 1).val * 128 + a.val < 8192) :
    iblk m c 1 t (ix5 0 j 0 a d) = m ((c : Thread nD τ).loc main_arg1)
      (ix3 (n0 := 2) (n1 := 8192) (n2 := 768) ⟨(grid0.coords t 0).val, (grid0.coords t 0).isLt⟩ ⟨((grid0.coords t 2).val * 4 + j.val) * 512 + (grid0.coords t 1).val * 128 + a.val, hr⟩ ⟨256 + d.val, by omega⟩) := by
  blk_simp [iblk, idx1 t]
  entry_read
  pointwise
  blk_ext [idx1 t]

theorem blk2 (c : Dev nD) (t : Fin cfg0.N) (j : Fin 4) (a : Fin 128) (d : Fin 256)
    (hr : ((grid0.coords t 2).val * 4 + j.val) * 512 + (grid0.coords t 1).val * 128 + a.val < 8192) :
    iblk m c 2 t (ix5 0 j 0 a d) = m ((c : Thread nD τ).loc main_arg2)
      (ix3 (n0 := 2) (n1 := 8192) (n2 := 768) ⟨(grid0.coords t 0).val, (grid0.coords t 0).isLt⟩ ⟨((grid0.coords t 2).val * 4 + j.val) * 512 + (grid0.coords t 1).val * 128 + a.val, hr⟩ ⟨256 + d.val, by omega⟩) := by
  blk_simp [iblk, idx2 t]
  entry_read
  pointwise
  blk_ext [idx2 t]

theorem blk3 (c : Dev nD) (t : Fin cfg0.N) (a : Fin 128) (d : Fin 256)
    (hr : ((grid0.coords t 2).val * 4 - 1) * 512 + (grid0.coords t 1).val * 128 + a.val < 8192) :
    iblk m c 3 t (ix5 0 0 0 a d) = m ((c : Thread nD τ).loc main_arg1)
      (ix3 (n0 := 2) (n1 := 8192) (n2 := 768) ⟨(grid0.coords t 0).val, (grid0.coords t 0).isLt⟩ ⟨((grid0.coords t 2).val * 4 - 1) * 512 + (grid0.coords t 1).val * 128 + a.val, hr⟩ ⟨256 + d.val, by omega⟩) := by
  blk_simp [iblk, idx3 t]
  entry_read
  pointwise
  blk_ext [idx3 t]

theorem blk4 (c : Dev nD) (t : Fin cfg0.N) (a : Fin 128) (d : Fin 256)
    (hr : ((grid0.coords t 2).val * 4 - 1) * 512 + (grid0.coords t 1).val * 128 + a.val < 8192) :
    iblk m c 4 t (ix5 0 0 0 a d) = m ((c : Thread nD τ).loc main_arg2)
      (ix3 (n0 := 2) (n1 := 8192) (n2 := 768) ⟨(grid0.coords t 0).val, (grid0.coords t 0).isLt⟩ ⟨((grid0.coords t 2).val * 4 - 1) * 512 + (grid0.coords t 1).val * 128 + a.val, hr⟩ ⟨256 + d.val, by omega⟩) := by
  blk_simp [iblk, idx4 t]
  entry_read
  pointwise
  blk_ext [idx4 t]

end Cert.KernelIdeal.Blk

end
-- ==== Proof.Ref.lean ====
/-
  The reference at an index: softmax attention over the 129 keys of a query.
-/
module

public import proofs.«01_k».proof.Proof.Gen.ReferenceIdeal.Read
public import Idealize.ShloMosaic.Lib.Pointwise
public import proofs.«01_k».proof.Proof.Band

@[expose] public section

set_option maxRecDepth 16384

noncomputable section

namespace Cert.ReferenceIdeal.At

open Idealize.ShloMosaic Idealize.ShloMosaic.TcCoe Cert.ReferenceIdeal Cert.ReferenceIdeal.Gen Cert.ReferenceIdeal.Read Cert.Band
open Idealize.ShloMosaic.Pointwise

/-- An argument's array. -/
abbrev Arr := FVec Ideal S2x8192x768 .bf16

/-- The row of the flat array that holds position `p`. -/
def rowOf (p : ℕ) : ℕ := p / 512 * 512 + p % 4 * 128 + p / 4 % 128

theorem rowOf_lt {p : ℕ} (h : p < 8192) : rowOf p < 8192 := by unfold rowOf; omega

/-- The group's lane `d` of head `h` at position `p`. -/
def lane (x : Arr) (b : Fin 2) (p : Fin 8192) (h : Fin 4) (d : Fin 64) : EReal :=
  x (ix3 b ⟨rowOf p.val, rowOf_lt p.isLt⟩ ⟨256 + (h.val * 64 + d.val), by omega⟩)

/-- Key `j`'s row in the array extended by 512 zero rows. -/
def rel (p : Fin 8192) (j : Fin 129) : Fin 8704 := ⟨p.val + 512 - 4 * j.val, by omega⟩

/-- The extended array. -/
def ext (x : Arr) (b : Fin 2) (t : Fin 8704) (h : Fin 4) (d : Fin 64) : EReal :=
  if ht : t.val < 512 then 0 else lane x b ⟨t.val - 512, by omega⟩ h d

/-- The scores of a query. -/
def sc (q k : Arr) (b : Fin 2) (p : Fin 8192) (h : Fin 4) (j : Fin 129) : EReal :=
  if 512 ≤ (rel p j).val then ∑ d : Fin 64, lane q b p h d * ext k b (rel p j) h d else ⊥

theorem v4_apply (x : Arr) (b : Fin 2) (p : Fin 8192) (h : Fin 4) (d : Fin 64) :
    val_main_v4 (F := Ideal) x (ix4 b p h d) = lane x b p h d := by
  unfold lane
  pointwise [val_main_v4, val_main_v3, val_main_v2, val_main_v1, val_main_v0]
  rfl

theorem v10_eq : val_main_v10 (F := Ideal) = val_main_v4 (F := Ideal) := rfl
theorem v17_eq : val_main_v17 (F := Ideal) = val_main_v11 (F := Ideal) := rfl
theorem v28_eq : val_main_v28 (F := Ideal) = val_main_v26 (F := Ideal) := rfl

theorem v11_apply (x : Arr) (b : Fin 2) (t : Fin 8704) (h : Fin 4) (d : Fin 64) :
    val_main_v11 (F := Ideal) x (ix4 b t h d) = ext x b t h d := by
  pointwise [val_main_v11, val_main_v5, val_main_cst]
  unfold ext
  simp only [v10_eq, v4_apply]

theorem v24_apply (p : Fin 8192) (j : Fin 129) :
    val_main_v24 (F := Ideal) (ix2 p j) = BitVec.ofNat 32 (rel p j).val := by
  pointwise [val_main_v24, val_main_v23, val_main_v22, val_main_v21, val_main_v20, val_main_v19, val_main_v18, val_main_c, val_main_c_0]
  apply BitVec.eq_of_toNat_eq
  have h1 := p.isLt
  have h2 := j.isLt
  simp only [IntOp.subi, IntOp.addi, IntOp.muli, rel, BitVec.toNat_sub, BitVec.toNat_add, BitVec.toNat_mul, BitVec.toNat_ofNat]
  omega

theorem v26_apply (x : Arr) (b : Fin 2) (p : Fin 8192) (j : Fin 129) (h : Fin 4) (d : Fin 64) :
    val_main_v26 (F := Ideal) x (ix5 b p j h d) = ext x b (rel p j) h d := by
  rw [← v11_apply]
  unfold val_main_v26 Host.gather
  congr 1
  funext a
  refine Fin.ext ?_
  show GatherDims.start _ _ _ a + GatherDims.batchCoord _ _ a + GatherDims.offCoord _ _ a = _
  rw [GatherDims.batchCoord_eq_zero _ _ _ List.not_mem_nil]
  have ha : a = 0 ∨ a = 1 ∨ a = 2 ∨ a = 3 := by
    match a with
    | ⟨0, _⟩ => exact .inl rfl
    | ⟨1, _⟩ => exact .inr (.inl rfl)
    | ⟨2, _⟩ => exact .inr (.inr (.inl rfl))
    | ⟨3, _⟩ => exact .inr (.inr (.inr rfl))
  rcases ha with rfl | rfl | rfl | rfl
  · unfold GatherDims.start
    rw [dif_neg (by decide)]
    unfold GatherDims.offCoord
    rw [dif_pos (by decide)]
    simp only [Nat.zero_add, Nat.add_zero]
    rfl
  · rw [GatherDims.offCoord_eq_zero _ _ _ (by decide)]
    unfold GatherDims.start
    rw [dif_pos (by decide)]
    have hsi : GatherDims.siIdx gather_S2x8704x4x64_S8192x129x1_S2x8192x129x4x64_034_1_n_n_1_2_21464 (ix5 b p j h d) ⟨List.idxOf (1 : Fin 4) [1],
        List.idxOf_lt_length_iff.2 (List.mem_singleton.mpr rfl)⟩ = ix3 p j 0 := by
      funext b; refine Fin.ext ?_
      match b with
      | ⟨0, _⟩ => rfl
      | ⟨1, _⟩ => rfl
      | ⟨2, _⟩ => rfl
    have hw : val_main_v25 (F := Ideal) (ix3 p j 0) = BitVec.ofNat 32 (rel p j).val := by
      rw [← v24_apply]
      pointwise [val_main_v25]
    simp only [Nat.add_zero]
    show min (BitVec.toInt (val_main_v25 (F := Ideal) (GatherDims.siIdx gather_S2x8704x4x64_S8192x129x1_S2x8192x129x4x64_034_1_n_n_1_2_21464 (ix5 b p j h d) ⟨List.idxOf (1 : Fin 4) [1],
        List.idxOf_lt_length_iff.2 (List.mem_singleton.mpr rfl)⟩))).toNat (8704 - 1) = (rel p j).val
    rw [hsi, hw]
    have h1 := (rel p j).isLt
    generalize (rel p j).val = n at h1 ⊢
    have h2 : (BitVec.ofNat 32 n).toInt = n := by
      rw [BitVec.toInt_eq_toNat_of_lt (by rw [BitVec.toNat_ofNat]; omega), BitVec.toNat_ofNat]
      omega
    rw [h2]; omega
  · unfold GatherDims.start
    rw [dif_neg (by decide)]
    unfold GatherDims.offCoord
    rw [dif_pos (by decide)]
    simp only [Nat.zero_add, Nat.add_zero]
    rfl
  · unfold GatherDims.start
    rw [dif_neg (by decide)]
    unfold GatherDims.offCoord
    rw [dif_pos (by decide)]
    simp only [Nat.zero_add, Nat.add_zero]
    rfl

theorem v33_apply (q k : Arr) (b : Fin 2) (p : Fin 8192) (h : Fin 4) (j : Fin 129) :
    val_main_v33 (F := Ideal) q k (ix4 b p h j) = sc q k b p h j := by
  unfold sc
  pointwise [val_main_v33, val_main_v29, val_main_call0_v1, val_main_call0_v2, val_main_call0_v0, val_main_v32, val_main_v31, val_main_v30, val_main_c_1]
  have hb : id (val_main_cst_2 (F := Ideal)) ix0 = ⊥ := by
    show Ideal.ofBits FTy.f32 4286578688#32 = ⊥
    simp [Ideal.ofBits, Ideal.ieee]
  have hc : IntOp.cmpi CmpIPredicate.sge (val_main_v24 (F := Ideal) (ix2 p j)) 512#32 = if 512 ≤ (rel p j).val then 1#1 else 0#1 := by
    rw [v24_apply]
    have h1 := (rel p j).isLt
    generalize (rel p j).val = n at h1 ⊢
    have h2 : (BitVec.ofNat 32 n).toInt = n := by
      rw [BitVec.toInt_eq_toNat_of_lt (by rw [BitVec.toNat_ofNat]; omega), BitVec.toNat_ofNat]
      omega
    have h3 : (512#32).toInt = 512 := rfl
    simp only [IntOp.cmpi, BitVec.sle, h2, h3]
    by_cases h4 : 512 ≤ n
    · rw [if_pos h4, decide_eq_true (by exact_mod_cast h4)]; rfl
    · rw [if_neg h4, decide_eq_false (by exact_mod_cast h4)]; rfl
  simp only [hb, hc, v4_apply, v26_apply]
  split
  · rfl
  · rfl

theorem v34_apply (q k : Arr) (b : Fin 2) (p : Fin 8192) (h : Fin 4) :
    val_main_v34 (F := Ideal) q k (ix3 b p h) = smax (sc q k b p h) := by
  pointwise [val_main_v34, val_main_cst_3]
  simp only [v33_apply]
  rw [show Ideal.ofBits FTy.f32 4286578688#32 = ⊥ by simp [Ideal.ofBits, Ideal.ieee]]
  rfl

theorem v38_apply (q k : Arr) (b : Fin 2) (p : Fin 8192) (h : Fin 4) (j : Fin 129) :
    val_main_v38 (F := Ideal) q k (ix4 b p h j) = wgt (sc q k b p h) j := by
  pointwise [val_main_v38, val_main_v37, val_main_v36, val_main_v35]
  rw [v33_apply, v34_apply]
  rfl

theorem v39_apply (q k : Arr) (b : Fin 2) (p : Fin 8192) (h : Fin 4) :
    val_main_v39 (F := Ideal) q k (ix3 b p h) = den (sc q k b p h) := by
  pointwise [val_main_v39, val_main_cst_4]
  simp only [v38_apply]
  rfl

theorem v43_apply (q k v : Arr) (b : Fin 2) (p : Fin 8192) (h : Fin 4) (d : Fin 64) :
    val_main_v43 (F := Ideal) q k v (ix4 b p h d)
      = Ideal.div (num (sc q k b p h) (fun j => ext v b (rel p j) h d)) (den (sc q k b p h)) := by
  pointwise [val_main_v43, val_main_v42, val_main_v41, val_main_v40]
  simp only [v28_eq, v38_apply, v39_apply, v26_apply]
  rfl

/-- The position of row `r` of residue `i` in tile `t`. -/
def pos (t : Fin 16) (i : Fin 4) (r : Fin 128) : Fin 8192 := ⟨t.val * 512 + r.val * 4 + i.val, by omega⟩

theorem out0_apply (q k v : Arr) (b : Fin 2) (t : Fin 16) (i : Fin 4) (r : Fin 128) (h : Fin 4) (d : Fin 64) :
    val_main_v48 (F := Ideal) q k v (ix5 b t i r ⟨h.val * 64 + d.val, by omega⟩)
      = Ideal.div (num (sc q k b (pos t i r) h) (fun j => ext v b (rel (pos t i r) j) h d)) (den (sc q k b (pos t i r) h)) := by
  rw [← v43_apply]
  pointwise [val_main_v48, val_main_v47, val_main_v46]
  rfl

theorem add_log (x y : FVec Ideal S2x8192x4 .f32) (i : S2x8192x4.Idx) :
    addf x (Host.log y) i = x i + Ideal.log (y i) := rfl

theorem v45_apply (q k : Arr) (b : Fin 2) (p : Fin 8192) (h : Fin 4) :
    val_main_v45 (F := Ideal) q k (ix3 b p h) = smax (sc q k b p h) + Ideal.log (den (sc q k b p h)) := by
  rw [← v34_apply, ← v39_apply]
  unfold val_main_v45 val_main_v44
  exact add_log _ _ _

theorem v50_apply (q k : Arr) (b : Fin 2) (t : Fin 16) (i : Fin 4) (r : Fin 128) (h : Fin 4) :
    val_main_v50 (F := Ideal) q k (ix5 b t i r h)
      = smax (sc q k b (pos t i r) h) + Ideal.log (den (sc q k b (pos t i r) h)) := by
  have hi : idx_main_v49 (idx_main_v50 (ix5 b t i r h)) = ix3 b (pos t i r) h := by
    have h1 := b.isLt
    have h2 := t.isLt
    have h3 := i.isLt
    have h4 := r.isLt
    have h5 := h.isLt
    funext a
    match a with
    | ⟨0, _⟩ => apply Fin.ext; show ((((b.val * 16 + t.val) * 128 + r.val) * 4 + i.val) * 4 + h.val) / 32768 = b.val; omega
    | ⟨1, _⟩ => apply Fin.ext; show ((((b.val * 16 + t.val) * 128 + r.val) * 4 + i.val) * 4 + h.val) / 4 % 8192 = t.val * 512 + r.val * 4 + i.val; omega
    | ⟨2, _⟩ => apply Fin.ext; show ((((b.val * 16 + t.val) * 128 + r.val) * 4 + i.val) * 4 + h.val) % 4 = h.val; omega
  rw [val_main_v50_apply, val_main_v49_apply, hi, v45_apply]

theorem v51_apply (b : Fin 2) (t : Fin 16) (i : Fin 4) (r : Fin 128) (l : Fin 124) :
    val_main_v51 (F := Ideal) (ix5 b t i r l) = 0 := by
  rw [val_main_v51_apply]
  exact Ideal.ofBits_zero_f32

theorem out1_apply (q k : Arr) (b : Fin 2) (t : Fin 16) (i : Fin 4) (r : Fin 128) (l : Fin 128) :
    val_main_v52 (F := Ideal) q k (ix5 b t i r l)
      = if hl : l.val < 4 then smax (sc q k b (pos t i r) ⟨l.val, hl⟩) + Ideal.log (den (sc q k b (pos t i r) ⟨l.val, hl⟩)) else 0 := by
  unfold val_main_v52
  split
  · rename_i hl
    refine (concatenate_pair_apply_left (t := S2x16x4x128x128) (s₁ := S2x16x4x128x4) (s₂ := S2x16x4x128x124) 4 _ _ _ (ix5 b t i r l) rfl (ix5 b t i r ⟨l.val, hl⟩) ?_).trans (v50_apply q k b t i r ⟨l.val, hl⟩)
    intro a
    match a with
    | ⟨0, _⟩ => rfl
    | ⟨1, _⟩ => rfl
    | ⟨2, _⟩ => rfl
    | ⟨3, _⟩ => rfl
    | ⟨4, _⟩ => rfl
  · rename_i hl
    refine (concatenate_pair_apply_right (t := S2x16x4x128x128) (s₁ := S2x16x4x128x4) (s₂ := S2x16x4x128x124) 4 _ _ _ (ix5 b t i r l) rfl rfl (ix5 b t i r ⟨l.val - 4, by omega⟩) ?_ ?_).trans (v51_apply b t i r ⟨l.val - 4, by omega⟩)
    · intro a ha
      match a with
      | ⟨0, _⟩ => rfl
      | ⟨1, _⟩ => rfl
      | ⟨2, _⟩ => rfl
      | ⟨3, _⟩ => rfl
      | ⟨4, _⟩ => exact absurd rfl ha
    · show l.val - 4 + 4 = l.val
      omega

end Cert.ReferenceIdeal.At

end
-- ==== Proof.Asm.lean ====
/-
  Each block's rows are the reference's queries: the kernel's scores over 256 columns are the query's scores over its
  129 keys, and the bias where there is no key.
-/
module

public import proofs.«01_k».proof.Proof.Rows
public import proofs.«01_k».proof.Proof.Ref

@[expose] public section

set_option maxRecDepth 16384

noncomputable section

namespace Cert.KernelIdeal.Blk

open Idealize.ShloMosaic Idealize.ShloMosaic.TcCoe Cert.KernelIdeal Cert.KernelIdeal.Gen Cert.Band
open Idealize.ShloMosaic.Pointwise
open Cert.ReferenceIdeal.At (Arr rowOf lane rel ext sc pos)

variable (m : (ℓ : Loc nD τ sig) → Buf (Elt Ideal) ℓ) (c : Dev nD) (t : Fin cfg0.N)

def Q : Arr := m ((c : Thread nD τ).loc main_arg0)
def K : Arr := m ((c : Thread nD τ).loc main_arg1)
def W : Arr := m ((c : Thread nD τ).loc main_arg2)

/-- The grid point's batch, residue and block of four tiles. -/
def gb : Fin 2 := ⟨(grid0.coords t 0).val, (grid0.coords t 0).isLt⟩
def gi : Fin 4 := ⟨(grid0.coords t 1).val, (grid0.coords t 1).isLt⟩
def gn : Fin 4 := ⟨(grid0.coords t 2).val, (grid0.coords t 2).isLt⟩
/-- Its `j`-th tile. -/
def gt (j : Fin 4) : Fin 16 := ⟨(gn t).val * 4 + j.val, by omega⟩

def q94 : FVec Ideal S512x256 .bf16 := k0_pay94 (grid0.coords t) (iblk m c 0 t) (iblk m c 1 t) (iblk m c 2 t) (iblk m c 3 t) (iblk m c 4 t) (iblk m c 5 t) (iblk m c 6 t) (iblk m c 7 t) (iblk m c 8 t)
def k95 : FVec Ideal S640x256 .bf16 := k0_pay95 (grid0.coords t) (iblk m c 0 t) (iblk m c 1 t) (iblk m c 2 t) (iblk m c 3 t) (iblk m c 4 t) (iblk m c 5 t) (iblk m c 6 t) (iblk m c 7 t) (iblk m c 8 t)
def v96 : FVec Ideal S640x256 .bf16 := k0_pay96 (grid0.coords t) (iblk m c 0 t) (iblk m c 1 t) (iblk m c 2 t) (iblk m c 3 t) (iblk m c 4 t) (iblk m c 5 t) (iblk m c 6 t) (iblk m c 7 t) (iblk m c 8 t)
/-- The bias of block `j`. -/
def bias (j : Fin 4) : FVec Ideal S128x256 .f32 :=
  if j = 0 then k0_pay101 (grid0.coords t) (iblk m c 0 t) (iblk m c 1 t) (iblk m c 2 t) (iblk m c 3 t) (iblk m c 4 t) (iblk m c 5 t) (iblk m c 6 t) (iblk m c 7 t) (iblk m c 8 t)
  else k0_pay100 (grid0.coords t) (iblk m c 0 t) (iblk m c 1 t) (iblk m c 2 t) (iblk m c 3 t) (iblk m c 4 t) (iblk m c 5 t) (iblk m c 6 t) (iblk m c 7 t) (iblk m c 8 t)

theorem q_apply (j : Fin 4) (a : Fin 128) (h : Fin 4) (d : Fin 64) :
    qSl (q94 m c t) j (ix2 a ⟨h.val * 64 + d.val, by omega⟩) = lane (Q m c) (gb t) (pos (gt t j) (gi t) a) h d := by
  rw [qSl_apply, q94, pay94_apply]
  have h2 := (gn t).isLt
  have h1 := (gi t).isLt
  simp only [gn, gi] at h1 h2
  have e : (ix5 0 ⟨(j.val * 128 + a.val) / 128, by omega⟩ 0 ⟨(j.val * 128 + a.val) % 128, by omega⟩ ⟨h.val * 64 + d.val, by omega⟩ : S1x4x1x128x256.Idx)
      = ix5 0 j 0 a ⟨h.val * 64 + d.val, by omega⟩ := by blk_ext []
  refine (congrArg _ e).trans ?_
  rw [blk0 m c t j a _ (by omega)]
  unfold lane Q
  congr 1
  have : rowOf (pos (gt t j) (gi t) a).val = ((grid0.coords t 2).val * 4 + j.val) * 512 + (grid0.coords t 1).val * 128 + a.val := by
    simp only [rowOf, pos, gt, gi, gn]; omega
  simp only [this, gb]

/-- The position of key column `c` of block `j`, where there is one. -/
theorem key_row (j : Fin 4) (cc : Fin 256) (hv : ¬((gn t).val = 0 ∧ j.val = 0 ∧ cc.val < 128)) (h : Fin 4) (d : Fin 64)
    (p : Fin 8192) (hp : p.val + 512 = (gt t j).val * 512 + 4 * cc.val + (gi t).val) :
    kSl (k95 m c t) j (ix2 cc ⟨h.val * 64 + d.val, by omega⟩) = lane (K m c) (gb t) p h d := by
  rw [kSl_apply, k95, pay95_apply]
  have h2 := (gn t).isLt
  have h1 := (gi t).isLt
  simp only [gn, gi, gt] at h1 h2 hv hp
  split
  · rename_i hc
    dsimp only at hc
    rw [blk3 m c t _ _ (by dsimp only; omega)]
    unfold lane K
    congr 1
    have : rowOf p.val = ((grid0.coords t 2).val * 4 - 1) * 512 + (grid0.coords t 1).val * 128 + (j.val * 128 + cc.val) := by
      simp only [rowOf]; omega
    simp only [this, gb]
  · rename_i hc
    dsimp only at hc
    rw [blk1 m c t _ _ _ (by dsimp only; omega)]
    unfold lane K
    congr 1
    have : rowOf p.val = ((grid0.coords t 2).val * 4 + (j.val * 128 + cc.val - 128) / 128) * 512 + (grid0.coords t 1).val * 128 + (j.val * 128 + cc.val - 128) % 128 := by
      simp only [rowOf]; omega
    simp only [this, gb]

theorem val_row (j : Fin 4) (cc : Fin 256) (hv : ¬((gn t).val = 0 ∧ j.val = 0 ∧ cc.val < 128)) (h : Fin 4) (d : Fin 64)
    (p : Fin 8192) (hp : p.val + 512 = (gt t j).val * 512 + 4 * cc.val + (gi t).val) :
    kSl (v96 m c t) j (ix2 cc ⟨h.val * 64 + d.val, by omega⟩) = lane (W m c) (gb t) p h d := by
  rw [kSl_apply, v96, pay96_apply]
  have h2 := (gn t).isLt
  have h1 := (gi t).isLt
  simp only [gn, gi, gt] at h1 h2 hv hp
  split
  · rename_i hc
    dsimp only at hc
    rw [blk4 m c t _ _ (by dsimp only; omega)]
    unfold lane W
    congr 1
    have : rowOf p.val = ((grid0.coords t 2).val * 4 - 1) * 512 + (grid0.coords t 1).val * 128 + (j.val * 128 + cc.val) := by
      simp only [rowOf]; omega
    simp only [this, gb]
  · rename_i hc
    dsimp only at hc
    rw [blk2 m c t _ _ _ (by dsimp only; omega)]
    unfold lane W
    congr 1
    have : rowOf p.val = ((grid0.coords t 2).val * 4 + (j.val * 128 + cc.val - 128) / 128) * 512 + (grid0.coords t 1).val * 128 + (j.val * 128 + cc.val - 128) % 128 := by
      simp only [rowOf]; omega
    simp only [this, gb]

theorem bias_val (j : Fin 4) (a : Fin 128) (cc : Fin 256) :
    bias m c t j (ix2 a cc) = if (a.val ≤ cc.val ∧ cc.val ≤ a.val + 128) ∧ ¬((gn t).val = 0 ∧ j.val = 0 ∧ cc.val < 128) then (0 : EReal) else ⊥ := by
  unfold bias
  split
  · rename_i hj
    rw [bias0_apply]
    subst hj
    refine if_congr ?_ rfl rfl
    show (_ ∧ ((gn t).val = 0 → _)) ↔ (_ ∧ ¬((gn t).val = 0 ∧ 0 = 0 ∧ _))
    omega
  · rename_i hj
    rw [bias_apply]
    refine if_congr ?_ rfl rfl
    have : j.val ≠ 0 := fun h => hj (Fin.ext h)
    omega

/-- The scores of row `a` of block `j`, head `h`. -/
def S (j : Fin 4) (a : Fin 128) (h : Fin 4) (cc : Fin 256) : EReal :=
  bS (bias m c t j) (qSl (q94 m c t) j) (kSl (k95 m c t) j) (ix2 ⟨h.val * 128 + a.val, by omega⟩ cc)

theorem S_eq (j : Fin 4) (a : Fin 128) (h : Fin 4) (cc : Fin 256) :
    S m c t j a h cc = (∑ d : Fin 64, lane (Q m c) (gb t) (pos (gt t j) (gi t) a) h d * kSl (k95 m c t) j (ix2 cc ⟨h.val * 64 + d.val, by omega⟩))
      + (if (a.val ≤ cc.val ∧ cc.val ≤ a.val + 128) ∧ ¬((gn t).val = 0 ∧ j.val = 0 ∧ cc.val < 128) then (0 : EReal) else ⊥) := by
  unfold S
  rw [bS_apply, rowS, bias_val]
  simp only [q_apply]

/-- The column of key `jj` in row `a`. -/
def col (a : Fin 128) (jj : Fin 129) : Fin 256 := ⟨a.val + 128 - jj.val, by omega⟩

theorem col_inj (a : Fin 128) : Function.Injective (col a) := by
  intro x y h
  have := congrArg Fin.val h
  simp only [col] at this
  apply Fin.ext; omega

theorem S_out (j : Fin 4) (a : Fin 128) (h : Fin 4) (cc : Fin 256) (hc : cc ∉ Set.range (col a)) : S m c t j a h cc = ⊥ := by
  rw [S_eq, if_neg, EReal.add_bot]
  rintro ⟨⟨h1, h2⟩, -⟩
  exact hc ⟨⟨a.val + 128 - cc.val, by omega⟩, Fin.ext (by simp only [col]; omega)⟩

theorem valid_iff (j : Fin 4) (a : Fin 128) (jj : Fin 129) :
    512 ≤ (rel (pos (gt t j) (gi t) a) jj).val ↔ ¬((gn t).val = 0 ∧ j.val = 0 ∧ (col a jj).val < 128) := by
  have h2 := (gn t).isLt
  have h1 := (gi t).isLt
  simp only [rel, pos, gt, col]
  omega

theorem rel_val (j : Fin 4) (a : Fin 128) (jj : Fin 129) :
    (rel (pos (gt t j) (gi t) a) jj).val = (gt t j).val * 512 + 4 * (col a jj).val + (gi t).val := by
  simp only [rel, pos, col]
  omega

theorem S_in (j : Fin 4) (a : Fin 128) (h : Fin 4) (jj : Fin 129) :
    S m c t j a h (col a jj) = sc (Q m c) (K m c) (gb t) (pos (gt t j) (gi t) a) h jj := by
  rw [S_eq, sc]
  by_cases hv : 512 ≤ (rel (pos (gt t j) (gi t) a) jj).val
  · rw [if_pos hv, if_pos ⟨by simp only [col]; omega, (valid_iff t j a jj).mp hv⟩, add_zero]
    refine Finset.sum_congr rfl fun d _ => ?_
    congr 1
    rw [ext, dif_neg (by omega)]
    exact key_row m c t j (col a jj) ((valid_iff t j a jj).mp hv) h d _ (by have := rel_val t j a jj; dsimp only; omega)
  · rw [if_neg hv, if_neg, EReal.add_bot]
    exact fun hh => hv ((valid_iff t j a jj).mpr hh.2)

theorem V_in (j : Fin 4) (a : Fin 128) (h : Fin 4) (d : Fin 64) (jj : Fin 129) :
    sc (Q m c) (K m c) (gb t) (pos (gt t j) (gi t) a) h jj = ⊥ ∨
    kSl (v96 m c t) j (ix2 (col a jj) ⟨h.val * 64 + d.val, by omega⟩) = ext (W m c) (gb t) (rel (pos (gt t j) (gi t) a) jj) h d := by
  by_cases hv : 512 ≤ (rel (pos (gt t j) (gi t) a) jj).val
  · right
    rw [ext, dif_neg (by omega)]
    exact val_row m c t j (col a jj) ((valid_iff t j a jj).mp hv) h d _ (by have := rel_val t j a jj; dsimp only; omega)
  · left
    rw [sc, if_neg hv]

theorem max_eq (j : Fin 4) (a : Fin 128) (h : Fin 4) :
    smax (S m c t j a h) = smax (sc (Q m c) (K m c) (gb t) (pos (gt t j) (gi t) a) h) :=
  smax_range (col a) _ _ (S_in m c t j a h) (S_out m c t j a h)

theorem den_eq (j : Fin 4) (a : Fin 128) (h : Fin 4) :
    den (S m c t j a h) = den (sc (Q m c) (K m c) (gb t) (pos (gt t j) (gi t) a) h) :=
  den_range (col a) (col_inj a) _ _ (S_in m c t j a h) (S_out m c t j a h)

theorem num_eq (j : Fin 4) (a : Fin 128) (h : Fin 4) (d : Fin 64) :
    num (S m c t j a h) (fun cc => kSl (v96 m c t) j (ix2 cc ⟨h.val * 64 + d.val, by omega⟩))
      = num (sc (Q m c) (K m c) (gb t) (pos (gt t j) (gi t) a) h) (fun jj => ext (W m c) (gb t) (rel (pos (gt t j) (gi t) a) jj) h d) :=
  num_range (col a) (col_inj a) _ _ _ _ (S_in m c t j a h) (S_out m c t j a h) (V_in m c t j a h d)

/-- The arguments are finite numbers. -/
def Finite (x : Arr) : Prop := ∀ i, Fin' (x i)

theorem den_pos (hq : Finite (Q m c)) (hk : Finite (K m c)) (b : Fin 2) (p : Fin 8192) (h : Fin 4) :
    den (sc (Q m c) (K m c) b p h) ≠ 0 := by
  have hl : ∀ x, Finite x → ∀ p h d, Fin' (lane x b p h d) := fun x hx p h d => hx _
  have he : ∀ r h d, Fin' (ext (K m c) b r h d) := by
    intro r h d
    unfold ext
    split
    · exact Fin'.zero
    · exact hl _ hk _ _ _
  have hs : ∀ jj, Fin' (∑ d : Fin 64, lane (Q m c) b p h d * ext (K m c) b (rel p jj) h d) := fun jj =>
    Fin'.sum fun d => (hl _ hq _ _ _).mul (he _ _ _)
  refine den_ne_zero _ (fun jj => ?_) 0 ?_
  · unfold sc
    split
    · exact (hs jj).2
    · exact bot_ne_top
  · unfold sc
    rw [if_pos (by simp [rel])]
    exact (hs 0).1

theorem o_block (hq : Finite (Q m c)) (hk : Finite (K m c)) (j : Fin 4) (a : Fin 128) (h : Fin 4) (d : Fin 64) :
    bO (bias m c t j) (qSl (q94 m c t) j) (kSl (k95 m c t) j) (kSl (v96 m c t) j) (ix2 a ⟨h.val * 64 + d.val, by omega⟩)
      = Cert.ReferenceIdeal.Read.val_main_v48 (F := Ideal) (Q m c) (K m c) (W m c) (ix5 (gb t) (gt t j) (gi t) a ⟨h.val * 64 + d.val, by omega⟩) := by
  rw [bO_apply, bN_apply, Cert.ReferenceIdeal.At.out0_apply]
  have h1 := den_eq m c t j a h
  have h2 := num_eq m c t j a h d
  unfold S at h1 h2
  rw [h1, h2, mul_div_one _ _ (den_pos m c hq hk _ _ _)]

theorem l_block (j : Fin 4) (a : Fin 128) (l : Fin 128) :
    bL (bias m c t j) (qSl (q94 m c t) j) (kSl (k95 m c t) j) (ix2 a l)
      = Cert.ReferenceIdeal.Read.val_main_v52 (F := Ideal) (Q m c) (K m c) (ix5 (gb t) (gt t j) (gi t) a l) := by
  rw [bL_apply, Cert.ReferenceIdeal.At.out1_apply]
  split
  · rename_i hl
    rw [bM_apply, bD_apply]
    have h1 := den_eq m c t j a ⟨l.val, hl⟩
    have h2 := max_eq m c t j a ⟨l.val, hl⟩
    unfold S at h1 h2
    rw [h1, h2]
  · rfl

theorem o_piece (hq : Finite (Q m c)) (hk : Finite (K m c)) (j : Fin 4) (x : S1x1x1x128x256.Idx) (y : S1x4x1x128x256.Idx)
    (h1 : (y 1).val = j.val) (h3 : (y 3).val = (x 3).val) (h4 : (y 4).val = (x 4).val) :
    k0_pay30 (bO (bias m c t j) (qSl (q94 m c t) j) (kSl (k95 m c t) j) (kSl (v96 m c t) j)) x
      = Cert.ReferenceIdeal.Read.val_main_v48 (F := Ideal) (Q m c) (K m c) (W m c) ((win0_9.blk t).view.emb y) := by
  have hx4 : (x 4).val < 256 := (x 4).isLt
  have e := o_block m c t hq hk j ⟨(x 3).val, (x 3).isLt⟩ ⟨(x 4).val / 64, by omega⟩ ⟨(x 4).val % 64, by omega⟩
  have e0 : ((x 4).val / 64) * 64 + (x 4).val % 64 = (x 4).val := by omega
  simp only [e0] at e
  pointwise [k0_pay30]
  refine e.trans ?_
  congr 1
  have e1 := (gn t).isLt
  simp only [gn, gt, gb, gi] at *
  blk_ext [idx9 t]

theorem l_piece (j : Fin 4) (x : S1x1x1x128x128.Idx) (y : S1x4x1x128x128.Idx)
    (h1 : (y 1).val = j.val) (h3 : (y 3).val = (x 3).val) (h4 : (y 4).val = (x 4).val) :
    k0_pay31 (bL (bias m c t j) (qSl (q94 m c t) j) (kSl (k95 m c t) j)) x
      = Cert.ReferenceIdeal.Read.val_main_v52 (F := Ideal) (Q m c) (K m c) ((win0_10.blk t).view.emb y) := by
  have e := l_block m c t j ⟨(x 3).val, (x 3).isLt⟩ ⟨(x 4).val, (x 4).isLt⟩
  pointwise [k0_pay31]
  refine e.trans ?_
  congr 1
  have e1 := (gn t).isLt
  simp only [gn, gt, gb, gi] at *
  blk_ext [idx10 t]

theorem arr9 (hq : Finite (Q m c)) (hk : Finite (K m c)) :
    (dats m 0 c).arrAt 9 cfg0.N = Cert.ReferenceIdeal.Read.val_main_v48 (F := Ideal) (Q m c) (K m c) (W m c) := by
  refine (dats m 0 c).arrAt_eq_of_covers 9 _ (by decide +kernel) fun t hf y => ?_
  blk_simp
  rw [after0_9, out9_eq]
  canon_tiles x h
  · exact o_piece m c t hq hk 3 x y (by show _ = 3; omega) h3 h4
  · exact o_piece m c t hq hk 2 x y (by show _ = 2; omega) h3 h4
  · exact o_piece m c t hq hk 1 x y (by show _ = 1; omega) h3 h4
  · exact o_piece m c t hq hk 0 x y (by show _ = 0; omega) h3 h4

theorem arr10 :
    (dats m 0 c).arrAt 10 cfg0.N = Cert.ReferenceIdeal.Read.val_main_v52 (F := Ideal) (Q m c) (K m c) := by
  refine (dats m 0 c).arrAt_eq_of_covers 10 _ (by decide +kernel) fun t hf y => ?_
  blk_simp
  rw [after0_10, out10_eq]
  canon_tiles x h
  · exact l_piece m c t 3 x y (by show _ = 3; omega) h3 h4
  · exact l_piece m c t 2 x y (by show _ = 2; omega) h3 h4
  · exact l_piece m c t 1 x y (by show _ = 1; omega) h3 h4
  · exact l_piece m c t 0 x y (by show _ = 0; omega) h3 h4

end Cert.KernelIdeal.Blk

end
-- ==== Proof.Cache.lean ====
/-
  The sample's window buffer after the step: the old one moved by a position, and the step's key and value at its end.
-/
module

public import proofs.«01_k».proof.Proof.Asm

@[expose] public section

set_option maxRecDepth 16384

noncomputable section

namespace Cert.KernelIdeal.Blk

open Idealize.ShloMosaic Idealize.ShloMosaic.TcCoe Cert.KernelIdeal Cert.KernelIdeal.Gen Cert.Band
open Idealize.ShloMosaic.Pointwise

theorem word_eq (a b : ℕ) (ha : a < 512) (hb : b < 512) :
    IntOp.cmpi .eq (BitVec.ofNat 32 a) (BitVec.ofNat 32 b) = if a = b then 1#1 else 0#1 := by
  have h : BitVec.ofNat 32 a = BitVec.ofNat 32 b ↔ a = b := by
    constructor
    · intro h
      have := congrArg BitVec.toNat h
      simp only [BitVec.toNat_ofNat] at this
      omega
    · rintro rfl; rfl
  have hb : (BitVec.ofNat 32 a == BitVec.ofNat 32 b) = decide (a = b) := by
    rw [Bool.eq_iff_iff]; simp only [beq_iff_eq, decide_eq_true_eq]; exact h
  by_cases e : a = b <;> simp [IntOp.cmpi, hb, e]

theorem pick_lo (a : Fin 256 → EReal) (l : Fin 256) (o o' : ℕ) (ho : o < 257) (ho' : o' < 257) :
    (∑ x : Fin 256, Scalar.select (IntOp.cmpi .eq (BitVec.ofNat 32 (o + l.val)) (BitVec.ofNat 32 (o' + x.val))) (a x) 0)
      = ∑ x : Fin 256, if o + l.val = o' + x.val then a x else 0 :=
  Finset.sum_congr rfl fun x _ => by rw [word_eq _ _ (by omega) (by omega), sel_if]

theorem pay92_lo (a b : FVec Ideal S1x256 .f32) (l : Fin 256) :
    k0_pay92 (F := Ideal) a b (ix2 ⟨l.val, by omega⟩ 0) = a (ix2 0 l) := by
  pointwise [k0_pay92]
  have e1 := pick_lo (fun x => a (ix2 0 x)) l 0 0 (by omega) (by omega)
  have e2 := pick_lo (fun x => b (ix2 0 x)) l 0 256 (by omega) (by omega)
  simp only [Nat.zero_add] at e1 e2
  refine (congrArg₂ (· + ·) e1 e2).trans ?_
  have h1 : (∑ x : Fin 256, if l.val = x.val then a (ix2 0 x) else 0) = a (ix2 0 l) := by
    simp only [← Fin.ext_iff, Finset.sum_ite_eq, Finset.mem_univ, if_true]
  have h2 : (∑ x : Fin 256, if l.val = 256 + x.val then b (ix2 0 x) else 0) = 0 :=
    Finset.sum_eq_zero fun x _ => if_neg (by omega)
  rw [h1, h2, add_zero]

theorem pay92_hi (a b : FVec Ideal S1x256 .f32) (l : Fin 256) :
    k0_pay92 (F := Ideal) a b (ix2 ⟨256 + l.val, by omega⟩ 0) = b (ix2 0 l) := by
  pointwise [k0_pay92]
  have e1 := pick_lo (fun x => a (ix2 0 x)) l 256 0 (by omega) (by omega)
  have e2 := pick_lo (fun x => b (ix2 0 x)) l 256 256 (by omega) (by omega)
  simp only [Nat.zero_add] at e1 e2
  refine (congrArg₂ (· + ·) e1 e2).trans ?_
  have h1 : (∑ x : Fin 256, if 256 + l.val = x.val then a (ix2 0 x) else 0) = 0 :=
    Finset.sum_eq_zero fun x _ => if_neg (by omega)
  have h2 : (∑ x : Fin 256, if 256 + l.val = 256 + x.val then b (ix2 0 x) else 0) = b (ix2 0 l) := by
    simp only [Nat.add_left_cancel_iff, ← Fin.ext_iff, Finset.sum_ite_eq, Finset.mem_univ, if_true]
  rw [h1, h2, zero_add]

theorem pay93_apply (v : FVec Ideal S512x512 .f32) (f : Fin 512) (w : Fin 511) :
    k0_pay93 (F := Ideal) v (ix2 f ⟨w.val, by omega⟩) = v (ix2 f ⟨w.val + 1, by omega⟩) := by
  pointwise [k0_pay93]
  congr 2
  exact Fin.ext (by show (w.val + 512 - 511) % 512 = w.val + 1; omega)

theorem pay3_last (a : FVec Ideal S512x1 .f32) (v : FVec Ideal S512x512 .f32) (f : Fin 512) :
    k0_pay3 (F := Ideal) a v (ix3 0 f 511) = a (ix2 f 0) := by
  pointwise [k0_pay3]

theorem pay3_rest (a : FVec Ideal S512x1 .f32) (v : FVec Ideal S512x512 .f32) (f : Fin 512) (w : Fin 511) :
    k0_pay3 (F := Ideal) a v (ix3 0 f ⟨w.val, by omega⟩) = v (ix2 f ⟨w.val, by omega⟩) := by
  pointwise [k0_pay3]
  rw [show (511#32 : BitVec 32) = BitVec.ofNat 32 511 from rfl, word_eq _ _ (by omega) (by omega), sel_if, if_neg (by omega)]

/-- The sample's new window buffer from the blocks. -/
def newCache (x6 x7 : Vec Ideal S1x1x256 .f32) (x8 : Vec Ideal S1x512x512 .f32) : FVec Ideal S1x512x512 .f32 :=
  k0_pay3 (k0_pay92 (k0_pay76 x6) (k0_pay77 x7)) (k0_pay93 (k0_pay74 x8))

theorem newCache_lo (x6 x7 : Vec Ideal S1x1x256 .f32) (x8 : Vec Ideal S1x512x512 .f32) (l : Fin 256) :
    newCache x6 x7 x8 (ix3 0 ⟨l.val, by omega⟩ 511) = x6 (ix3 0 0 l) := by
  unfold newCache
  rw [pay3_last, pay92_lo]
  pointwise [k0_pay76]

theorem newCache_hi (x6 x7 : Vec Ideal S1x1x256 .f32) (x8 : Vec Ideal S1x512x512 .f32) (l : Fin 256) :
    newCache x6 x7 x8 (ix3 0 ⟨256 + l.val, by omega⟩ 511) = x7 (ix3 0 0 l) := by
  unfold newCache
  rw [pay3_last, pay92_hi]
  pointwise [k0_pay77]

theorem newCache_rest (x6 x7 : Vec Ideal S1x1x256 .f32) (x8 : Vec Ideal S1x512x512 .f32) (f : Fin 512) (w : Fin 511) :
    newCache x6 x7 x8 (ix3 0 f ⟨w.val, by omega⟩) = x8 (ix3 0 f ⟨w.val + 1, by omega⟩) := by
  unfold newCache
  rw [pay3_rest, pay93_apply]
  pointwise [k0_pay74]

theorem out13_eq (i : grid0.Coords) (x0 x1 x2 : Vec Ideal S1x4x1x128x256 .bf16) (x3 x4 : Vec Ideal S1x1x1x128x256 .bf16) (x5 : Vec Ideal S1x1x256 .bf16)
    (x6 x7 : Vec Ideal S1x1x256 .f32) (x8 : Vec Ideal S1x512x512 .f32) :
    out0_13 i x0 x1 x2 x3 x4 x5 x6 x7 x8 = newCache x6 x7 x8 := by
  unfold_out out0_13
  frame_out
  rfl

variable (m : (ℓ : Loc nD τ sig) → Buf (Elt Ideal) ℓ) (c : Dev nD) (t : Fin cfg0.N)

theorem t_lt : t.val < 32 := t.isLt

theorem idx6 : ∀ t : Fin cfg0.N, win0_6.index t = ![t.val, 0, 1] := (by decide +kernel : ∀ t : Fin grid0.N, _)
theorem idx7 : ∀ t : Fin cfg0.N, win0_7.index t = ![t.val, 0, 4] := (by decide +kernel : ∀ t : Fin grid0.N, _)
theorem idx8 : ∀ t : Fin cfg0.N, win0_8.index t = ![t.val, 0, 0] := (by decide +kernel : ∀ t : Fin grid0.N, _)
theorem idx13 : ∀ t : Fin cfg0.N, win0_13.index t = ![t.val, 0, 0] := (by decide +kernel : ∀ t : Fin grid0.N, _)

def KV : FVec Ideal S32x1536 .f32 := m ((c : Thread nD τ).loc main_arg4)
def CA : FVec Ideal S1x32x512x2x4x64 .f32 := m ((c : Thread nD τ).loc main_arg5)

theorem blk6 (l : Fin 256) (ht : t.val < 32) :
    iblk m c 6 t (ix3 0 0 l) = KV m c (ix2 (n0 := 32) (n1 := 1536) ⟨t.val, ht⟩ ⟨256 + l.val, by omega⟩) := by
  blk_simp [iblk, idx6 t]
  entry_read
  pointwise
  unfold KV
  blk_ext [idx6 t]
theorem blk7 (l : Fin 256) (ht : t.val < 32) :
    iblk m c 7 t (ix3 0 0 l) = KV m c (ix2 (n0 := 32) (n1 := 1536) ⟨t.val, ht⟩ ⟨1024 + l.val, by omega⟩) := by
  blk_simp [iblk, idx7 t]
  entry_read
  pointwise
  unfold KV
  blk_ext [idx7 t]
theorem blk8 (s : Fin 2) (h : Fin 4) (d : Fin 64) (w : Fin 512) (ht : t.val < 32) :
    iblk m c 8 t (ix3 0 ⟨s.val * 256 + h.val * 64 + d.val, by omega⟩ w) = CA m c (ix6 0 ⟨t.val, ht⟩ w s h d) := by
  blk_simp [iblk, idx8 t]
  entry_read
  pointwise
  unfold CA
  blk_ext [idx8 t]

end Cert.KernelIdeal.Blk

namespace Cert.ReferenceIdeal.At

open Idealize.ShloMosaic Idealize.ShloMosaic.TcCoe Cert.ReferenceIdeal Cert.ReferenceIdeal.Gen Cert.ReferenceIdeal.Read
open Idealize.ShloMosaic.Pointwise

variable (kv : FVec Ideal S32x1536 .f32) (ca : FVec Ideal S1x32x512x2x4x64 .f32)

theorem v60_old (b : Fin 32) (w : Fin 512) (s : Fin 2) (h : Fin 4) (d : Fin 64) :
    val_main_v60 (F := Ideal) kv ca (ix5 b ⟨w.val, by omega⟩ s h d) = ca (ix6 0 b w s h d) := by
  pointwise [val_main_v60, val_main_v59]

theorem v60_key (b : Fin 32) (h : Fin 4) (d : Fin 64) :
    val_main_v60 (F := Ideal) kv ca (ix5 b ⟨512 + 0, by omega⟩ 0 h d) = kv (ix2 b ⟨256 + (h.val * 64 + d.val), by omega⟩) := by
  pointwise [val_main_v60, val_main_v58, val_main_v57, val_main_v55, val_main_v53]
  done

theorem v60_value (b : Fin 32) (h : Fin 4) (d : Fin 64) :
    val_main_v60 (F := Ideal) kv ca (ix5 b ⟨512 + 0, by omega⟩ 1 h d) = kv (ix2 b ⟨1024 + (h.val * 64 + d.val), by omega⟩) := by
  pointwise [val_main_v60, val_main_v58, val_main_v57, val_main_v56, val_main_v54]
  done

theorem v63_rest (b : Fin 32) (s : Fin 2) (h : Fin 4) (d : Fin 64) (w : Fin 511) :
    val_main_v63 (F := Ideal) kv ca (ix3 b ⟨s.val * 256 + h.val * 64 + d.val, by omega⟩ ⟨w.val, by omega⟩)
      = ca (ix6 0 b ⟨w.val + 1, by omega⟩ s h d) := by
  pointwise [val_main_v63, val_main_v62, val_main_v61]
  have e : (⟨1 + w.val, by omega⟩ : Fin 513) = ⟨w.val + 1, by omega⟩ := Fin.ext (Nat.add_comm 1 w.val)
  exact (congrArg (fun p => val_main_v60 (F := Ideal) kv ca (ix5 b p s h d)) e).trans (v60_old kv ca b ⟨w.val + 1, by omega⟩ s h d)

theorem v63_lo (b : Fin 32) (h : Fin 4) (d : Fin 64) :
    val_main_v63 (F := Ideal) kv ca (ix3 b ⟨h.val * 64 + d.val, by omega⟩ 511) = kv (ix2 b ⟨256 + (h.val * 64 + d.val), by omega⟩) := by
  pointwise [val_main_v63, val_main_v62, val_main_v61]
  have e : (⟨(h.val * 64 + d.val) / 256, by omega⟩ : Fin 2) = 0 := Fin.ext (by show (h.val * 64 + d.val) / 256 = 0; omega)
  exact (congrArg (fun p => val_main_v60 (F := Ideal) kv ca (ix5 b 512 p h d)) e).trans (v60_key kv ca b h d)

theorem v63_hi (b : Fin 32) (h : Fin 4) (d : Fin 64) :
    val_main_v63 (F := Ideal) kv ca (ix3 b ⟨256 + (h.val * 64 + d.val), by omega⟩ 511) = kv (ix2 b ⟨1024 + (h.val * 64 + d.val), by omega⟩) := by
  pointwise [val_main_v63, val_main_v62, val_main_v61]
  have e : (⟨(256 + (h.val * 64 + d.val)) / 256, by omega⟩ : Fin 2) = 1 := Fin.ext (by show (256 + (h.val * 64 + d.val)) / 256 = 1; omega)
  exact (congrArg (fun p => val_main_v60 (F := Ideal) kv ca (ix5 b 512 p h d)) e).trans (v60_value kv ca b h d)

end Cert.ReferenceIdeal.At

namespace Cert.KernelIdeal.Blk

open Idealize.ShloMosaic Idealize.ShloMosaic.TcCoe Cert.KernelIdeal Cert.KernelIdeal.Gen
open Idealize.ShloMosaic.Pointwise

variable (m : (ℓ : Loc nD τ sig) → Buf (Elt Ideal) ℓ) (c : Dev nD) (t : Fin cfg0.N)

theorem new_apply (f w : Fin 512) :
    newCache (iblk m c 6 t) (iblk m c 7 t) (iblk m c 8 t) (ix3 0 f w)
      = Cert.ReferenceIdeal.Read.val_main_v63 (F := Ideal) (KV m c) (CA m c) (ix3 (⟨t.val, t_lt t⟩ : Fin 32) f w) := by
  by_cases hw : w.val = 511
  · obtain rfl : w = 511 := Fin.ext hw
    obtain ⟨s, h, d, rfl⟩ : ∃ (s : Fin 2) (h : Fin 4) (d : Fin 64), f = ⟨s.val * 256 + h.val * 64 + d.val, by omega⟩ :=
      ⟨⟨f.val / 256, by omega⟩, ⟨f.val % 256 / 64, by omega⟩, ⟨f.val % 64, by omega⟩,
        Fin.ext (by show f.val = f.val / 256 * 256 + f.val % 256 / 64 * 64 + f.val % 64; omega)⟩
    fin_cases s
    · have e : (⟨(0 : Fin 2).val * 256 + h.val * 64 + d.val, by show 0 * 256 + h.val * 64 + d.val < 512; omega⟩ : Fin 512) = ⟨h.val * 64 + d.val, by omega⟩ :=
        Fin.ext (by show 0 * 256 + h.val * 64 + d.val = h.val * 64 + d.val; omega)
      refine (congrArg (fun f => newCache (iblk m c 6 t) (iblk m c 7 t) (iblk m c 8 t) (ix3 0 f 511)) e).trans ?_
      refine ((newCache_lo _ _ _ ⟨h.val * 64 + d.val, by omega⟩).trans (blk6 m c t _ (t_lt t))).trans ?_
      exact (Cert.ReferenceIdeal.At.v63_lo (KV m c) (CA m c) _ h d).symm.trans (congrArg (fun f => Cert.ReferenceIdeal.Read.val_main_v63 (F := Ideal) (KV m c) (CA m c) (ix3 _ f 511)) e.symm)
    · have e : (⟨(1 : Fin 2).val * 256 + h.val * 64 + d.val, by show 1 * 256 + h.val * 64 + d.val < 512; omega⟩ : Fin 512) = ⟨256 + (h.val * 64 + d.val), by omega⟩ :=
        Fin.ext (by show 1 * 256 + h.val * 64 + d.val = 256 + (h.val * 64 + d.val); omega)
      refine (congrArg (fun f => newCache (iblk m c 6 t) (iblk m c 7 t) (iblk m c 8 t) (ix3 0 f 511)) e).trans ?_
      refine ((newCache_hi _ _ _ ⟨h.val * 64 + d.val, by omega⟩).trans (blk7 m c t _ (t_lt t))).trans ?_
      exact (Cert.ReferenceIdeal.At.v63_hi (KV m c) (CA m c) _ h d).symm.trans (congrArg (fun f => Cert.ReferenceIdeal.Read.val_main_v63 (F := Ideal) (KV m c) (CA m c) (ix3 _ f 511)) e.symm)
  · obtain ⟨s, h, d, rfl⟩ : ∃ (s : Fin 2) (h : Fin 4) (d : Fin 64), f = ⟨s.val * 256 + h.val * 64 + d.val, by omega⟩ :=
      ⟨⟨f.val / 256, by omega⟩, ⟨f.val % 256 / 64, by omega⟩, ⟨f.val % 64, by omega⟩,
        Fin.ext (by show f.val = f.val / 256 * 256 + f.val % 256 / 64 * 64 + f.val % 64; omega)⟩
    have hlt : w.val < 511 := by omega
    refine ((newCache_rest _ _ _ _ ⟨w.val, hlt⟩).trans (blk8 m c t s h d ⟨w.val + 1, by omega⟩ (t_lt t))).trans ?_
    exact (Cert.ReferenceIdeal.At.v63_rest (KV m c) (CA m c) _ s h d ⟨w.val, hlt⟩).symm

theorem arr13 :
    (dats m 0 c).arrAt 13 cfg0.N = Cert.ReferenceIdeal.Read.val_main_v63 (F := Ideal) (KV m c) (CA m c) := by
  refine (dats m 0 c).arrAt_eq_of_covers 13 _ (by decide +kernel) fun t _ y => ?_
  blk_simp
  rw [after0_13, out13_eq]
  obtain ⟨f, w, rfl⟩ : ∃ (f w : Fin 512), y = ix3 0 f w := ⟨y 1, y 2, by blk_ext []⟩
  rw [new_apply]
  congr 1
  blk_ext [idx13 t]

end Cert.KernelIdeal.Blk

end
-- ==== Proof.Cache4.lean ====
/-
  The first group, window 128: the sample's window buffer after the step: the old one moved by a position, and the step's key and value at its end.
-/
module

public import proofs.«01_k».proof.Proof.Cache
public import proofs.«01_k».proof.Proof.Gen.Kernel4Ideal.Value
public import proofs.«01_k».proof.Proof.Gen.Reference4Ideal.Read

@[expose] public section

set_option maxRecDepth 16384

noncomputable section

namespace Cert.Kernel4Ideal.Blk

open Idealize.ShloMosaic Idealize.ShloMosaic.TcCoe Cert.Kernel4Ideal Cert.Kernel4Ideal.Gen Cert.Band
open Idealize.ShloMosaic.Pointwise
open Cert.KernelIdeal.Blk (word_eq pick_lo sel_if)

theorem pay91_lo (a b : FVec Ideal S1x256 .f32) (l : Fin 256) (w : Fin 128) :
    k0_pay91 (F := Ideal) a b (ix2 ⟨l.val, by omega⟩ w) = a (ix2 0 l) := by
  pointwise [k0_pay91]
  have e1 := pick_lo (fun x => a (ix2 0 x)) l 0 0 (by omega) (by omega)
  have e2 := pick_lo (fun x => b (ix2 0 x)) l 0 256 (by omega) (by omega)
  simp only [Nat.zero_add] at e1 e2
  refine (congrArg₂ (· + ·) e1 e2).trans ?_
  have h1 : (∑ x : Fin 256, if l.val = x.val then a (ix2 0 x) else 0) = a (ix2 0 l) := by
    simp only [← Fin.ext_iff, Finset.sum_ite_eq, Finset.mem_univ, if_true]
  have h2 : (∑ x : Fin 256, if l.val = 256 + x.val then b (ix2 0 x) else 0) = 0 :=
    Finset.sum_eq_zero fun x _ => if_neg (by omega)
  rw [h1, h2, add_zero]

theorem pay91_hi (a b : FVec Ideal S1x256 .f32) (l : Fin 256) (w : Fin 128) :
    k0_pay91 (F := Ideal) a b (ix2 ⟨256 + l.val, by omega⟩ w) = b (ix2 0 l) := by
  pointwise [k0_pay91]
  have e1 := pick_lo (fun x => a (ix2 0 x)) l 256 0 (by omega) (by omega)
  have e2 := pick_lo (fun x => b (ix2 0 x)) l 256 256 (by omega) (by omega)
  simp only [Nat.zero_add] at e1 e2
  refine (congrArg₂ (· + ·) e1 e2).trans ?_
  have h1 : (∑ x : Fin 256, if 256 + l.val = x.val then a (ix2 0 x) else 0) = 0 :=
    Finset.sum_eq_zero fun x _ => if_neg (by omega)
  have h2 : (∑ x : Fin 256, if 256 + l.val = 256 + x.val then b (ix2 0 x) else 0) = b (ix2 0 l) := by
    simp only [Nat.add_left_cancel_iff, ← Fin.ext_iff, Finset.sum_ite_eq, Finset.mem_univ, if_true]
  rw [h1, h2, zero_add]

theorem pay89_apply (v : FVec Ideal S512x128 .f32) (f : Fin 512) (w : Fin 127) :
    k0_pay89 (F := Ideal) v (ix2 f ⟨w.val, by omega⟩) = v (ix2 f ⟨w.val + 1, by omega⟩) := by
  pointwise [k0_pay89]
  congr 2
  exact Fin.ext (by show (w.val + 128 - 127) % 128 = w.val + 1; omega)

theorem pay3_last (v : FVec Ideal S512x128 .f32) (a : FVec Ideal S512x128 .f32) (f : Fin 512) :
    k0_pay3 (F := Ideal) v k0_pay90 a (ix3 0 f 127) = a (ix2 f 127) := by
  pointwise [k0_pay3, k0_pay90]

theorem pay3_rest (v : FVec Ideal S512x128 .f32) (a : FVec Ideal S512x128 .f32) (f : Fin 512) (w : Fin 127) :
    k0_pay3 (F := Ideal) v k0_pay90 a (ix3 0 f ⟨w.val, by omega⟩) = v (ix2 f ⟨w.val, by omega⟩) := by
  pointwise [k0_pay3, k0_pay90]
  rw [show (127#32 : BitVec 32) = BitVec.ofNat 32 127 from rfl, word_eq _ _ (by omega) (by omega), sel_if, if_neg (by omega)]

/-- The sample's new window buffer from the blocks. -/
def newCache (x6 x7 : Vec Ideal S1x1x256 .f32) (x8 : Vec Ideal S1x512x128 .f32) : FVec Ideal S1x512x128 .f32 :=
  k0_pay3 (k0_pay89 (k0_pay74 x8)) k0_pay90 (k0_pay91 (k0_pay76 x6) (k0_pay77 x7))

theorem newCache_lo (x6 x7 : Vec Ideal S1x1x256 .f32) (x8 : Vec Ideal S1x512x128 .f32) (l : Fin 256) :
    newCache x6 x7 x8 (ix3 0 ⟨l.val, by omega⟩ 127) = x6 (ix3 0 0 l) := by
  unfold newCache
  rw [pay3_last, pay91_lo]
  pointwise [k0_pay76]

theorem newCache_hi (x6 x7 : Vec Ideal S1x1x256 .f32) (x8 : Vec Ideal S1x512x128 .f32) (l : Fin 256) :
    newCache x6 x7 x8 (ix3 0 ⟨256 + l.val, by omega⟩ 127) = x7 (ix3 0 0 l) := by
  unfold newCache
  rw [pay3_last, pay91_hi]
  pointwise [k0_pay77]

theorem newCache_rest (x6 x7 : Vec Ideal S1x1x256 .f32) (x8 : Vec Ideal S1x512x128 .f32) (f : Fin 512) (w : Fin 127) :
    newCache x6 x7 x8 (ix3 0 f ⟨w.val, by omega⟩) = x8 (ix3 0 f ⟨w.val + 1, by omega⟩) := by
  unfold newCache
  rw [pay3_rest, pay89_apply]
  pointwise [k0_pay74]

theorem out13_eq (i : grid0.Coords) (x0 x1 x2 : Vec Ideal S1x1x1x512x256 .bf16) (x3 x4 : Vec Ideal S1x1x1x128x256 .bf16) (x5 : Vec Ideal S1x1x256 .bf16)
    (x6 x7 : Vec Ideal S1x1x256 .f32) (x8 : Vec Ideal S1x512x128 .f32) :
    out0_13 i x0 x1 x2 x3 x4 x5 x6 x7 x8 = newCache x6 x7 x8 := by
  unfold_out out0_13
  frame_out
  rfl

variable (m : (ℓ : Loc nD τ sig) → Buf (Elt Ideal) ℓ) (c : Dev nD) (t : Fin cfg0.N)

theorem t_lt : t.val < 32 := t.isLt

theorem idx6 : ∀ t : Fin cfg0.N, win0_6.index t = ![t.val, 0, 0] := (by decide +kernel : ∀ t : Fin grid0.N, _)
theorem idx7 : ∀ t : Fin cfg0.N, win0_7.index t = ![t.val, 0, 3] := (by decide +kernel : ∀ t : Fin grid0.N, _)
theorem idx8 : ∀ t : Fin cfg0.N, win0_8.index t = ![t.val, 0, 0] := (by decide +kernel : ∀ t : Fin grid0.N, _)
theorem idx13 : ∀ t : Fin cfg0.N, win0_13.index t = ![t.val, 0, 0] := (by decide +kernel : ∀ t : Fin grid0.N, _)

def KV : FVec Ideal S32x1536 .f32 := m ((c : Thread nD τ).loc main_arg4)
def CA : FVec Ideal S1x32x128x2x4x64 .f32 := m ((c : Thread nD τ).loc main_arg5)

theorem blk6 (l : Fin 256) (ht : t.val < 32) :
    iblk m c 6 t (ix3 0 0 l) = KV m c (ix2 (n0 := 32) (n1 := 1536) ⟨t.val, ht⟩ ⟨l.val, by omega⟩) := by
  blk_simp [iblk, idx6 t]
  entry_read
  pointwise
  unfold KV
  blk_ext [idx6 t]
theorem blk7 (l : Fin 256) (ht : t.val < 32) :
    iblk m c 7 t (ix3 0 0 l) = KV m c (ix2 (n0 := 32) (n1 := 1536) ⟨t.val, ht⟩ ⟨768 + l.val, by omega⟩) := by
  blk_simp [iblk, idx7 t]
  entry_read
  pointwise
  unfold KV
  blk_ext [idx7 t]
theorem blk8 (s : Fin 2) (h : Fin 4) (d : Fin 64) (w : Fin 128) (ht : t.val < 32) :
    iblk m c 8 t (ix3 0 ⟨s.val * 256 + h.val * 64 + d.val, by omega⟩ w) = CA m c (ix6 0 ⟨t.val, ht⟩ w s h d) := by
  blk_simp [iblk, idx8 t]
  entry_read
  pointwise
  unfold CA
  blk_ext [idx8 t]

end Cert.Kernel4Ideal.Blk

namespace Cert.Reference4Ideal.At

open Idealize.ShloMosaic Idealize.ShloMosaic.TcCoe Cert.Reference4Ideal Cert.Reference4Ideal.Gen Cert.Reference4Ideal.Read
open Idealize.ShloMosaic.Pointwise

variable (kv : FVec Ideal S32x1536 .f32) (ca : FVec Ideal S1x32x128x2x4x64 .f32)

theorem v7_old (b : Fin 32) (w : Fin 128) (s : Fin 2) (h : Fin 4) (d : Fin 64) :
    val_main_v7 (F := Ideal) kv ca (ix5 b ⟨w.val, by omega⟩ s h d) = ca (ix6 0 b w s h d) := by
  pointwise [val_main_v7, val_main_v6]

theorem v7_key (b : Fin 32) (h : Fin 4) (d : Fin 64) :
    val_main_v7 (F := Ideal) kv ca (ix5 b ⟨128 + 0, by omega⟩ 0 h d) = kv (ix2 b ⟨h.val * 64 + d.val, by omega⟩) := by
  pointwise [val_main_v7, val_main_v5, val_main_v4, val_main_v2, val_main_v0]
  done

theorem v7_value (b : Fin 32) (h : Fin 4) (d : Fin 64) :
    val_main_v7 (F := Ideal) kv ca (ix5 b ⟨128 + 0, by omega⟩ 1 h d) = kv (ix2 b ⟨768 + (h.val * 64 + d.val), by omega⟩) := by
  pointwise [val_main_v7, val_main_v5, val_main_v4, val_main_v3, val_main_v1]
  done

theorem v10_rest (b : Fin 32) (s : Fin 2) (h : Fin 4) (d : Fin 64) (w : Fin 127) :
    val_main_v10 (F := Ideal) kv ca (ix3 b ⟨s.val * 256 + h.val * 64 + d.val, by omega⟩ ⟨w.val, by omega⟩)
      = ca (ix6 0 b ⟨w.val + 1, by omega⟩ s h d) := by
  pointwise [val_main_v10, val_main_v9, val_main_v8]
  have e : (⟨1 + w.val, by omega⟩ : Fin 129) = ⟨w.val + 1, by omega⟩ := Fin.ext (Nat.add_comm 1 w.val)
  exact (congrArg (fun p => val_main_v7 (F := Ideal) kv ca (ix5 b p s h d)) e).trans (v7_old kv ca b ⟨w.val + 1, by omega⟩ s h d)

theorem v10_lo (b : Fin 32) (h : Fin 4) (d : Fin 64) :
    val_main_v10 (F := Ideal) kv ca (ix3 b ⟨h.val * 64 + d.val, by omega⟩ 127) = kv (ix2 b ⟨h.val * 64 + d.val, by omega⟩) := by
  pointwise [val_main_v10, val_main_v9, val_main_v8]
  have e : (⟨(h.val * 64 + d.val) / 256, by omega⟩ : Fin 2) = 0 := Fin.ext (by show (h.val * 64 + d.val) / 256 = 0; omega)
  exact (congrArg (fun p => val_main_v7 (F := Ideal) kv ca (ix5 b 128 p h d)) e).trans (v7_key kv ca b h d)

theorem v10_hi (b : Fin 32) (h : Fin 4) (d : Fin 64) :
    val_main_v10 (F := Ideal) kv ca (ix3 b ⟨256 + (h.val * 64 + d.val), by omega⟩ 127) = kv (ix2 b ⟨768 + (h.val * 64 + d.val), by omega⟩) := by
  pointwise [val_main_v10, val_main_v9, val_main_v8]
  have e : (⟨(256 + (h.val * 64 + d.val)) / 256, by omega⟩ : Fin 2) = 1 := Fin.ext (by show (256 + (h.val * 64 + d.val)) / 256 = 1; omega)
  exact (congrArg (fun p => val_main_v7 (F := Ideal) kv ca (ix5 b 128 p h d)) e).trans (v7_value kv ca b h d)

end Cert.Reference4Ideal.At

namespace Cert.Kernel4Ideal.Blk

open Idealize.ShloMosaic Idealize.ShloMosaic.TcCoe Cert.Kernel4Ideal Cert.Kernel4Ideal.Gen
open Idealize.ShloMosaic.Pointwise

variable (m : (ℓ : Loc nD τ sig) → Buf (Elt Ideal) ℓ) (c : Dev nD) (t : Fin cfg0.N)

theorem new_apply (f : Fin 512) (w : Fin 128) :
    newCache (iblk m c 6 t) (iblk m c 7 t) (iblk m c 8 t) (ix3 0 f w)
      = Cert.Reference4Ideal.Read.val_main_v10 (F := Ideal) (KV m c) (CA m c) (ix3 (⟨t.val, t_lt t⟩ : Fin 32) f w) := by
  by_cases hw : w.val = 127
  · obtain rfl : w = 127 := Fin.ext hw
    obtain ⟨s, h, d, rfl⟩ : ∃ (s : Fin 2) (h : Fin 4) (d : Fin 64), f = ⟨s.val * 256 + h.val * 64 + d.val, by omega⟩ :=
      ⟨⟨f.val / 256, by omega⟩, ⟨f.val % 256 / 64, by omega⟩, ⟨f.val % 64, by omega⟩,
        Fin.ext (by show f.val = f.val / 256 * 256 + f.val % 256 / 64 * 64 + f.val % 64; omega)⟩
    fin_cases s
    · have e : (⟨(0 : Fin 2).val * 256 + h.val * 64 + d.val, by show 0 * 256 + h.val * 64 + d.val < 512; omega⟩ : Fin 512) = ⟨h.val * 64 + d.val, by omega⟩ :=
        Fin.ext (by show 0 * 256 + h.val * 64 + d.val = h.val * 64 + d.val; omega)
      refine (congrArg (fun f => newCache (iblk m c 6 t) (iblk m c 7 t) (iblk m c 8 t) (ix3 0 f 127)) e).trans ?_
      refine ((newCache_lo _ _ _ ⟨h.val * 64 + d.val, by omega⟩).trans (blk6 m c t _ (t_lt t))).trans ?_
      exact (Cert.Reference4Ideal.At.v10_lo (KV m c) (CA m c) _ h d).symm.trans (congrArg (fun f => Cert.Reference4Ideal.Read.val_main_v10 (F := Ideal) (KV m c) (CA m c) (ix3 _ f 127)) e.symm)
    · have e : (⟨(1 : Fin 2).val * 256 + h.val * 64 + d.val, by show 1 * 256 + h.val * 64 + d.val < 512; omega⟩ : Fin 512) = ⟨256 + (h.val * 64 + d.val), by omega⟩ :=
        Fin.ext (by show 1 * 256 + h.val * 64 + d.val = 256 + (h.val * 64 + d.val); omega)
      refine (congrArg (fun f => newCache (iblk m c 6 t) (iblk m c 7 t) (iblk m c 8 t) (ix3 0 f 127)) e).trans ?_
      refine ((newCache_hi _ _ _ ⟨h.val * 64 + d.val, by omega⟩).trans (blk7 m c t _ (t_lt t))).trans ?_
      exact (Cert.Reference4Ideal.At.v10_hi (KV m c) (CA m c) _ h d).symm.trans (congrArg (fun f => Cert.Reference4Ideal.Read.val_main_v10 (F := Ideal) (KV m c) (CA m c) (ix3 _ f 127)) e.symm)
  · obtain ⟨s, h, d, rfl⟩ : ∃ (s : Fin 2) (h : Fin 4) (d : Fin 64), f = ⟨s.val * 256 + h.val * 64 + d.val, by omega⟩ :=
      ⟨⟨f.val / 256, by omega⟩, ⟨f.val % 256 / 64, by omega⟩, ⟨f.val % 64, by omega⟩,
        Fin.ext (by show f.val = f.val / 256 * 256 + f.val % 256 / 64 * 64 + f.val % 64; omega)⟩
    have hlt : w.val < 127 := by omega
    refine ((newCache_rest _ _ _ _ ⟨w.val, hlt⟩).trans (blk8 m c t s h d ⟨w.val + 1, by omega⟩ (t_lt t))).trans ?_
    exact (Cert.Reference4Ideal.At.v10_rest (KV m c) (CA m c) _ s h d ⟨w.val, hlt⟩).symm

theorem arr13 :
    (dats m 0 c).arrAt 13 cfg0.N = Cert.Reference4Ideal.Read.val_main_v10 (F := Ideal) (KV m c) (CA m c) := by
  refine (dats m 0 c).arrAt_eq_of_covers 13 _ (by decide +kernel) fun t _ y => ?_
  blk_simp
  rw [after0_13, out13_eq]
  obtain ⟨f, w, rfl⟩ : ∃ (f : Fin 512) (w : Fin 128), y = ix3 0 f w := ⟨y 1, y 2, by blk_ext []⟩
  rw [new_apply]
  congr 1
  blk_ext [idx13 t]

end Cert.Kernel4Ideal.Blk

end
-- ==== Proof.Cache5a.lean ====
/-
  The third group, window 2048: the step's key and value put at the end of the moved window buffer, and the reference's new window buffer at an index.
-/
module

public import proofs.«01_k».proof.Proof.Cache
public import proofs.«01_k».proof.Proof.Gen.Kernel5Ideal.Frame.Runs
public import proofs.«01_k».proof.Proof.Gen.Reference5Ideal.Read

@[expose] public section

set_option maxRecDepth 16384

noncomputable section

namespace Cert.Kernel5Ideal.Blk

open Idealize.ShloMosaic Idealize.ShloMosaic.TcCoe Cert.Kernel5Ideal Cert.Kernel5Ideal.Gen Cert.Band
open Idealize.ShloMosaic.Pointwise
open Cert.KernelIdeal.Blk (word_eq pick_lo sel_if)

variable {F : FTy → Type} [FloatOps F] [Named F]

theorem resh (h : S512x2048.numel = S1x512x2048.numel) (f : Fin 512) (w : Fin 2048) :
    Shape.reshapeEquiv h (ix2 f w) = (ix3 (n0 := 1) (n1 := 512) (n2 := 2048) 0 f w) :=
  Shape.reshapeEquiv_eq_of_rowMajor h (by
    rw [Shape.rowMajor_val_three, Shape.rowMajor_val_two]
    show ((0 * 512 + f.val) * 2048 + w.val) = f.val * 2048 + w.val
    simp only [Nat.zero_mul, Nat.zero_add])

/-- What the ring's slot holds when the step reads it: the block of the features-major cache copied into it. -/
theorem ring_load (c : Dev nD) (t : Fin cfg0.N) (hc2 : cond0_2 (grid0.coords t)) (fh0 : HbBuf0 (F := F) c hbM0_0) (inb : ∀ a, k0_off10 (grid0.coords t) a + (![1, 512, 2048] : Fin 3 → ℕ) a ≤ S3x512x2048.size a) (ht : t.val < 32) (f : Fin 512) (w : Fin 2048) :
    View.readAt (Elt F) (View.whole cc0_scratch0) (Rect.unit (s := S3x512x2048) (k0_off10 (grid0.coords t)) ![1, 512, 2048] inb).toLoadRect
        ((rslot0_0 (Ring.sl 3 t.val)).view.writes (Elt F) (rslot0_0 (Ring.sl 3 t.val)).view.junk
          [⟨Rect.whole S512x2048, ReadAs.same.apply (View.read (Elt F) (srcB0_0 (Ring.bk 32 t.val)).view fh0)⟩]) (ix3 (n0 := 1) (n1 := 512) (n2 := 2048) 0 f w)
      = fh0 (ix3 (n0 := 32) (n1 := 512) (n2 := 2048) ⟨t.val, ht⟩ f w) := by
  have h1 : (Rect.unit (s := S3x512x2048) (k0_off10 (grid0.coords t)) ![1, 512, 2048] inb).toLoadRect.idx (ix3 (n0 := 1) (n1 := 512) (n2 := 2048) 0 f w)
      = ix3 (n0 := 3) (n1 := 512) (n2 := 2048) (Ring.sl 3 t.val) f w := by
    funext a; apply Fin.ext
    have e := congrFun (coff0_0_13 t) a
    fin_cases a
    · show k0_off10 (grid0.coords t) 0 + 1 * 0 = (Ring.sl 3 t.val).val
      exact (congrArg (· + 1 * 0) e).trans (Nat.add_zero _)
    · show k0_off10 (grid0.coords t) 1 + 1 * f.val = f.val
      exact (congrArg (· + 1 * f.val) e).trans ((Nat.zero_add _).trans (Nat.one_mul _))
    · show k0_off10 (grid0.coords t) 2 + 1 * w.val = w.val
      exact (congrArg (· + 1 * w.val) e).trans ((Nat.zero_add _).trans (Nat.one_mul _))
  have h2 : (rslot0_0 (Ring.sl 3 t.val)).view.emb (ix2 f w) = (View.whole cc0_scratch0).emb (ix3 (n0 := 3) (n1 := 512) (n2 := 2048) (Ring.sl 3 t.val) f w) := by
    show (Rect.unit (s := S3x512x2048) ![(Ring.sl 3 t.val).val, 0, 0] S1x512x2048.size (inb_slot0_0 _)).emb (Shape.reshapeEquiv _ (ix2 f w)) = ix3 (n0 := 3) (n1 := 512) (n2 := 2048) (Ring.sl 3 t.val) f w
    refine (congrArg (Rect.unit (s := S3x512x2048) ![(Ring.sl 3 t.val).val, 0, 0] S1x512x2048.size (inb_slot0_0 _)).emb (resh _ f w)).trans ?_
    funext a; apply Fin.ext
    fin_cases a
    · exact Nat.add_zero _
    · exact (Nat.zero_add _).trans (Nat.one_mul _)
    · exact (Nat.zero_add _).trans (Nat.one_mul _)
  have h3 : (srcB0_0 (Ring.bk 32 t.val)).view.emb (ix2 f w) = (ix3 (n0 := 32) (n1 := 512) (n2 := 2048) ⟨t.val, ht⟩ f w) := by
    show (Rect.unit (s := S32x512x2048) ![1 * (Ring.bk 32 t.val).val, 0, 0] S1x512x2048.size (inb_src0_0 _)).emb (Shape.reshapeEquiv _ (ix2 f w)) = _
    refine (congrArg (Rect.unit (s := S32x512x2048) ![1 * (Ring.bk 32 t.val).val, 0, 0] S1x512x2048.size (inb_src0_0 _)).emb (resh _ f w)).trans ?_
    funext a; apply Fin.ext
    fin_cases a
    · show 1 * (Ring.bk 32 t.val).val + 1 * 0 = t.val
      have : (Ring.bk 32 t.val).val = t.val := Nat.mod_eq_of_lt ht
      omega
    · exact (Nat.zero_add _).trans (Nat.one_mul _)
    · exact (Nat.zero_add _).trans (Nat.one_mul _)
  have step : ∀ G : (View.whole cc0_scratch0).ty.Contents (Elt F),
      View.readAt (Elt F) (View.whole cc0_scratch0) (Rect.unit (s := S3x512x2048) (k0_off10 (grid0.coords t)) ![1, 512, 2048] inb).toLoadRect G (ix3 (n0 := 1) (n1 := 512) (n2 := 2048) 0 f w)
        = View.read (Elt F) (rslot0_0 (Ring.sl 3 t.val)).view G (ix2 f w) := fun G =>
    congrArg (fun i => G i) ((congrArg (View.whole cc0_scratch0).emb h1).trans h2.symm)
  refine (step _).trans ?_
  have hw : (Rect.whole S512x2048).emb (ix2 f w) = ix2 f w := by
    funext a; exact Fin.ext ((Nat.zero_add _).trans (Nat.one_mul _))
  refine (congrArg (View.read (Elt F) (rslot0_0 (Ring.sl 3 t.val)).view _) hw.symm).trans ?_
  refine (View.read_writes_cons_emb _ _ (Rect.whole S512x2048) _ [] (ix2 f w)).trans ?_
  exact congrArg (fun i => fh0 i) h3

theorem pay21_lo (a b : FVec Ideal S1x256 .f32) (l : Fin 256) :
    k0_pay21 (F := Ideal) a b (ix2 ⟨l.val, by omega⟩ 0) = a (ix2 0 l) := by
  pointwise [k0_pay21]
  have e1 := pick_lo (fun x => a (ix2 0 x)) l 0 0 (by omega) (by omega)
  have e2 := pick_lo (fun x => b (ix2 0 x)) l 0 256 (by omega) (by omega)
  simp only [Nat.zero_add] at e1 e2
  refine (congrArg₂ (· + ·) e1 e2).trans ?_
  have h1 : (∑ x : Fin 256, if l.val = x.val then a (ix2 0 x) else 0) = a (ix2 0 l) := by
    simp only [← Fin.ext_iff, Finset.sum_ite_eq, Finset.mem_univ, if_true]
  have h2 : (∑ x : Fin 256, if l.val = 256 + x.val then b (ix2 0 x) else 0) = 0 :=
    Finset.sum_eq_zero fun x _ => if_neg (by omega)
  rw [h1, h2, add_zero]

theorem pay21_hi (a b : FVec Ideal S1x256 .f32) (l : Fin 256) :
    k0_pay21 (F := Ideal) a b (ix2 ⟨256 + l.val, by omega⟩ 0) = b (ix2 0 l) := by
  pointwise [k0_pay21]
  have e1 := pick_lo (fun x => a (ix2 0 x)) l 256 0 (by omega) (by omega)
  have e2 := pick_lo (fun x => b (ix2 0 x)) l 256 256 (by omega) (by omega)
  simp only [Nat.zero_add] at e1 e2
  refine (congrArg₂ (· + ·) e1 e2).trans ?_
  have h1 : (∑ x : Fin 256, if 256 + l.val = x.val then a (ix2 0 x) else 0) = 0 :=
    Finset.sum_eq_zero fun x _ => if_neg (by omega)
  have h2 : (∑ x : Fin 256, if 256 + l.val = 256 + x.val then b (ix2 0 x) else 0) = b (ix2 0 l) := by
    simp only [Nat.add_left_cancel_iff, ← Fin.ext_iff, Finset.sum_ite_eq, Finset.mem_univ, if_true]
  rw [h1, h2, zero_add]

theorem pay3_last (v : FVec Ideal S512x2048 .f32) (a : FVec Ideal S512x1 .f32) (f : Fin 512) :
    k0_pay3 (F := Ideal) v a (ix3 0 f 2047) = a (ix2 f 0) := by
  pointwise [k0_pay3]

theorem sel_rest {α : Type} (w : Fin 2047) (x y : α) :
    Scalar.select (IntOp.cmpi .eq (BitVec.ofNat 32 w.val) 2047#32) x y = y := by
  have h : ¬ BitVec.ofNat 32 w.val = 2047#32 := fun h => by
    have := congrArg BitVec.toNat h
    simp only [BitVec.toNat_ofNat] at this
    omega
  have e : IntOp.cmpi .eq (BitVec.ofNat 32 w.val) 2047#32 = if (0 : ℕ) = 1 then 1#1 else 0#1 := by
    have hb : (BitVec.ofNat 32 w.val == 2047#32) = false := beq_eq_false_iff_ne.mpr h
    simp [IntOp.cmpi, hb]
  rw [e, sel_if, if_neg (by omega)]

theorem pay3_rest (v : FVec Ideal S512x2048 .f32) (a : FVec Ideal S512x1 .f32) (f : Fin 512) (w : Fin 2047) :
    k0_pay3 (F := Ideal) v a (ix3 0 f ⟨w.val, by omega⟩) = v (ix2 f ⟨w.val + 1, by omega⟩) := by
  pointwise [k0_pay3]
  refine (sel_rest w _ _).trans ?_
  congr 2
  exact Fin.ext (by show (w.val + 2048 - 2047) % 2048 = w.val + 1; omega)

/-- The sample's new window buffer from the blocks. -/
def newCache (x6 x7 : Vec Ideal S1x1x256 .f32) (x8 : Vec Ideal S1x512x2048 .f32) : FVec Ideal S1x512x2048 .f32 :=
  k0_pay3 (k0_pay4 x8) (k0_pay21 (k0_pay6 x6) (k0_pay7 x7))

theorem newCache_lo (x6 x7 : Vec Ideal S1x1x256 .f32) (x8 : Vec Ideal S1x512x2048 .f32) (l : Fin 256) :
    newCache x6 x7 x8 (ix3 0 ⟨l.val, by omega⟩ 2047) = x6 (ix3 0 0 l) := by
  unfold newCache
  rw [pay3_last, pay21_lo]
  pointwise [k0_pay6]

theorem newCache_hi (x6 x7 : Vec Ideal S1x1x256 .f32) (x8 : Vec Ideal S1x512x2048 .f32) (l : Fin 256) :
    newCache x6 x7 x8 (ix3 0 ⟨256 + l.val, by omega⟩ 2047) = x7 (ix3 0 0 l) := by
  unfold newCache
  rw [pay3_last, pay21_hi]
  pointwise [k0_pay7]

theorem newCache_rest (x6 x7 : Vec Ideal S1x1x256 .f32) (x8 : Vec Ideal S1x512x2048 .f32) (f : Fin 512) (w : Fin 2047) :
    newCache x6 x7 x8 (ix3 0 f ⟨w.val, by omega⟩) = x8 (ix3 0 f ⟨w.val + 1, by omega⟩) := by
  unfold newCache
  rw [pay3_rest]
  pointwise [k0_pay4]

end Cert.Kernel5Ideal.Blk

namespace Cert.Reference5Ideal.At

open Idealize.ShloMosaic Idealize.ShloMosaic.TcCoe Cert.Reference5Ideal Cert.Reference5Ideal.Gen Cert.Reference5Ideal.Read
open Idealize.ShloMosaic.Pointwise

variable (kv : FVec Ideal S32x1536 .f32) (ca : FVec Ideal S1x32x2048x2x4x64 .f32)

theorem v7_old (b : Fin 32) (w : Fin 2048) (s : Fin 2) (h : Fin 4) (d : Fin 64) :
    val_main_v7 (F := Ideal) kv ca (ix5 b ⟨w.val, by omega⟩ s h d) = ca (ix6 0 b w s h d) := by
  pointwise [val_main_v7, val_main_v6]

theorem v7_key (b : Fin 32) (h : Fin 4) (d : Fin 64) :
    val_main_v7 (F := Ideal) kv ca (ix5 b ⟨2048 + 0, by omega⟩ 0 h d) = kv (ix2 b ⟨512 + (h.val * 64 + d.val), by omega⟩) := by
  pointwise [val_main_v7, val_main_v5, val_main_v4, val_main_v2, val_main_v0]
  done

theorem v7_value (b : Fin 32) (h : Fin 4) (d : Fin 64) :
    val_main_v7 (F := Ideal) kv ca (ix5 b ⟨2048 + 0, by omega⟩ 1 h d) = kv (ix2 b ⟨1280 + (h.val * 64 + d.val), by omega⟩) := by
  pointwise [val_main_v7, val_main_v5, val_main_v4, val_main_v3, val_main_v1]
  done

theorem v10_rest (b : Fin 32) (s : Fin 2) (h : Fin 4) (d : Fin 64) (w : Fin 2047) :
    val_main_v10 (F := Ideal) kv ca (ix3 b ⟨s.val * 256 + h.val * 64 + d.val, by omega⟩ ⟨w.val, by omega⟩)
      = ca (ix6 0 b ⟨w.val + 1, by omega⟩ s h d) := by
  pointwise [val_main_v10, val_main_v9, val_main_v8]
  have e : (⟨1 + w.val, by omega⟩ : Fin 2049) = ⟨w.val + 1, by omega⟩ := Fin.ext (Nat.add_comm 1 w.val)
  exact (congrArg (fun p => val_main_v7 (F := Ideal) kv ca (ix5 b p s h d)) e).trans (v7_old kv ca b ⟨w.val + 1, by omega⟩ s h d)

theorem v10_lo (b : Fin 32) (h : Fin 4) (d : Fin 64) :
    val_main_v10 (F := Ideal) kv ca (ix3 b ⟨h.val * 64 + d.val, by omega⟩ 2047) = kv (ix2 b ⟨512 + (h.val * 64 + d.val), by omega⟩) := by
  pointwise [val_main_v10, val_main_v9, val_main_v8]
  have e : (⟨(h.val * 64 + d.val) / 256, by omega⟩ : Fin 2) = 0 := Fin.ext (by show (h.val * 64 + d.val) / 256 = 0; omega)
  exact (congrArg (fun p => val_main_v7 (F := Ideal) kv ca (ix5 b 2048 p h d)) e).trans (v7_key kv ca b h d)

theorem v10_hi (b : Fin 32) (h : Fin 4) (d : Fin 64) :
    val_main_v10 (F := Ideal) kv ca (ix3 b ⟨256 + (h.val * 64 + d.val), by omega⟩ 2047) = kv (ix2 b ⟨1280 + (h.val * 64 + d.val), by omega⟩) := by
  pointwise [val_main_v10, val_main_v9, val_main_v8]
  have e : (⟨(256 + (h.val * 64 + d.val)) / 256, by omega⟩ : Fin 2) = 1 := Fin.ext (by show (256 + (h.val * 64 + d.val)) / 256 = 1; omega)
  exact (congrArg (fun p => val_main_v7 (F := Ideal) kv ca (ix5 b 2048 p h d)) e).trans (v7_value kv ca b h d)

end Cert.Reference5Ideal.At

end
-- ==== Proof.Cache5b.lean ====
/-
  The third group's window buffer after a step, in each of the step's three shapes: the payloads of the step's blocks.
-/
module

public import proofs.«01_k».proof.Proof.Cache5a
public import proofs.«01_k».proof.Proof.Win5iFrame
public import Idealize.ShloMosaic.Lib.VecWindow

@[expose] public section

set_option maxRecDepth 16384

noncomputable section

namespace Cert.Kernel5Ideal.Blk

open Idealize.ShloMosaic Idealize.ShloMosaic.TcCoe Cert.Kernel5Ideal Cert.Kernel5Ideal.Gen
open Idealize.ShloMosaic.Pointwise

/-- The sample's slab of the features-major cache. -/
def slab (x : FVec Ideal S32x512x2048 .f32) (b : Fin 32) : Vec Ideal S1x512x2048 .f32 := fun y => x (ix3 b (y 1) (y 2))

theorem eta (y : S1x512x2048.Idx) : y = ix3 (n0 := 1) (n1 := 512) (n2 := 2048) 0 (y 1) (y 2) := by
  funext a; fin_cases a
  · exact Fin.ext (by have := (y 0).isLt; show (y 0).val = 0; have h : S1x512x2048.size 0 = 1 := rfl; omega)
  · rfl
  · rfl

theorem out12_A (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : cond0_0 (grid0.coords t)) (hc1 : cond0_1 (grid0.coords t)) (hc2 : cond0_2 (grid0.coords t))
    (x0 : Vec Ideal S1x16x1x32x256 .bf16) (x1 : Vec Ideal S1x16x1x32x256 .bf16) (x2 : Vec Ideal S1x16x1x32x256 .bf16) (x3 : Vec Ideal S1x4x1x32x256 .bf16) (x4 : Vec Ideal S1x4x1x32x256 .bf16) (x5 : Vec Ideal S1x1x256 .bf16) (x6 : Vec Ideal S1x1x256 .f32) (x7 : Vec Ideal S1x1x256 .f32) (fh0 : HbBuf0 (F := Ideal) c hbM0_0)  (ht : t.val < 32) :
    out0_A_12 (F := Ideal) c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0 = newCache x6 x7 (slab fh0 ⟨t.val, ht⟩) := by
  have L : (kernelRun0_A (F := Ideal) c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.2.2.2.1 = [⟨Rect.unit ![0, 0, 0] ![1, 512, 2048] inb_S1x512x2048_S1x512x2048_0_0_0,
        k0_pay3 (kernelRun0_A.sl.r_80 c t hc2 fh0) (kernelRun0_A.sl.r_89 c arg9 harg9 arg10 harg10 x6 x7)⟩] := by
    unfold kernelRun0_A
    rfl
  have e1 : kernelRun0_A.sl.r_80 (F := Ideal) c t hc2 fh0 = k0_pay4 (slab fh0 ⟨t.val, ht⟩) := by
    unfold kernelRun0_A.sl.r_80 kernelRun0_A.sl.v767
    refine congrArg k0_pay4 (funext fun y => ?_)
    rw [eta y]
    exact ring_load c t hc2 fh0 _ ht (y 1) (y 2)
  have e2 : kernelRun0_A.sl.r_89 (F := Ideal) c arg9 harg9 arg10 harg10 x6 x7 = k0_pay21 (k0_pay6 x6) (k0_pay7 x7) := by
    unfold kernelRun0_A.sl.r_89 kernelRun0_A.sl.r_83 kernelRun0_A.sl.r_84 kernelRun0_A.sl.r_82
    refine congrArg₂ k0_pay21 (congrArg k0_pay6 ?_) (congrArg k0_pay7 ?_)
    · exact (View.readAt_full _ _ _).trans (harg9.read_unread _)
    · exact (View.readAt_full _ _ _).trans (harg10.read_unread _)
  unfold out0_A_12
  rw [L, e1, e2]
  exact View.read_writes_full _ _ _ _ _

theorem out12_B (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : ¬cond0_0 (grid0.coords t)) (hc1 : cond0_1 (grid0.coords t)) (hc2 : cond0_2 (grid0.coords t))
    (x0 : Vec Ideal S1x16x1x32x256 .bf16) (x1 : Vec Ideal S1x16x1x32x256 .bf16) (x2 : Vec Ideal S1x16x1x32x256 .bf16) (x3 : Vec Ideal S1x4x1x32x256 .bf16) (x4 : Vec Ideal S1x4x1x32x256 .bf16) (x5 : Vec Ideal S1x1x256 .bf16) (x6 : Vec Ideal S1x1x256 .f32) (x7 : Vec Ideal S1x1x256 .f32) (fh0 : HbBuf0 (F := Ideal) c hbM0_0)  (ht : t.val < 32) :
    out0_B_12 (F := Ideal) c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0 = newCache x6 x7 (slab fh0 ⟨t.val, ht⟩) := by
  have L : (kernelRun0_B (F := Ideal) c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.2.2.2.1 = [⟨Rect.unit ![0, 0, 0] ![1, 512, 2048] inb_S1x512x2048_S1x512x2048_0_0_0,
        k0_pay3 (kernelRun0_B.sl.r_80 c t hc2 fh0) (kernelRun0_B.sl.r_89 c arg9 harg9 arg10 harg10 x6 x7)⟩] := by
    unfold kernelRun0_B
    rfl
  have e1 : kernelRun0_B.sl.r_80 (F := Ideal) c t hc2 fh0 = k0_pay4 (slab fh0 ⟨t.val, ht⟩) := by
    unfold kernelRun0_B.sl.r_80 kernelRun0_B.sl.v767
    refine congrArg k0_pay4 (funext fun y => ?_)
    rw [eta y]
    exact ring_load c t hc2 fh0 _ ht (y 1) (y 2)
  have e2 : kernelRun0_B.sl.r_89 (F := Ideal) c arg9 harg9 arg10 harg10 x6 x7 = k0_pay21 (k0_pay6 x6) (k0_pay7 x7) := by
    unfold kernelRun0_B.sl.r_89 kernelRun0_B.sl.r_83 kernelRun0_B.sl.r_84 kernelRun0_B.sl.r_82
    refine congrArg₂ k0_pay21 (congrArg k0_pay6 ?_) (congrArg k0_pay7 ?_)
    · exact (View.readAt_full _ _ _).trans (harg9.read_unread _)
    · exact (View.readAt_full _ _ _).trans (harg10.read_unread _)
  unfold out0_B_12
  rw [L, e1, e2]
  exact View.read_writes_full _ _ _ _ _

theorem out12_C (c : Dev nD) (t : Fin cfg0.N) (arg3 : Memref sig .tc .vmem S1x16x1x32x256 .bf16) (harg3 : arg3.IsWhole) (arg4 : Memref sig .tc .vmem S1x16x1x32x256 .bf16) (harg4 : arg4.IsWhole) (arg5 : Memref sig .tc .vmem S1x16x1x32x256 .bf16) (harg5 : arg5.IsWhole) (arg6 : Memref sig .tc .vmem S1x4x1x32x256 .bf16) (harg6 : arg6.IsWhole) (arg7 : Memref sig .tc .vmem S1x4x1x32x256 .bf16) (harg7 : arg7.IsWhole) (arg8 : Memref sig .tc .vmem S1x1x256 .bf16) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S1x16x1x32x256 .bf16) (harg12 : arg12.IsWhole) (arg13 : Memref sig .tc .vmem S1x16x1x32x128 .f32) (harg13 : arg13.IsWhole) (arg14 : Memref sig .tc .vmem S1x1x256 .bf16) (harg14 : arg14.IsWhole) (arg15 : Memref sig .tc .vmem S1x1x128 .f32) (harg15 : arg15.IsWhole) (arg16 : Memref sig .tc .vmem S1x512x2048 .f32) (harg16 : arg16.IsWhole) (hc0 : ¬cond0_0 (grid0.coords t)) (hc1 : ¬cond0_1 (grid0.coords t)) (hc2 : cond0_2 (grid0.coords t))
    (x0 : Vec Ideal S1x16x1x32x256 .bf16) (x1 : Vec Ideal S1x16x1x32x256 .bf16) (x2 : Vec Ideal S1x16x1x32x256 .bf16) (x3 : Vec Ideal S1x4x1x32x256 .bf16) (x4 : Vec Ideal S1x4x1x32x256 .bf16) (x5 : Vec Ideal S1x1x256 .bf16) (x6 : Vec Ideal S1x1x256 .f32) (x7 : Vec Ideal S1x1x256 .f32) (fh0 : HbBuf0 (F := Ideal) c hbM0_0)  (ht : t.val < 32) :
    out0_C_12 (F := Ideal) c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0 = newCache x6 x7 (slab fh0 ⟨t.val, ht⟩) := by
  have L : (kernelRun0_C (F := Ideal) c t arg3 harg3 arg4 harg4 arg5 harg5 arg6 harg6 arg7 harg7 arg8 harg8 arg9 harg9 arg10 harg10 arg12 harg12 arg13 harg13 arg14 harg14 arg15 harg15 arg16 harg16 hc0 hc1 hc2 x0 x1 x2 x3 x4 x5 x6 x7 fh0).2.2.2.2.1 = [⟨Rect.unit ![0, 0, 0] ![1, 512, 2048] inb_S1x512x2048_S1x512x2048_0_0_0,
        k0_pay3 (kernelRun0_C.sl.r_80 c t hc2 fh0) (kernelRun0_C.sl.r_89 c arg9 harg9 arg10 harg10 x6 x7)⟩] := by
    unfold kernelRun0_C
    rfl
  have e1 : kernelRun0_C.sl.r_80 (F := Ideal) c t hc2 fh0 = k0_pay4 (slab fh0 ⟨t.val, ht⟩) := by
    unfold kernelRun0_C.sl.r_80 kernelRun0_C.sl.v767
    refine congrArg k0_pay4 (funext fun y => ?_)
    rw [eta y]
    exact ring_load c t hc2 fh0 _ ht (y 1) (y 2)
  have e2 : kernelRun0_C.sl.r_89 (F := Ideal) c arg9 harg9 arg10 harg10 x6 x7 = k0_pay21 (k0_pay6 x6) (k0_pay7 x7) := by
    unfold kernelRun0_C.sl.r_89 kernelRun0_C.sl.r_83 kernelRun0_C.sl.r_84 kernelRun0_C.sl.r_82
    refine congrArg₂ k0_pay21 (congrArg k0_pay6 ?_) (congrArg k0_pay7 ?_)
    · exact (View.readAt_full _ _ _).trans (harg9.read_unread _)
    · exact (View.readAt_full _ _ _).trans (harg10.read_unread _)
  unfold out0_C_12
  rw [L, e1, e2]
  exact View.read_writes_full _ _ _ _ _

end Cert.Kernel5Ideal.Blk

end
-- ==== Proof.Cache5.lean ====
/-
  The third group, window 2048: the sample's window buffer after the step: the old one moved by a position, and the step's key and value at its end.
-/
module

public import proofs.«01_k».proof.Proof.Cache5b
public import proofs.«01_k».proof.Proof.Win5iValue

@[expose] public section

set_option maxRecDepth 16384

noncomputable section

namespace Cert.Kernel5Ideal.Blk

open Idealize.ShloMosaic Idealize.ShloMosaic.TcCoe Cert.Kernel5Ideal Cert.Kernel5Ideal.Gen
open Idealize.ShloMosaic.Pointwise

variable (m : (ℓ : Loc nD τ sig) → Buf (Elt Ideal) ℓ) (c : Dev nD) (t : Fin cfg0.N)

theorem t_lt : t.val < 32 := t.isLt

theorem idx6 : ∀ t : Fin cfg0.N, win0_6.index t = ![t.val, 0, 2] := (by decide +kernel : ∀ t : Fin grid0.N, _)
theorem idx7 : ∀ t : Fin cfg0.N, win0_7.index t = ![t.val, 0, 5] := (by decide +kernel : ∀ t : Fin grid0.N, _)
theorem idx12 : ∀ t : Fin cfg0.N, win0_12.index t = ![t.val, 0, 0] := (by decide +kernel : ∀ t : Fin grid0.N, _)

def KV : FVec Ideal S32x1536 .f32 := m ((c : Thread nD τ).loc main_arg4)
def CA : FVec Ideal S1x32x2048x2x4x64 .f32 := m ((c : Thread nD τ).loc main_arg5)

theorem blk6 (l : Fin 256) (ht : t.val < 32) :
    iblk m c 6 t (ix3 0 0 l) = KV m c (ix2 (n0 := 32) (n1 := 1536) ⟨t.val, ht⟩ ⟨512 + l.val, by omega⟩) := by
  blk_simp [iblk, idx6 t]
  entry_read
  pointwise
  unfold KV
  blk_ext [idx6 t]
theorem blk7 (l : Fin 256) (ht : t.val < 32) :
    iblk m c 7 t (ix3 0 0 l) = KV m c (ix2 (n0 := 32) (n1 := 1536) ⟨t.val, ht⟩ ⟨1280 + l.val, by omega⟩) := by
  blk_simp [iblk, idx7 t]
  entry_read
  pointwise
  unfold KV
  blk_ext [idx7 t]
theorem slab_apply (s : Fin 2) (h : Fin 4) (d : Fin 64) (w : Fin 2048) (b : Fin 32) :
    slab (V m c main_v2) b (ix3 0 ⟨s.val * 256 + h.val * 64 + d.val, by omega⟩ w) = CA m c (ix6 0 b w s h d) := by
  show V m c main_v2 (ix3 b ⟨s.val * 256 + h.val * 64 + d.val, by omega⟩ w) = _
  entry_read
  pointwise
  rfl

theorem new_apply (f : Fin 512) (w : Fin 2048) :
    newCache (iblk m c 6 t) (iblk m c 7 t) (slab (V m c main_v2) ⟨t.val, t_lt t⟩) (ix3 0 f w)
      = Cert.Reference5Ideal.Read.val_main_v10 (F := Ideal) (KV m c) (CA m c) (ix3 (⟨t.val, t_lt t⟩ : Fin 32) f w) := by
  by_cases hw : w.val = 2047
  · obtain rfl : w = 2047 := Fin.ext hw
    obtain ⟨s, h, d, rfl⟩ : ∃ (s : Fin 2) (h : Fin 4) (d : Fin 64), f = ⟨s.val * 256 + h.val * 64 + d.val, by omega⟩ :=
      ⟨⟨f.val / 256, by omega⟩, ⟨f.val % 256 / 64, by omega⟩, ⟨f.val % 64, by omega⟩,
        Fin.ext (by show f.val = f.val / 256 * 256 + f.val % 256 / 64 * 64 + f.val % 64; omega)⟩
    fin_cases s
    · have e : (⟨(0 : Fin 2).val * 256 + h.val * 64 + d.val, by show 0 * 256 + h.val * 64 + d.val < 512; omega⟩ : Fin 512) = ⟨h.val * 64 + d.val, by omega⟩ :=
        Fin.ext (by show 0 * 256 + h.val * 64 + d.val = h.val * 64 + d.val; omega)
      refine (congrArg (fun f => newCache (iblk m c 6 t) (iblk m c 7 t) (slab (V m c main_v2) ⟨t.val, t_lt t⟩) (ix3 0 f 2047)) e).trans ?_
      refine ((newCache_lo _ _ _ ⟨h.val * 64 + d.val, by omega⟩).trans (blk6 m c t _ (t_lt t))).trans ?_
      exact (Cert.Reference5Ideal.At.v10_lo (KV m c) (CA m c) _ h d).symm.trans (congrArg (fun f => Cert.Reference5Ideal.Read.val_main_v10 (F := Ideal) (KV m c) (CA m c) (ix3 _ f 2047)) e.symm)
    · have e : (⟨(1 : Fin 2).val * 256 + h.val * 64 + d.val, by show 1 * 256 + h.val * 64 + d.val < 512; omega⟩ : Fin 512) = ⟨256 + (h.val * 64 + d.val), by omega⟩ :=
        Fin.ext (by show 1 * 256 + h.val * 64 + d.val = 256 + (h.val * 64 + d.val); omega)
      refine (congrArg (fun f => newCache (iblk m c 6 t) (iblk m c 7 t) (slab (V m c main_v2) ⟨t.val, t_lt t⟩) (ix3 0 f 2047)) e).trans ?_
      refine ((newCache_hi _ _ _ ⟨h.val * 64 + d.val, by omega⟩).trans (blk7 m c t _ (t_lt t))).trans ?_
      exact (Cert.Reference5Ideal.At.v10_hi (KV m c) (CA m c) _ h d).symm.trans (congrArg (fun f => Cert.Reference5Ideal.Read.val_main_v10 (F := Ideal) (KV m c) (CA m c) (ix3 _ f 2047)) e.symm)
  · obtain ⟨s, h, d, rfl⟩ : ∃ (s : Fin 2) (h : Fin 4) (d : Fin 64), f = ⟨s.val * 256 + h.val * 64 + d.val, by omega⟩ :=
      ⟨⟨f.val / 256, by omega⟩, ⟨f.val % 256 / 64, by omega⟩, ⟨f.val % 64, by omega⟩,
        Fin.ext (by show f.val = f.val / 256 * 256 + f.val % 256 / 64 * 64 + f.val % 64; omega)⟩
    have hlt : w.val < 2047 := by omega
    refine ((newCache_rest _ _ _ _ ⟨w.val, hlt⟩).trans (slab_apply m c s h d ⟨w.val + 1, by omega⟩ ⟨t.val, t_lt t⟩)).trans ?_
    exact (Cert.Reference5Ideal.At.v10_rest (KV m c) (CA m c) _ s h d ⟨w.val, hlt⟩).symm

theorem step12 : (outsAt0 m c t.val t.isLt).2.2.2.2 = newCache (iblk m c 6 t) (iblk m c 7 t) (slab (V m c main_v2) ⟨t.val, t_lt t⟩) := by
  by_cases h1 : t.val < 30
  · by_cases h0 : t.val % 32 = 0
    · refine (congrArg (fun p => p.2.2.2.2) (outsAt0_A m c t h0 h1)).trans ?_
      dsimp only
      exact out12_A _ _ _ _ _ _ _ _ _ _ _ _ _ _ _ _ _ _ _ _ _ _ _ _ _ _ _ _ _ _ _ _ _ _ _ _ _ _ _ _ (t_lt t)
    · refine (congrArg (fun p => p.2.2.2.2) (outsAt0_B m c t h0 h1)).trans ?_
      dsimp only
      exact out12_B _ _ _ _ _ _ _ _ _ _ _ _ _ _ _ _ _ _ _ _ _ _ _ _ _ _ _ _ _ _ _ _ _ _ _ _ _ _ _ _ (t_lt t)
  · have h0 : ¬t.val % 32 = 0 := by have := t_lt t; omega
    refine (congrArg (fun p => p.2.2.2.2) (outsAt0_C m c t h0 h1)).trans ?_
    dsimp only
    exact out12_C _ _ _ _ _ _ _ _ _ _ _ _ _ _ _ _ _ _ _ _ _ _ _ _ _ _ _ _ _ _ _ _ _ _ _ _ _ _ _ _ (t_lt t)

theorem arr12 :
    (dats m 0 c).arrAt 12 cfg0.N = Cert.Reference5Ideal.Read.val_main_v10 (F := Ideal) (KV m c) (CA m c) := by
  refine (dats m 0 c).arrAt_eq_of_covers 12 _ (by decide +kernel) fun t _ y => ?_
  blk_simp
  rw [after0_12, step12]
  obtain ⟨f, w, rfl⟩ : ∃ (f : Fin 512) (w : Fin 2048), y = ix3 0 f w := ⟨y 1, y 2, by blk_ext []⟩
  rw [new_apply]
  congr 1
  blk_ext [idx12 t]

end Cert.Kernel5Ideal.Blk

end
-- ==== Proof.Pre.lean ====
/-
  What the precondition says of an element.
-/
module

public import proofs.«01_k».proof.Proof.Gen.Pre_finite
public import proofs.«01_k».proof.Proof.Band
public import Idealize.ShloMosaic.Lib.ReduceAll
public import Idealize.ShloMosaic.PureOps.Ideal.Laws

@[expose] public section

set_option maxRecDepth 16384

noncomputable section

namespace Cert.Pre_finite

open Idealize.ShloMosaic Idealize.ShloMosaic.TcCoe Cert.Pre_finite Cert.Pre_finite.Gen Cert.Band

theorem lt_inf (x : EReal) (h : Ideal.cmp CmpFPredicate.olt (max x (-x)) (Ideal.ofBits .f32 0x7F800000#32) = 1#1) : Fin' x := by
  have e : (Ideal.ofBits .f32 0x7F800000#32 : EReal) = ⊤ := by simp [Ideal.ofBits, Ideal.ieee]
  rw [e] at h
  have h' : max x (-x) < ⊤ := by
    by_contra hn
    simp [Ideal.cmp, hn] at h
  constructor
  · rintro rfl; simp at h'
  · rintro rfl; simp at h'

theorem all_fin (x : FVec Ideal S2x8192x768 .bf16) (j : S_.Idx)
    (h : Host.reduce IntOp.andi (cmpf .olt (Host.absf (extf .f32 x bitsLt_bf16_f32 : FVec Ideal S2x8192x768 .f32)) (broadcastInDim S2x8192x768 ![] bcast_S_S2x8192x768 (constant S_ .f32 0x7F800000#32)))
      (constantI S_ 1 1#1) reducesTo_S2x8192x768_S_d0_1_2 h_S_ j = 1#1) (i : S2x8192x768.Idx) : Fin' (x i) := by
  haveI : Subsingleton S_.Idx := ⟨fun a b => funext fun k => k.elim0⟩
  exact lt_inf _ (Host.reduce_andi_all _ _ _ _ _ h i)

theorem finite_of (a0 a1 a2 : FVec Ideal S2x8192x768 .bf16) (a3 : FVec Ideal S32x768 .bf16) (a4 : FVec Ideal S32x1536 .f32)
    (a5 : FVec Ideal S1x32x512x2x4x64 .f32) (h : fn (F := Ideal) a0 a1 a2 a3 a4 a5 = fun _ => 1#1) :
    (∀ i, Fin' (a0 i)) ∧ (∀ i, Fin' (a1 i)) := by
  have hj := congrFun h (fun k => k.elim0)
  have hb : ∀ x y : BitVec 1, IntOp.andi x y = 1#1 → x = 1#1 ∧ y = 1#1 := by decide
  obtain ⟨h0, h1⟩ := hb _ _ hj
  exact ⟨all_fin a0 _ h0, all_fin a1 _ h1⟩

end Cert.Pre_finite

end
-- ==== Proof.Norm.lean ====
/-
  The feed-forward part and the norms over the extended reals: a row's root mean square norm, the gated feed-forward
  row, and the equations that join a computation in chunks with the computation of the whole.
-/
module

public import proofs.«01_k».proof.Proof.Band

@[expose] public section

noncomputable section

namespace Cert.Ffn

open Idealize.ShloMosaic

/-- A row divided by the root of its mean square (the sum over `N`) and scaled by `g`. -/
def norm {n : ℕ} (N : EReal) (x g : Fin n → EReal) (d : Fin n) : EReal :=
  x d * Ideal.rsqrt (Ideal.div (∑ i, x i * x i) N + Ideal.ofBits FTy.f32 897988541#32) * g d

/-- A row times a matrix. -/
def rowMul {n k : ℕ} (x : Fin n → EReal) (w : Fin n → Fin k → EReal) (f : Fin k) : EReal := ∑ d, x d * w d f

/-- The hidden row: `silu` of the gate times the other branch. -/
def hidden {n k : ℕ} (h : Fin n → EReal) (wg wu : Fin n → Fin k → EReal) (f : Fin k) : EReal :=
  rowMul h wg f * Ideal.logistic (rowMul h wg f) * rowMul h wu f

/-- A row plus half its feed-forward value. -/
def ffn {n k : ℕ} (x h : Fin n → EReal) (wg wu : Fin n → Fin k → EReal) (wd : Fin k → Fin n → EReal) (d : Fin n) : EReal :=
  x d + Ideal.ofBits FTy.f32 1056964608#32 * rowMul (hidden h wg wu) wd d

theorem half_eq : Ideal.ofBits FTy.f32 1056964608#32 = ((1 / 2 : ℝ) : EReal) := by
  simp [Ideal.ofBits, Ideal.ieee]
  rw [← EReal.coe_mul]
  norm_num

/-- The logistic function by the hyperbolic tangent of the half. -/
theorem tanh_half (a : EReal) :
    Ideal.ofBits FTy.f32 1056964608#32 * Ideal.tanh (Ideal.ofBits FTy.f32 1056964608#32 * a) + Ideal.ofBits FTy.f32 1056964608#32
      = Ideal.logistic a := by
  rw [half_eq]
  have hpos : (0 : ℝ) < 1 / 2 := by norm_num
  induction a with
  | bot =>
    rw [EReal.coe_mul_bot_of_pos hpos, Ideal.tanh_bot, Ideal.logistic_bot, mul_neg, mul_one, ← EReal.coe_neg, ← EReal.coe_add]
    norm_num
  | top =>
    rw [EReal.coe_mul_top_of_pos hpos, Ideal.tanh_top, Ideal.logistic_top]
    norm_cast; norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have h1 : Real.exp (-r) = Real.exp (-(1 / 2 * r)) * Real.exp (-(1 / 2 * r)) := by rw [← Real.exp_add]; congr 1; ring
    have h2 : Real.exp (1 / 2 * r) * Real.exp (-(1 / 2 * r)) = 1 := by rw [← Real.exp_add]; simp
    have h3 := Real.exp_pos (1 / 2 * r)
    have h4 := Real.exp_pos (-(1 / 2 * r))
    rw [h1]
    generalize Real.exp (1 / 2 * r) = u at *
    generalize Real.exp (-(1 / 2 * r)) = v at *
    field_simp
    linear_combination (2 * v) * h2

/-- A sum over 2816 indices in chunks of 1024, 1024 and 768. -/
theorem sum_chunks (f : Fin 2816 → EReal) :
    (∑ i : Fin 1024, f ⟨i.val, by omega⟩) + (∑ i : Fin 1024, f ⟨1024 + i.val, by omega⟩) + (∑ i : Fin 768, f ⟨2048 + i.val, by omega⟩)
      = ∑ i, f i := by
  have h1 := Fin.sum_univ_add (a := 2048) (b := 768) f
  have h2 := Fin.sum_univ_add (a := 1024) (b := 1024) (fun i => f (Fin.castAdd 768 i))
  rw [h1, h2]
  rfl

/-- A sum of terms that are not negative, times a constant. -/
theorem sum_mul_nonneg {n : ℕ} (t : Fin n → EReal) (c : EReal) (h : ∀ i, 0 ≤ t i) : (∑ i, t i * c) = (∑ i, t i) * c := by
  have : ∀ s : Finset (Fin n), (∑ i ∈ s, t i * c) = (∑ i ∈ s, t i) * c := by
    intro s
    induction s using Finset.induction_on with
    | empty => simp
    | insert a s ha ih => rw [Finset.sum_insert ha, Finset.sum_insert ha, ih, EReal.right_distrib_of_nonneg (h a) (Finset.sum_nonneg fun i _ => h i)]
  exact this _

theorem sq_nonneg (x : EReal) : 0 ≤ x * x := by
  rcases le_total 0 x with h | h
  · exact mul_nonneg h h
  · have := mul_nonneg (EReal.neg_nonneg.mpr h) (EReal.neg_nonneg.mpr h)
    rwa [neg_mul, mul_neg, neg_neg] at this

/-- The mean over a head's 64 lanes, from a product over 256 lanes with the matrix that has `1 / 64` where the heads agree. -/
theorem head_mean (h : Fin 4) (t : Fin 256 → EReal) (s : Fin 256 → EReal)
    (hs : ∀ i : Fin 256, s i = if i.val / 64 = h.val then Ideal.div 1 (Ideal.ofBits FTy.f32 1115684864#32) else 0) :
    (∑ i, t i * t i * s i)
      = Ideal.div (∑ d : Fin 64, t ⟨h.val * 64 + d.val, by omega⟩ * t ⟨h.val * 64 + d.val, by omega⟩) (Ideal.ofBits FTy.f32 1115684864#32) := by
  simp only [hs, mul_ite, mul_zero]
  rw [Cert.Band.sum_head h (fun i => t i * t i * Ideal.div 1 (Ideal.ofBits FTy.f32 1115684864#32)), sum_mul_nonneg _ _ fun d => sq_nonneg _]
  refine Cert.Band.mul_div_one _ _ ?_
  simp [Ideal.ofBits, Ideal.ieee]

/-- A position's residual row after the feed-forward part, and its projection. -/
def outRow {n k : ℕ} (N : EReal) (x g : Fin n → EReal) (wg wu : Fin n → Fin k → EReal) (wd : Fin k → Fin n → EReal) : Fin n → EReal :=
  ffn x (norm N x g) wg wu wd
def projRow {n k l : ℕ} (N : EReal) (x g : Fin n → EReal) (wg wu : Fin n → Fin k → EReal) (wd : Fin k → Fin n → EReal) (gm : Fin n → EReal)
    (wi : Fin n → Fin l → EReal) : Fin l → EReal :=
  rowMul (norm N (outRow N x g wg wu wd) gm) wi

/-- The place in its tile of 512 of the row that a group's layout keeps at `r`: the rows of one residue are together. -/
def tilePos (a : Fin 3) (r : Fin 512) : Fin 512 :=
  match a with
  | 0 => r
  | 1 => ⟨r.val % 128 * 4 + r.val / 128, by omega⟩
  | 2 => ⟨r.val % 32 * 16 + r.val / 32, by omega⟩

/-- A lane of three groups of four heads. -/
def lane (a : Fin 3) (h : Fin 4) (i : Fin 64) : Fin 768 := ⟨a.val * 256 + h.val * 64 + i.val, by omega⟩

/-- A lane divided by the root of its head's mean square, and scaled. -/
def headNorm (t : Fin 768 → EReal) (g : EReal) (a : Fin 3) (h : Fin 4) (i : Fin 64) : EReal :=
  t (lane a h i) * Ideal.rsqrt (Ideal.div (∑ j, t (lane a h j) * t (lane a h j)) (Ideal.ofBits FTy.f32 1115684864#32) + Ideal.ofBits FTy.f32 897988541#32) * g

/-- The means of the three groups, side by side. -/
theorem head_ladder (t : Fin 768 → EReal) (s : Fin 256 → Fin 256 → EReal)
    (hs : ∀ i j : Fin 256, s i j = if i.val / 64 = j.val / 64 then Ideal.div 1 (Ideal.ofBits FTy.f32 1115684864#32) else 0)
    (a : Fin 3) (h : Fin 4) (i : Fin 64) :
    (if h0 : (lane a h i).val < 256 then ∑ x : Fin 256, t ⟨x.val, by omega⟩ * t ⟨x.val, by omega⟩ * s x ⟨(lane a h i).val, h0⟩
      else if h1 : (lane a h i).val - 256 < 256 then
        ∑ x : Fin 256, t ⟨256 + x.val, by omega⟩ * t ⟨256 + x.val, by omega⟩ * s x ⟨(lane a h i).val - 256, h1⟩
      else ∑ x : Fin 256, t ⟨512 + x.val, by omega⟩ * t ⟨512 + x.val, by omega⟩ * s x ⟨(lane a h i).val - 256 - 256, by omega⟩)
      = Ideal.div (∑ j, t (lane a h j) * t (lane a h j)) (Ideal.ofBits FTy.f32 1115684864#32) := by
  obtain rfl | rfl | rfl : a = 0 ∨ a = 1 ∨ a = 2 := by omega
  · have e : (lane 0 h i).val = h.val * 64 + i.val := by simp [lane]
    rw [dif_pos (by omega), head_mean h (fun x => t ⟨x.val, by omega⟩) _ (fun x => (hs x _).trans (by simp only [e]; congr 1; simp only [eq_iff_iff]; omega))]
    simp only [lane, Fin.val_zero, zero_mul, zero_add]
  · have e : (lane 1 h i).val = 256 + h.val * 64 + i.val := by simp [lane]
    rw [dif_neg (by omega), dif_pos (by omega), head_mean h (fun x => t ⟨256 + x.val, by omega⟩) _ (fun x => (hs x _).trans (by simp only [e]; congr 1; simp only [eq_iff_iff]; omega))]
    simp only [lane, Fin.val_one, one_mul, add_assoc]
  · have e : (lane 2 h i).val = 512 + h.val * 64 + i.val := by simp [lane]
    rw [dif_neg (by omega), dif_neg (by omega), head_mean h (fun x => t ⟨512 + x.val, by omega⟩) _ (fun x => (hs x _).trans (by simp only [e]; congr 1; simp only [eq_iff_iff]; omega))]
    simp only [lane, Fin.val_two, add_assoc]

end Cert.Ffn

end
-- ==== Proof.Ffn.lean ====
/-
  The feed-forward kernel's payloads at an index.
-/
module

public import proofs.«01_k».proof.Proof.Gen.Kernel2Ideal.Skeleton
public import proofs.«01_k».proof.Proof.Norm
public import Idealize.ShloMosaic.Lib.Pointwise
public import Idealize.ShloMosaic.Lib.Pipeline.ValueKit

@[expose] public section

set_option maxRecDepth 16384

noncomputable section

namespace Cert.Kernel2Ideal.At

open Idealize.ShloMosaic Idealize.ShloMosaic.TcCoe Cert.Kernel2Ideal Cert.Kernel2Ideal.Gen Cert.Ffn
open Idealize.ShloMosaic.Pointwise

theorem n1_apply (x : FVec Ideal S512x1024 .f32) (g : FVec Ideal S1x1024 .f32) (r : Fin 512) (d : Fin 1024) :
    k0_pay8 (F := Ideal) x g (ix2 r d)
      = norm (Ideal.ofBits FTy.f32 1149239296#32) (fun d => x (ix2 r d)) (fun d => g (ix2 0 d)) d := by
  pointwise [k0_pay8, k0_pay7]
  rfl

/-- The residual row: the input plus half its feed-forward value, as the kernel sums it in three chunks. -/
def kX1 (x : FVec Ideal S512x1024 .f32) (g : FVec Ideal S1x1024 .f32) (a b : Vec Ideal S1024x2816 .bf16) (c : Vec Ideal S2816x1024 .bf16) :
    FVec Ideal S512x1024 .f32 :=
  k0_pay11 (F := Ideal) (k0_pay7 x) (k0_pay8 x g)
    (k0_pay9 x g (View.ld a (Rect.unit ![0, 0] ![1024, 1024] inb_S1024x2816_S1024x1024_0_0))
      (View.ld b (Rect.unit ![0, 0] ![1024, 1024] inb_S1024x2816_S1024x1024_0_0))
      (View.ld c (Rect.unit ![0, 0] ![1024, 1024] inb_S2816x1024_S1024x1024_0_0)))
    (k0_pay10 x g (View.ld a (Rect.unit ![0, 1024] ![1024, 1024] inb_S1024x2816_S1024x1024_0_1024)))
    (View.ld b (Rect.unit ![0, 1024] ![1024, 1024] inb_S1024x2816_S1024x1024_0_1024))
    (View.ld c (Rect.unit ![1024, 0] ![1024, 1024] inb_S2816x1024_S1024x1024_1024_0))
    (View.ld a (Rect.unit ![0, 2048] ![1024, 768] inb_S1024x2816_S1024x768_0_2048))
    (View.ld b (Rect.unit ![0, 2048] ![1024, 768] inb_S1024x2816_S1024x768_0_2048))
    (View.ld c (Rect.unit ![2048, 0] ![768, 1024] inb_S2816x1024_S768x1024_2048_0))

theorem x1_apply (x : FVec Ideal S512x1024 .f32) (g : FVec Ideal S1x1024 .f32) (a b : Vec Ideal S1024x2816 .bf16) (c : Vec Ideal S2816x1024 .bf16)
    (r : Fin 512) (d : Fin 1024) :
    kX1 x g a b c (ix2 r d)
      = ffn (fun d => x (ix2 r d)) (norm (Ideal.ofBits FTy.f32 1149239296#32) (fun d => x (ix2 r d)) (fun d => g (ix2 0 d)))
          (fun e f => a (ix2 e f)) (fun e f => b (ix2 e f)) (fun f d => c (ix2 f d)) d := by
  unfold kX1
  pointwise [k0_pay11, k0_pay10, k0_pay9, k0_pay7]
  simp only [n1_apply, tanh_half]
  exact congrArg (fun e => x (ix2 r d) + Ideal.ofBits FTy.f32 1056964608#32 * e)
    (sum_chunks fun f => hidden (norm (Ideal.ofBits FTy.f32 1149239296#32) (fun d => x (ix2 r d)) (fun d => g (ix2 0 d)))
      (fun e f => a (ix2 e f)) (fun e f => b (ix2 e f)) f * c (ix2 f d))

theorem proj_apply (x : FVec Ideal S512x1024 .f32) (g : FVec Ideal S1x1024 .f32) (w : FVec Ideal S1024x2816 .bf16) (r : Fin 512) (d : Fin 2816) :
    k0_pay12 (F := Ideal) x g w (ix2 r d)
      = rowMul (norm (Ideal.ofBits FTy.f32 1149239296#32) (fun d => x (ix2 r d)) (fun d => g (ix2 0 d))) (fun e f => w (ix2 e f)) d := by
  pointwise [k0_pay12]
  rfl

variable (x : FVec Ideal S512x1024 .f32) (g : FVec Ideal S1x1024 .f32) (w : FVec Ideal S1024x2816 .bf16)
  (s : FVec Ideal S256x256 .bf16) (g' : FVec Ideal S1x768 .f32)
  (hs : ∀ i j : Fin 256, s (ix2 i j) = if i.val / 64 = j.val / 64 then Ideal.div 1 (Ideal.ofBits FTy.f32 1115684864#32) else 0)

include hs in
theorem q_apply (r : Fin 512) (a : Fin 3) (h : Fin 4) (i : Fin 64) :
    k0_pay15 (F := Ideal) x g w s g' (ix2 r (lane a h i))
      = headNorm (fun d => k0_pay12 (F := Ideal) x g w (ix2 r ⟨512 + d.val, by omega⟩)) (g' (ix2 0 (lane a h i))) a h i := by
  generalize hl : lane a h i = l
  pointwise [k0_pay15, k0_pay14]
  subst hl
  exact congrArg (fun e => k0_pay12 (F := Ideal) x g w (ix2 r ⟨512 + (lane a h i).val, by omega⟩) * Ideal.rsqrt (e + Ideal.ofBits FTy.f32 897988541#32) * g' (ix2 0 (lane a h i)))
    (head_ladder (fun d => k0_pay12 (F := Ideal) x g w (ix2 r ⟨512 + d.val, by omega⟩)) (fun i j => s (ix2 i j)) hs a h i)

include hs in
theorem k_apply (r : Fin 512) (a : Fin 3) (h : Fin 4) (i : Fin 64) :
    k0_pay17 (F := Ideal) (k0_pay14 s) (k0_pay16 x g w) g' (ix2 r (lane a h i))
      = headNorm (fun d => k0_pay12 (F := Ideal) x g w (ix2 r ⟨1280 + d.val, by omega⟩)) (g' (ix2 0 (lane a h i))) a h i := by
  generalize hl : lane a h i = l
  pointwise [k0_pay17, k0_pay16, k0_pay14]
  subst hl
  exact congrArg (fun e => k0_pay12 (F := Ideal) x g w (ix2 r ⟨1280 + (lane a h i).val, by omega⟩) * Ideal.rsqrt (e + Ideal.ofBits FTy.f32 897988541#32) * g' (ix2 0 (lane a h i)))
    (head_ladder (fun d => k0_pay12 (F := Ideal) x g w (ix2 r ⟨1280 + d.val, by omega⟩)) (fun i j => s (ix2 i j)) hs a h i)

theorem u_apply (r : Fin 512) (d : Fin 512) :
    k0_pay13 (F := Ideal) x g w (ix2 r d) = k0_pay12 (F := Ideal) x g w (ix2 r ⟨d.val, by omega⟩) := by
  pointwise [k0_pay13]

theorem v_apply (p : FVec Ideal S512x2816 .f32) (r : Fin 512) (d : Fin 768) :
    k0_pay18 (F := Ideal) p (ix2 r d) = p (ix2 r ⟨2048 + d.val, by omega⟩) := by
  pointwise [k0_pay18]

theorem qs_apply (q : FVec Ideal S512x768 .f32) (r : Fin 512) (d : Fin 768) :
    k0_pay19 (F := Ideal) q (ix2 r d) = q (ix2 r d) * Ideal.ofBits FTy.f32 1040187392#32 := by
  pointwise [k0_pay19]

end Cert.Kernel2Ideal.At

end
-- ==== Proof.Arg.lean ====
/-
  The feed-forward kernel's blocks, in the arrays the call gets.
-/
module

public import proofs.«01_k».proof.Proof.Gen.Kernel2Ideal.Value
public import proofs.«01_k».proof.Proof.Norm
public import Idealize.ShloMosaic.Lib.Pointwise
public import Idealize.ShloMosaic.Lib.Pipeline.ValueKit
public import Idealize.ShloMosaic.Lib.Claim

@[expose] public section

set_option maxRecDepth 16384

noncomputable section

namespace Cert.Kernel2Ideal.At

open Idealize.ShloMosaic Idealize.ShloMosaic.TcCoe Cert.Kernel2Ideal Cert.Kernel2Ideal.Gen Cert.Ffn
open Idealize.ShloMosaic.Pointwise

variable (m : (ℓ : Loc nD τ sig) → Buf (Elt Ideal) ℓ) (c : Dev nD) (t : Fin cfg0.N)

theorem idx0 : ∀ t : Fin cfg0.N, win0_0.index t = ![t.val, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![0, 0] :=
  (by decide +kernel : ∀ t : Fin grid0.N, _)
theorem idx3 : ∀ t : Fin cfg0.N, win0_3.index t = ![0, 0] :=
  (by decide +kernel : ∀ t : Fin grid0.N, _)
theorem idx4 : ∀ t : Fin cfg0.N, win0_4.index t = ![0, 0] :=
  (by decide +kernel : ∀ t : Fin grid0.N, _)
theorem idx5 : ∀ t : Fin cfg0.N, win0_5.index t = ![0, 0] :=
  (by decide +kernel : ∀ t : Fin grid0.N, _)
theorem idx6 : ∀ t : Fin cfg0.N, win0_6.index t = ![0, 0] :=
  (by decide +kernel : ∀ t : Fin grid0.N, _)
theorem idx7 : ∀ t : Fin cfg0.N, win0_7.index t = ![0, 0] :=
  (by decide +kernel : ∀ t : Fin grid0.N, _)
theorem idx8 : ∀ t : Fin cfg0.N, win0_8.index t = ![0, 0] :=
  (by decide +kernel : ∀ t : Fin grid0.N, _)
theorem idx9 : ∀ t : Fin cfg0.N, win0_9.index t = ![0, 0] :=
  (by decide +kernel : ∀ t : Fin grid0.N, _)

theorem blk0 (r : Fin 512) (d : Fin 1024) (ht : t.val < 32) :
    iblk m c 0 t (ix2 r d) = m ((c : Thread nD τ).loc main_arg0) (ix3 ⟨t.val / 16, by omega⟩ ⟨t.val % 16 * 512 + r.val, by omega⟩ d) := by
  blk_simp [iblk, idx0 t]
  simp only [V, List.flatten_cons, List.flatten_nil, List.append_nil, List.cons_append, List.nil_append]
  entry_read
  pointwise
  blk_ext [idx0 t]
theorem blk1 (d : Fin 1024) : iblk m c 1 t (ix2 0 d) = m ((c : Thread nD τ).loc main_arg1) (ix1 d) := by
  blk_simp [iblk, idx1 t]
  simp only [V, List.flatten_cons, List.flatten_nil, List.append_nil, List.cons_append, List.nil_append]
  entry_read
  pointwise
  blk_ext [idx1 t]
theorem blk2 (e : Fin 1024) (f : Fin 2816) : iblk m c 2 t (ix2 e f) = m ((c : Thread nD τ).loc main_arg2) (ix2 e f) := by
  blk_simp [iblk, idx2 t]
  simp only [V, List.flatten_cons, List.flatten_nil, List.append_nil, List.cons_append, List.nil_append]
  entry_read
  pointwise
  blk_ext [idx2 t]
theorem blk3 (e : Fin 1024) (f : Fin 2816) : iblk m c 3 t (ix2 e f) = m ((c : Thread nD τ).loc main_arg3) (ix2 e f) := by
  blk_simp [iblk, idx3 t]
  simp only [V, List.flatten_cons, List.flatten_nil, List.append_nil, List.cons_append, List.nil_append]
  entry_read
  pointwise
  blk_ext [idx3 t]
theorem blk4 (f : Fin 2816) (e : Fin 1024) : iblk m c 4 t (ix2 f e) = m ((c : Thread nD τ).loc main_arg4) (ix2 f e) := by
  blk_simp [iblk, idx4 t]
  simp only [V, List.flatten_cons, List.flatten_nil, List.append_nil, List.cons_append, List.nil_append]
  entry_read
  pointwise
  blk_ext [idx4 t]
theorem blk5 (d : Fin 1024) : iblk m c 5 t (ix2 0 d) = m ((c : Thread nD τ).loc main_arg5) (ix1 d) := by
  blk_simp [iblk, idx5 t]
  simp only [V, List.flatten_cons, List.flatten_nil, List.append_nil, List.cons_append, List.nil_append]
  entry_read
  pointwise
  blk_ext [idx5 t]
theorem blk6 (e : Fin 1024) (f : Fin 2816) : iblk m c 6 t (ix2 e f) = m ((c : Thread nD τ).loc main_arg6) (ix2 e f) := by
  blk_simp [iblk, idx6 t]
  simp only [V, List.flatten_cons, List.flatten_nil, List.append_nil, List.cons_append, List.nil_append]
  entry_read
  pointwise
  blk_ext [idx6 t]
theorem blk7 (a : Fin 3) (h : Fin 4) (i : Fin 64) : iblk m c 7 t (ix2 0 (lane a h i)) = m ((c : Thread nD τ).loc main_arg7) (ix2 a i) := by
  unfold lane
  blk_simp [iblk, idx7 t]
  simp only [V, List.flatten_cons, List.flatten_nil, List.append_nil, List.cons_append, List.nil_append]
  entry_read
  pointwise
  blk_ext [idx7 t]
theorem blk8 (a : Fin 3) (h : Fin 4) (i : Fin 64) : iblk m c 8 t (ix2 0 (lane a h i)) = m ((c : Thread nD τ).loc main_arg8) (ix2 a i) := by
  unfold lane
  blk_simp [iblk, idx8 t]
  simp only [V, List.flatten_cons, List.flatten_nil, List.append_nil, List.cons_append, List.nil_append]
  entry_read
  pointwise
  blk_ext [idx8 t]
/-- The head of a lane, as the host computes it. -/
def headWord (b : BitVec 32) : BitVec 32 :=
  Scalar.select (IntOp.andi (IntOp.cmpi CmpIPredicate.ne (if b = 0 then (0 : BitVec 32) else if b.msb = true then -1 else 1)
      (if 64#32 = 0 then (0 : BitVec 32) else if (64#32).msb = true then -1 else 1)) (IntOp.cmpi CmpIPredicate.ne (IntOp.remsi ArithUnit.host b 64#32) 0#32))
    (IntOp.subi (IntOp.divsi ArithUnit.host b 64#32) 1#32) (IntOp.divsi ArithUnit.host b 64#32)

theorem headWord_eq : ∀ k : Fin 256, headWord (BitVec.ofNat 32 k.val) = BitVec.ofNat 32 (k.val / 64) := by decide +kernel

theorem same_head : ∀ a b : Fin 4, IntOp.cmpi CmpIPredicate.eq (BitVec.ofNat 32 a.val) (BitVec.ofNat 32 b.val) = if a.val = b.val then 1#1 else 0#1 := by
  decide +kernel

theorem headBit (i j : Fin 256) : IntOp.cmpi CmpIPredicate.eq (headWord (BitVec.ofNat 32 i.val)) (headWord (BitVec.ofNat 32 j.val))
    = if i.val / 64 = j.val / 64 then 1#1 else 0#1 := by
  rw [headWord_eq, headWord_eq]
  exact same_head ⟨i.val / 64, by omega⟩ ⟨j.val / 64, by omega⟩

theorem blk9 (i j : Fin 256) :
    iblk m c 9 t (ix2 i j) = if i.val / 64 = j.val / 64 then Ideal.div 1 (Ideal.ofBits FTy.f32 1115684864#32) else 0 := by
  have e0 : ((((View.whole main_v18).slice (win0_9.rect t)).emb (ix2 i j) 0 : Fin 256) : ℕ) = i.val := by
    show win0_9.index t 0 * 256 + 1 * i.val = i.val
    simp [idx9 t]
  have e1 : ((((View.whole main_v18).slice (win0_9.rect t)).emb (ix2 i j) 1 : Fin 256) : ℕ) = j.val := by
    show win0_9.index t 1 * 256 + 1 * j.val = j.val
    simp [idx9 t]
  blk_simp [iblk, idx9 t]
  simp only [V, List.flatten_cons, List.flatten_nil, List.append_nil, List.cons_append, List.nil_append]
  entry_read
  simp only [StableHlo.TRef.ofBuf, StableHlo.TRef.toBuf, cast_eq, eq_mpr_eq_cast]
  pointwise
  refine (congrArg (fun b : BitVec 1 => Ideal.div (FloatOps.uitofp (F := Ideal) FTy.f32 b) (Ideal.ofBits FTy.f32 1115684864#32))
    ((congrArg₂ (fun x y => IntOp.cmpi CmpIPredicate.eq (headWord (BitVec.ofNat 32 x)) (headWord (BitVec.ofNat 32 y))) e0 e1).trans (headBit i j))).trans ?_
  split
  · show Ideal.div (((1#1 : BitVec 1).toNat : ℝ) : EReal) _ = _
    norm_num
  · show Ideal.div (((0#1 : BitVec 1).toNat : ℝ) : EReal) _ = _
    have h : Ideal.ofBits FTy.f32 1115684864#32 ≠ 0 := by
      simp [Ideal.ofBits, Ideal.ieee]
    simp [Ideal.div, h]

end Cert.Kernel2Ideal.At

end
-- ==== Proof.Resid.lean ====
/-
  The layout by residues that the attention reads, at an index.
-/
module

public import proofs.«01_k».proof.Proof.Gen.Reference2Ideal
public import proofs.«01_k».proof.Proof.Norm
public import Idealize.ShloMosaic.Lib.Pointwise
public import Idealize.ShloMosaic.Lib.Pipeline.ValueKit

@[expose] public section

set_option maxRecDepth 16384

noncomputable section

namespace Cert.Reference2Ideal.At

open Idealize.ShloMosaic Idealize.ShloMosaic.TcCoe Cert.Reference2Ideal Cert.Reference2Ideal.Gen
open Idealize.ShloMosaic.Pointwise
open Cert.Ffn hiding norm

/-! The three groups' rows, of an array by position, group, head and lane. -/

def resid0 (y : FVec Ideal S2x8192x3x4x64 .f32) : FVec Ideal S16384x256 .f32 :=
  shapeCast _ (transpose S2x16x1x512x256 [0, 1, 3, 2, 4] (shapeCast _ (shapeCast _ (extractStridedSlice S2x8192x1x4x64 ![0, 0, 0, 0, 0] y slices_S2x8192x3x4x64_S2x8192x1x4x64_0_0_0_0_0) shapeCasts_S2x8192x1x4x64_S2x8192x4x64) shapeCasts_S2x8192x4x64_S2x16x512x1x256) transposes_S2x16x512x1x256_S2x16x1x512x256_0_1_3_2_4) shapeCasts_S2x16x1x512x256_S16384x256

theorem resid0_apply (y : FVec Ideal S2x8192x3x4x64 .f32) (t : Fin 32) (r : Fin 512) (h : Fin 4) (i : Fin 64) :
    resid0 y (ix2 ⟨t.val * 512 + r.val, by omega⟩ ⟨h.val * 64 + i.val, by omega⟩)
      = y (ix5 ⟨t.val / 16, by omega⟩ ⟨t.val % 16 * 512 + (tilePos 0 r).val, by omega⟩ 0 h i) := by
  unfold resid0
  pointwise
  refine congrArg y ?_
  simp only [tilePos]
  blk_ext []

def resid1 (y : FVec Ideal S2x8192x3x4x64 .f32) : FVec Ideal S16384x256 .f32 :=
  shapeCast _ (transpose S2x16x4x128x256 [0, 1, 3, 2, 4] (shapeCast _ (shapeCast _ (extractStridedSlice S2x8192x1x4x64 ![0, 0, 1, 0, 0] y slices_S2x8192x3x4x64_S2x8192x1x4x64_0_0_1_0_0) shapeCasts_S2x8192x1x4x64_S2x8192x4x64) shapeCasts_S2x8192x4x64_S2x16x128x4x256) transposes_S2x16x128x4x256_S2x16x4x128x256_0_1_3_2_4) shapeCasts_S2x16x4x128x256_S16384x256

theorem resid1_apply (y : FVec Ideal S2x8192x3x4x64 .f32) (t : Fin 32) (r : Fin 512) (h : Fin 4) (i : Fin 64) :
    resid1 y (ix2 ⟨t.val * 512 + r.val, by omega⟩ ⟨h.val * 64 + i.val, by omega⟩)
      = y (ix5 ⟨t.val / 16, by omega⟩ ⟨t.val % 16 * 512 + (tilePos 1 r).val, by omega⟩ 1 h i) := by
  unfold resid1
  pointwise
  refine congrArg y ?_
  simp only [tilePos]
  blk_ext []

def resid2 (y : FVec Ideal S2x8192x3x4x64 .f32) : FVec Ideal S16384x256 .f32 :=
  shapeCast _ (transpose S2x16x16x32x256 [0, 1, 3, 2, 4] (shapeCast _ (shapeCast _ (extractStridedSlice S2x8192x1x4x64 ![0, 0, 2, 0, 0] y slices_S2x8192x3x4x64_S2x8192x1x4x64_0_0_2_0_0) shapeCasts_S2x8192x1x4x64_S2x8192x4x64) shapeCasts_S2x8192x4x64_S2x16x32x16x256) transposes_S2x16x32x16x256_S2x16x16x32x256_0_1_3_2_4) shapeCasts_S2x16x16x32x256_S16384x256

theorem resid2_apply (y : FVec Ideal S2x8192x3x4x64 .f32) (t : Fin 32) (r : Fin 512) (h : Fin 4) (i : Fin 64) :
    resid2 y (ix2 ⟨t.val * 512 + r.val, by omega⟩ ⟨h.val * 64 + i.val, by omega⟩)
      = y (ix5 ⟨t.val / 16, by omega⟩ ⟨t.val % 16 * 512 + (tilePos 2 r).val, by omega⟩ 2 h i) := by
  unfold resid2
  pointwise
  refine congrArg y ?_
  simp only [tilePos]
  blk_ext []

/-- The three groups side by side. -/
def resid (y : FVec Ideal S2x8192x3x4x64 .f32) : FVec Ideal S16384x768 .f32 :=
  concatenate S16384x768 1 [⟨S16384x256, resid0 y⟩, ⟨S16384x256, resid1 y⟩, ⟨S16384x256, resid2 y⟩] concatenates_S16384x256_S16384x256_S16384x256_S16384x768_d1

theorem resid_apply (y : FVec Ideal S2x8192x3x4x64 .f32) (t : Fin 32) (r : Fin 512) (a : Fin 3) (h : Fin 4) (i : Fin 64) :
    resid y (ix2 ⟨t.val * 512 + r.val, by omega⟩ (lane a h i))
      = y (ix5 ⟨t.val / 16, by omega⟩ ⟨t.val % 16 * 512 + (tilePos a r).val, by omega⟩ a h i) := by
  unfold resid lane
  pointwise
  obtain rfl | rfl | rfl : a = 0 ∨ a = 1 ∨ a = 2 := by omega
  · rw [dif_pos (by simp; omega)]
    refine Eq.trans ?_ (resid0_apply y t r h i)
    refine congrArg (resid0 y) ?_
    blk_ext []
  · rw [dif_neg (by simp; omega), dif_pos (by simp; omega)]
    refine Eq.trans ?_ (resid1_apply y t r h i)
    refine congrArg (resid1 y) ?_
    blk_ext []
  · rw [dif_neg (by simp; omega), dif_neg (by simp; omega)]
    refine Eq.trans ?_ (resid2_apply y t r h i)
    refine congrArg (resid2 y) ?_
    blk_ext []

end Cert.Reference2Ideal.At

end
-- ==== Proof.Ref2.lean ====
/-
  The feed-forward reference's values at an index.
-/
module

public import proofs.«01_k».proof.Proof.Gen.Reference2Ideal.Read
public import proofs.«01_k».proof.Proof.Resid
public import Idealize.ShloMosaic.Lib.Pointwise
public import Idealize.ShloMosaic.Lib.Pipeline.ValueKit

@[expose] public section

set_option maxRecDepth 16384

noncomputable section

namespace Cert.Reference2Ideal.At

open Idealize.ShloMosaic Idealize.ShloMosaic.TcCoe Cert.Reference2Ideal Cert.Reference2Ideal.Gen Cert.Reference2Ideal.Read
open Idealize.ShloMosaic.Pointwise
open Cert.Ffn hiding norm

variable (x : FVec Ideal S2x8192x1024 .f32) (g : FVec Ideal S1024 .f32) (wg wu : FVec Ideal S1024x2816 .bf16) (wd : FVec Ideal S2816x1024 .bf16)
  (gm : FVec Ideal S1024 .f32) (wi : FVec Ideal S1024x2816 .bf16) (gq gk : FVec Ideal S3x64 .f32)

/-- A position's rows, in the arguments. -/
def oR (b : Fin 2) (p : Fin 8192) : Fin 1024 → EReal :=
  outRow (Ideal.ofBits FTy.f32 1149239296#32) (fun d => x (ix3 b p d)) (fun d => g (ix1 d)) (fun e f => wg (ix2 e f)) (fun e f => wu (ix2 e f))
    (fun f d => wd (ix2 f d))
def pR (b : Fin 2) (p : Fin 8192) : Fin 2816 → EReal :=
  projRow (Ideal.ofBits FTy.f32 1149239296#32) (fun d => x (ix3 b p d)) (fun d => g (ix1 d)) (fun e f => wg (ix2 e f)) (fun e f => wu (ix2 e f))
    (fun f d => wd (ix2 f d)) (fun d => gm (ix1 d)) (fun e f => wi (ix2 e f))
def qR (b : Fin 2) (p : Fin 8192) (a : Fin 3) (h : Fin 4) (i : Fin 64) : EReal :=
  headNorm (fun d => pR x g wg wu wd gm wi b p ⟨512 + d.val, by omega⟩) (gq (ix2 a i)) a h i
def kR (b : Fin 2) (p : Fin 8192) (a : Fin 3) (h : Fin 4) (i : Fin 64) : EReal :=
  headNorm (fun d => pR x g wg wu wd gm wi b p ⟨1280 + d.val, by omega⟩) (gk (ix2 a i)) a h i
def vR (b : Fin 2) (p : Fin 8192) (a : Fin 3) (h : Fin 4) (i : Fin 64) : EReal :=
  pR x g wg wu wd gm wi b p ⟨2048 + (lane a h i).val, by omega⟩

theorem v12_apply (b : Fin 2) (p : Fin 8192) (d : Fin 1024) :
    val_main_v12 (F := Ideal) x g (ix3 b p d)
      = Cert.Ffn.norm (Ideal.ofBits FTy.f32 1149239296#32) (fun d => x (ix3 b p d)) (fun d => g (ix1 d)) d := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem v24_apply (b : Fin 2) (p : Fin 8192) (f : Fin 2816) :
    val_main_v24 (F := Ideal) x g wg wu (ix3 b p f)
      = hidden (fun d => val_main_v12 (F := Ideal) x g (ix3 b p d)) (fun e f => wg (ix2 e f)) (fun e f => wu (ix2 e f)) f := by
  pointwise [val_main_v24, val_main_v23, val_main_v22, val_main_v21, val_main_v20, val_main_v19, val_main_v18, val_main_v17, val_main_v16, val_main_v15, val_main_v14, val_main_v13, val_main_cst_2, val_main_cst_3]
  rfl

theorem v29_apply (b : Fin 2) (p : Fin 8192) (d : Fin 1024) :
    val_main_v29 (F := Ideal) x g wg wu wd (ix3 b p d) = oR x g wg wu wd b p d := by
  pointwise [val_main_v29, val_main_v28, val_main_v27, val_main_v26, val_main_v25, val_main_cst_4]
  simp only [v24_apply, v12_apply]
  rfl

theorem v44_apply (b : Fin 2) (p : Fin 8192) (d : Fin 2816) :
    val_main_v44 (F := Ideal) x g wg wu wd gm wi (ix3 b p d) = pR x g wg wu wd gm wi b p d := by
  pointwise [val_main_v44, val_main_v43, val_main_v42, val_main_v41, val_main_v40, val_main_v39, val_main_v38, val_main_v37, val_main_v36, val_main_v35, val_main_v34, val_main_v33, val_main_v32, val_main_v31, val_main_v30, val_main_cst_5, val_main_cst_6, val_main_cst_7]
  simp only [v29_apply]
  rfl

theorem v61_apply (b : Fin 2) (p : Fin 8192) (a : Fin 3) (h : Fin 4) (i : Fin 64) :
    val_main_v61 (F := Ideal) x g wg wu wd gm wi gq (ix5 b p a h i) = qR x g wg wu wd gm wi gq b p a h i := by
  pointwise [val_main_v61, val_main_v60, val_main_v59, val_main_v58, val_main_v57, val_main_v56, val_main_v55, val_main_v54, val_main_v53, val_main_v52, val_main_v51, val_main_v50, val_main_v49, val_main_v48, val_main_v47, val_main_v46, val_main_cst_8, val_main_cst_9, val_main_cst_10]
  simp only [v44_apply]
  rfl

theorem v77_apply (b : Fin 2) (p : Fin 8192) (a : Fin 3) (h : Fin 4) (i : Fin 64) :
    val_main_v77 (F := Ideal) x g wg wu wd gm wi gk (ix5 b p a h i) = kR x g wg wu wd gm wi gk b p a h i := by
  pointwise [val_main_v77, val_main_v76, val_main_v75, val_main_v74, val_main_v73, val_main_v72, val_main_v71, val_main_v70, val_main_v69, val_main_v68, val_main_v67, val_main_v66, val_main_v65, val_main_v64, val_main_v63, val_main_v62, val_main_cst_11, val_main_cst_12, val_main_cst_13]
  simp only [v44_apply]
  rfl

theorem v79_apply (b : Fin 2) (p : Fin 8192) (a : Fin 3) (h : Fin 4) (i : Fin 64) :
    val_main_v79 (F := Ideal) x g wg wu wd gm wi (ix5 b p a h i) = vR x g wg wu wd gm wi b p a h i := by
  pointwise [val_main_v79, val_main_v78]
  simp only [v44_apply]
  rfl

theorem v80_apply (t : Fin 32) (r : Fin 512) (d : Fin 1024) :
    val_main_v80 (F := Ideal) x g wg wu wd (ix2 ⟨t.val * 512 + r.val, by omega⟩ d)
      = oR x g wg wu wd ⟨t.val / 16, by omega⟩ ⟨t.val % 16 * 512 + r.val, by omega⟩ d := by
  rw [← v29_apply]
  pointwise [val_main_v80]
  blk_ext []

theorem v81_apply (t : Fin 32) (r : Fin 512) (d : Fin 512) :
    val_main_v81 (F := Ideal) x g wg wu wd gm wi (ix2 ⟨t.val * 512 + r.val, by omega⟩ d)
      = pR x g wg wu wd gm wi ⟨t.val / 16, by omega⟩ ⟨t.val % 16 * 512 + r.val, by omega⟩ ⟨d.val, by omega⟩ := by
  rw [← v44_apply]
  pointwise [val_main_v81, val_main_v45]
  blk_ext []

theorem v100_apply (t : Fin 32) (r : Fin 512) (a : Fin 3) (h : Fin 4) (i : Fin 64) :
    val_main_v100 (F := Ideal) x g wg wu wd gm wi gq (ix2 ⟨t.val * 512 + r.val, by omega⟩ (lane a h i))
      = qR x g wg wu wd gm wi gq ⟨t.val / 16, by omega⟩ ⟨t.val % 16 * 512 + (tilePos a r).val, by omega⟩ a h i * Ideal.ofBits FTy.f32 1040187392#32 := by
  refine (resid_apply (val_main_v83 (F := Ideal) x g wg wu wd gm wi gq) t r a h i).trans ?_
  rw [← v61_apply]
  pointwise [val_main_v83, val_main_v82, val_main_cst_14]

theorem v117_apply (t : Fin 32) (r : Fin 512) (a : Fin 3) (h : Fin 4) (i : Fin 64) :
    val_main_v117 (F := Ideal) x g wg wu wd gm wi gk (ix2 ⟨t.val * 512 + r.val, by omega⟩ (lane a h i))
      = kR x g wg wu wd gm wi gk ⟨t.val / 16, by omega⟩ ⟨t.val % 16 * 512 + (tilePos a r).val, by omega⟩ a h i := by
  rw [← v77_apply]
  exact resid_apply (val_main_v77 (F := Ideal) x g wg wu wd gm wi gk) t r a h i

theorem v134_apply (t : Fin 32) (r : Fin 512) (a : Fin 3) (h : Fin 4) (i : Fin 64) :
    val_main_v134 (F := Ideal) x g wg wu wd gm wi (ix2 ⟨t.val * 512 + r.val, by omega⟩ (lane a h i))
      = vR x g wg wu wd gm wi ⟨t.val / 16, by omega⟩ ⟨t.val % 16 * 512 + (tilePos a r).val, by omega⟩ a h i := by
  rw [← v79_apply]
  exact resid_apply (val_main_v79 (F := Ideal) x g wg wu wd gm wi) t r a h i

theorem v143_k (b : Fin 2) (h : Fin 4) (i : Fin 64) (w : Fin 128) :
    val_main_v143 (F := Ideal) x g wg wu wd gm wi gk (ix3 b ⟨h.val * 64 + i.val, by omega⟩ w)
      = kR x g wg wu wd gm wi gk b ⟨8064 + w.val, by omega⟩ 0 h i := by
  rw [← v77_apply]
  pointwise [val_main_v143, val_main_v142, val_main_v141, val_main_v140, val_main_v139, val_main_v138, val_main_v137, val_main_v136, val_main_v135]
  rw [dif_pos (by simp; omega)]

theorem v143_v (b : Fin 2) (h : Fin 4) (i : Fin 64) (w : Fin 128) :
    val_main_v143 (F := Ideal) x g wg wu wd gm wi gk (ix3 b ⟨256 + h.val * 64 + i.val, by omega⟩ w)
      = vR x g wg wu wd gm wi b ⟨8064 + w.val, by omega⟩ 0 h i := by
  rw [← v79_apply]
  pointwise [val_main_v143, val_main_v142, val_main_v141, val_main_v140, val_main_v139, val_main_v138, val_main_v137, val_main_v136, val_main_v135]
  rw [dif_neg (by simp; omega)]

theorem v152_k (b : Fin 2) (h : Fin 4) (i : Fin 64) (w : Fin 512) :
    val_main_v152 (F := Ideal) x g wg wu wd gm wi gk (ix3 b ⟨h.val * 64 + i.val, by omega⟩ w)
      = kR x g wg wu wd gm wi gk b ⟨7680 + w.val, by omega⟩ 1 h i := by
  rw [← v77_apply]
  pointwise [val_main_v152, val_main_v151, val_main_v150, val_main_v149, val_main_v148, val_main_v147, val_main_v146, val_main_v145, val_main_v144]
  rw [dif_pos (by simp; omega)]

theorem v152_v (b : Fin 2) (h : Fin 4) (i : Fin 64) (w : Fin 512) :
    val_main_v152 (F := Ideal) x g wg wu wd gm wi gk (ix3 b ⟨256 + h.val * 64 + i.val, by omega⟩ w)
      = vR x g wg wu wd gm wi b ⟨7680 + w.val, by omega⟩ 1 h i := by
  rw [← v79_apply]
  pointwise [val_main_v152, val_main_v151, val_main_v150, val_main_v149, val_main_v148, val_main_v147, val_main_v146, val_main_v145, val_main_v144]
  rw [dif_neg (by simp; omega)]

theorem v161_k (b : Fin 2) (h : Fin 4) (i : Fin 64) (w : Fin 2048) :
    val_main_v161 (F := Ideal) x g wg wu wd gm wi gk (ix3 b ⟨h.val * 64 + i.val, by omega⟩ w)
      = kR x g wg wu wd gm wi gk b ⟨6144 + w.val, by omega⟩ 2 h i := by
  rw [← v77_apply]
  pointwise [val_main_v161, val_main_v160, val_main_v159, val_main_v158, val_main_v157, val_main_v156, val_main_v155, val_main_v154, val_main_v153]
  rw [dif_pos (by simp; omega)]

theorem v161_v (b : Fin 2) (h : Fin 4) (i : Fin 64) (w : Fin 2048) :
    val_main_v161 (F := Ideal) x g wg wu wd gm wi gk (ix3 b ⟨256 + h.val * 64 + i.val, by omega⟩ w)
      = vR x g wg wu wd gm wi b ⟨6144 + w.val, by omega⟩ 2 h i := by
  rw [← v79_apply]
  pointwise [val_main_v161, val_main_v160, val_main_v159, val_main_v158, val_main_v157, val_main_v156, val_main_v155, val_main_v154, val_main_v153]
  rw [dif_neg (by simp; omega)]

end Cert.Reference2Ideal.At

end
-- ==== Proof.Out2.lean ====
/-
  The feed-forward kernel's blocks are the reference's rows.
-/
module

public import proofs.«01_k».proof.Proof.Ffn
public import proofs.«01_k».proof.Proof.Arg
public import proofs.«01_k».proof.Proof.Ref2

@[expose] public section

set_option maxRecDepth 16384

noncomputable section

namespace Cert.Kernel2Ideal.At

open Idealize.ShloMosaic Idealize.ShloMosaic.TcCoe Cert.Kernel2Ideal Cert.Kernel2Ideal.Gen Cert.Ffn
open Idealize.ShloMosaic.Pointwise
open Cert.Reference2Ideal.At (oR pR qR kR vR)

variable (m : (ℓ : Loc nD τ sig) → Buf (Elt Ideal) ℓ) (c : Dev nD) (t : Fin cfg0.N)

def aX : FVec Ideal S2x8192x1024 .f32 := m ((c : Thread nD τ).loc main_arg0)
def aG : FVec Ideal S1024 .f32 := m ((c : Thread nD τ).loc main_arg1)
def aWg : FVec Ideal S1024x2816 .bf16 := m ((c : Thread nD τ).loc main_arg2)
def aWu : FVec Ideal S1024x2816 .bf16 := m ((c : Thread nD τ).loc main_arg3)
def aWd : FVec Ideal S2816x1024 .bf16 := m ((c : Thread nD τ).loc main_arg4)
def aGm : FVec Ideal S1024 .f32 := m ((c : Thread nD τ).loc main_arg5)
def aWi : FVec Ideal S1024x2816 .bf16 := m ((c : Thread nD τ).loc main_arg6)
def aGq : FVec Ideal S3x64 .f32 := m ((c : Thread nD τ).loc main_arg7)
def aGk : FVec Ideal S3x64 .f32 := m ((c : Thread nD τ).loc main_arg8)

theorem t_lt : t.val < 32 := t.isLt
/-- The grid point's sequence, and the position of its row `r`. -/
def gb : Fin 2 := ⟨t.val / 16, by have := t_lt t; omega⟩
def gp (r : Fin 512) : Fin 8192 := ⟨t.val % 16 * 512 + r.val, by omega⟩

def bX : FVec Ideal S512x1024 .f32 := kX1 (iblk m c 0 t) (iblk m c 1 t) (iblk m c 2 t) (iblk m c 3 t) (iblk m c 4 t)
def bP : FVec Ideal S512x2816 .f32 := k0_pay12 (bX m c t) (iblk m c 5 t) (iblk m c 6 t)
def bU : FVec Ideal S512x512 .f32 := k0_pay13 (bX m c t) (iblk m c 5 t) (iblk m c 6 t)
def bQ : FVec Ideal S512x768 .f32 := k0_pay15 (bX m c t) (iblk m c 5 t) (iblk m c 6 t) (iblk m c 9 t) (iblk m c 7 t)
def bK : FVec Ideal S512x768 .f32 := k0_pay17 (k0_pay14 (iblk m c 9 t)) (k0_pay16 (bX m c t) (iblk m c 5 t) (iblk m c 6 t)) (iblk m c 8 t)
def bV : FVec Ideal S512x768 .f32 := k0_pay18 (bP m c t)

theorem bX_apply (r : Fin 512) (d : Fin 1024) :
    bX m c t (ix2 r d) = oR (aX m c) (aG m c) (aWg m c) (aWu m c) (aWd m c) (gb t) (gp t r) d := by
  unfold bX
  rw [x1_apply]
  simp only [blk0 m c t _ _ (t_lt t), blk1, blk2, blk3, blk4]
  rfl

theorem bP_apply (r : Fin 512) (f : Fin 2816) :
    bP m c t (ix2 r f) = pR (aX m c) (aG m c) (aWg m c) (aWu m c) (aWd m c) (aGm m c) (aWi m c) (gb t) (gp t r) f := by
  unfold bP
  rw [proj_apply]
  simp only [bX_apply, blk5, blk6]
  rfl

theorem bU_apply (r d : Fin 512) :
    bU m c t (ix2 r d) = pR (aX m c) (aG m c) (aWg m c) (aWu m c) (aWd m c) (aGm m c) (aWi m c) (gb t) (gp t r) ⟨d.val, by omega⟩ := by
  unfold bU
  rw [u_apply, ← bP_apply]
  rfl

theorem bQ_apply (r : Fin 512) (a : Fin 3) (h : Fin 4) (i : Fin 64) :
    bQ m c t (ix2 r (lane a h i)) = qR (aX m c) (aG m c) (aWg m c) (aWu m c) (aWd m c) (aGm m c) (aWi m c) (aGq m c) (gb t) (gp t r) a h i := by
  unfold bQ
  rw [q_apply _ _ _ _ _ (blk9 m c t), blk7]
  unfold qR
  congr 1
  funext d
  exact bP_apply m c t r _

theorem bK_apply (r : Fin 512) (a : Fin 3) (h : Fin 4) (i : Fin 64) :
    bK m c t (ix2 r (lane a h i)) = kR (aX m c) (aG m c) (aWg m c) (aWu m c) (aWd m c) (aGm m c) (aWi m c) (aGk m c) (gb t) (gp t r) a h i := by
  unfold bK
  rw [k_apply _ _ _ _ _ (blk9 m c t), blk8]
  unfold kR
  congr 1
  funext d
  exact bP_apply m c t r _

theorem bV_apply (r : Fin 512) (a : Fin 3) (h : Fin 4) (i : Fin 64) :
    bV m c t (ix2 r (lane a h i)) = vR (aX m c) (aG m c) (aWg m c) (aWu m c) (aWd m c) (aGm m c) (aWi m c) (gb t) (gp t r) a h i := by
  unfold bV
  rw [v_apply, bP_apply]
  rfl

theorem outs10 : (outsAt0 m c t.val t.isLt).1 = bX m c t := by
  by_cases h0 : t.val % 16 = 15
  · rw [outsAt0_C m c t h0 h0 (by omega)]
    frame_out
    rfl
  · by_cases h2 : t.val % 16 = 12 ∨ t.val % 16 = 13 ∨ t.val % 16 = 14 ∨ t.val % 16 = 15
    · rw [outsAt0_B m c t h0 h0 h2]
      frame_out
      rfl
    · rw [outsAt0_A m c t h0 h0 h2]
      frame_out
      rfl

theorem outs11 : (outsAt0 m c t.val t.isLt).2.1 = bU m c t := by
  by_cases h0 : t.val % 16 = 15
  · rw [outsAt0_C m c t h0 h0 (by omega)]
    frame_out
    rfl
  · by_cases h2 : t.val % 16 = 12 ∨ t.val % 16 = 13 ∨ t.val % 16 = 14 ∨ t.val % 16 = 15
    · rw [outsAt0_B m c t h0 h0 h2]
      frame_out
      rfl
    · rw [outsAt0_A m c t h0 h0 h2]
      frame_out
      rfl

theorem idx10 : ∀ t : Fin cfg0.N, win0_10.index t = ![t.val, 0] :=
  (by decide +kernel : ∀ t : Fin grid0.N, _)
theorem idx11 : ∀ t : Fin cfg0.N, win0_11.index t = ![t.val, 0] :=
  (by decide +kernel : ∀ t : Fin grid0.N, _)

theorem arr10 : (dats m 0 c).arrAt 10 cfg0.N
    = Cert.Reference2Ideal.Read.val_main_v80 (F := Ideal) (aX m c) (aG m c) (aWg m c) (aWu m c) (aWd m c) := by
  refine (dats m 0 c).arrAt_eq_of_covers 10 _ (by decide +kernel) fun t hf y => ?_
  blk_simp
  rw [after0_10, outs10]
  obtain ⟨r, d, rfl⟩ : ∃ (r : Fin 512) (d : Fin 1024), y = ix2 r d := ⟨y 0, y 1, by blk_ext []⟩
  rw [bX_apply]
  refine (Cert.Reference2Ideal.At.v80_apply _ _ _ _ _ ⟨t.val, t_lt t⟩ r d).symm.trans ?_
  congr 1
  blk_ext [idx10 t]

theorem arr11 : (dats m 0 c).arrAt 11 cfg0.N
    = Cert.Reference2Ideal.Read.val_main_v81 (F := Ideal) (aX m c) (aG m c) (aWg m c) (aWu m c) (aWd m c) (aGm m c) (aWi m c) := by
  refine (dats m 0 c).arrAt_eq_of_covers 11 _ (by decide +kernel) fun t hf y => ?_
  blk_simp
  rw [after0_11, outs11]
  obtain ⟨r, d, rfl⟩ : ∃ (r : Fin 512) (d : Fin 512), y = ix2 r d := ⟨y 0, y 1, by blk_ext []⟩
  rw [bU_apply]
  refine (Cert.Reference2Ideal.At.v81_apply _ _ _ _ _ _ _ ⟨t.val, t_lt t⟩ r d).symm.trans ?_
  congr 1
  blk_ext [idx11 t]

/- The tails: the kernel stores a block's keys and values turned, heads in front of positions. -/

def hd (h : Fin 4) (i : Fin 64) : Fin 256 := ⟨h.val * 64 + i.val, by omega⟩

theorem turn15k (z : FVec Ideal S512x768 .f32) (h : Fin 4) (i : Fin 64) (w : Fin 128) :
    k0_pay1 z (ix3 0 (hd h i) w) = z (ix2 ⟨384 + w.val, by omega⟩ (lane 0 h i)) := by
  pointwise [k0_pay1]
  congr 1
  unfold lane hd
  blk_ext []

theorem turn15v (z : FVec Ideal S512x768 .f32) (h : Fin 4) (i : Fin 64) (w : Fin 128) :
    k0_pay2 z (ix3 0 (hd h i) w) = z (ix2 ⟨384 + w.val, by omega⟩ (lane 0 h i)) := by
  pointwise [k0_pay2]
  congr 1
  unfold lane hd
  blk_ext []

theorem flush15 : ∀ t : Fin cfg0.N, (cfg0.win 15).flush t = true → t.val % 16 = 15 :=
  (by decide +kernel : ∀ t : Fin grid0.N, _)
theorem idx15 : ∀ t : Fin cfg0.N, t.val % 16 = 15 → win0_15.index t = ![t.val / 16, 0, 0] :=
  (by decide +kernel : ∀ t : Fin grid0.N, _)

theorem tail15k (hT : t.val % 16 = 15) (x : S1x256x128.Idx) (y : S1x512x128.Idx)
    (h1 : (y 1).val = (x 1).val) (h2 : (y 2).val = (x 2).val) :
    k0_pay1 (bK m c t) x
      = Cert.Reference2Ideal.Read.val_main_v143 (F := Ideal) (aX m c) (aG m c) (aWg m c) (aWu m c) (aWd m c) (aGm m c) (aWi m c) (aGk m c) ((win0_15.blk t).view.emb y) := by
  obtain ⟨h, i, w, rfl⟩ : ∃ (h : Fin 4) (i : Fin 64) (w : Fin 128), x = ix3 0 (hd h i) w :=
    ⟨⟨(x 1).val / 64, by have := (x 1).isLt; change (x 1).val < 256 at this; omega⟩, ⟨(x 1).val % 64, by omega⟩, x 2, by unfold hd; blk_ext []⟩
  have h1' : (y 1).val = (h.val * 64 + i.val) := h1
  have h2' : (y 2).val = w.val := h2
  have ht := t_lt t
  rw [turn15k, bK_apply]
  refine Eq.trans ?_ ((Cert.Reference2Ideal.At.v143_k (aX m c) (aG m c) (aWg m c) (aWu m c) (aWd m c) (aGm m c) (aWi m c) (aGk m c) (gb t) h i w).symm.trans ?_)
  · congr 1
    simp only [gp, Fin.mk.injEq]
    omega
  · congr 1
    simp only [gb]
    blk_ext [idx15 t hT]

theorem tail15v (hT : t.val % 16 = 15) (x : S1x256x128.Idx) (y : S1x512x128.Idx)
    (h1 : (y 1).val = 256 + (x 1).val) (h2 : (y 2).val = (x 2).val) :
    k0_pay2 (bV m c t) x
      = Cert.Reference2Ideal.Read.val_main_v143 (F := Ideal) (aX m c) (aG m c) (aWg m c) (aWu m c) (aWd m c) (aGm m c) (aWi m c) (aGk m c) ((win0_15.blk t).view.emb y) := by
  obtain ⟨h, i, w, rfl⟩ : ∃ (h : Fin 4) (i : Fin 64) (w : Fin 128), x = ix3 0 (hd h i) w :=
    ⟨⟨(x 1).val / 64, by have := (x 1).isLt; change (x 1).val < 256 at this; omega⟩, ⟨(x 1).val % 64, by omega⟩, x 2, by unfold hd; blk_ext []⟩
  have h1' : (y 1).val = 256 + (h.val * 64 + i.val) := h1
  have h2' : (y 2).val = w.val := h2
  have ht := t_lt t
  rw [turn15v, bV_apply]
  refine Eq.trans ?_ ((Cert.Reference2Ideal.At.v143_v (aX m c) (aG m c) (aWg m c) (aWu m c) (aWd m c) (aGm m c) (aWi m c) (aGk m c) (gb t) h i w).symm.trans ?_)
  · congr 1
    simp only [gp, Fin.mk.injEq]
    omega
  · congr 1
    simp only [gb]
    blk_ext [idx15 t hT]

theorem arr15 : (dats m 0 c).arrAt 15 cfg0.N
    = Cert.Reference2Ideal.Read.val_main_v143 (F := Ideal) (aX m c) (aG m c) (aWg m c) (aWu m c) (aWd m c) (aGm m c) (aWi m c) (aGk m c) := by
  refine (dats m 0 c).arrAt_eq_of_covers 15 _ (by decide +kernel) fun t hf y => ?_
  blk_simp
  have hT := flush15 t hf
  rw [after0_15]
  rw [outsAt0_C m c t hT hT (by omega)]
  frame_out
  canon_tiles x h
  · exact tail15v m c t hT x y h1 h2
  · exact tail15k m c t hT x y h1 h2

theorem turn16k (z : FVec Ideal S512x768 .f32) (h : Fin 4) (i : Fin 64) (w : Fin 512) :
    k0_pay3 z (ix3 0 (hd h i) w) = z (ix2 w (lane 1 h i)) := by
  pointwise [k0_pay3]
  congr 1
  unfold lane hd
  blk_ext []

theorem turn16v (z : FVec Ideal S512x768 .f32) (h : Fin 4) (i : Fin 64) (w : Fin 512) :
    k0_pay4 z (ix3 0 (hd h i) w) = z (ix2 w (lane 1 h i)) := by
  pointwise [k0_pay4]
  congr 1
  unfold lane hd
  blk_ext []

theorem flush16 : ∀ t : Fin cfg0.N, (cfg0.win 16).flush t = true → t.val % 16 = 15 :=
  (by decide +kernel : ∀ t : Fin grid0.N, _)
theorem idx16 : ∀ t : Fin cfg0.N, t.val % 16 = 15 → win0_16.index t = ![t.val / 16, 0, 0] :=
  (by decide +kernel : ∀ t : Fin grid0.N, _)

theorem tail16k (hT : t.val % 16 = 15) (x : S1x256x512.Idx) (y : S1x512x512.Idx)
    (h1 : (y 1).val = (x 1).val) (h2 : (y 2).val = (x 2).val) :
    k0_pay3 (bK m c t) x
      = Cert.Reference2Ideal.Read.val_main_v152 (F := Ideal) (aX m c) (aG m c) (aWg m c) (aWu m c) (aWd m c) (aGm m c) (aWi m c) (aGk m c) ((win0_16.blk t).view.emb y) := by
  obtain ⟨h, i, w, rfl⟩ : ∃ (h : Fin 4) (i : Fin 64) (w : Fin 512), x = ix3 0 (hd h i) w :=
    ⟨⟨(x 1).val / 64, by have := (x 1).isLt; change (x 1).val < 256 at this; omega⟩, ⟨(x 1).val % 64, by omega⟩, x 2, by unfold hd; blk_ext []⟩
  have h1' : (y 1).val = (h.val * 64 + i.val) := h1
  have h2' : (y 2).val = w.val := h2
  have ht := t_lt t
  rw [turn16k, bK_apply]
  refine Eq.trans ?_ ((Cert.Reference2Ideal.At.v152_k (aX m c) (aG m c) (aWg m c) (aWu m c) (aWd m c) (aGm m c) (aWi m c) (aGk m c) (gb t) h i w).symm.trans ?_)
  · congr 1
    simp only [gp, Fin.mk.injEq]
    omega
  · congr 1
    simp only [gb]
    blk_ext [idx16 t hT]

theorem tail16v (hT : t.val % 16 = 15) (x : S1x256x512.Idx) (y : S1x512x512.Idx)
    (h1 : (y 1).val = 256 + (x 1).val) (h2 : (y 2).val = (x 2).val) :
    k0_pay4 (bV m c t) x
      = Cert.Reference2Ideal.Read.val_main_v152 (F := Ideal) (aX m c) (aG m c) (aWg m c) (aWu m c) (aWd m c) (aGm m c) (aWi m c) (aGk m c) ((win0_16.blk t).view.emb y) := by
  obtain ⟨h, i, w, rfl⟩ : ∃ (h : Fin 4) (i : Fin 64) (w : Fin 512), x = ix3 0 (hd h i) w :=
    ⟨⟨(x 1).val / 64, by have := (x 1).isLt; change (x 1).val < 256 at this; omega⟩, ⟨(x 1).val % 64, by omega⟩, x 2, by unfold hd; blk_ext []⟩
  have h1' : (y 1).val = 256 + (h.val * 64 + i.val) := h1
  have h2' : (y 2).val = w.val := h2
  have ht := t_lt t
  rw [turn16v, bV_apply]
  refine Eq.trans ?_ ((Cert.Reference2Ideal.At.v152_v (aX m c) (aG m c) (aWg m c) (aWu m c) (aWd m c) (aGm m c) (aWi m c) (aGk m c) (gb t) h i w).symm.trans ?_)
  · congr 1
    simp only [gp, Fin.mk.injEq]
    omega
  · congr 1
    simp only [gb]
    blk_ext [idx16 t hT]

theorem arr16 : (dats m 0 c).arrAt 16 cfg0.N
    = Cert.Reference2Ideal.Read.val_main_v152 (F := Ideal) (aX m c) (aG m c) (aWg m c) (aWu m c) (aWd m c) (aGm m c) (aWi m c) (aGk m c) := by
  refine (dats m 0 c).arrAt_eq_of_covers 16 _ (by decide +kernel) fun t hf y => ?_
  blk_simp
  have hT := flush16 t hf
  rw [after0_16]
  rw [outsAt0_C m c t hT hT (by omega)]
  frame_out
  canon_tiles x h
  · exact tail16v m c t hT x y h1 h2
  · exact tail16k m c t hT x y h1 h2

theorem turn17k (z : FVec Ideal S512x768 .f32) (h : Fin 4) (i : Fin 64) (w : Fin 512) :
    k0_pay5 z (ix3 0 (hd h i) w) = z (ix2 w (lane 2 h i)) := by
  pointwise [k0_pay5]
  congr 1
  unfold lane hd
  blk_ext []

theorem turn17v (z : FVec Ideal S512x768 .f32) (h : Fin 4) (i : Fin 64) (w : Fin 512) :
    k0_pay6 z (ix3 0 (hd h i) w) = z (ix2 w (lane 2 h i)) := by
  pointwise [k0_pay6]
  congr 1
  unfold lane hd
  blk_ext []

theorem flush17 : ∀ t : Fin cfg0.N, (cfg0.win 17).flush t = true → 12 ≤ t.val % 16 :=
  (by decide +kernel : ∀ t : Fin grid0.N, _)
theorem idx17 : ∀ t : Fin cfg0.N, 12 ≤ t.val % 16 → win0_17.index t = ![t.val / 16, 0, t.val % 16 - 12] :=
  (by decide +kernel : ∀ t : Fin grid0.N, _)

theorem tail17k (hT : 12 ≤ t.val % 16) (x : S1x256x512.Idx) (y : S1x512x512.Idx)
    (h1 : (y 1).val = (x 1).val) (h2 : (y 2).val = (x 2).val) :
    k0_pay5 (bK m c t) x
      = Cert.Reference2Ideal.Read.val_main_v161 (F := Ideal) (aX m c) (aG m c) (aWg m c) (aWu m c) (aWd m c) (aGm m c) (aWi m c) (aGk m c) ((win0_17.blk t).view.emb y) := by
  obtain ⟨h, i, w, rfl⟩ : ∃ (h : Fin 4) (i : Fin 64) (w : Fin 512), x = ix3 0 (hd h i) w :=
    ⟨⟨(x 1).val / 64, by have := (x 1).isLt; change (x 1).val < 256 at this; omega⟩, ⟨(x 1).val % 64, by omega⟩, x 2, by unfold hd; blk_ext []⟩
  have h1' : (y 1).val = (h.val * 64 + i.val) := h1
  have h2' : (y 2).val = w.val := h2
  have ht := t_lt t
  rw [turn17k, bK_apply]
  refine Eq.trans ?_ ((Cert.Reference2Ideal.At.v161_k (aX m c) (aG m c) (aWg m c) (aWu m c) (aWd m c) (aGm m c) (aWi m c) (aGk m c) (gb t) h i ⟨(t.val % 16 - 12) * 512 + w.val, by omega⟩).symm.trans ?_)
  · congr 1
    simp only [gp, Fin.mk.injEq]
    omega
  · congr 1
    simp only [gb]
    blk_ext [idx17 t hT]

theorem tail17v (hT : 12 ≤ t.val % 16) (x : S1x256x512.Idx) (y : S1x512x512.Idx)
    (h1 : (y 1).val = 256 + (x 1).val) (h2 : (y 2).val = (x 2).val) :
    k0_pay6 (bV m c t) x
      = Cert.Reference2Ideal.Read.val_main_v161 (F := Ideal) (aX m c) (aG m c) (aWg m c) (aWu m c) (aWd m c) (aGm m c) (aWi m c) (aGk m c) ((win0_17.blk t).view.emb y) := by
  obtain ⟨h, i, w, rfl⟩ : ∃ (h : Fin 4) (i : Fin 64) (w : Fin 512), x = ix3 0 (hd h i) w :=
    ⟨⟨(x 1).val / 64, by have := (x 1).isLt; change (x 1).val < 256 at this; omega⟩, ⟨(x 1).val % 64, by omega⟩, x 2, by unfold hd; blk_ext []⟩
  have h1' : (y 1).val = 256 + (h.val * 64 + i.val) := h1
  have h2' : (y 2).val = w.val := h2
  have ht := t_lt t
  rw [turn17v, bV_apply]
  refine Eq.trans ?_ ((Cert.Reference2Ideal.At.v161_v (aX m c) (aG m c) (aWg m c) (aWu m c) (aWd m c) (aGm m c) (aWi m c) (aGk m c) (gb t) h i ⟨(t.val % 16 - 12) * 512 + w.val, by omega⟩).symm.trans ?_)
  · congr 1
    simp only [gp, Fin.mk.injEq]
    omega
  · congr 1
    simp only [gb]
    blk_ext [idx17 t hT]

theorem arr17 : (dats m 0 c).arrAt 17 cfg0.N
    = Cert.Reference2Ideal.Read.val_main_v161 (F := Ideal) (aX m c) (aG m c) (aWg m c) (aWu m c) (aWd m c) (aGm m c) (aWi m c) (aGk m c) := by
  refine (dats m 0 c).arrAt_eq_of_covers 17 _ (by decide +kernel) fun t hf y => ?_
  blk_simp
  have hT := flush17 t hf
  rw [after0_17]
  by_cases hc : t.val % 16 = 15
  · rw [outsAt0_C m c t hc hc (by omega)]
    frame_out
    canon_tiles x h
    · exact tail17v m c t hT x y h1 h2
    · exact tail17k m c t hT x y h1 h2
  · rw [outsAt0_B m c t hc hc (by omega)]
    frame_out
    canon_tiles x h
    · exact tail17v m c t hT x y h1 h2
    · exact tail17k m c t hT x y h1 h2

end Cert.Kernel2Ideal.At

end
-- ==== Proof.Tile.lean ====
/-
  The queries, keys and values: each head group's rows are written to the scratch plane and read back with a stride,
  so a block's rows come out grouped by residue.
-/
module

public import proofs.«01_k».proof.Proof.Out2

@[expose] public section

set_option maxRecDepth 16384

noncomputable section

namespace Cert.Kernel2Ideal.At

open Idealize.ShloMosaic Idealize.ShloMosaic.TcCoe Cert.Kernel2Ideal Cert.Kernel2Ideal.Gen Cert.Ffn
open Idealize.ShloMosaic.Pointwise
open Cert.Reference2Ideal.At (oR pR qR kR vR)

/-- Rows by residue: columns of group `j / 256` in that group's row order. -/
def tile (z : FVec Ideal S512x768 .f32) (y : S512x768.Idx) : EReal :=
  z (ix2 (tilePos ⟨(y 1).val / 256, by have := (y 1).isLt; change (y 1).val < 768 at this; omega⟩ ⟨(y 0).val, (y 0).isLt⟩) ⟨(y 1).val, (y 1).isLt⟩)

theorem tile_lane (z : FVec Ideal S512x768 .f32) (r : Fin 512) (a : Fin 3) (h : Fin 4) (i : Fin 64) :
    tile z (ix2 r (lane a h i)) = z (ix2 (tilePos a r) (lane a h i)) := by
  have e : (⟨(lane a h i).val / 256, by have := (lane a h i).isLt; omega⟩ : Fin 3) = a := by
    unfold lane; apply Fin.ext; simp only; omega
  show z (ix2 (tilePos ⟨(lane a h i).val / 256, _⟩ r) (lane a h i)) = _
  rw [e]

theorem rd4 (s o : ℕ) (i1 i2) (p : FVec Ideal S1x512x128 .f32)
    (L : List (View.Piece (Elt Ideal) S12x512x128 (.f32))) (ho : o < 4) (r l : Fin 128) :
    (View.whole cc0_scratch0).readCov (⟨Rect.unit ![s, 0, 0] ![1, 512, 128] i1, p⟩ :: L)
        { off := ![s, o, 0], size := S1x128x128.size, stride := ![1, 4, 1], inb := i2 } (ix3 0 r l)
      = p (ix3 0 ⟨o + 4 * r.val, by omega⟩ l) := by
  rw [View.readCov_eq_canon']
  refine Eq.trans (congrArg _ ?_) (View.canon_cons_emb (Rect.unit ![s, 0, 0] ![1, 512, 128] i1) p L (ix3 0 ⟨o + 4 * r.val, by omega⟩ l))
  blk_ext []
  · show s + 1 * 0 = s + 0; rfl
  · show o + 4 * r.val = _; rfl
  · show 0 + 1 * l.val = _; omega

theorem rd16 (s o : ℕ) (i1 i2) (p : FVec Ideal S1x512x128 .f32)
    (L : List (View.Piece (Elt Ideal) S12x512x128 (.f32))) (ho : o < 16) (r : Fin 32) (l : Fin 128) :
    (View.whole cc0_scratch0).readCov (⟨Rect.unit ![s, 0, 0] ![1, 512, 128] i1, p⟩ :: L)
        { off := ![s, o, 0], size := S1x32x128.size, stride := ![1, 16, 1], inb := i2 } (ix3 0 r l)
      = p (ix3 0 ⟨o + 16 * r.val, by omega⟩ l) := by
  rw [View.readCov_eq_canon']
  refine Eq.trans (congrArg _ ?_) (View.canon_cons_emb (Rect.unit ![s, 0, 0] ![1, 512, 128] i1) p L (ix3 0 ⟨o + 16 * r.val, by omega⟩ l))
  blk_ext []
  · show s + 1 * 0 = s + 0; rfl
  · show o + 16 * r.val = _; rfl
  · show 0 + 1 * l.val = _; omega

theorem pc256 (z : FVec Ideal S512x768 .f32) (s o : ℕ) (i1 i2)
    (L : List (View.Piece (Elt Ideal) S12x512x128 (.f32))) (ho : o < 4) (x : S128x128.Idx) (y : S512x768.Idx)
    (h0 : (y 0).val = 128 * o + (x 0).val) (h1 : (y 1).val = 256 + (x 1).val) :
    k0_pay70 ((View.whole cc0_scratch0).readCov (⟨Rect.unit ![s, 0, 0] ![1, 512, 128] i1, k0_pay69 z⟩ :: L)
        { off := ![s, o, 0], size := S1x128x128.size, stride := ![1, 4, 1], inb := i2 }) x = tile z y := by
  obtain ⟨r, l, rfl⟩ : ∃ (r : Fin 128) (l : Fin 128), x = ix2 r l := ⟨x 0, x 1, by blk_ext []⟩
  obtain ⟨u, v, rfl⟩ : ∃ (u : Fin 512) (v : Fin 768), y = ix2 u v := ⟨y 0, y 1, by blk_ext []⟩
  have h0' : u.val = 128 * o + r.val := h0
  have h1' : v.val = 256 + l.val := h1
  pointwise [k0_pay70]
  rw [rd4 s o i1 i2 _ L ho r l]
  pointwise [k0_pay69]
  unfold tile
  congr 1
  have e : (⟨v.val / 256, by omega⟩ : Fin 3) = 1 := by apply Fin.ext; show v.val / 256 = 1; omega
  show _ = ix2 (tilePos ⟨v.val / 256, _⟩ u) v
  rw [e]
  have e' : (tilePos 1 u).val = o + 4 * r.val := by
    show u.val % 128 * 4 + u.val / 128 = _
    omega
  blk_ext [e', h1']

theorem pc384 (z : FVec Ideal S512x768 .f32) (s o : ℕ) (i1 i2)
    (L : List (View.Piece (Elt Ideal) S12x512x128 (.f32))) (ho : o < 4) (x : S128x128.Idx) (y : S512x768.Idx)
    (h0 : (y 0).val = 128 * o + (x 0).val) (h1 : (y 1).val = 384 + (x 1).val) :
    k0_pay70 ((View.whole cc0_scratch0).readCov (⟨Rect.unit ![s, 0, 0] ![1, 512, 128] i1, k0_pay74 z⟩ :: L)
        { off := ![s, o, 0], size := S1x128x128.size, stride := ![1, 4, 1], inb := i2 }) x = tile z y := by
  obtain ⟨r, l, rfl⟩ : ∃ (r : Fin 128) (l : Fin 128), x = ix2 r l := ⟨x 0, x 1, by blk_ext []⟩
  obtain ⟨u, v, rfl⟩ : ∃ (u : Fin 512) (v : Fin 768), y = ix2 u v := ⟨y 0, y 1, by blk_ext []⟩
  have h0' : u.val = 128 * o + r.val := h0
  have h1' : v.val = 384 + l.val := h1
  pointwise [k0_pay70]
  rw [rd4 s o i1 i2 _ L ho r l]
  pointwise [k0_pay74]
  unfold tile
  congr 1
  have e : (⟨v.val / 256, by omega⟩ : Fin 3) = 1 := by apply Fin.ext; show v.val / 256 = 1; omega
  show _ = ix2 (tilePos ⟨v.val / 256, _⟩ u) v
  rw [e]
  have e' : (tilePos 1 u).val = o + 4 * r.val := by
    show u.val % 128 * 4 + u.val / 128 = _
    omega
  blk_ext [e', h1']

theorem pc512 (z : FVec Ideal S512x768 .f32) (s o : ℕ) (i1 i2)
    (L : List (View.Piece (Elt Ideal) S12x512x128 (.f32))) (ho : o < 16) (x : S32x128.Idx) (y : S512x768.Idx)
    (h0 : (y 0).val = 32 * o + (x 0).val) (h1 : (y 1).val = 512 + (x 1).val) :
    k0_pay81 ((View.whole cc0_scratch0).readCov (⟨Rect.unit ![s, 0, 0] ![1, 512, 128] i1, k0_pay80 z⟩ :: L)
        { off := ![s, o, 0], size := S1x32x128.size, stride := ![1, 16, 1], inb := i2 }) x = tile z y := by
  obtain ⟨r, l, rfl⟩ : ∃ (r : Fin 32) (l : Fin 128), x = ix2 r l := ⟨x 0, x 1, by blk_ext []⟩
  obtain ⟨u, v, rfl⟩ : ∃ (u : Fin 512) (v : Fin 768), y = ix2 u v := ⟨y 0, y 1, by blk_ext []⟩
  have h0' : u.val = 32 * o + r.val := h0
  have h1' : v.val = 512 + l.val := h1
  pointwise [k0_pay81]
  rw [rd16 s o i1 i2 _ L ho r l]
  pointwise [k0_pay80]
  unfold tile
  congr 1
  have e : (⟨v.val / 256, by omega⟩ : Fin 3) = 2 := by apply Fin.ext; show v.val / 256 = 2; omega
  show _ = ix2 (tilePos ⟨v.val / 256, _⟩ u) v
  rw [e]
  have e' : (tilePos 2 u).val = o + 16 * r.val := by
    show u.val % 32 * 16 + u.val / 32 = _
    omega
  blk_ext [e', h1']

theorem pc640 (z : FVec Ideal S512x768 .f32) (s o : ℕ) (i1 i2)
    (L : List (View.Piece (Elt Ideal) S12x512x128 (.f32))) (ho : o < 16) (x : S32x128.Idx) (y : S512x768.Idx)
    (h0 : (y 0).val = 32 * o + (x 0).val) (h1 : (y 1).val = 640 + (x 1).val) :
    k0_pay81 ((View.whole cc0_scratch0).readCov (⟨Rect.unit ![s, 0, 0] ![1, 512, 128] i1, k0_pay97 z⟩ :: L)
        { off := ![s, o, 0], size := S1x32x128.size, stride := ![1, 16, 1], inb := i2 }) x = tile z y := by
  obtain ⟨r, l, rfl⟩ : ∃ (r : Fin 32) (l : Fin 128), x = ix2 r l := ⟨x 0, x 1, by blk_ext []⟩
  obtain ⟨u, v, rfl⟩ : ∃ (u : Fin 512) (v : Fin 768), y = ix2 u v := ⟨y 0, y 1, by blk_ext []⟩
  have h0' : u.val = 32 * o + r.val := h0
  have h1' : v.val = 640 + l.val := h1
  pointwise [k0_pay81]
  rw [rd16 s o i1 i2 _ L ho r l]
  pointwise [k0_pay97]
  unfold tile
  congr 1
  have e : (⟨v.val / 256, by omega⟩ : Fin 3) = 2 := by apply Fin.ext; show v.val / 256 = 2; omega
  show _ = ix2 (tilePos ⟨v.val / 256, _⟩ u) v
  rw [e]
  have e' : (tilePos 2 u).val = o + 16 * r.val := by
    show u.val % 32 * 16 + u.val / 32 = _
    omega
  blk_ext [e', h1']

theorem pc0 (z : FVec Ideal S512x768 .f32) (x : S512x256.Idx) (y : S512x768.Idx)
    (h0 : (y 0).val = (x 0).val) (h1 : (y 1).val = (x 1).val) : k0_pay68 z x = tile z y := by
  obtain ⟨r, l, rfl⟩ : ∃ (r : Fin 512) (l : Fin 256), x = ix2 r l := ⟨x 0, x 1, by blk_ext []⟩
  obtain ⟨u, v, rfl⟩ : ∃ (u : Fin 512) (v : Fin 768), y = ix2 u v := ⟨y 0, y 1, by blk_ext []⟩
  have h0' : u.val = r.val := h0
  have h1' : v.val = l.val := h1
  pointwise [k0_pay68]
  unfold tile
  congr 1
  have e : (⟨v.val / 256, by omega⟩ : Fin 3) = 0 := by apply Fin.ext; show v.val / 256 = 0; omega
  show _ = ix2 (tilePos ⟨v.val / 256, _⟩ u) v
  rw [e]
  have e' : (tilePos 0 u).val = r.val := h0'
  blk_ext [e', h1']

variable (m : (ℓ : Loc nD τ sig) → Buf (Elt Ideal) ℓ) (c : Dev nD) (t : Fin cfg0.N)

/-- A queries payload is named by what it equals. -/
theorem nameQ {a : FVec Ideal S512x1024 .f32} {b : Vec Ideal S1x1024 .f32} {d : Vec Ideal S1024x2816 .bf16} {e : Vec Ideal S256x256 .bf16} {f : Vec Ideal S1x768 .f32}
    (q : FVec Ideal S512x768 .f32) (h : k0_pay15 a b d e f = q) : k0_pay15 a b d e f = q := h

theorem nameK {a : FVec Ideal S256x256 .bf16} {b : FVec Ideal S512x768 .f32} {d : Vec Ideal S1x768 .f32}
    (q : FVec Ideal S512x768 .f32) (h : k0_pay17 a b d = q) : k0_pay17 a b d = q := h
theorem nameV {a : FVec Ideal S512x2816 .f32}
    (q : FVec Ideal S512x768 .f32) (h : k0_pay18 a = q) : k0_pay18 a = q := h

theorem outs12A (h0 : ¬ t.val % 16 = 15) (h2 : ¬ (t.val % 16 = 12 ∨ t.val % 16 = 13 ∨ t.val % 16 = 14 ∨ t.val % 16 = 15))
    (y : S512x768.Idx) : (outsAt0 m c t.val t.isLt).2.2.1 y = tile (k0_pay19 (bQ m c t)) y := by
  rw [outsAt0_A m c t h0 h0 h2]
  frame_out
  rw [nameQ (bQ m c t)]
  swap
  · rfl
  generalize bQ m c t = q
  canon_tiles x h using (View.cover_of_tiledBy _ ![32, 128] (by sl_kernel_rfl) y)
  iterate 16 exact pc640 (k0_pay19 q) _ _ _ _ _ (by omega) x y (by omega) (by omega)
  iterate 16 exact pc512 (k0_pay19 q) _ _ _ _ _ (by omega) x y (by omega) (by omega)
  iterate 4 exact pc384 (k0_pay19 q) _ _ _ _ _ (by omega) x y (by omega) (by omega)
  iterate 4 exact pc256 (k0_pay19 q) _ _ _ _ _ (by omega) x y (by omega) (by omega)
  exact pc0 (k0_pay19 q) x y (by omega) (by omega)

theorem outs12B (h0 : ¬ t.val % 16 = 15) (h2 : t.val % 16 = 12 ∨ t.val % 16 = 13 ∨ t.val % 16 = 14 ∨ t.val % 16 = 15)
    (y : S512x768.Idx) : (outsAt0 m c t.val t.isLt).2.2.1 y = tile (k0_pay19 (bQ m c t)) y := by
  rw [outsAt0_B m c t h0 h0 h2]
  frame_out
  rw [nameQ (bQ m c t)]
  swap
  · rfl
  generalize bQ m c t = q
  canon_tiles x h using (View.cover_of_tiledBy _ ![32, 128] (by sl_kernel_rfl) y)
  iterate 16 exact pc640 (k0_pay19 q) _ _ _ _ _ (by omega) x y (by omega) (by omega)
  iterate 16 exact pc512 (k0_pay19 q) _ _ _ _ _ (by omega) x y (by omega) (by omega)
  iterate 4 exact pc384 (k0_pay19 q) _ _ _ _ _ (by omega) x y (by omega) (by omega)
  iterate 4 exact pc256 (k0_pay19 q) _ _ _ _ _ (by omega) x y (by omega) (by omega)
  exact pc0 (k0_pay19 q) x y (by omega) (by omega)

theorem outs12C (h0 : t.val % 16 = 15) (h2 : t.val % 16 = 12 ∨ t.val % 16 = 13 ∨ t.val % 16 = 14 ∨ t.val % 16 = 15)
    (y : S512x768.Idx) : (outsAt0 m c t.val t.isLt).2.2.1 y = tile (k0_pay19 (bQ m c t)) y := by
  rw [outsAt0_C m c t h0 h0 h2]
  frame_out
  rw [nameQ (bQ m c t)]
  swap
  · rfl
  generalize bQ m c t = q
  canon_tiles x h using (View.cover_of_tiledBy _ ![32, 128] (by sl_kernel_rfl) y)
  iterate 16 exact pc640 (k0_pay19 q) _ _ _ _ _ (by omega) x y (by omega) (by omega)
  iterate 16 exact pc512 (k0_pay19 q) _ _ _ _ _ (by omega) x y (by omega) (by omega)
  iterate 4 exact pc384 (k0_pay19 q) _ _ _ _ _ (by omega) x y (by omega) (by omega)
  iterate 4 exact pc256 (k0_pay19 q) _ _ _ _ _ (by omega) x y (by omega) (by omega)
  exact pc0 (k0_pay19 q) x y (by omega) (by omega)

theorem outs12 (y : S512x768.Idx) : (outsAt0 m c t.val t.isLt).2.2.1 y = tile (k0_pay19 (bQ m c t)) y := by
  by_cases h0 : t.val % 16 = 15
  · exact outs12C m c t h0 (by omega) y
  · by_cases h2 : t.val % 16 = 12 ∨ t.val % 16 = 13 ∨ t.val % 16 = 14 ∨ t.val % 16 = 15
    · exact outs12B m c t h0 h2 y
    · exact outs12A m c t h0 h2 y

theorem idx12 : ∀ t : Fin cfg0.N, win0_12.index t = ![t.val, 0] :=
  (by decide +kernel : ∀ t : Fin grid0.N, _)

theorem arr12 : (dats m 0 c).arrAt 12 cfg0.N
    = Cert.Reference2Ideal.Read.val_main_v100 (F := Ideal) (aX m c) (aG m c) (aWg m c) (aWu m c) (aWd m c) (aGm m c) (aWi m c) (aGq m c) := by
  refine (dats m 0 c).arrAt_eq_of_covers 12 _ (by decide +kernel) fun t hf y => ?_
  blk_simp
  rw [after0_12, outs12]
  obtain ⟨r, d, rfl⟩ : ∃ (r : Fin 512) (d : Fin 768), y = ix2 r d := ⟨y 0, y 1, by blk_ext []⟩
  obtain ⟨a, h, i, rfl⟩ : ∃ (a : Fin 3) (h : Fin 4) (i : Fin 64), d = lane a h i :=
    ⟨⟨d.val / 256, by omega⟩, ⟨d.val % 256 / 64, by omega⟩, ⟨d.val % 64, by omega⟩, by unfold lane; apply Fin.ext; simp only; omega⟩
  rw [tile_lane, qs_apply, bQ_apply]
  refine (Cert.Reference2Ideal.At.v100_apply _ _ _ _ _ _ _ _ ⟨t.val, t_lt t⟩ r a h i).symm.trans ?_
  congr 1
  blk_ext [idx12 t]

theorem outs13A (h0 : ¬ t.val % 16 = 15) (h2 : ¬ (t.val % 16 = 12 ∨ t.val % 16 = 13 ∨ t.val % 16 = 14 ∨ t.val % 16 = 15))
    (y : S512x768.Idx) : (outsAt0 m c t.val t.isLt).2.2.2.1 y = tile (bK m c t) y := by
  rw [outsAt0_A m c t h0 h0 h2]
  frame_out
  rw [nameK (bK m c t)]
  swap
  · rfl
  generalize bK m c t = q
  canon_tiles x h using (View.cover_of_tiledBy _ ![32, 128] (by sl_kernel_rfl) y)
  iterate 16 exact pc640 q _ _ _ _ _ (by omega) x y (by omega) (by omega)
  iterate 16 exact pc512 q _ _ _ _ _ (by omega) x y (by omega) (by omega)
  iterate 4 exact pc384 q _ _ _ _ _ (by omega) x y (by omega) (by omega)
  iterate 4 exact pc256 q _ _ _ _ _ (by omega) x y (by omega) (by omega)
  exact pc0 q x y (by omega) (by omega)

theorem outs13B (h0 : ¬ t.val % 16 = 15) (h2 : t.val % 16 = 12 ∨ t.val % 16 = 13 ∨ t.val % 16 = 14 ∨ t.val % 16 = 15)
    (y : S512x768.Idx) : (outsAt0 m c t.val t.isLt).2.2.2.1 y = tile (bK m c t) y := by
  rw [outsAt0_B m c t h0 h0 h2]
  frame_out
  rw [nameK (bK m c t)]
  swap
  · rfl
  generalize bK m c t = q
  canon_tiles x h using (View.cover_of_tiledBy _ ![32, 128] (by sl_kernel_rfl) y)
  iterate 16 exact pc640 q _ _ _ _ _ (by omega) x y (by omega) (by omega)
  iterate 16 exact pc512 q _ _ _ _ _ (by omega) x y (by omega) (by omega)
  iterate 4 exact pc384 q _ _ _ _ _ (by omega) x y (by omega) (by omega)
  iterate 4 exact pc256 q _ _ _ _ _ (by omega) x y (by omega) (by omega)
  exact pc0 q x y (by omega) (by omega)

theorem outs13C (h0 : t.val % 16 = 15) (h2 : t.val % 16 = 12 ∨ t.val % 16 = 13 ∨ t.val % 16 = 14 ∨ t.val % 16 = 15)
    (y : S512x768.Idx) : (outsAt0 m c t.val t.isLt).2.2.2.1 y = tile (bK m c t) y := by
  rw [outsAt0_C m c t h0 h0 h2]
  frame_out
  rw [nameK (bK m c t)]
  swap
  · rfl
  generalize bK m c t = q
  canon_tiles x h using (View.cover_of_tiledBy _ ![32, 128] (by sl_kernel_rfl) y)
  iterate 16 exact pc640 q _ _ _ _ _ (by omega) x y (by omega) (by omega)
  iterate 16 exact pc512 q _ _ _ _ _ (by omega) x y (by omega) (by omega)
  iterate 4 exact pc384 q _ _ _ _ _ (by omega) x y (by omega) (by omega)
  iterate 4 exact pc256 q _ _ _ _ _ (by omega) x y (by omega) (by omega)
  exact pc0 q x y (by omega) (by omega)

theorem outs13 (y : S512x768.Idx) : (outsAt0 m c t.val t.isLt).2.2.2.1 y = tile (bK m c t) y := by
  by_cases h0 : t.val % 16 = 15
  · exact outs13C m c t h0 (by omega) y
  · by_cases h2 : t.val % 16 = 12 ∨ t.val % 16 = 13 ∨ t.val % 16 = 14 ∨ t.val % 16 = 15
    · exact outs13B m c t h0 h2 y
    · exact outs13A m c t h0 h2 y

theorem idx13 : ∀ t : Fin cfg0.N, win0_13.index t = ![t.val, 0] :=
  (by decide +kernel : ∀ t : Fin grid0.N, _)

theorem arr13 : (dats m 0 c).arrAt 13 cfg0.N
    = Cert.Reference2Ideal.Read.val_main_v117 (F := Ideal) (aX m c) (aG m c) (aWg m c) (aWu m c) (aWd m c) (aGm m c) (aWi m c) (aGk m c) := by
  refine (dats m 0 c).arrAt_eq_of_covers 13 _ (by decide +kernel) fun t hf y => ?_
  blk_simp
  rw [after0_13, outs13]
  obtain ⟨r, d, rfl⟩ : ∃ (r : Fin 512) (d : Fin 768), y = ix2 r d := ⟨y 0, y 1, by blk_ext []⟩
  obtain ⟨a, h, i, rfl⟩ : ∃ (a : Fin 3) (h : Fin 4) (i : Fin 64), d = lane a h i :=
    ⟨⟨d.val / 256, by omega⟩, ⟨d.val % 256 / 64, by omega⟩, ⟨d.val % 64, by omega⟩, by unfold lane; apply Fin.ext; simp only; omega⟩
  rw [tile_lane, bK_apply]
  refine (Cert.Reference2Ideal.At.v117_apply _ _ _ _ _ _ _ _ ⟨t.val, t_lt t⟩ r a h i).symm.trans ?_
  congr 1
  blk_ext [idx13 t]

theorem outs14A (h0 : ¬ t.val % 16 = 15) (h2 : ¬ (t.val % 16 = 12 ∨ t.val % 16 = 13 ∨ t.val % 16 = 14 ∨ t.val % 16 = 15))
    (y : S512x768.Idx) : (outsAt0 m c t.val t.isLt).2.2.2.2.1 y = tile (bV m c t) y := by
  rw [outsAt0_A m c t h0 h0 h2]
  frame_out
  rw [nameV (bV m c t)]
  swap
  · rfl
  generalize bV m c t = q
  canon_tiles x h using (View.cover_of_tiledBy _ ![32, 128] (by sl_kernel_rfl) y)
  iterate 16 exact pc640 q _ _ _ _ _ (by omega) x y (by omega) (by omega)
  iterate 16 exact pc512 q _ _ _ _ _ (by omega) x y (by omega) (by omega)
  iterate 4 exact pc384 q _ _ _ _ _ (by omega) x y (by omega) (by omega)
  iterate 4 exact pc256 q _ _ _ _ _ (by omega) x y (by omega) (by omega)
  exact pc0 q x y (by omega) (by omega)

theorem outs14B (h0 : ¬ t.val % 16 = 15) (h2 : t.val % 16 = 12 ∨ t.val % 16 = 13 ∨ t.val % 16 = 14 ∨ t.val % 16 = 15)
    (y : S512x768.Idx) : (outsAt0 m c t.val t.isLt).2.2.2.2.1 y = tile (bV m c t) y := by
  rw [outsAt0_B m c t h0 h0 h2]
  frame_out
  rw [nameV (bV m c t)]
  swap
  · rfl
  generalize bV m c t = q
  canon_tiles x h using (View.cover_of_tiledBy _ ![32, 128] (by sl_kernel_rfl) y)
  iterate 16 exact pc640 q _ _ _ _ _ (by omega) x y (by omega) (by omega)
  iterate 16 exact pc512 q _ _ _ _ _ (by omega) x y (by omega) (by omega)
  iterate 4 exact pc384 q _ _ _ _ _ (by omega) x y (by omega) (by omega)
  iterate 4 exact pc256 q _ _ _ _ _ (by omega) x y (by omega) (by omega)
  exact pc0 q x y (by omega) (by omega)

theorem outs14C (h0 : t.val % 16 = 15) (h2 : t.val % 16 = 12 ∨ t.val % 16 = 13 ∨ t.val % 16 = 14 ∨ t.val % 16 = 15)
    (y : S512x768.Idx) : (outsAt0 m c t.val t.isLt).2.2.2.2.1 y = tile (bV m c t) y := by
  rw [outsAt0_C m c t h0 h0 h2]
  frame_out
  rw [nameV (bV m c t)]
  swap
  · rfl
  generalize bV m c t = q
  canon_tiles x h using (View.cover_of_tiledBy _ ![32, 128] (by sl_kernel_rfl) y)
  iterate 16 exact pc640 q _ _ _ _ _ (by omega) x y (by omega) (by omega)
  iterate 16 exact pc512 q _ _ _ _ _ (by omega) x y (by omega) (by omega)
  iterate 4 exact pc384 q _ _ _ _ _ (by omega) x y (by omega) (by omega)
  iterate 4 exact pc256 q _ _ _ _ _ (by omega) x y (by omega) (by omega)
  exact pc0 q x y (by omega) (by omega)

theorem outs14 (y : S512x768.Idx) : (outsAt0 m c t.val t.isLt).2.2.2.2.1 y = tile (bV m c t) y := by
  by_cases h0 : t.val % 16 = 15
  · exact outs14C m c t h0 (by omega) y
  · by_cases h2 : t.val % 16 = 12 ∨ t.val % 16 = 13 ∨ t.val % 16 = 14 ∨ t.val % 16 = 15
    · exact outs14B m c t h0 h2 y
    · exact outs14A m c t h0 h2 y

theorem idx14 : ∀ t : Fin cfg0.N, win0_14.index t = ![t.val, 0] :=
  (by decide +kernel : ∀ t : Fin grid0.N, _)

theorem arr14 : (dats m 0 c).arrAt 14 cfg0.N
    = Cert.Reference2Ideal.Read.val_main_v134 (F := Ideal) (aX m c) (aG m c) (aWg m c) (aWu m c) (aWd m c) (aGm m c) (aWi m c) := by
  refine (dats m 0 c).arrAt_eq_of_covers 14 _ (by decide +kernel) fun t hf y => ?_
  blk_simp
  rw [after0_14, outs14]
  obtain ⟨r, d, rfl⟩ : ∃ (r : Fin 512) (d : Fin 768), y = ix2 r d := ⟨y 0, y 1, by blk_ext []⟩
  obtain ⟨a, h, i, rfl⟩ : ∃ (a : Fin 3) (h : Fin 4) (i : Fin 64), d = lane a h i :=
    ⟨⟨d.val / 256, by omega⟩, ⟨d.val % 256 / 64, by omega⟩, ⟨d.val % 64, by omega⟩, by unfold lane; apply Fin.ext; simp only; omega⟩
  rw [tile_lane, bV_apply]
  refine (Cert.Reference2Ideal.At.v134_apply _ _ _ _ _ _ _ ⟨t.val, t_lt t⟩ r a h i).symm.trans ?_
  congr 1
  blk_ext [idx14 t]

end Cert.Kernel2Ideal.At

end
-- ==== Proof.Pre3.lean ====
/-
  What the mixing call's precondition says of an element.
-/
module

public import proofs.«01_k».proof.Proof.Gen.Pre_finite3
public import proofs.«01_k».proof.Proof.Pre
public import Idealize.ShloMosaic.Lib.Pointwise
public import Idealize.ShloMosaic.Lib.Pipeline.ValueKit

@[expose] public section

set_option maxRecDepth 16384

noncomputable section

namespace Cert.Pre_finite3

open Idealize.ShloMosaic Idealize.ShloMosaic.TcCoe Cert.Pre_finite3 Cert.Pre_finite3.Gen Cert.Band
open Idealize.ShloMosaic.Pointwise

theorem all_fin (x : FVec Ideal S16384x128 .f32) (j : S_.Idx)
    (h : Host.reduce IntOp.andi (cmpf .olt (Host.absf (extractStridedSlice S16384x4 ![0, 0] x slices_S16384x128_S16384x4_0_0))
        (broadcastInDim S16384x4 ![] bcast_S_S16384x4 (constant S_ .f32 0x7F800000#32)))
      (constantI S_ 1 1#1) reducesTo_S16384x4_S_d0_1 h_S_ j = 1#1) (p : Fin 16384) (k : Fin 4) : Fin' (x (ix2 p ⟨k.val, by omega⟩)) := by
  haveI : Subsingleton S_.Idx := ⟨fun a b => funext fun k => k.elim0⟩
  have h1 := Cert.Pre_finite.lt_inf _ (Host.reduce_andi_all _ _ _ _ _ h (ix2 p k))
  have e : extractStridedSlice S16384x4 ![0, 0] x slices_S16384x128_S16384x4_0_0 (ix2 p k) = x (ix2 p ⟨k.val, by omega⟩) := by
    pointwise
  rw [e] at h1
  exact h1

theorem finite_of (a0 : FVec Ideal S16384x1024 .f32) (a1 : FVec Ideal S16384x512 .bf16) (a2 a3 a4 : FVec Ideal S16384x256 .bf16)
    (a5 a6 a7 : FVec Ideal S16384x128 .f32) (a8 a9 a10 a11 a12 a13 a14 a15 a16)
    (h : fn (F := Ideal) a0 a1 a2 a3 a4 a5 a6 a7 a8 a9 a10 a11 a12 a13 a14 a15 a16 = fun _ => 1#1) (p : Fin 16384) (k : Fin 4) :
    Fin' (a5 (ix2 p ⟨k.val, by omega⟩)) ∧ Fin' (a6 (ix2 p ⟨k.val, by omega⟩)) ∧ Fin' (a7 (ix2 p ⟨k.val, by omega⟩)) := by
  have hj := congrFun h (fun k => k.elim0)
  have hb : ∀ x y : BitVec 1, IntOp.andi x y = 1#1 → x = 1#1 ∧ y = 1#1 := by decide
  obtain ⟨h0, h2⟩ := hb _ _ hj
  obtain ⟨h0, h1⟩ := hb _ _ h0
  exact ⟨all_fin a5 _ h0 p k, all_fin a6 _ h1 p k, all_fin a7 _ h2 p k⟩

end Cert.Pre_finite3

end
-- ==== Proof.Mix.lean ====
/-
  The combination of three attention groups over the extended reals, and the row the last kernel computes.
-/
module

public import proofs.«01_k».proof.Proof.Norm

@[expose] public section

noncomputable section

namespace Cert.Mix

open Idealize.ShloMosaic Cert.Band Cert.Ffn

/-- The largest of three logarithms. -/
def top (l : Fin 3 → EReal) : EReal := max (max (l 0) (l 1)) (l 2)

/-- Three values weighted by the exponentials of their logarithms over the sum of these. -/
def comb (l o : Fin 3 → EReal) : EReal :=
  Ideal.div (∑ g, Ideal.exp (l g - top l) * o g) (∑ g, Ideal.exp (l g - top l))

/-- The weight of one group, by the inverse of the sum. -/
def wt (l : Fin 3 → EReal) (g : Fin 3) : EReal :=
  Ideal.exp (l g - top l) * Ideal.div 1 (Ideal.exp (l 0 - top l) + Ideal.exp (l 1 - top l) + Ideal.exp (l 2 - top l))

/-- Weighting each value first gives the same, when the logarithms are finite. -/
theorem comb_eq (l o : Fin 3 → EReal) (hl : ∀ g, Fin' (l g)) :
    wt l 0 * o 0 + wt l 1 * o 1 + wt l 2 * o 2 = comb l o := by
  unfold wt comb
  rw [Fin.sum_univ_three, Fin.sum_univ_three]
  have hM : Fin' (top l) := by
    unfold top
    rcases max_choice (max (l 0) (l 1)) (l 2) with h | h <;> rw [h]
    · rcases max_choice (l 0) (l 1) with h' | h' <;> rw [h'] <;> exact hl _
    · exact hl _
  generalize top l = M at *
  have he : ∀ g, ∃ a : ℝ, 0 < a ∧ Ideal.exp (l g - M) = (a : EReal) := fun g => by
    obtain ⟨x, hx⟩ : ∃ x : ℝ, l g = x := ⟨(l g).toReal, (EReal.coe_toReal (hl g).2 (hl g).1).symm⟩
    obtain ⟨y, hy⟩ : ∃ y : ℝ, M = y := ⟨M.toReal, (EReal.coe_toReal hM.2 hM.1).symm⟩
    refine ⟨Real.exp (x - y), Real.exp_pos _, ?_⟩
    rw [hx, hy, ← EReal.coe_sub]
    rfl
  obtain ⟨a0, p0, e0⟩ := he 0
  obtain ⟨a1, p1, e1⟩ := he 1
  obtain ⟨a2, p2, e2⟩ := he 2
  rw [e0, e1, e2, ← EReal.coe_add, ← EReal.coe_add]
  have hs : (0 : ℝ) < a0 + a1 + a2 := by linarith
  have hs' : ((a0 + a1 + a2 : ℝ) : EReal) ≠ 0 := by exact_mod_cast hs.ne'
  unfold Ideal.div
  rw [if_neg hs', if_neg hs', one_mul, ← EReal.coe_inv]
  have hc : (0 : EReal) ≤ (((a0 + a1 + a2)⁻¹ : ℝ) : EReal) := EReal.coe_nonneg.mpr (inv_nonneg.mpr hs.le)
  have ht : (((a0 + a1 + a2)⁻¹ : ℝ) : EReal) ≠ ⊤ := EReal.coe_ne_top _
  generalize (((a0 + a1 + a2)⁻¹ : ℝ) : EReal) = c at *
  rw [EReal.right_distrib_of_nonneg_of_ne_top hc ht, EReal.right_distrib_of_nonneg_of_ne_top hc ht]
  congr 1
  · congr 1 <;> exact mul_right_comm _ _ _
  · exact mul_right_comm _ _ _

theorem smax_top (l : Fin 3 → EReal) : Finset.univ.fold max ⊥ l = top l := by
  show smax l = _
  rw [smax_eq_sup]
  unfold top
  apply le_antisymm
  · refine Finset.sup_le fun g _ => ?_
    fin_cases g
    · exact le_max_of_le_left (le_max_left _ _)
    · exact le_max_of_le_left (le_max_right _ _)
    · exact le_max_right _ _
  · exact max_le (max_le (Finset.le_sup (f := l) (Finset.mem_univ 0)) (Finset.le_sup (f := l) (Finset.mem_univ 1)))
      (Finset.le_sup (f := l) (Finset.mem_univ 2))

/-- A row of 128 lanes times the matrix that gives lane `c` to its 64 columns. -/
theorem seg_sum (w s : Fin 128 → EReal) (c : Fin 4) (hs : ∀ k : Fin 128, s k = if k.val = c.val then 1 else 0) :
    ∑ k, w k * s k = w ⟨c.val, by omega⟩ := by
  rw [Finset.sum_eq_single (⟨c.val, by omega⟩ : Fin 128)]
  · rw [hs, if_pos rfl, mul_one]
  · intro k _ hk
    rw [hs, if_neg, mul_zero]
    intro h
    exact hk (Fin.ext h)
  · intro h
    exact absurd (Finset.mem_univ _) h

/-- The gates of a row. -/
def gate (x gm : Fin 1024 → EReal) (wg : Fin 1024 → Fin 2048 → EReal) (f : Fin 2048) : EReal :=
  Ideal.logistic (rowMul (norm (Ideal.ofBits FTy.f32 1149239296#32) x gm) wg f)

/-- The gated sum of the recurrence's projection and the attention's. -/
def mixed (G : Fin 2048 → EReal) (ys : Fin 512 → EReal) (ya : Fin 256 → EReal) (wsp : Fin 512 → Fin 1024 → EReal)
    (wap : Fin 256 → Fin 1024 → EReal) (d : Fin 1024) : EReal :=
  G ⟨d.val, by omega⟩ * rowMul ys wsp d + G ⟨1024 + d.val, by omega⟩ * rowMul ya wap d

/-- The row after mixing. -/
def mid (x : Fin 1024 → EReal) (G : Fin 2048 → EReal) (ys : Fin 512 → EReal) (ya : Fin 256 → EReal) (wsp : Fin 512 → Fin 1024 → EReal)
    (wap : Fin 256 → Fin 1024 → EReal) (wo : Fin 1024 → Fin 1024 → EReal) (d : Fin 1024) : EReal :=
  x d + rowMul (mixed G ys ya wsp wap) wo d

end Cert.Mix

end
-- ==== Proof.Ffn3.lean ====
/-
  The mixing kernel's payloads at an index.
-/
module

public import proofs.«01_k».proof.Proof.Gen.Kernel3Ideal.Skeleton
public import proofs.«01_k».proof.Proof.Mix
public import Idealize.ShloMosaic.Lib.Pointwise
public import Idealize.ShloMosaic.Lib.Pipeline.ValueKit

@[expose] public section

set_option maxRecDepth 16384

noncomputable section

namespace Cert.Kernel3Ideal.At

open Idealize.ShloMosaic Idealize.ShloMosaic.TcCoe Cert.Kernel3Ideal Cert.Kernel3Ideal.Gen Cert.Ffn Cert.Mix
open Idealize.ShloMosaic.Pointwise

theorem n2_apply (x : FVec Ideal S512x1024 .f32) (g : FVec Ideal S1x1024 .f32) (r : Fin 512) (d : Fin 1024) :
    k0_pay73 (F := Ideal) x g (ix2 r d)
      = norm (Ideal.ofBits FTy.f32 1149239296#32) (fun d => x (ix2 r d)) (fun d => g (ix2 0 d)) d := by
  pointwise [k0_pay73]
  rfl

theorem gates_apply (x : FVec Ideal S512x1024 .f32) (g : FVec Ideal S1x1024 .f32) (w : FVec Ideal S1024x2048 .bf16) (r : Fin 512) (f : Fin 2048) :
    k0_pay2 (F := Ideal) x g w (ix2 r f)
      = gate (fun d => x (ix2 r d)) (fun d => g (ix2 0 d)) (fun e f => w (ix2 e f)) f := by
  pointwise [k0_pay2]
  simp only [tanh_half]
  rfl

/-- The residual row: the input plus half its feed-forward value, as the kernel sums it in three chunks. -/
def kOut (x : FVec Ideal S512x1024 .f32) (g : FVec Ideal S1x1024 .f32) (a b : Vec Ideal S1024x2816 .bf16) (c : Vec Ideal S2816x1024 .bf16) :
    FVec Ideal S512x1024 .f32 :=
  k0_pay1 (F := Ideal) x
    (k0_pay78 (k0_pay73 x g)
      (k0_pay74 x g (View.ld a (Rect.unit ![0, 0] ![1024, 1024] inb_S1024x2816_S1024x1024_0_0))
        (View.ld b (Rect.unit ![0, 0] ![1024, 1024] inb_S1024x2816_S1024x1024_0_0))
        (View.ld c (Rect.unit ![0, 0] ![1024, 1024] inb_S2816x1024_S1024x1024_0_0)))
      (k0_pay75 x g (View.ld a (Rect.unit ![0, 1024] ![1024, 1024] inb_S1024x2816_S1024x1024_0_1024)))
      (k0_pay76 x g (View.ld b (Rect.unit ![0, 1024] ![1024, 1024] inb_S1024x2816_S1024x1024_0_1024)))
      (k0_pay77 x g (View.ld a (Rect.unit ![0, 1024] ![1024, 1024] inb_S1024x2816_S1024x1024_0_1024)))
      (View.ld c (Rect.unit ![1024, 0] ![1024, 1024] inb_S2816x1024_S1024x1024_1024_0))
      (View.ld a (Rect.unit ![0, 2048] ![1024, 768] inb_S1024x2816_S1024x768_0_2048))
      (View.ld b (Rect.unit ![0, 2048] ![1024, 768] inb_S1024x2816_S1024x768_0_2048))
      (View.ld c (Rect.unit ![2048, 0] ![768, 1024] inb_S2816x1024_S768x1024_2048_0)))
    k0_pay79

theorem out_apply (x : FVec Ideal S512x1024 .f32) (g : FVec Ideal S1x1024 .f32) (a b : Vec Ideal S1024x2816 .bf16) (c : Vec Ideal S2816x1024 .bf16)
    (r : Fin 512) (d : Fin 1024) :
    kOut x g a b c (ix2 r d)
      = ffn (fun d => x (ix2 r d)) (norm (Ideal.ofBits FTy.f32 1149239296#32) (fun d => x (ix2 r d)) (fun d => g (ix2 0 d)))
          (fun e f => a (ix2 e f)) (fun e f => b (ix2 e f)) (fun f d => c (ix2 f d)) d := by
  unfold kOut
  pointwise [k0_pay1, k0_pay79, k0_pay78, k0_pay77, k0_pay76, k0_pay75, k0_pay74]
  simp only [n2_apply, tanh_half]
  exact congrArg (fun e => x (ix2 r d) + Ideal.ofBits FTy.f32 1056964608#32 * e)
    (sum_chunks fun f => hidden (norm (Ideal.ofBits FTy.f32 1149239296#32) (fun d => x (ix2 r d)) (fun d => g (ix2 0 d)))
      (fun e f => a (ix2 e f)) (fun e f => b (ix2 e f)) f * c (ix2 f d))

variable (x : FVec Ideal S512x1024 .f32) (G : FVec Ideal S512x2048 .f32) (o0 o1 o2 : FVec Ideal S512x256 .f32)
  (l0 l1 l2 : FVec Ideal S512x128 .f32) (s : FVec Ideal S128x256 .bf16) (ys : FVec Ideal S512x512 .bf16)
  (wsp : FVec Ideal S512x1024 .bf16) (wap : FVec Ideal S256x1024 .bf16) (wo : FVec Ideal S1024x1024 .bf16)

/-- The three groups' values of a lane of a row. -/
def oA (r : Fin 512) (j : Fin 256) : Fin 3 → EReal := ![o0 (ix2 r j), o1 (ix2 r j), o2 (ix2 r j)]
def lA (r : Fin 512) (k : Fin 128) : Fin 3 → EReal := ![l0 (ix2 r k), l1 (ix2 r k), l2 (ix2 r k)]

theorem mid_apply (tp : FVec Ideal S512x128 .f32)
    (htp : ∀ (r : Fin 512) (k : Fin 128), tp (ix2 r k) = top (lA l0 l1 l2 r k))
    (hs : ∀ (k : Fin 128) (j : Fin 256), s (ix2 k j) = if k.val = j.val / 64 then 1 else 0)
    (hl : ∀ (r : Fin 512) (k : Fin 4) (g : Fin 3), Cert.Band.Fin' (lA l0 l1 l2 r ⟨k.val, by omega⟩ g)) (r : Fin 512) (d : Fin 1024) :
    k0_pay72 (F := Ideal) x G o0 l0 o1 l1 o2 l2 tp s ys wsp wap wo (ix2 r d)
      = mid (fun d => x (ix2 r d)) (fun f => G (ix2 r f)) (fun d => ys (ix2 r d))
          (fun j => comb (lA l0 l1 l2 r ⟨j.val / 64, by omega⟩) (oA o0 o1 o2 r j)) (fun e f => wsp (ix2 e f)) (fun e f => wap (ix2 e f))
          (fun e f => wo (ix2 e f)) d := by
  have one : (Ideal.ofBits FTy.f32 1065353216#32 : EReal) = 1 := by
    simp [Ideal.ofBits, Ideal.ieee]
    rw [← EReal.coe_mul]
    norm_num
  pointwise [k0_pay72]
  simp only [htp, one]
  have key : ∀ (j : Fin 256), comb (lA l0 l1 l2 r ⟨j.val / 64, by omega⟩) (oA o0 o1 o2 r j)
      = (∑ k : Fin 128, wt (lA l0 l1 l2 r k) 0 * s (ix2 k j)) * o0 (ix2 r j) + (∑ k : Fin 128, wt (lA l0 l1 l2 r k) 1 * s (ix2 k j)) * o1 (ix2 r j)
        + (∑ k : Fin 128, wt (lA l0 l1 l2 r k) 2 * s (ix2 k j)) * o2 (ix2 r j) := fun j => by
    rw [seg_sum _ _ ⟨j.val / 64, by omega⟩ (fun k => hs k j), seg_sum _ _ ⟨j.val / 64, by omega⟩ (fun k => hs k j),
      seg_sum _ _ ⟨j.val / 64, by omega⟩ (fun k => hs k j)]
    exact (comb_eq _ _ (hl r ⟨j.val / 64, by omega⟩)).symm
  simp only [key]
  rfl

end Cert.Kernel3Ideal.At

end
-- ==== Proof.Arg3.lean ====
/-
  The mixing kernel's blocks, in the arrays the call gets.
-/
module

public import proofs.«01_k».proof.Proof.Gen.Kernel3Ideal.Value
public import Idealize.ShloMosaic.Lib.Pointwise
public import Idealize.ShloMosaic.Lib.Pipeline.ValueKit
public import Idealize.ShloMosaic.Lib.Claim

@[expose] public section

set_option maxRecDepth 16384

noncomputable section

namespace Cert.Kernel3Ideal.At

open Idealize.ShloMosaic Idealize.ShloMosaic.TcCoe Cert.Kernel3Ideal Cert.Kernel3Ideal.Gen
open Idealize.ShloMosaic.Pointwise

variable (m : (ℓ : Loc nD τ sig) → Buf (Elt Ideal) ℓ) (c : Dev nD) (t : Fin cfg0.N)

theorem idx0 : ∀ t : Fin cfg0.N, win0_0.index t = ![t.val, 0] :=
  (by decide +kernel : ∀ t : Fin grid0.N, _)
theorem idx1 : ∀ t : Fin cfg0.N, win0_1.index t = ![t.val, 0] :=
  (by decide +kernel : ∀ t : Fin grid0.N, _)
theorem idx2 : ∀ t : Fin cfg0.N, win0_2.index t = ![t.val, 0] :=
  (by decide +kernel : ∀ t : Fin grid0.N, _)
theorem idx3 : ∀ t : Fin cfg0.N, win0_3.index t = ![t.val, 0] :=
  (by decide +kernel : ∀ t : Fin grid0.N, _)
theorem idx4 : ∀ t : Fin cfg0.N, win0_4.index t = ![t.val, 0] :=
  (by decide +kernel : ∀ t : Fin grid0.N, _)
theorem idx5 : ∀ t : Fin cfg0.N, win0_5.index t = ![t.val, 0] :=
  (by decide +kernel : ∀ t : Fin grid0.N, _)
theorem idx6 : ∀ t : Fin cfg0.N, win0_6.index t = ![t.val, 0] :=
  (by decide +kernel : ∀ t : Fin grid0.N, _)
theorem idx7 : ∀ t : Fin cfg0.N, win0_7.index t = ![t.val, 0] :=
  (by decide +kernel : ∀ t : Fin grid0.N, _)
theorem idx8 : ∀ t : Fin cfg0.N, win0_8.index t = ![0, 0] :=
  (by decide +kernel : ∀ t : Fin grid0.N, _)
theorem idx9 : ∀ t : Fin cfg0.N, win0_9.index t = ![0, 0] :=
  (by decide +kernel : ∀ t : Fin grid0.N, _)
theorem idx10 : ∀ t : Fin cfg0.N, win0_10.index t = ![0, 0] :=
  (by decide +kernel : ∀ t : Fin grid0.N, _)
theorem idx11 : ∀ t : Fin cfg0.N, win0_11.index t = ![0, 0] :=
  (by decide +kernel : ∀ t : Fin grid0.N, _)
theorem idx12 : ∀ t : Fin cfg0.N, win0_12.index t = ![0, 0] :=
  (by decide +kernel : ∀ t : Fin grid0.N, _)
theorem idx13 : ∀ t : Fin cfg0.N, win0_13.index t = ![0, 0] :=
  (by decide +kernel : ∀ t : Fin grid0.N, _)
theorem idx14 : ∀ t : Fin cfg0.N, win0_14.index t = ![0, 0] :=
  (by decide +kernel : ∀ t : Fin grid0.N, _)
theorem idx15 : ∀ t : Fin cfg0.N, win0_15.index t = ![0, 0] :=
  (by decide +kernel : ∀ t : Fin grid0.N, _)
theorem idx16 : ∀ t : Fin cfg0.N, win0_16.index t = ![0, 0] :=
  (by decide +kernel : ∀ t : Fin grid0.N, _)
theorem idx17 : ∀ t : Fin cfg0.N, win0_17.index t = ![0, 0] :=
  (by decide +kernel : ∀ t : Fin grid0.N, _)
theorem idx18 : ∀ t : Fin cfg0.N, win0_18.index t = ![t.val, 0] :=
  (by decide +kernel : ∀ t : Fin grid0.N, _)

theorem blk0 (r : Fin 512) (d : Fin 1024) (ht : t.val < 32) :
    iblk m c 0 t (ix2 r d) = m ((c : Thread nD τ).loc main_arg0) (ix2 ⟨t.val * 512 + r.val, by omega⟩ d) := by
  blk_simp [iblk, idx0 t]
  simp only [V, List.flatten_cons, List.flatten_nil, List.append_nil, List.cons_append, List.nil_append]
  entry_read
  pointwise
  blk_ext [idx0 t]
theorem blk1 (r : Fin 512) (d : Fin 512) (ht : t.val < 32) :
    iblk m c 1 t (ix2 r d) = m ((c : Thread nD τ).loc main_arg1) (ix2 ⟨t.val * 512 + r.val, by omega⟩ d) := by
  blk_simp [iblk, idx1 t]
  simp only [V, List.flatten_cons, List.flatten_nil, List.append_nil, List.cons_append, List.nil_append]
  entry_read
  pointwise
  blk_ext [idx1 t]
theorem blk2 (r : Fin 512) (d : Fin 256) (ht : t.val < 32) :
    iblk m c 2 t (ix2 r d) = m ((c : Thread nD τ).loc main_arg2) (ix2 ⟨t.val * 512 + r.val, by omega⟩ d) := by
  blk_simp [iblk, idx2 t]
  simp only [V, List.flatten_cons, List.flatten_nil, List.append_nil, List.cons_append, List.nil_append]
  entry_read
  pointwise
  blk_ext [idx2 t]
theorem blk3 (r : Fin 512) (d : Fin 256) (ht : t.val < 32) :
    iblk m c 3 t (ix2 r d) = m ((c : Thread nD τ).loc main_arg3) (ix2 ⟨t.val * 512 + r.val, by omega⟩ d) := by
  blk_simp [iblk, idx3 t]
  simp only [V, List.flatten_cons, List.flatten_nil, List.append_nil, List.cons_append, List.nil_append]
  entry_read
  pointwise
  blk_ext [idx3 t]
theorem blk4 (r : Fin 512) (d : Fin 256) (ht : t.val < 32) :
    iblk m c 4 t (ix2 r d) = m ((c : Thread nD τ).loc main_arg4) (ix2 ⟨t.val * 512 + r.val, by omega⟩ d) := by
  blk_simp [iblk, idx4 t]
  simp only [V, List.flatten_cons, List.flatten_nil, List.append_nil, List.cons_append, List.nil_append]
  entry_read
  pointwise
  blk_ext [idx4 t]
theorem blk5 (r : Fin 512) (d : Fin 128) (ht : t.val < 32) :
    iblk m c 5 t (ix2 r d) = m ((c : Thread nD τ).loc main_arg5) (ix2 ⟨t.val * 512 + r.val, by omega⟩ d) := by
  blk_simp [iblk, idx5 t]
  simp only [V, List.flatten_cons, List.flatten_nil, List.append_nil, List.cons_append, List.nil_append]
  entry_read
  pointwise
  blk_ext [idx5 t]
theorem blk6 (r : Fin 512) (d : Fin 128) (ht : t.val < 32) :
    iblk m c 6 t (ix2 r d) = m ((c : Thread nD τ).loc main_arg6) (ix2 ⟨t.val * 512 + r.val, by omega⟩ d) := by
  blk_simp [iblk, idx6 t]
  simp only [V, List.flatten_cons, List.flatten_nil, List.append_nil, List.cons_append, List.nil_append]
  entry_read
  pointwise
  blk_ext [idx6 t]
theorem blk7 (r : Fin 512) (d : Fin 128) (ht : t.val < 32) :
    iblk m c 7 t (ix2 r d) = m ((c : Thread nD τ).loc main_arg7) (ix2 ⟨t.val * 512 + r.val, by omega⟩ d) := by
  blk_simp [iblk, idx7 t]
  simp only [V, List.flatten_cons, List.flatten_nil, List.append_nil, List.cons_append, List.nil_append]
  entry_read
  pointwise
  blk_ext [idx7 t]
theorem blk8 (d : Fin 1024) : iblk m c 8 t (ix2 0 d) = m ((c : Thread nD τ).loc main_arg8) (ix1 d) := by
  blk_simp [iblk, idx8 t]
  simp only [V, List.flatten_cons, List.flatten_nil, List.append_nil, List.cons_append, List.nil_append]
  entry_read
  pointwise
  blk_ext [idx8 t]
theorem blk14 (d : Fin 1024) : iblk m c 14 t (ix2 0 d) = m ((c : Thread nD τ).loc main_arg13) (ix1 d) := by
  blk_simp [iblk, idx14 t]
  simp only [V, List.flatten_cons, List.flatten_nil, List.append_nil, List.cons_append, List.nil_append]
  entry_read
  pointwise
  blk_ext [idx14 t]
theorem blk9 (e : Fin 1024) (f : Fin 2048) : iblk m c 9 t (ix2 e f) = m ((c : Thread nD τ).loc main_arg9) (ix2 e f) := by
  blk_simp [iblk, idx9 t]
  simp only [V, List.flatten_cons, List.flatten_nil, List.append_nil, List.cons_append, List.nil_append]
  entry_read
  pointwise
  blk_ext [idx9 t]
theorem blk10 (e : Fin 512) (f : Fin 1024) : iblk m c 10 t (ix2 e f) = m ((c : Thread nD τ).loc main_arg10) (ix2 e f) := by
  blk_simp [iblk, idx10 t]
  simp only [V, List.flatten_cons, List.flatten_nil, List.append_nil, List.cons_append, List.nil_append]
  entry_read
  pointwise
  blk_ext [idx10 t]
theorem blk11 (e : Fin 256) (f : Fin 1024) : iblk m c 11 t (ix2 e f) = m ((c : Thread nD τ).loc main_arg11) (ix2 e f) := by
  blk_simp [iblk, idx11 t]
  simp only [V, List.flatten_cons, List.flatten_nil, List.append_nil, List.cons_append, List.nil_append]
  entry_read
  pointwise
  blk_ext [idx11 t]
theorem blk12 (e : Fin 1024) (f : Fin 1024) : iblk m c 12 t (ix2 e f) = m ((c : Thread nD τ).loc main_arg12) (ix2 e f) := by
  blk_simp [iblk, idx12 t]
  simp only [V, List.flatten_cons, List.flatten_nil, List.append_nil, List.cons_append, List.nil_append]
  entry_read
  pointwise
  blk_ext [idx12 t]
theorem blk15 (e : Fin 1024) (f : Fin 2816) : iblk m c 15 t (ix2 e f) = m ((c : Thread nD τ).loc main_arg14) (ix2 e f) := by
  blk_simp [iblk, idx15 t]
  simp only [V, List.flatten_cons, List.flatten_nil, List.append_nil, List.cons_append, List.nil_append]
  entry_read
  pointwise
  blk_ext [idx15 t]
theorem blk16 (e : Fin 1024) (f : Fin 2816) : iblk m c 16 t (ix2 e f) = m ((c : Thread nD τ).loc main_arg15) (ix2 e f) := by
  blk_simp [iblk, idx16 t]
  simp only [V, List.flatten_cons, List.flatten_nil, List.append_nil, List.cons_append, List.nil_append]
  entry_read
  pointwise
  blk_ext [idx16 t]
theorem blk17 (e : Fin 2816) (f : Fin 1024) : iblk m c 17 t (ix2 e f) = m ((c : Thread nD τ).loc main_arg16) (ix2 e f) := by
  blk_simp [iblk, idx17 t]
  simp only [V, List.flatten_cons, List.flatten_nil, List.append_nil, List.cons_append, List.nil_append]
  entry_read
  pointwise
  blk_ext [idx17 t]
/-- The head of a lane, as the host computes it. -/
def headWord (b : BitVec 32) : BitVec 32 :=
  Scalar.select (IntOp.andi (IntOp.cmpi CmpIPredicate.ne (if b = 0 then (0 : BitVec 32) else if b.msb = true then -1 else 1)
      (if 64#32 = 0 then (0 : BitVec 32) else if (64#32).msb = true then -1 else 1)) (IntOp.cmpi CmpIPredicate.ne (IntOp.remsi ArithUnit.host b 64#32) 0#32))
    (IntOp.subi (IntOp.divsi ArithUnit.host b 64#32) 1#32) (IntOp.divsi ArithUnit.host b 64#32)

theorem headWord_eq : ∀ k : Fin 256, headWord (BitVec.ofNat 32 k.val) = BitVec.ofNat 32 (k.val / 64) := by decide +kernel

theorem same_head : ∀ a : Fin 128, ∀ b : Fin 4, IntOp.cmpi CmpIPredicate.eq (BitVec.ofNat 32 a.val) (BitVec.ofNat 32 b.val) = if a.val = b.val then 1#1 else 0#1 := by
  decide +kernel

theorem headBit (i : Fin 128) (j : Fin 256) : IntOp.cmpi CmpIPredicate.eq (BitVec.ofNat 32 i.val) (headWord (BitVec.ofNat 32 j.val))
    = if i.val = j.val / 64 then 1#1 else 0#1 := by
  rw [headWord_eq]
  exact same_head i ⟨j.val / 64, by omega⟩

theorem blk13 (i : Fin 128) (j : Fin 256) :
    iblk m c 13 t (ix2 i j) = (if i.val = j.val / 64 then 1 else 0 : EReal) := by
  have e0 : ((((View.whole main_v10).slice (win0_13.rect t)).emb (ix2 i j) 0 : Fin 128) : ℕ) = i.val := by
    show win0_13.index t 0 * 128 + 1 * i.val = i.val
    simp [idx13 t]
  have e1 : ((((View.whole main_v10).slice (win0_13.rect t)).emb (ix2 i j) 1 : Fin 256) : ℕ) = j.val := by
    show win0_13.index t 1 * 256 + 1 * j.val = j.val
    simp [idx13 t]
  blk_simp [iblk, idx13 t]
  simp only [V, List.flatten_cons, List.flatten_nil, List.append_nil, List.cons_append, List.nil_append]
  entry_read
  simp only [StableHlo.TRef.ofBuf, StableHlo.TRef.toBuf, cast_eq, eq_mpr_eq_cast]
  pointwise
  refine (congrArg (fun b : BitVec 1 => FloatOps.uitofp (F := Ideal) FTy.f32 b)
    ((congrArg₂ (fun x y => IntOp.cmpi CmpIPredicate.eq (BitVec.ofNat 32 x) (headWord (BitVec.ofNat 32 y))) e0 e1).trans (headBit i j))).trans ?_
  split
  · show (((1#1 : BitVec 1).toNat : ℝ) : EReal) = _
    norm_num
  · show (((0#1 : BitVec 1).toNat : ℝ) : EReal) = _
    norm_num

end Cert.Kernel3Ideal.At

end
-- ==== Proof.Slab.lean ====
/-
  The scratch of the mixing kernel: the two groups' rows stored by residue and read in order.
-/
module

public import proofs.«01_k».proof.Proof.Gen.Kernel3Ideal.Value
public import Idealize.ShloMosaic.Lib.Pointwise
public import Idealize.ShloMosaic.Lib.Pipeline.ValueKit
public import Idealize.ShloMosaic.Lib.Claim

@[expose] public section

set_option maxRecDepth 16384

noncomputable section

namespace Cert.Kernel3Ideal.At

open Idealize.ShloMosaic Idealize.ShloMosaic.TcCoe Cert.Kernel3Ideal Cert.Kernel3Ideal.Gen
open Idealize.ShloMosaic.Pointwise

/-- What slab `s` of a group holds of a row of its blocks: the first lanes, the second lanes, the logarithms. -/
def slabV (o : FVec Ideal S512x256 .bf16) (w : FVec Ideal S512x128 .f32) (s : ℕ) (u : Fin 512) (l : Fin 128) : EReal :=
  if s % 3 = 0 then o (ix2 u ⟨l.val, by omega⟩) else if s % 3 = 1 then o (ix2 u ⟨128 + l.val, by omega⟩) else w (ix2 u l)

abbrev Pc := View.Piece (Elt Ideal) S6x512x128 .f32

/-- The row of a block that stands at position `b` of the tile. -/
def row4 (b : Fin 512) : Fin 512 := ⟨b.val % 4 * 128 + b.val / 4, by omega⟩
def row16 (b : Fin 512) : Fin 512 := ⟨b.val % 16 * 32 + b.val / 16, by omega⟩

def sq4 (v : FVec Ideal S128x128 .f32) : FVec Ideal S1x128x128 .f32 := shapeCast S1x128x128 v shapeCasts_S128x128_S1x128x128

theorem lo4 (o : FVec Ideal S512x256 .bf16) (w : FVec Ideal S512x128 .f32) (s r q : ℕ) (hs : s % 3 = 0) (hr : r < 4) (hq : q = r * 128) (i)
    (a : Fin 128) (l : Fin 128) :
    sq4 (View.ld (Val := Elt Ideal) (e' := .bf16) (S := S512x256) o (Rect.unit ![q, 0] ![128, 128] i)) (ix3 0 a l) = slabV o w s ⟨r * 128 + a.val, by omega⟩ l := by
  subst hq
  unfold sq4
  pointwise
  unfold slabV
  rw [if_pos hs]

theorem hi4 (o : FVec Ideal S512x256 .bf16) (w : FVec Ideal S512x128 .f32) (s r q : ℕ) (hs : s % 3 = 1) (hr : r < 4) (hq : q = r * 128) (i)
    (a : Fin 128) (l : Fin 128) :
    sq4 (View.ld (Val := Elt Ideal) (e' := .bf16) (S := S512x256) o (Rect.unit ![q, 128] ![128, 128] i)) (ix3 0 a l) = slabV o w s ⟨r * 128 + a.val, by omega⟩ l := by
  subst hq
  unfold sq4
  pointwise
  unfold slabV
  rw [if_neg (by omega), if_pos hs]

theorem lg4 (o : FVec Ideal S512x256 .bf16) (w : FVec Ideal S512x128 .f32) (s r q : ℕ) (hs : s % 3 = 2) (hr : r < 4) (hq : q = r * 128) (i)
    (a : Fin 128) (l : Fin 128) :
    sq4 (View.ld (Val := Elt Ideal) (e' := .f32) (S := S512x128) w (Rect.unit ![q, 0] ![128, 128] i)) (ix3 0 a l) = slabV o w s ⟨r * 128 + a.val, by omega⟩ l := by
  subst hq
  unfold sq4
  pointwise
  unfold slabV
  rw [if_neg (by omega), if_neg (by omega)]

/-- One more piece of the group's scratch, below the pieces of the later residues and slabs. -/
theorem step4 (o : FVec Ideal S512x256 .bf16) (w : FVec Ideal S512x128 .f32) (s r k : ℕ) (hk : k = 3 * r + (s - 0)) (hs : 0 ≤ s ∧ s < 3) (hr : r < 4) (i p)
    (P : FVec Ideal S1x128x128 .f32) (hP : ∀ (a : Fin 128) (l : Fin 128), P (ix3 0 a l) = slabV o w s ⟨r * 128 + a.val, by omega⟩ l) (L : List Pc)
    (u : Fin 6) (hu : 0 ≤ u.val ∧ u.val < 3) (b : Fin 512) (l : Fin 128)
    (h : 3 * (b.val % 4) + (u.val - 0) < k → View.canon L (ix3 u b l) = slabV o w u.val (row4 b) l)
    (hlt : 3 * (b.val % 4) + (u.val - 0) < k + 1) :
    View.canon ((⟨⟨⟨![s, r, 0], ![1, 128, 128], ![1, 4, 1], i⟩, p⟩, P⟩ : Pc) :: L) (ix3 u b l) = slabV o w u.val (row4 b) l := by
  by_cases hm : ix3 u b l ∈ (⟨⟨![s, r, 0], ![1, 128, 128], ![1, 4, 1], i⟩, p⟩ : Rect S6x512x128).set
  · obtain ⟨x, hx⟩ := LoadRect.exists_idx_of_mem _ hm
    obtain ⟨z, a, d, rfl⟩ : ∃ (z : Fin 1) (a : Fin 128) (d : Fin 128), x = ix3 z a d := ⟨x 0, x 1, x 2, by blk_ext []⟩
    have e0 : s + 1 * z.val = u.val := congrArg Fin.val (congrFun hx 0)
    have e1 : r + 4 * a.val = b.val := congrArg Fin.val (congrFun hx 1)
    have e2 : 0 + 1 * d.val = l.val := congrArg Fin.val (congrFun hx 2)
    obtain rfl : z = 0 := Subsingleton.elim _ _
    rw [← hx]
    refine (View.canon_cons_emb (⟨⟨![s, r, 0], ![1, 128, 128], ![1, 4, 1], i⟩, p⟩ : Rect S6x512x128) P L (ix3 0 a d)).trans ((hP a d).trans ?_)
    have e3 : s = u.val := by simpa using e0
    have e4 : d = l := Fin.ext (by omega)
    rw [e3, e4]
    congr 1
    apply Fin.ext
    show r * 128 + a.val = b.val % 4 * 128 + b.val / 4
    omega
  · refine (View.canon_cons_of_not_mem (⟨⟨⟨![s, r, 0], ![1, 128, 128], ![1, 4, 1], i⟩, p⟩, P⟩ : Pc) L hm).trans ?_
    apply h
    rcases Nat.lt_succ_iff_lt_or_eq.mp hlt with h1 | h1
    · exact h1
    · exfalso
      apply hm
      have e0 : s = u.val := by omega
      have e1 : r = b.val % 4 := by omega
      have hb1 : b.val / 4 < 128 := by omega
      have hb2 : b.val = r + 4 * (b.val / 4) := by omega
      have hl2 : l.val = 0 + 1 * l.val := by omega
      refine (LoadRect.mem_set _).mpr fun a => ?_
      fin_cases a
      · exact ⟨0, Nat.zero_lt_one, e0.symm⟩
      · exact ⟨b.val / 4, hb1, hb2⟩
      · exact ⟨l.val, l.isLt, hl2⟩

def sq16 (v : FVec Ideal S32x128 .f32) : FVec Ideal S1x32x128 .f32 := shapeCast S1x32x128 v shapeCasts_S32x128_S1x32x128

theorem lo16 (o : FVec Ideal S512x256 .bf16) (w : FVec Ideal S512x128 .f32) (s r q : ℕ) (hs : s % 3 = 0) (hr : r < 16) (hq : q = r * 32) (i)
    (a : Fin 32) (l : Fin 128) :
    sq16 (View.ld (Val := Elt Ideal) (e' := .bf16) (S := S512x256) o (Rect.unit ![q, 0] ![32, 128] i)) (ix3 0 a l) = slabV o w s ⟨r * 32 + a.val, by omega⟩ l := by
  subst hq
  unfold sq16
  pointwise
  unfold slabV
  rw [if_pos hs]

theorem hi16 (o : FVec Ideal S512x256 .bf16) (w : FVec Ideal S512x128 .f32) (s r q : ℕ) (hs : s % 3 = 1) (hr : r < 16) (hq : q = r * 32) (i)
    (a : Fin 32) (l : Fin 128) :
    sq16 (View.ld (Val := Elt Ideal) (e' := .bf16) (S := S512x256) o (Rect.unit ![q, 128] ![32, 128] i)) (ix3 0 a l) = slabV o w s ⟨r * 32 + a.val, by omega⟩ l := by
  subst hq
  unfold sq16
  pointwise
  unfold slabV
  rw [if_neg (by omega), if_pos hs]

theorem lg16 (o : FVec Ideal S512x256 .bf16) (w : FVec Ideal S512x128 .f32) (s r q : ℕ) (hs : s % 3 = 2) (hr : r < 16) (hq : q = r * 32) (i)
    (a : Fin 32) (l : Fin 128) :
    sq16 (View.ld (Val := Elt Ideal) (e' := .f32) (S := S512x128) w (Rect.unit ![q, 0] ![32, 128] i)) (ix3 0 a l) = slabV o w s ⟨r * 32 + a.val, by omega⟩ l := by
  subst hq
  unfold sq16
  pointwise
  unfold slabV
  rw [if_neg (by omega), if_neg (by omega)]

/-- One more piece of the group's scratch, below the pieces of the later residues and slabs. -/
theorem step16 (o : FVec Ideal S512x256 .bf16) (w : FVec Ideal S512x128 .f32) (s r k : ℕ) (hk : k = 3 * r + (s - 3)) (hs : 3 ≤ s ∧ s < 6) (hr : r < 16) (i p)
    (P : FVec Ideal S1x32x128 .f32) (hP : ∀ (a : Fin 32) (l : Fin 128), P (ix3 0 a l) = slabV o w s ⟨r * 32 + a.val, by omega⟩ l) (L : List Pc)
    (u : Fin 6) (hu : 3 ≤ u.val ∧ u.val < 6) (b : Fin 512) (l : Fin 128)
    (h : 3 * (b.val % 16) + (u.val - 3) < k → View.canon L (ix3 u b l) = slabV o w u.val (row16 b) l)
    (hlt : 3 * (b.val % 16) + (u.val - 3) < k + 1) :
    View.canon ((⟨⟨⟨![s, r, 0], ![1, 32, 128], ![1, 16, 1], i⟩, p⟩, P⟩ : Pc) :: L) (ix3 u b l) = slabV o w u.val (row16 b) l := by
  by_cases hm : ix3 u b l ∈ (⟨⟨![s, r, 0], ![1, 32, 128], ![1, 16, 1], i⟩, p⟩ : Rect S6x512x128).set
  · obtain ⟨x, hx⟩ := LoadRect.exists_idx_of_mem _ hm
    obtain ⟨z, a, d, rfl⟩ : ∃ (z : Fin 1) (a : Fin 32) (d : Fin 128), x = ix3 z a d := ⟨x 0, x 1, x 2, by blk_ext []⟩
    have e0 : s + 1 * z.val = u.val := congrArg Fin.val (congrFun hx 0)
    have e1 : r + 16 * a.val = b.val := congrArg Fin.val (congrFun hx 1)
    have e2 : 0 + 1 * d.val = l.val := congrArg Fin.val (congrFun hx 2)
    obtain rfl : z = 0 := Subsingleton.elim _ _
    rw [← hx]
    refine (View.canon_cons_emb (⟨⟨![s, r, 0], ![1, 32, 128], ![1, 16, 1], i⟩, p⟩ : Rect S6x512x128) P L (ix3 0 a d)).trans ((hP a d).trans ?_)
    have e3 : s = u.val := by simpa using e0
    have e4 : d = l := Fin.ext (by omega)
    rw [e3, e4]
    congr 1
    apply Fin.ext
    show r * 32 + a.val = b.val % 16 * 32 + b.val / 16
    omega
  · refine (View.canon_cons_of_not_mem (⟨⟨⟨![s, r, 0], ![1, 32, 128], ![1, 16, 1], i⟩, p⟩, P⟩ : Pc) L hm).trans ?_
    apply h
    rcases Nat.lt_succ_iff_lt_or_eq.mp hlt with h1 | h1
    · exact h1
    · exfalso
      apply hm
      have e0 : s = u.val := by omega
      have e1 : r = b.val % 16 := by omega
      have hb1 : b.val / 16 < 32 := by omega
      have hb2 : b.val = r + 16 * (b.val / 16) := by omega
      have hl2 : l.val = 0 + 1 * l.val := by omega
      refine (LoadRect.mem_set _).mpr fun a => ?_
      fin_cases a
      · exact ⟨0, Nat.zero_lt_one, e0.symm⟩
      · exact ⟨b.val / 16, hb1, hb2⟩
      · exact ⟨l.val, l.isLt, hl2⟩

def pcs1 (o : FVec Ideal S512x256 .bf16) (w : FVec Ideal S512x128 .f32) : List Pc :=
  [⟨⟨⟨![2, 3, 0], ![1, 128, 128], ![1, 4, 1], inb_S6x512x128_S1x128x128_2_3_0_s_1_4_1⟩, spos_1_4_1⟩, k0_pay15 (View.ld (Val := Elt Ideal) (e' := .f32) (S := S512x128) w (Rect.unit ![384, 0] ![128, 128] inb_S512x128_S128x128_384_0))⟩,
    ⟨⟨⟨![1, 3, 0], ![1, 128, 128], ![1, 4, 1], inb_S6x512x128_S1x128x128_1_3_0_s_1_4_1⟩, spos_1_4_1⟩, k0_pay14 (View.ld (Val := Elt Ideal) (e' := .bf16) (S := S512x256) o (Rect.unit ![384, 128] ![128, 128] inb_S512x256_S128x128_384_128))⟩,
    ⟨⟨⟨![0, 3, 0], ![1, 128, 128], ![1, 4, 1], inb_S6x512x128_S1x128x128_0_3_0_s_1_4_1⟩, spos_1_4_1⟩, k0_pay13 (View.ld (Val := Elt Ideal) (e' := .bf16) (S := S512x256) o (Rect.unit ![384, 0] ![128, 128] inb_S512x256_S128x128_384_0))⟩,
    ⟨⟨⟨![2, 2, 0], ![1, 128, 128], ![1, 4, 1], inb_S6x512x128_S1x128x128_2_2_0_s_1_4_1⟩, spos_1_4_1⟩, k0_pay12 (View.ld (Val := Elt Ideal) (e' := .f32) (S := S512x128) w (Rect.unit ![256, 0] ![128, 128] inb_S512x128_S128x128_256_0))⟩,
    ⟨⟨⟨![1, 2, 0], ![1, 128, 128], ![1, 4, 1], inb_S6x512x128_S1x128x128_1_2_0_s_1_4_1⟩, spos_1_4_1⟩, k0_pay11 (View.ld (Val := Elt Ideal) (e' := .bf16) (S := S512x256) o (Rect.unit ![256, 128] ![128, 128] inb_S512x256_S128x128_256_128))⟩,
    ⟨⟨⟨![0, 2, 0], ![1, 128, 128], ![1, 4, 1], inb_S6x512x128_S1x128x128_0_2_0_s_1_4_1⟩, spos_1_4_1⟩, k0_pay10 (View.ld (Val := Elt Ideal) (e' := .bf16) (S := S512x256) o (Rect.unit ![256, 0] ![128, 128] inb_S512x256_S128x128_256_0))⟩,
    ⟨⟨⟨![2, 1, 0], ![1, 128, 128], ![1, 4, 1], inb_S6x512x128_S1x128x128_2_1_0_s_1_4_1⟩, spos_1_4_1⟩, k0_pay9 (View.ld (Val := Elt Ideal) (e' := .f32) (S := S512x128) w (Rect.unit ![128, 0] ![128, 128] inb_S512x128_S128x128_128_0))⟩,
    ⟨⟨⟨![1, 1, 0], ![1, 128, 128], ![1, 4, 1], inb_S6x512x128_S1x128x128_1_1_0_s_1_4_1⟩, spos_1_4_1⟩, k0_pay8 (View.ld (Val := Elt Ideal) (e' := .bf16) (S := S512x256) o (Rect.unit ![128, 128] ![128, 128] inb_S512x256_S128x128_128_128))⟩,
    ⟨⟨⟨![0, 1, 0], ![1, 128, 128], ![1, 4, 1], inb_S6x512x128_S1x128x128_0_1_0_s_1_4_1⟩, spos_1_4_1⟩, k0_pay7 (View.ld (Val := Elt Ideal) (e' := .bf16) (S := S512x256) o (Rect.unit ![128, 0] ![128, 128] inb_S512x256_S128x128_128_0))⟩,
    ⟨⟨⟨![2, 0, 0], ![1, 128, 128], ![1, 4, 1], inb_S6x512x128_S1x128x128_2_0_0_s_1_4_1⟩, spos_1_4_1⟩, k0_pay6 (View.ld (Val := Elt Ideal) (e' := .f32) (S := S512x128) w (Rect.unit ![0, 0] ![128, 128] inb_S512x128_S128x128_0_0))⟩,
    ⟨⟨⟨![1, 0, 0], ![1, 128, 128], ![1, 4, 1], inb_S6x512x128_S1x128x128_1_0_0_s_1_4_1⟩, spos_1_4_1⟩, k0_pay5 (View.ld (Val := Elt Ideal) (e' := .bf16) (S := S512x256) o (Rect.unit ![0, 128] ![128, 128] inb_S512x256_S128x128_0_128))⟩,
    ⟨⟨⟨![0, 0, 0], ![1, 128, 128], ![1, 4, 1], inb_S6x512x128_S1x128x128_0_0_0_s_1_4_1⟩, spos_1_4_1⟩, k0_pay4 (View.ld (Val := Elt Ideal) (e' := .bf16) (S := S512x256) o (Rect.unit ![0, 0] ![128, 128] inb_S512x256_S128x128_0_0))⟩]

def pcs2 (o : FVec Ideal S512x256 .bf16) (w : FVec Ideal S512x128 .f32) (L : List Pc) : List Pc :=
  ⟨⟨⟨![5, 15, 0], ![1, 32, 128], ![1, 16, 1], inb_S6x512x128_S1x32x128_5_15_0_s_1_16_1⟩, spos_1_16_1⟩, k0_pay68 (View.ld (Val := Elt Ideal) (e' := .f32) (S := S512x128) w (Rect.unit ![480, 0] ![32, 128] inb_S512x128_S32x128_480_0))⟩ ::
    ⟨⟨⟨![4, 15, 0], ![1, 32, 128], ![1, 16, 1], inb_S6x512x128_S1x32x128_4_15_0_s_1_16_1⟩, spos_1_16_1⟩, k0_pay67 (View.ld (Val := Elt Ideal) (e' := .bf16) (S := S512x256) o (Rect.unit ![480, 128] ![32, 128] inb_S512x256_S32x128_480_128))⟩ ::
    ⟨⟨⟨![3, 15, 0], ![1, 32, 128], ![1, 16, 1], inb_S6x512x128_S1x32x128_3_15_0_s_1_16_1⟩, spos_1_16_1⟩, k0_pay66 (View.ld (Val := Elt Ideal) (e' := .bf16) (S := S512x256) o (Rect.unit ![480, 0] ![32, 128] inb_S512x256_S32x128_480_0))⟩ ::
    ⟨⟨⟨![5, 14, 0], ![1, 32, 128], ![1, 16, 1], inb_S6x512x128_S1x32x128_5_14_0_s_1_16_1⟩, spos_1_16_1⟩, k0_pay65 (View.ld (Val := Elt Ideal) (e' := .f32) (S := S512x128) w (Rect.unit ![448, 0] ![32, 128] inb_S512x128_S32x128_448_0))⟩ ::
    ⟨⟨⟨![4, 14, 0], ![1, 32, 128], ![1, 16, 1], inb_S6x512x128_S1x32x128_4_14_0_s_1_16_1⟩, spos_1_16_1⟩, k0_pay64 (View.ld (Val := Elt Ideal) (e' := .bf16) (S := S512x256) o (Rect.unit ![448, 128] ![32, 128] inb_S512x256_S32x128_448_128))⟩ ::
    ⟨⟨⟨![3, 14, 0], ![1, 32, 128], ![1, 16, 1], inb_S6x512x128_S1x32x128_3_14_0_s_1_16_1⟩, spos_1_16_1⟩, k0_pay63 (View.ld (Val := Elt Ideal) (e' := .bf16) (S := S512x256) o (Rect.unit ![448, 0] ![32, 128] inb_S512x256_S32x128_448_0))⟩ ::
    ⟨⟨⟨![5, 13, 0], ![1, 32, 128], ![1, 16, 1], inb_S6x512x128_S1x32x128_5_13_0_s_1_16_1⟩, spos_1_16_1⟩, k0_pay62 (View.ld (Val := Elt Ideal) (e' := .f32) (S := S512x128) w (Rect.unit ![416, 0] ![32, 128] inb_S512x128_S32x128_416_0))⟩ ::
    ⟨⟨⟨![4, 13, 0], ![1, 32, 128], ![1, 16, 1], inb_S6x512x128_S1x32x128_4_13_0_s_1_16_1⟩, spos_1_16_1⟩, k0_pay61 (View.ld (Val := Elt Ideal) (e' := .bf16) (S := S512x256) o (Rect.unit ![416, 128] ![32, 128] inb_S512x256_S32x128_416_128))⟩ ::
    ⟨⟨⟨![3, 13, 0], ![1, 32, 128], ![1, 16, 1], inb_S6x512x128_S1x32x128_3_13_0_s_1_16_1⟩, spos_1_16_1⟩, k0_pay60 (View.ld (Val := Elt Ideal) (e' := .bf16) (S := S512x256) o (Rect.unit ![416, 0] ![32, 128] inb_S512x256_S32x128_416_0))⟩ ::
    ⟨⟨⟨![5, 12, 0], ![1, 32, 128], ![1, 16, 1], inb_S6x512x128_S1x32x128_5_12_0_s_1_16_1⟩, spos_1_16_1⟩, k0_pay59 (View.ld (Val := Elt Ideal) (e' := .f32) (S := S512x128) w (Rect.unit ![384, 0] ![32, 128] inb_S512x128_S32x128_384_0))⟩ ::
    ⟨⟨⟨![4, 12, 0], ![1, 32, 128], ![1, 16, 1], inb_S6x512x128_S1x32x128_4_12_0_s_1_16_1⟩, spos_1_16_1⟩, k0_pay58 (View.ld (Val := Elt Ideal) (e' := .bf16) (S := S512x256) o (Rect.unit ![384, 128] ![32, 128] inb_S512x256_S32x128_384_128))⟩ ::
    ⟨⟨⟨![3, 12, 0], ![1, 32, 128], ![1, 16, 1], inb_S6x512x128_S1x32x128_3_12_0_s_1_16_1⟩, spos_1_16_1⟩, k0_pay57 (View.ld (Val := Elt Ideal) (e' := .bf16) (S := S512x256) o (Rect.unit ![384, 0] ![32, 128] inb_S512x256_S32x128_384_0))⟩ ::
    ⟨⟨⟨![5, 11, 0], ![1, 32, 128], ![1, 16, 1], inb_S6x512x128_S1x32x128_5_11_0_s_1_16_1⟩, spos_1_16_1⟩, k0_pay56 (View.ld (Val := Elt Ideal) (e' := .f32) (S := S512x128) w (Rect.unit ![352, 0] ![32, 128] inb_S512x128_S32x128_352_0))⟩ ::
    ⟨⟨⟨![4, 11, 0], ![1, 32, 128], ![1, 16, 1], inb_S6x512x128_S1x32x128_4_11_0_s_1_16_1⟩, spos_1_16_1⟩, k0_pay55 (View.ld (Val := Elt Ideal) (e' := .bf16) (S := S512x256) o (Rect.unit ![352, 128] ![32, 128] inb_S512x256_S32x128_352_128))⟩ ::
    ⟨⟨⟨![3, 11, 0], ![1, 32, 128], ![1, 16, 1], inb_S6x512x128_S1x32x128_3_11_0_s_1_16_1⟩, spos_1_16_1⟩, k0_pay54 (View.ld (Val := Elt Ideal) (e' := .bf16) (S := S512x256) o (Rect.unit ![352, 0] ![32, 128] inb_S512x256_S32x128_352_0))⟩ ::
    ⟨⟨⟨![5, 10, 0], ![1, 32, 128], ![1, 16, 1], inb_S6x512x128_S1x32x128_5_10_0_s_1_16_1⟩, spos_1_16_1⟩, k0_pay53 (View.ld (Val := Elt Ideal) (e' := .f32) (S := S512x128) w (Rect.unit ![320, 0] ![32, 128] inb_S512x128_S32x128_320_0))⟩ ::
    ⟨⟨⟨![4, 10, 0], ![1, 32, 128], ![1, 16, 1], inb_S6x512x128_S1x32x128_4_10_0_s_1_16_1⟩, spos_1_16_1⟩, k0_pay52 (View.ld (Val := Elt Ideal) (e' := .bf16) (S := S512x256) o (Rect.unit ![320, 128] ![32, 128] inb_S512x256_S32x128_320_128))⟩ ::
    ⟨⟨⟨![3, 10, 0], ![1, 32, 128], ![1, 16, 1], inb_S6x512x128_S1x32x128_3_10_0_s_1_16_1⟩, spos_1_16_1⟩, k0_pay51 (View.ld (Val := Elt Ideal) (e' := .bf16) (S := S512x256) o (Rect.unit ![320, 0] ![32, 128] inb_S512x256_S32x128_320_0))⟩ ::
    ⟨⟨⟨![5, 9, 0], ![1, 32, 128], ![1, 16, 1], inb_S6x512x128_S1x32x128_5_9_0_s_1_16_1⟩, spos_1_16_1⟩, k0_pay50 (View.ld (Val := Elt Ideal) (e' := .f32) (S := S512x128) w (Rect.unit ![288, 0] ![32, 128] inb_S512x128_S32x128_288_0))⟩ ::
    ⟨⟨⟨![4, 9, 0], ![1, 32, 128], ![1, 16, 1], inb_S6x512x128_S1x32x128_4_9_0_s_1_16_1⟩, spos_1_16_1⟩, k0_pay49 (View.ld (Val := Elt Ideal) (e' := .bf16) (S := S512x256) o (Rect.unit ![288, 128] ![32, 128] inb_S512x256_S32x128_288_128))⟩ ::
    ⟨⟨⟨![3, 9, 0], ![1, 32, 128], ![1, 16, 1], inb_S6x512x128_S1x32x128_3_9_0_s_1_16_1⟩, spos_1_16_1⟩, k0_pay48 (View.ld (Val := Elt Ideal) (e' := .bf16) (S := S512x256) o (Rect.unit ![288, 0] ![32, 128] inb_S512x256_S32x128_288_0))⟩ ::
    ⟨⟨⟨![5, 8, 0], ![1, 32, 128], ![1, 16, 1], inb_S6x512x128_S1x32x128_5_8_0_s_1_16_1⟩, spos_1_16_1⟩, k0_pay47 (View.ld (Val := Elt Ideal) (e' := .f32) (S := S512x128) w (Rect.unit ![256, 0] ![32, 128] inb_S512x128_S32x128_256_0))⟩ ::
    ⟨⟨⟨![4, 8, 0], ![1, 32, 128], ![1, 16, 1], inb_S6x512x128_S1x32x128_4_8_0_s_1_16_1⟩, spos_1_16_1⟩, k0_pay46 (View.ld (Val := Elt Ideal) (e' := .bf16) (S := S512x256) o (Rect.unit ![256, 128] ![32, 128] inb_S512x256_S32x128_256_128))⟩ ::
    ⟨⟨⟨![3, 8, 0], ![1, 32, 128], ![1, 16, 1], inb_S6x512x128_S1x32x128_3_8_0_s_1_16_1⟩, spos_1_16_1⟩, k0_pay45 (View.ld (Val := Elt Ideal) (e' := .bf16) (S := S512x256) o (Rect.unit ![256, 0] ![32, 128] inb_S512x256_S32x128_256_0))⟩ ::
    ⟨⟨⟨![5, 7, 0], ![1, 32, 128], ![1, 16, 1], inb_S6x512x128_S1x32x128_5_7_0_s_1_16_1⟩, spos_1_16_1⟩, k0_pay44 (View.ld (Val := Elt Ideal) (e' := .f32) (S := S512x128) w (Rect.unit ![224, 0] ![32, 128] inb_S512x128_S32x128_224_0))⟩ ::
    ⟨⟨⟨![4, 7, 0], ![1, 32, 128], ![1, 16, 1], inb_S6x512x128_S1x32x128_4_7_0_s_1_16_1⟩, spos_1_16_1⟩, k0_pay43 (View.ld (Val := Elt Ideal) (e' := .bf16) (S := S512x256) o (Rect.unit ![224, 128] ![32, 128] inb_S512x256_S32x128_224_128))⟩ ::
    ⟨⟨⟨![3, 7, 0], ![1, 32, 128], ![1, 16, 1], inb_S6x512x128_S1x32x128_3_7_0_s_1_16_1⟩, spos_1_16_1⟩, k0_pay42 (k0_pay41 (View.ld (Val := Elt Ideal) (e' := .bf16) (S := S512x256) o (Rect.unit ![224, 0] ![32, 128] inb_S512x256_S32x128_224_0)))⟩ ::
    ⟨⟨⟨![5, 6, 0], ![1, 32, 128], ![1, 16, 1], inb_S6x512x128_S1x32x128_5_6_0_s_1_16_1⟩, spos_1_16_1⟩, k0_pay40 (View.ld (Val := Elt Ideal) (e' := .f32) (S := S512x128) w (Rect.unit ![192, 0] ![32, 128] inb_S512x128_S32x128_192_0))⟩ ::
    ⟨⟨⟨![4, 6, 0], ![1, 32, 128], ![1, 16, 1], inb_S6x512x128_S1x32x128_4_6_0_s_1_16_1⟩, spos_1_16_1⟩, k0_pay39 (View.ld (Val := Elt Ideal) (e' := .bf16) (S := S512x256) o (Rect.unit ![192, 128] ![32, 128] inb_S512x256_S32x128_192_128))⟩ ::
    ⟨⟨⟨![3, 6, 0], ![1, 32, 128], ![1, 16, 1], inb_S6x512x128_S1x32x128_3_6_0_s_1_16_1⟩, spos_1_16_1⟩, k0_pay38 (View.ld (Val := Elt Ideal) (e' := .bf16) (S := S512x256) o (Rect.unit ![192, 0] ![32, 128] inb_S512x256_S32x128_192_0))⟩ ::
    ⟨⟨⟨![5, 5, 0], ![1, 32, 128], ![1, 16, 1], inb_S6x512x128_S1x32x128_5_5_0_s_1_16_1⟩, spos_1_16_1⟩, k0_pay37 (View.ld (Val := Elt Ideal) (e' := .f32) (S := S512x128) w (Rect.unit ![160, 0] ![32, 128] inb_S512x128_S32x128_160_0))⟩ ::
    ⟨⟨⟨![4, 5, 0], ![1, 32, 128], ![1, 16, 1], inb_S6x512x128_S1x32x128_4_5_0_s_1_16_1⟩, spos_1_16_1⟩, k0_pay36 (View.ld (Val := Elt Ideal) (e' := .bf16) (S := S512x256) o (Rect.unit ![160, 128] ![32, 128] inb_S512x256_S32x128_160_128))⟩ ::
    ⟨⟨⟨![3, 5, 0], ![1, 32, 128], ![1, 16, 1], inb_S6x512x128_S1x32x128_3_5_0_s_1_16_1⟩, spos_1_16_1⟩, k0_pay35 (View.ld (Val := Elt Ideal) (e' := .bf16) (S := S512x256) o (Rect.unit ![160, 0] ![32, 128] inb_S512x256_S32x128_160_0))⟩ ::
    ⟨⟨⟨![5, 4, 0], ![1, 32, 128], ![1, 16, 1], inb_S6x512x128_S1x32x128_5_4_0_s_1_16_1⟩, spos_1_16_1⟩, k0_pay34 (View.ld (Val := Elt Ideal) (e' := .f32) (S := S512x128) w (Rect.unit ![128, 0] ![32, 128] inb_S512x128_S32x128_128_0))⟩ ::
    ⟨⟨⟨![4, 4, 0], ![1, 32, 128], ![1, 16, 1], inb_S6x512x128_S1x32x128_4_4_0_s_1_16_1⟩, spos_1_16_1⟩, k0_pay33 (View.ld (Val := Elt Ideal) (e' := .bf16) (S := S512x256) o (Rect.unit ![128, 128] ![32, 128] inb_S512x256_S32x128_128_128))⟩ ::
    ⟨⟨⟨![3, 4, 0], ![1, 32, 128], ![1, 16, 1], inb_S6x512x128_S1x32x128_3_4_0_s_1_16_1⟩, spos_1_16_1⟩, k0_pay32 (View.ld (Val := Elt Ideal) (e' := .bf16) (S := S512x256) o (Rect.unit ![128, 0] ![32, 128] inb_S512x256_S32x128_128_0))⟩ ::
    ⟨⟨⟨![5, 3, 0], ![1, 32, 128], ![1, 16, 1], inb_S6x512x128_S1x32x128_5_3_0_s_1_16_1⟩, spos_1_16_1⟩, k0_pay31 (View.ld (Val := Elt Ideal) (e' := .f32) (S := S512x128) w (Rect.unit ![96, 0] ![32, 128] inb_S512x128_S32x128_96_0))⟩ ::
    ⟨⟨⟨![4, 3, 0], ![1, 32, 128], ![1, 16, 1], inb_S6x512x128_S1x32x128_4_3_0_s_1_16_1⟩, spos_1_16_1⟩, k0_pay30 (View.ld (Val := Elt Ideal) (e' := .bf16) (S := S512x256) o (Rect.unit ![96, 128] ![32, 128] inb_S512x256_S32x128_96_128))⟩ ::
    ⟨⟨⟨![3, 3, 0], ![1, 32, 128], ![1, 16, 1], inb_S6x512x128_S1x32x128_3_3_0_s_1_16_1⟩, spos_1_16_1⟩, k0_pay29 (View.ld (Val := Elt Ideal) (e' := .bf16) (S := S512x256) o (Rect.unit ![96, 0] ![32, 128] inb_S512x256_S32x128_96_0))⟩ ::
    ⟨⟨⟨![5, 2, 0], ![1, 32, 128], ![1, 16, 1], inb_S6x512x128_S1x32x128_5_2_0_s_1_16_1⟩, spos_1_16_1⟩, k0_pay28 (View.ld (Val := Elt Ideal) (e' := .f32) (S := S512x128) w (Rect.unit ![64, 0] ![32, 128] inb_S512x128_S32x128_64_0))⟩ ::
    ⟨⟨⟨![4, 2, 0], ![1, 32, 128], ![1, 16, 1], inb_S6x512x128_S1x32x128_4_2_0_s_1_16_1⟩, spos_1_16_1⟩, k0_pay27 (View.ld (Val := Elt Ideal) (e' := .bf16) (S := S512x256) o (Rect.unit ![64, 128] ![32, 128] inb_S512x256_S32x128_64_128))⟩ ::
    ⟨⟨⟨![3, 2, 0], ![1, 32, 128], ![1, 16, 1], inb_S6x512x128_S1x32x128_3_2_0_s_1_16_1⟩, spos_1_16_1⟩, k0_pay26 (View.ld (Val := Elt Ideal) (e' := .bf16) (S := S512x256) o (Rect.unit ![64, 0] ![32, 128] inb_S512x256_S32x128_64_0))⟩ ::
    ⟨⟨⟨![5, 1, 0], ![1, 32, 128], ![1, 16, 1], inb_S6x512x128_S1x32x128_5_1_0_s_1_16_1⟩, spos_1_16_1⟩, k0_pay25 (View.ld (Val := Elt Ideal) (e' := .f32) (S := S512x128) w (Rect.unit ![32, 0] ![32, 128] inb_S512x128_S32x128_32_0))⟩ ::
    ⟨⟨⟨![4, 1, 0], ![1, 32, 128], ![1, 16, 1], inb_S6x512x128_S1x32x128_4_1_0_s_1_16_1⟩, spos_1_16_1⟩, k0_pay24 (k0_pay23 (View.ld (Val := Elt Ideal) (e' := .bf16) (S := S512x256) o (Rect.unit ![32, 128] ![32, 128] inb_S512x256_S32x128_32_128)))⟩ ::
    ⟨⟨⟨![3, 1, 0], ![1, 32, 128], ![1, 16, 1], inb_S6x512x128_S1x32x128_3_1_0_s_1_16_1⟩, spos_1_16_1⟩, k0_pay22 (View.ld (Val := Elt Ideal) (e' := .bf16) (S := S512x256) o (Rect.unit ![32, 0] ![32, 128] inb_S512x256_S32x128_32_0))⟩ ::
    ⟨⟨⟨![5, 0, 0], ![1, 32, 128], ![1, 16, 1], inb_S6x512x128_S1x32x128_5_0_0_s_1_16_1⟩, spos_1_16_1⟩, k0_pay21 (View.ld (Val := Elt Ideal) (e' := .f32) (S := S512x128) w (Rect.unit ![0, 0] ![32, 128] inb_S512x128_S32x128_0_0))⟩ ::
    ⟨⟨⟨![4, 0, 0], ![1, 32, 128], ![1, 16, 1], inb_S6x512x128_S1x32x128_4_0_0_s_1_16_1⟩, spos_1_16_1⟩, k0_pay20 (View.ld (Val := Elt Ideal) (e' := .bf16) (S := S512x256) o (Rect.unit ![0, 128] ![32, 128] inb_S512x256_S32x128_0_128))⟩ ::
    ⟨⟨⟨![3, 0, 0], ![1, 32, 128], ![1, 16, 1], inb_S6x512x128_S1x32x128_3_0_0_s_1_16_1⟩, spos_1_16_1⟩, k0_pay19 (View.ld (Val := Elt Ideal) (e' := .bf16) (S := S512x256) o (Rect.unit ![0, 0] ![32, 128] inb_S512x256_S32x128_0_0))⟩ :: L

theorem canon1 (o : FVec Ideal S512x256 .bf16) (w : FVec Ideal S512x128 .f32) (u : Fin 6) (hu : 0 ≤ u.val ∧ u.val < 3) (b : Fin 512) (l : Fin 128) :
    View.canon (pcs1 o w) (ix3 u b l) = slabV o w u.val (row4 b) l := by
  have key : 3 * (b.val % 4) + (u.val - 0) < 11 + 1 := by omega
  revert key
  unfold pcs1
  refine step4 o w 2 3 11 rfl (by decide) (by decide) _ _ _ (lg4 o w 2 3 384 rfl (by decide) rfl _) _ u hu b l ?_
  refine step4 o w 1 3 10 rfl (by decide) (by decide) _ _ _ (hi4 o w 1 3 384 rfl (by decide) rfl _) _ u hu b l ?_
  refine step4 o w 0 3 9 rfl (by decide) (by decide) _ _ _ (lo4 o w 0 3 384 rfl (by decide) rfl _) _ u hu b l ?_
  refine step4 o w 2 2 8 rfl (by decide) (by decide) _ _ _ (lg4 o w 2 2 256 rfl (by decide) rfl _) _ u hu b l ?_
  refine step4 o w 1 2 7 rfl (by decide) (by decide) _ _ _ (hi4 o w 1 2 256 rfl (by decide) rfl _) _ u hu b l ?_
  refine step4 o w 0 2 6 rfl (by decide) (by decide) _ _ _ (lo4 o w 0 2 256 rfl (by decide) rfl _) _ u hu b l ?_
  refine step4 o w 2 1 5 rfl (by decide) (by decide) _ _ _ (lg4 o w 2 1 128 rfl (by decide) rfl _) _ u hu b l ?_
  refine step4 o w 1 1 4 rfl (by decide) (by decide) _ _ _ (hi4 o w 1 1 128 rfl (by decide) rfl _) _ u hu b l ?_
  refine step4 o w 0 1 3 rfl (by decide) (by decide) _ _ _ (lo4 o w 0 1 128 rfl (by decide) rfl _) _ u hu b l ?_
  refine step4 o w 2 0 2 rfl (by decide) (by decide) _ _ _ (lg4 o w 2 0 0 rfl (by decide) rfl _) _ u hu b l ?_
  refine step4 o w 1 0 1 rfl (by decide) (by decide) _ _ _ (hi4 o w 1 0 0 rfl (by decide) rfl _) _ u hu b l ?_
  refine step4 o w 0 0 0 rfl (by decide) (by decide) _ _ _ (lo4 o w 0 0 0 rfl (by decide) rfl _) _ u hu b l ?_
  exact fun h => absurd h (Nat.not_lt_zero _)

theorem canon2 (o : FVec Ideal S512x256 .bf16) (w : FVec Ideal S512x128 .f32) (L : List Pc) (u : Fin 6) (hu : 3 ≤ u.val ∧ u.val < 6) (b : Fin 512) (l : Fin 128) :
    View.canon (pcs2 o w L) (ix3 u b l) = slabV o w u.val (row16 b) l := by
  have key : 3 * (b.val % 16) + (u.val - 3) < 47 + 1 := by omega
  revert key
  unfold pcs2
  refine step16 o w 5 15 47 rfl (by decide) (by decide) _ _ _ (lg16 o w 5 15 480 rfl (by decide) rfl _) _ u hu b l ?_
  refine step16 o w 4 15 46 rfl (by decide) (by decide) _ _ _ (hi16 o w 4 15 480 rfl (by decide) rfl _) _ u hu b l ?_
  refine step16 o w 3 15 45 rfl (by decide) (by decide) _ _ _ (lo16 o w 3 15 480 rfl (by decide) rfl _) _ u hu b l ?_
  refine step16 o w 5 14 44 rfl (by decide) (by decide) _ _ _ (lg16 o w 5 14 448 rfl (by decide) rfl _) _ u hu b l ?_
  refine step16 o w 4 14 43 rfl (by decide) (by decide) _ _ _ (hi16 o w 4 14 448 rfl (by decide) rfl _) _ u hu b l ?_
  refine step16 o w 3 14 42 rfl (by decide) (by decide) _ _ _ (lo16 o w 3 14 448 rfl (by decide) rfl _) _ u hu b l ?_
  refine step16 o w 5 13 41 rfl (by decide) (by decide) _ _ _ (lg16 o w 5 13 416 rfl (by decide) rfl _) _ u hu b l ?_
  refine step16 o w 4 13 40 rfl (by decide) (by decide) _ _ _ (hi16 o w 4 13 416 rfl (by decide) rfl _) _ u hu b l ?_
  refine step16 o w 3 13 39 rfl (by decide) (by decide) _ _ _ (lo16 o w 3 13 416 rfl (by decide) rfl _) _ u hu b l ?_
  refine step16 o w 5 12 38 rfl (by decide) (by decide) _ _ _ (lg16 o w 5 12 384 rfl (by decide) rfl _) _ u hu b l ?_
  refine step16 o w 4 12 37 rfl (by decide) (by decide) _ _ _ (hi16 o w 4 12 384 rfl (by decide) rfl _) _ u hu b l ?_
  refine step16 o w 3 12 36 rfl (by decide) (by decide) _ _ _ (lo16 o w 3 12 384 rfl (by decide) rfl _) _ u hu b l ?_
  refine step16 o w 5 11 35 rfl (by decide) (by decide) _ _ _ (lg16 o w 5 11 352 rfl (by decide) rfl _) _ u hu b l ?_
  refine step16 o w 4 11 34 rfl (by decide) (by decide) _ _ _ (hi16 o w 4 11 352 rfl (by decide) rfl _) _ u hu b l ?_
  refine step16 o w 3 11 33 rfl (by decide) (by decide) _ _ _ (lo16 o w 3 11 352 rfl (by decide) rfl _) _ u hu b l ?_
  refine step16 o w 5 10 32 rfl (by decide) (by decide) _ _ _ (lg16 o w 5 10 320 rfl (by decide) rfl _) _ u hu b l ?_
  refine step16 o w 4 10 31 rfl (by decide) (by decide) _ _ _ (hi16 o w 4 10 320 rfl (by decide) rfl _) _ u hu b l ?_
  refine step16 o w 3 10 30 rfl (by decide) (by decide) _ _ _ (lo16 o w 3 10 320 rfl (by decide) rfl _) _ u hu b l ?_
  refine step16 o w 5 9 29 rfl (by decide) (by decide) _ _ _ (lg16 o w 5 9 288 rfl (by decide) rfl _) _ u hu b l ?_
  refine step16 o w 4 9 28 rfl (by decide) (by decide) _ _ _ (hi16 o w 4 9 288 rfl (by decide) rfl _) _ u hu b l ?_
  refine step16 o w 3 9 27 rfl (by decide) (by decide) _ _ _ (lo16 o w 3 9 288 rfl (by decide) rfl _) _ u hu b l ?_
  refine step16 o w 5 8 26 rfl (by decide) (by decide) _ _ _ (lg16 o w 5 8 256 rfl (by decide) rfl _) _ u hu b l ?_
  refine step16 o w 4 8 25 rfl (by decide) (by decide) _ _ _ (hi16 o w 4 8 256 rfl (by decide) rfl _) _ u hu b l ?_
  refine step16 o w 3 8 24 rfl (by decide) (by decide) _ _ _ (lo16 o w 3 8 256 rfl (by decide) rfl _) _ u hu b l ?_
  refine step16 o w 5 7 23 rfl (by decide) (by decide) _ _ _ (lg16 o w 5 7 224 rfl (by decide) rfl _) _ u hu b l ?_
  refine step16 o w 4 7 22 rfl (by decide) (by decide) _ _ _ (hi16 o w 4 7 224 rfl (by decide) rfl _) _ u hu b l ?_
  refine step16 o w 3 7 21 rfl (by decide) (by decide) _ _ _ (lo16 o w 3 7 224 rfl (by decide) rfl _) _ u hu b l ?_
  refine step16 o w 5 6 20 rfl (by decide) (by decide) _ _ _ (lg16 o w 5 6 192 rfl (by decide) rfl _) _ u hu b l ?_
  refine step16 o w 4 6 19 rfl (by decide) (by decide) _ _ _ (hi16 o w 4 6 192 rfl (by decide) rfl _) _ u hu b l ?_
  refine step16 o w 3 6 18 rfl (by decide) (by decide) _ _ _ (lo16 o w 3 6 192 rfl (by decide) rfl _) _ u hu b l ?_
  refine step16 o w 5 5 17 rfl (by decide) (by decide) _ _ _ (lg16 o w 5 5 160 rfl (by decide) rfl _) _ u hu b l ?_
  refine step16 o w 4 5 16 rfl (by decide) (by decide) _ _ _ (hi16 o w 4 5 160 rfl (by decide) rfl _) _ u hu b l ?_
  refine step16 o w 3 5 15 rfl (by decide) (by decide) _ _ _ (lo16 o w 3 5 160 rfl (by decide) rfl _) _ u hu b l ?_
  refine step16 o w 5 4 14 rfl (by decide) (by decide) _ _ _ (lg16 o w 5 4 128 rfl (by decide) rfl _) _ u hu b l ?_
  refine step16 o w 4 4 13 rfl (by decide) (by decide) _ _ _ (hi16 o w 4 4 128 rfl (by decide) rfl _) _ u hu b l ?_
  refine step16 o w 3 4 12 rfl (by decide) (by decide) _ _ _ (lo16 o w 3 4 128 rfl (by decide) rfl _) _ u hu b l ?_
  refine step16 o w 5 3 11 rfl (by decide) (by decide) _ _ _ (lg16 o w 5 3 96 rfl (by decide) rfl _) _ u hu b l ?_
  refine step16 o w 4 3 10 rfl (by decide) (by decide) _ _ _ (hi16 o w 4 3 96 rfl (by decide) rfl _) _ u hu b l ?_
  refine step16 o w 3 3 9 rfl (by decide) (by decide) _ _ _ (lo16 o w 3 3 96 rfl (by decide) rfl _) _ u hu b l ?_
  refine step16 o w 5 2 8 rfl (by decide) (by decide) _ _ _ (lg16 o w 5 2 64 rfl (by decide) rfl _) _ u hu b l ?_
  refine step16 o w 4 2 7 rfl (by decide) (by decide) _ _ _ (hi16 o w 4 2 64 rfl (by decide) rfl _) _ u hu b l ?_
  refine step16 o w 3 2 6 rfl (by decide) (by decide) _ _ _ (lo16 o w 3 2 64 rfl (by decide) rfl _) _ u hu b l ?_
  refine step16 o w 5 1 5 rfl (by decide) (by decide) _ _ _ (lg16 o w 5 1 32 rfl (by decide) rfl _) _ u hu b l ?_
  refine step16 o w 4 1 4 rfl (by decide) (by decide) _ _ _ (hi16 o w 4 1 32 rfl (by decide) rfl _) _ u hu b l ?_
  refine step16 o w 3 1 3 rfl (by decide) (by decide) _ _ _ (lo16 o w 3 1 32 rfl (by decide) rfl _) _ u hu b l ?_
  refine step16 o w 5 0 2 rfl (by decide) (by decide) _ _ _ (lg16 o w 5 0 0 rfl (by decide) rfl _) _ u hu b l ?_
  refine step16 o w 4 0 1 rfl (by decide) (by decide) _ _ _ (hi16 o w 4 0 0 rfl (by decide) rfl _) _ u hu b l ?_
  refine step16 o w 3 0 0 rfl (by decide) (by decide) _ _ _ (lo16 o w 3 0 0 rfl (by decide) rfl _) _ u hu b l ?_
  exact fun h => absurd h (Nat.not_lt_zero _)

/-- A slab read whole. -/
theorem rdSlab (s : ℕ) (hs : s < 6) (i) (L : List Pc) (b : Fin 512) (l : Fin 128) :
    (View.whole cc0_scratch0).readCov L (Rect.unit (s := S6x512x128) ![s, 0, 0] ![1, 512, 128] i).toLoadRect (ix3 0 b l)
      = View.canon L (ix3 ⟨s, hs⟩ b l) := by
  rw [View.readCov_eq_canon']
  refine congrArg (View.canon L) ?_
  blk_ext []
  · show s + 1 * 0 = s; omega
  · show 0 + 1 * b.val = b.val; omega
  · show 0 + 1 * l.val = l.val; omega

end Cert.Kernel3Ideal.At

end
-- ==== Proof.Ref3.lean ====
/-
  The mixing reference's values at an index.
-/
module

public import proofs.«01_k».proof.Proof.Gen.Reference3Ideal.Read
public import proofs.«01_k».proof.Proof.Mix
public import Idealize.ShloMosaic.Lib.Pointwise
public import Idealize.ShloMosaic.Lib.Pipeline.ValueKit

@[expose] public section

set_option maxRecDepth 16384

noncomputable section

namespace Cert.Reference3Ideal.At

open Idealize.ShloMosaic Idealize.ShloMosaic.TcCoe Cert.Reference3Ideal Cert.Reference3Ideal.Gen Cert.Reference3Ideal.Read Cert.Mix
open Idealize.ShloMosaic.Pointwise

open Cert.Ffn hiding norm

variable (x : FVec Ideal S16384x1024 .f32) (ys : FVec Ideal S16384x512 .bf16) (o0 o1 o2 : FVec Ideal S16384x256 .bf16)
  (l0 l1 l2 : FVec Ideal S16384x128 .f32) (gm : FVec Ideal S1024 .f32) (wg : FVec Ideal S1024x2048 .bf16) (wsp : FVec Ideal S512x1024 .bf16)
  (wap : FVec Ideal S256x1024 .bf16) (wo : FVec Ideal S1024x1024 .bf16) (g2 : FVec Ideal S1024 .f32) (w2g w2u : FVec Ideal S1024x2816 .bf16)
  (w2d : FVec Ideal S2816x1024 .bf16)

/-- Where a position's row stands in the groups stored by residues of 4 and of 16. -/
def at4 (p : Fin 16384) : Fin 16384 := ⟨p.val / 512 * 512 + (p.val % 4 * 128 + p.val % 512 / 4), by omega⟩
def at16 (p : Fin 16384) : Fin 16384 := ⟨p.val / 512 * 512 + (p.val % 16 * 32 + p.val % 512 / 16), by omega⟩

/-- The three groups' values at a position. -/
def oR (p : Fin 16384) (j : Fin 256) : Fin 3 → EReal := ![o0 (ix2 p j), o1 (ix2 (at4 p) j), o2 (ix2 (at16 p) j)]
def lR (p : Fin 16384) (h : Fin 4) : Fin 3 → EReal :=
  ![l0 (ix2 p ⟨h.val, by omega⟩), l1 (ix2 (at4 p) ⟨h.val, by omega⟩), l2 (ix2 (at16 p) ⟨h.val, by omega⟩)]

theorem v3_apply (p : Fin 16384) (j : Fin 256) : val_main_v3 (F := Ideal) o0 (ix2 p j) = o0 (ix2 p j) := by
  pointwise [val_main_v3, val_main_v2, val_main_v1, val_main_v0]
theorem v7_apply (p : Fin 16384) (j : Fin 256) : val_main_v7 (F := Ideal) o1 (ix2 p j) = o1 (ix2 (at4 p) j) := by
  pointwise [val_main_v7, val_main_v6, val_main_v5, val_main_v4]
  refine congrArg o1 ?_
  unfold at4
  blk_ext []
theorem v11_apply (p : Fin 16384) (j : Fin 256) : val_main_v11 (F := Ideal) o2 (ix2 p j) = o2 (ix2 (at16 p) j) := by
  pointwise [val_main_v11, val_main_v10, val_main_v9, val_main_v8]
  refine congrArg o2 ?_
  unfold at16
  blk_ext []
theorem v19_apply (p : Fin 16384) (j : Fin 128) : val_main_v19 (F := Ideal) l0 (ix2 p j) = l0 (ix2 p j) := by
  pointwise [val_main_v19, val_main_v18, val_main_v17]
theorem v22_apply (p : Fin 16384) (j : Fin 128) : val_main_v22 (F := Ideal) l1 (ix2 p j) = l1 (ix2 (at4 p) j) := by
  pointwise [val_main_v22, val_main_v21, val_main_v20]
  refine congrArg l1 ?_
  unfold at4
  blk_ext []
theorem v25_apply (p : Fin 16384) (j : Fin 128) : val_main_v25 (F := Ideal) l2 (ix2 p j) = l2 (ix2 (at16 p) j) := by
  pointwise [val_main_v25, val_main_v24, val_main_v23]
  refine congrArg l2 ?_
  unfold at16
  blk_ext []

theorem v16_apply (g : Fin 3) (p : Fin 16384) (h : Fin 4) (i : Fin 64) :
    val_main_v16 (F := Ideal) o0 o1 o2 (ix4 g p h i) = oR o0 o1 o2 p ⟨h.val * 64 + i.val, by omega⟩ g := by
  fin_cases g
  · pointwise [val_main_v16, val_main_v15, val_main_v14, val_main_v13, val_main_v12]
    exact v3_apply o0 p ⟨h.val * 64 + i.val, by omega⟩
  · pointwise [val_main_v16, val_main_v15, val_main_v14, val_main_v13, val_main_v12]
    exact v7_apply o1 p ⟨h.val * 64 + i.val, by omega⟩
  · pointwise [val_main_v16, val_main_v15, val_main_v14, val_main_v13, val_main_v12]
    exact v11_apply o2 p ⟨h.val * 64 + i.val, by omega⟩

theorem v30_apply (g : Fin 3) (p : Fin 16384) (h : Fin 4) :
    val_main_v30 (F := Ideal) l0 l1 l2 (ix3 g p h) = lR l0 l1 l2 p h g := by
  fin_cases g
  · pointwise [val_main_v30, val_main_v29, val_main_v28, val_main_v27, val_main_v26]
    exact v19_apply l0 p ⟨h.val, by omega⟩
  · pointwise [val_main_v30, val_main_v29, val_main_v28, val_main_v27, val_main_v26]
    exact v22_apply l1 p ⟨h.val, by omega⟩
  · pointwise [val_main_v30, val_main_v29, val_main_v28, val_main_v27, val_main_v26]
    exact v25_apply l2 p ⟨h.val, by omega⟩

theorem v31_apply (p : Fin 16384) (h : Fin 4) :
    val_main_v31 (F := Ideal) l0 l1 l2 (ix2 p h) = top (lR l0 l1 l2 p h) := by
  pointwise [val_main_v31, val_main_cst]
  simp only [v30_apply]
  rw [show Ideal.ofBits FTy.f32 4286578688#32 = ⊥ by simp [Ideal.ofBits, Ideal.ieee]]
  exact smax_top _

theorem v35_apply (g : Fin 3) (p : Fin 16384) (h : Fin 4) :
    val_main_v35 (F := Ideal) l0 l1 l2 (ix3 g p h) = Ideal.exp (lR l0 l1 l2 p h g - top (lR l0 l1 l2 p h)) := by
  pointwise [val_main_v35, val_main_v34, val_main_v33, val_main_v32]
  rw [v30_apply, v31_apply]

theorem v38_apply (g : Fin 3) (p : Fin 16384) (h : Fin 4) (i : Fin 64) :
    val_main_v38 (F := Ideal) o0 o1 o2 l0 l1 l2 (ix4 g p h i)
      = Ideal.exp (lR l0 l1 l2 p h g - top (lR l0 l1 l2 p h)) * oR o0 o1 o2 p ⟨h.val * 64 + i.val, by omega⟩ g := by
  pointwise [val_main_v38, val_main_v37, val_main_v36]
  rw [v35_apply, v16_apply]

theorem v39_apply (p : Fin 16384) (h : Fin 4) (i : Fin 64) :
    val_main_v39 (F := Ideal) o0 o1 o2 l0 l1 l2 (ix3 p h i)
      = ∑ g, Ideal.exp (lR l0 l1 l2 p h g - top (lR l0 l1 l2 p h)) * oR o0 o1 o2 p ⟨h.val * 64 + i.val, by omega⟩ g := by
  pointwise [val_main_v39, val_main_cst_0]
  simp only [v38_apply]

theorem v40_apply (p : Fin 16384) (h : Fin 4) :
    val_main_v40 (F := Ideal) l0 l1 l2 (ix2 p h)
      = ∑ g, Ideal.exp (lR l0 l1 l2 p h g - top (lR l0 l1 l2 p h)) := by
  pointwise [val_main_v40, val_main_cst_1]
  simp only [v35_apply]

theorem v43_apply (p : Fin 16384) (h : Fin 4) (i : Fin 64) :
    val_main_v43 (F := Ideal) o0 o1 o2 l0 l1 l2 (ix3 p h i)
      = comb (lR l0 l1 l2 p h) (oR o0 o1 o2 p ⟨h.val * 64 + i.val, by omega⟩) := by
  pointwise [val_main_v43, val_main_v42, val_main_v41]
  rw [v39_apply, v40_apply]
  rfl

theorem v71_apply (p : Fin 16384) (j : Fin 256) :
    val_main_v71 (F := Ideal) o0 o1 o2 l0 l1 l2 (ix2 p j)
      = comb (lR l0 l1 l2 p ⟨j.val / 64, by omega⟩) (oR o0 o1 o2 p j) := by
  have e : (⟨j.val / 64 * 64 + j.val % 64, by omega⟩ : Fin 256) = j := Fin.ext (by show j.val / 64 * 64 + j.val % 64 = j.val; omega)
  have := v43_apply o0 o1 o2 l0 l1 l2 p ⟨j.val / 64, by omega⟩ ⟨j.val % 64, by omega⟩
  rw [e] at this
  rw [← this]
  pointwise [val_main_v71]

theorem v56_apply (p : Fin 16384) (d : Fin 1024) :
    val_main_v56 (F := Ideal) x gm (ix2 p d)
      = Cert.Ffn.norm (Ideal.ofBits FTy.f32 1149239296#32) (fun d => x (ix2 p d)) (fun d => gm (ix1 d)) d := by
  pointwise [val_main_v56, val_main_v55, val_main_v54, val_main_v53, val_main_v52, val_main_v51, val_main_v50, val_main_v49, val_main_v48, val_main_v47, val_main_v46, val_main_v45, val_main_v44, val_main_cst_2, val_main_cst_3, val_main_cst_4]
  rfl

theorem v64_apply (p : Fin 16384) (f : Fin 2048) :
    val_main_v64 (F := Ideal) x gm wg (ix2 p f)
      = gate (fun d => x (ix2 p d)) (fun d => gm (ix1 d)) (fun e f => wg (ix2 e f)) f := by
  pointwise [val_main_v64, val_main_v63, val_main_v62, val_main_v61, val_main_v60, val_main_v59, val_main_v58, val_main_v57, val_main_cst_5, val_main_cst_6]
  simp only [v56_apply]
  rfl

/-- A position's row after mixing, in the arguments. -/
def midR (p : Fin 16384) : Fin 1024 → EReal :=
  mid (fun d => x (ix2 p d)) (gate (fun d => x (ix2 p d)) (fun d => gm (ix1 d)) (fun e f => wg (ix2 e f))) (fun d => ys (ix2 p d))
    (fun j => comb (lR l0 l1 l2 p ⟨j.val / 64, by omega⟩) (oR o0 o1 o2 p j)) (fun e f => wsp (ix2 e f)) (fun e f => wap (ix2 e f))
    (fun e f => wo (ix2 e f))

theorem v78_apply (p : Fin 16384) (d : Fin 1024) :
    val_main_v78 (F := Ideal) x ys o0 o1 o2 l0 l1 l2 gm wg wsp wap wo (ix2 p d)
      = midR x ys o0 o1 o2 l0 l1 l2 gm wg wsp wap wo p d := by
  pointwise [val_main_v78, val_main_v77, val_main_v76, val_main_v75, val_main_v74, val_main_v73, val_main_v72, val_main_v70, val_main_v69, val_main_v68, val_main_v67, val_main_v66, val_main_v65]
  simp only [v64_apply, v71_apply]
  rfl

theorem v91_apply (p : Fin 16384) (d : Fin 1024) :
    val_main_v91 (F := Ideal) x ys o0 o1 o2 l0 l1 l2 gm wg wsp wap wo g2 (ix2 p d)
      = Cert.Ffn.norm (Ideal.ofBits FTy.f32 1149239296#32) (midR x ys o0 o1 o2 l0 l1 l2 gm wg wsp wap wo p) (fun d => g2 (ix1 d)) d := by
  pointwise [val_main_v91, val_main_v90, val_main_v89, val_main_v88, val_main_v87, val_main_v86, val_main_v85, val_main_v84, val_main_v83, val_main_v82, val_main_v81, val_main_v80, val_main_v79, val_main_cst_7, val_main_cst_8, val_main_cst_9]
  simp only [v78_apply]
  rfl

theorem v103_apply (p : Fin 16384) (f : Fin 2816) :
    val_main_v103 (F := Ideal) x ys o0 o1 o2 l0 l1 l2 gm wg wsp wap wo g2 w2g w2u (ix2 p f)
      = hidden (Cert.Ffn.norm (Ideal.ofBits FTy.f32 1149239296#32) (midR x ys o0 o1 o2 l0 l1 l2 gm wg wsp wap wo p) (fun d => g2 (ix1 d)))
          (fun e f => w2g (ix2 e f)) (fun e f => w2u (ix2 e f)) f := by
  pointwise [val_main_v103, val_main_v102, val_main_v101, val_main_v100, val_main_v99, val_main_v98, val_main_v97, val_main_v96, val_main_v95, val_main_v94, val_main_v93, val_main_v92, val_main_cst_10, val_main_cst_11]
  simp only [v91_apply]
  rfl

/-- A position's row of the result. -/
def outR (p : Fin 16384) : Fin 1024 → EReal :=
  ffn (midR x ys o0 o1 o2 l0 l1 l2 gm wg wsp wap wo p)
    (Cert.Ffn.norm (Ideal.ofBits FTy.f32 1149239296#32) (midR x ys o0 o1 o2 l0 l1 l2 gm wg wsp wap wo p) (fun d => g2 (ix1 d)))
    (fun e f => w2g (ix2 e f)) (fun e f => w2u (ix2 e f)) (fun f d => w2d (ix2 f d))

theorem v108_apply (p : Fin 16384) (d : Fin 1024) :
    val_main_v108 (F := Ideal) x ys o0 o1 o2 l0 l1 l2 gm wg wsp wap wo g2 w2g w2u w2d (ix2 p d)
      = outR x ys o0 o1 o2 l0 l1 l2 gm wg wsp wap wo g2 w2g w2u w2d p d := by
  pointwise [val_main_v108, val_main_v107, val_main_v106, val_main_v105, val_main_v104, val_main_cst_12]
  simp only [v103_apply, v78_apply]
  rfl

end Cert.Reference3Ideal.At

end
-- ==== Proof.Out3.lean ====
/-
  The mixing kernel's blocks are the reference's rows.
-/
module

public import proofs.«01_k».proof.Proof.Ffn3
public import proofs.«01_k».proof.Proof.Arg3
public import proofs.«01_k».proof.Proof.Slab
public import proofs.«01_k».proof.Proof.Ref3

@[expose] public section

set_option maxRecDepth 16384

noncomputable section

namespace Cert.Kernel3Ideal.At

open Idealize.ShloMosaic Idealize.ShloMosaic.TcCoe Cert.Kernel3Ideal Cert.Kernel3Ideal.Gen Cert.Ffn Cert.Mix
open Idealize.ShloMosaic.Pointwise

open Cert.Reference3Ideal.At (midR outR at4 at16 oR lR)

variable (m : (ℓ : Loc nD τ sig) → Buf (Elt Ideal) ℓ) (c : Dev nD) (t : Fin cfg0.N)

def aX : FVec Ideal S16384x1024 .f32 := m ((c : Thread nD τ).loc main_arg0)
def aYs : FVec Ideal S16384x512 .bf16 := m ((c : Thread nD τ).loc main_arg1)
def aO0 : FVec Ideal S16384x256 .bf16 := m ((c : Thread nD τ).loc main_arg2)
def aO1 : FVec Ideal S16384x256 .bf16 := m ((c : Thread nD τ).loc main_arg3)
def aO2 : FVec Ideal S16384x256 .bf16 := m ((c : Thread nD τ).loc main_arg4)
def aL0 : FVec Ideal S16384x128 .f32 := m ((c : Thread nD τ).loc main_arg5)
def aL1 : FVec Ideal S16384x128 .f32 := m ((c : Thread nD τ).loc main_arg6)
def aL2 : FVec Ideal S16384x128 .f32 := m ((c : Thread nD τ).loc main_arg7)
def aGm : FVec Ideal S1024 .f32 := m ((c : Thread nD τ).loc main_arg8)
def aWg : FVec Ideal S1024x2048 .bf16 := m ((c : Thread nD τ).loc main_arg9)
def aWsp : FVec Ideal S512x1024 .bf16 := m ((c : Thread nD τ).loc main_arg10)
def aWap : FVec Ideal S256x1024 .bf16 := m ((c : Thread nD τ).loc main_arg11)
def aWo : FVec Ideal S1024x1024 .bf16 := m ((c : Thread nD τ).loc main_arg12)
def aG2 : FVec Ideal S1024 .f32 := m ((c : Thread nD τ).loc main_arg13)
def aW2g : FVec Ideal S1024x2816 .bf16 := m ((c : Thread nD τ).loc main_arg14)
def aW2u : FVec Ideal S1024x2816 .bf16 := m ((c : Thread nD τ).loc main_arg15)
def aW2d : FVec Ideal S2816x1024 .bf16 := m ((c : Thread nD τ).loc main_arg16)

theorem t_lt : t.val < 32 := t.isLt
/-- The position of a row of the grid point's tile. -/
def gp (r : Fin 512) : Fin 16384 := ⟨t.val * 512 + r.val, by have := t_lt t; omega⟩

theorem halves (j : Fin 256) : (∃ l : Fin 128, j = ⟨l.val, by omega⟩) ∨ (∃ l : Fin 128, j = ⟨128 + l.val, by omega⟩) := by
  by_cases hj : j.val < 128
  · exact Or.inl ⟨⟨j.val, hj⟩, rfl⟩
  · exact Or.inr ⟨⟨j.val - 128, by omega⟩, Fin.ext (by show j.val = 128 + (j.val - 128); omega)⟩

theorem pay71_apply (a b : FVec Ideal S512x128 .f32) (v : FVec Ideal S1x512x128 .f32) (r : Fin 512) (k : Fin 128) :
    k0_pay71 (F := Ideal) a b v (ix2 r k) = top (lA a b (k0_pay70 v) r k) := by
  pointwise [k0_pay71]
  rfl

section Order
variable (o : FVec Ideal S512x256 .bf16) (w : FVec Ideal S512x128 .f32) (L : List Pc)

/-- The groups' values and logarithms in order, as the kernel reads them from the scratch. -/
def kO1 : FVec Ideal S512x256 .f32 := k0_pay17 (k0_pay16 ((View.whole cc0_scratch0).readCov (pcs1 o w) (Rect.unit (s := S6x512x128) ![0, 0, 0] ![1, 512, 128] inb_S6x512x128_S1x512x128_0_0_0).toLoadRect)) ((View.whole cc0_scratch0).readCov (pcs1 o w) (Rect.unit (s := S6x512x128) ![1, 0, 0] ![1, 512, 128] inb_S6x512x128_S1x512x128_1_0_0).toLoadRect)
def kL1 : FVec Ideal S512x128 .f32 := k0_pay18 ((View.whole cc0_scratch0).readCov (pcs1 o w) (Rect.unit (s := S6x512x128) ![2, 0, 0] ![1, 512, 128] inb_S6x512x128_S1x512x128_2_0_0).toLoadRect)
def kO2 : FVec Ideal S512x256 .f32 := k0_pay69 ((View.whole cc0_scratch0).readCov (pcs2 o w L) (Rect.unit (s := S6x512x128) ![3, 0, 0] ![1, 512, 128] inb_S6x512x128_S1x512x128_3_0_0).toLoadRect) ((View.whole cc0_scratch0).readCov (pcs2 o w L) (Rect.unit (s := S6x512x128) ![4, 0, 0] ![1, 512, 128] inb_S6x512x128_S1x512x128_4_0_0).toLoadRect)
def kR2 : FVec Ideal S1x512x128 .f32 := ((View.whole cc0_scratch0).readCov (pcs2 o w L) (Rect.unit (s := S6x512x128) ![5, 0, 0] ![1, 512, 128] inb_S6x512x128_S1x512x128_5_0_0).toLoadRect)

theorem kO1_apply (b : Fin 512) (j : Fin 256) : kO1 o w (ix2 b j) = o (ix2 (row4 b) j) := by
  rcases halves j with ⟨l, rfl⟩ | ⟨l, rfl⟩
  · unfold kO1
    pointwise [k0_pay17, k0_pay16]
    exact (rdSlab 0 (by decide) _ _ b l).trans ((canon1 o w 0 (by decide) b l).trans rfl)
  · unfold kO1
    pointwise [k0_pay17, k0_pay16]
    exact (rdSlab 1 (by decide) _ _ b l).trans ((canon1 o w 1 (by decide) b l).trans rfl)

theorem kL1_apply (b : Fin 512) (l : Fin 128) : kL1 o w (ix2 b l) = w (ix2 (row4 b) l) := by
  unfold kL1
  pointwise [k0_pay18]
  exact (rdSlab 2 (by decide) _ _ b l).trans ((canon1 o w 2 (by decide) b l).trans rfl)

theorem kO2_apply (b : Fin 512) (j : Fin 256) : kO2 o w L (ix2 b j) = o (ix2 (row16 b) j) := by
  rcases halves j with ⟨l, rfl⟩ | ⟨l, rfl⟩
  · unfold kO2
    pointwise [k0_pay69]
    exact (rdSlab 3 (by decide) _ _ b l).trans ((canon2 o w L 3 (by decide) b l).trans rfl)
  · unfold kO2
    pointwise [k0_pay69]
    exact (rdSlab 4 (by decide) _ _ b l).trans ((canon2 o w L 4 (by decide) b l).trans rfl)

theorem kL2_apply (b : Fin 512) (l : Fin 128) : k0_pay70 (F := Ideal) (kR2 o w L) (ix2 b l) = w (ix2 (row16 b) l) := by
  unfold kR2
  pointwise [k0_pay70]
  exact (rdSlab 5 (by decide) _ _ b l).trans ((canon2 o w L 5 (by decide) b l).trans rfl)

end Order

def bO1 : FVec Ideal S512x256 .f32 := kO1 (iblk m c 3 t) (iblk m c 6 t)
def bL1 : FVec Ideal S512x128 .f32 := kL1 (iblk m c 3 t) (iblk m c 6 t)
def bO2 : FVec Ideal S512x256 .f32 := kO2 (iblk m c 4 t) (iblk m c 7 t) (pcs1 (iblk m c 3 t) (iblk m c 6 t))
def bR2 : FVec Ideal S1x512x128 .f32 := kR2 (iblk m c 4 t) (iblk m c 7 t) (pcs1 (iblk m c 3 t) (iblk m c 6 t))

/-- The grid point's rows after mixing. -/
def bMid : FVec Ideal S512x1024 .f32 :=
  k0_pay72 (iblk m c 0 t) (k0_pay2 (iblk m c 0 t) (iblk m c 8 t) (iblk m c 9 t)) (k0_pay3 (iblk m c 2 t)) (iblk m c 5 t) (bO1 m c t) (bL1 m c t) (bO2 m c t)
    (k0_pay70 (bR2 m c t)) (k0_pay71 (iblk m c 5 t) (bL1 m c t) (bR2 m c t)) (iblk m c 13 t) (iblk m c 1 t) (iblk m c 10 t) (iblk m c 11 t) (iblk m c 12 t)

theorem outs18 : outsAt0 m c t = kOut (bMid m c t) (iblk m c 14 t) (iblk m c 15 t) (iblk m c 16 t) (iblk m c 17 t) := by
  unfold outsAt0
  frame_out
  rfl

theorem gp4 (r : Fin 512) (ht) : (⟨t.val * 512 + (row4 r).val, ht⟩ : Fin 16384) = at4 (gp t r) := by
  apply Fin.ext
  show t.val * 512 + (r.val % 4 * 128 + r.val / 4) = (t.val * 512 + r.val) / 512 * 512 + ((t.val * 512 + r.val) % 4 * 128 + (t.val * 512 + r.val) % 512 / 4)
  omega
theorem gp16 (r : Fin 512) (ht) : (⟨t.val * 512 + (row16 r).val, ht⟩ : Fin 16384) = at16 (gp t r) := by
  apply Fin.ext
  show t.val * 512 + (r.val % 16 * 32 + r.val / 16) = (t.val * 512 + r.val) / 512 * 512 + ((t.val * 512 + r.val) % 16 * 32 + (t.val * 512 + r.val) % 512 / 16)
  omega

theorem bO1_apply (r : Fin 512) (j : Fin 256) : bO1 m c t (ix2 r j) = aO1 m c (ix2 (at4 (gp t r)) j) := by
  unfold bO1
  rw [kO1_apply]
  exact (blk3 m c t (row4 r) j (t_lt t)).trans (congrArg (fun p => aO1 m c (ix2 p j)) (gp4 t r _))
theorem bL1_apply (r : Fin 512) (j : Fin 128) : bL1 m c t (ix2 r j) = aL1 m c (ix2 (at4 (gp t r)) j) := by
  unfold bL1
  rw [kL1_apply]
  exact (blk6 m c t (row4 r) j (t_lt t)).trans (congrArg (fun p => aL1 m c (ix2 p j)) (gp4 t r _))
theorem bO2_apply (r : Fin 512) (j : Fin 256) : bO2 m c t (ix2 r j) = aO2 m c (ix2 (at16 (gp t r)) j) := by
  unfold bO2
  rw [kO2_apply]
  exact (blk4 m c t (row16 r) j (t_lt t)).trans (congrArg (fun p => aO2 m c (ix2 p j)) (gp16 t r _))
theorem bL2_apply (r : Fin 512) (j : Fin 128) : k0_pay70 (F := Ideal) (bR2 m c t) (ix2 r j) = aL2 m c (ix2 (at16 (gp t r)) j) := by
  unfold bR2
  rw [kL2_apply]
  exact (blk7 m c t (row16 r) j (t_lt t)).trans (congrArg (fun p => aL2 m c (ix2 p j)) (gp16 t r _))
theorem bO0_apply (r : Fin 512) (j : Fin 256) : k0_pay3 (F := Ideal) (iblk m c 2 t) (ix2 r j) = aO0 m c (ix2 (gp t r) j) := by
  pointwise [k0_pay3]
  exact blk2 m c t r j (t_lt t)

theorem bl_eq (r : Fin 512) (h : Fin 4) :
    lA (iblk m c 5 t) (bL1 m c t) (k0_pay70 (bR2 m c t)) r ⟨h.val, by omega⟩ = lR (aL0 m c) (aL1 m c) (aL2 m c) (gp t r) h := by
  unfold lA lR
  rw [bL1_apply, bL2_apply, blk5 m c t _ _ (t_lt t)]
  rfl
theorem bo_eq (r : Fin 512) (j : Fin 256) :
    oA (k0_pay3 (iblk m c 2 t)) (bO1 m c t) (bO2 m c t) r j = oR (aO0 m c) (aO1 m c) (aO2 m c) (gp t r) j := by
  unfold oA oR
  rw [bO0_apply, bO1_apply, bO2_apply]

variable (hf : ∀ (p : Fin 16384) (k : Fin 4), Cert.Band.Fin' (aL0 m c (ix2 p ⟨k.val, by omega⟩)) ∧ Cert.Band.Fin' (aL1 m c (ix2 p ⟨k.val, by omega⟩))
  ∧ Cert.Band.Fin' (aL2 m c (ix2 p ⟨k.val, by omega⟩)))

include hf in
theorem bMid_apply (r : Fin 512) (d : Fin 1024) :
    bMid m c t (ix2 r d) = midR (aX m c) (aYs m c) (aO0 m c) (aO1 m c) (aO2 m c) (aL0 m c) (aL1 m c) (aL2 m c) (aGm m c) (aWg m c) (aWsp m c) (aWap m c) (aWo m c) (gp t r) d := by
  unfold bMid
  rw [mid_apply _ _ _ _ _ _ _ _ _ _ _ _ _ _ (pay71_apply _ _ _) (blk13 m c t) (fun r k g => by
    rw [bl_eq]
    fin_cases g
    · exact (hf _ _).1
    · exact (hf _ _).2.1
    · exact (hf _ _).2.2)]
  have e : ∀ j : Fin 256, lA (iblk m c 5 t) (bL1 m c t) (k0_pay70 (bR2 m c t)) r ⟨j.val / 64, by omega⟩
      = lR (aL0 m c) (aL1 m c) (aL2 m c) (gp t r) ⟨j.val / 64, by omega⟩ := fun j => bl_eq m c t r ⟨j.val / 64, by omega⟩
  simp only [gates_apply, e, bo_eq, blk0 m c t _ _ (t_lt t), blk1 m c t _ _ (t_lt t), blk8, blk9, blk10, blk11, blk12]
  rfl

include hf in
theorem arr18 : (dats m 0 c).arrAt 18 cfg0.N
    = Cert.Reference3Ideal.Read.val_main_v108 (F := Ideal) (aX m c) (aYs m c) (aO0 m c) (aO1 m c) (aO2 m c) (aL0 m c) (aL1 m c) (aL2 m c) (aGm m c) (aWg m c) (aWsp m c) (aWap m c) (aWo m c) (aG2 m c) (aW2g m c) (aW2u m c) (aW2d m c) := by
  refine (dats m 0 c).arrAt_eq_of_covers 18 _ (by decide +kernel) fun t _ y => ?_
  blk_simp
  rw [after0_18, outs18]
  obtain ⟨r, d, rfl⟩ : ∃ (r : Fin 512) (d : Fin 1024), y = ix2 r d := ⟨y 0, y 1, by blk_ext []⟩
  rw [out_apply]
  simp only [bMid_apply m c t hf, blk14, blk15, blk16, blk17]
  refine Eq.trans ?_ ((Cert.Reference3Ideal.At.v108_apply (aX m c) (aYs m c) (aO0 m c) (aO1 m c) (aO2 m c) (aL0 m c) (aL1 m c) (aL2 m c) (aGm m c) (aWg m c) (aWsp m c) (aWap m c) (aWo m c) (aG2 m c) (aW2g m c) (aW2u m c) (aW2d m c) (gp t r) d).symm.trans ?_)
  · rfl
  · congr 1
    unfold gp
    blk_ext [idx18 t]

end Cert.Kernel3Ideal.At

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Win5Frame
public import proofs.«01_k».proof.Proof.Gen.Kernel5Ideal
public import proofs.«01_k».proof.Proof.Win5iFrame
public import proofs.«01_k».proof.Proof.Win5iValue
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite3
public import proofs.«01_k».proof.Proof.Asm
public import proofs.«01_k».proof.Proof.Cache
public import proofs.«01_k».proof.Proof.Cache4
public import proofs.«01_k».proof.Proof.Cache5
public import proofs.«01_k».proof.Proof.Pre
public import proofs.«01_k».proof.Proof.Tile
public import proofs.«01_k».proof.Proof.Pre3
public import proofs.«01_k».proof.Proof.Out3
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => Cert.ReferenceIdeal.Read.val_main_v48 (F := Ideal) (Cert.KernelIdeal.Blk.Q m c) (Cert.KernelIdeal.Blk.K m c) (Cert.KernelIdeal.Blk.W m c),
    fun c => Cert.ReferenceIdeal.Read.val_main_v52 (F := Ideal) (Cert.KernelIdeal.Blk.Q m c) (Cert.KernelIdeal.Blk.K m c),
    fun c => Cert.ReferenceIdeal.Read.val_main_v63 (F := Ideal) (Cert.KernelIdeal.Blk.KV m c) (Cert.KernelIdeal.Blk.CA m c), ?_, ?_⟩
  · refine (θ_run Cert.KernelIdeal.defs _ _).mono (fun r h c => ?_) (Cert.KernelIdeal.Value.run_blocks m g)
    obtain ⟨hq, hk⟩ := Cert.Pre_finite.finite_of _ _ _ _ _ _ (hpre c)
    obtain ⟨h9, h10, -, -, h13, hargs⟩ := h c
    exact ⟨h9.trans (Cert.KernelIdeal.Blk.arr9 m c hq hk), h10.trans (Cert.KernelIdeal.Blk.arr10 m c), h13.trans (Cert.KernelIdeal.Blk.arr13 m c), hargs⟩
  · refine (θ_run Cert.ReferenceIdeal.defs _ _).mono (fun r h c => ?_) (Cert.ReferenceIdeal.Value.run m' g')
    obtain ⟨h48, h52, h63, hargs⟩ := h c
    obtain ⟨e0, e1, e2, -, e4, e5⟩ := hagree c
    refine ⟨h48.trans ?_, h52.trans ?_, h63.trans ?_, hargs⟩
    · rw [Cert.ReferenceIdeal.Read.val_main_v48_eq, e0, e1, e2]; rfl
    · rw [Cert.ReferenceIdeal.Read.val_main_v52_eq, e0, e1]; rfl
    · rw [Cert.ReferenceIdeal.Read.val_main_v63_eq, e4, e5]; rfl

theorem frame_ref : Cert.quiescent_ReferenceIdeal (hReferenceIdeal := Cert.ReferenceIdeal.Gen.facts) := by
  intro m g _
  exact (θ_run Cert.ReferenceIdeal.defs _ _).mono (fun r h => ⟨fun c => (h c).2.2.2, sem_eq_zero_of_no_sems rfl r.2⟩)
    (Cert.ReferenceIdeal.Value.run m g)

theorem frame_ref_pre : Cert.quiescent_ReferenceIdeal_pre_finite (hReferenceIdeal := Cert.ReferenceIdeal.Gen.facts)
    (hPre_finite := Cert.Pre_finite.Gen.facts) :=
  fun m g _ => frame_ref m g trivial

theorem algebraic2 : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Reference2Ideal.Read.val_main_v80 (F := Ideal) (Cert.Kernel2Ideal.At.aX m c) (Cert.Kernel2Ideal.At.aG m c) (Cert.Kernel2Ideal.At.aWg m c) (Cert.Kernel2Ideal.At.aWu m c) (Cert.Kernel2Ideal.At.aWd m c),
    fun c => Cert.Reference2Ideal.Read.val_main_v81 (F := Ideal) (Cert.Kernel2Ideal.At.aX m c) (Cert.Kernel2Ideal.At.aG m c) (Cert.Kernel2Ideal.At.aWg m c) (Cert.Kernel2Ideal.At.aWu m c) (Cert.Kernel2Ideal.At.aWd m c) (Cert.Kernel2Ideal.At.aGm m c) (Cert.Kernel2Ideal.At.aWi m c),
    fun c => Cert.Reference2Ideal.Read.val_main_v100 (F := Ideal) (Cert.Kernel2Ideal.At.aX m c) (Cert.Kernel2Ideal.At.aG m c) (Cert.Kernel2Ideal.At.aWg m c) (Cert.Kernel2Ideal.At.aWu m c) (Cert.Kernel2Ideal.At.aWd m c) (Cert.Kernel2Ideal.At.aGm m c) (Cert.Kernel2Ideal.At.aWi m c) (Cert.Kernel2Ideal.At.aGq m c),
    fun c => Cert.Reference2Ideal.Read.val_main_v117 (F := Ideal) (Cert.Kernel2Ideal.At.aX m c) (Cert.Kernel2Ideal.At.aG m c) (Cert.Kernel2Ideal.At.aWg m c) (Cert.Kernel2Ideal.At.aWu m c) (Cert.Kernel2Ideal.At.aWd m c) (Cert.Kernel2Ideal.At.aGm m c) (Cert.Kernel2Ideal.At.aWi m c) (Cert.Kernel2Ideal.At.aGk m c),
    fun c => Cert.Reference2Ideal.Read.val_main_v134 (F := Ideal) (Cert.Kernel2Ideal.At.aX m c) (Cert.Kernel2Ideal.At.aG m c) (Cert.Kernel2Ideal.At.aWg m c) (Cert.Kernel2Ideal.At.aWu m c) (Cert.Kernel2Ideal.At.aWd m c) (Cert.Kernel2Ideal.At.aGm m c) (Cert.Kernel2Ideal.At.aWi m c),
    fun c => Cert.Reference2Ideal.Read.val_main_v143 (F := Ideal) (Cert.Kernel2Ideal.At.aX m c) (Cert.Kernel2Ideal.At.aG m c) (Cert.Kernel2Ideal.At.aWg m c) (Cert.Kernel2Ideal.At.aWu m c) (Cert.Kernel2Ideal.At.aWd m c) (Cert.Kernel2Ideal.At.aGm m c) (Cert.Kernel2Ideal.At.aWi m c) (Cert.Kernel2Ideal.At.aGk m c),
    fun c => Cert.Reference2Ideal.Read.val_main_v152 (F := Ideal) (Cert.Kernel2Ideal.At.aX m c) (Cert.Kernel2Ideal.At.aG m c) (Cert.Kernel2Ideal.At.aWg m c) (Cert.Kernel2Ideal.At.aWu m c) (Cert.Kernel2Ideal.At.aWd m c) (Cert.Kernel2Ideal.At.aGm m c) (Cert.Kernel2Ideal.At.aWi m c) (Cert.Kernel2Ideal.At.aGk m c),
    fun c => Cert.Reference2Ideal.Read.val_main_v161 (F := Ideal) (Cert.Kernel2Ideal.At.aX m c) (Cert.Kernel2Ideal.At.aG m c) (Cert.Kernel2Ideal.At.aWg m c) (Cert.Kernel2Ideal.At.aWu m c) (Cert.Kernel2Ideal.At.aWd m c) (Cert.Kernel2Ideal.At.aGm m c) (Cert.Kernel2Ideal.At.aWi m c) (Cert.Kernel2Ideal.At.aGk m c), ?_, ?_⟩
  · refine (θ_run Cert.Kernel2Ideal.defs _ _).mono (fun r h c => ?_) (Cert.Kernel2Ideal.Value.run_blocks m g)
    obtain ⟨h10, h11, h12, h13, h14, h15, h16, h17, hargs⟩ := h c
    exact ⟨h10.trans (Cert.Kernel2Ideal.At.arr10 m c), h11.trans (Cert.Kernel2Ideal.At.arr11 m c), h12.trans (Cert.Kernel2Ideal.At.arr12 m c), h13.trans (Cert.Kernel2Ideal.At.arr13 m c), h14.trans (Cert.Kernel2Ideal.At.arr14 m c), h15.trans (Cert.Kernel2Ideal.At.arr15 m c), h16.trans (Cert.Kernel2Ideal.At.arr16 m c), h17.trans (Cert.Kernel2Ideal.At.arr17 m c), hargs⟩
  · refine (θ_run Cert.Reference2Ideal.defs _ _).mono (fun r h c => ?_) (Cert.Reference2Ideal.Value.run m' g')
    obtain ⟨h80, h81, h100, h117, h134, h143, h152, h161, hargs⟩ := h c
    obtain ⟨e0, e1, e2, e3, e4, e5, e6, e7, e8⟩ := hagree c
    refine ⟨h80.trans ?_, h81.trans ?_, h100.trans ?_, h117.trans ?_, h134.trans ?_, h143.trans ?_, h152.trans ?_, h161.trans ?_, hargs⟩
    · rw [Cert.Reference2Ideal.Read.val_main_v80_eq, e0, e1, e2, e3, e4]; rfl
    · rw [Cert.Reference2Ideal.Read.val_main_v81_eq, e0, e1, e2, e3, e4, e5, e6]; rfl
    · rw [Cert.Reference2Ideal.Read.val_main_v100_eq, e0, e1, e2, e3, e4, e5, e6, e7]; rfl
    · rw [Cert.Reference2Ideal.Read.val_main_v117_eq, e0, e1, e2, e3, e4, e5, e6, e8]; rfl
    · rw [Cert.Reference2Ideal.Read.val_main_v134_eq, e0, e1, e2, e3, e4, e5, e6]; rfl
    · rw [Cert.Reference2Ideal.Read.val_main_v143_eq, e0, e1, e2, e3, e4, e5, e6, e8]; rfl
    · rw [Cert.Reference2Ideal.Read.val_main_v152_eq, e0, e1, e2, e3, e4, e5, e6, e8]; rfl
    · rw [Cert.Reference2Ideal.Read.val_main_v161_eq, e0, e1, e2, e3, e4, e5, e6, e8]; rfl

theorem frame_ref2 : Cert.quiescent_Reference2Ideal (hReference2Ideal := Cert.Reference2Ideal.Gen.facts) := by
  intro m g _
  exact (θ_run Cert.Reference2Ideal.defs _ _).mono (fun r h => ⟨fun c => (h c).2.2.2.2.2.2.2.2, sem_eq_zero_of_no_sems rfl r.2⟩)
    (Cert.Reference2Ideal.Value.run m g)

theorem algebraic3 : Cert.algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := by
  intro m g m' g' hpre hagree
  refine ⟨fun c => Cert.Reference3Ideal.Read.val_main_v108 (F := Ideal) (Cert.Kernel3Ideal.At.aX m c) (Cert.Kernel3Ideal.At.aYs m c) (Cert.Kernel3Ideal.At.aO0 m c) (Cert.Kernel3Ideal.At.aO1 m c) (Cert.Kernel3Ideal.At.aO2 m c) (Cert.Kernel3Ideal.At.aL0 m c) (Cert.Kernel3Ideal.At.aL1 m c) (Cert.Kernel3Ideal.At.aL2 m c) (Cert.Kernel3Ideal.At.aGm m c) (Cert.Kernel3Ideal.At.aWg m c) (Cert.Kernel3Ideal.At.aWsp m c) (Cert.Kernel3Ideal.At.aWap m c) (Cert.Kernel3Ideal.At.aWo m c) (Cert.Kernel3Ideal.At.aG2 m c) (Cert.Kernel3Ideal.At.aW2g m c) (Cert.Kernel3Ideal.At.aW2u m c) (Cert.Kernel3Ideal.At.aW2d m c), ?_, ?_⟩
  · refine (θ_run Cert.Kernel3Ideal.defs _ _).mono (fun r h c => ?_) (Cert.Kernel3Ideal.Value.run_blocks m g)
    have hf := Cert.Pre_finite3.finite_of _ _ _ _ _ _ _ _ _ _ _ _ _ _ _ _ _ (hpre c)
    obtain ⟨h11, hargs⟩ := h c
    exact ⟨h11.trans (Cert.Kernel3Ideal.At.arr18 m c hf), hargs⟩
  · refine (θ_run Cert.Reference3Ideal.defs _ _).mono (fun r h c => ?_) (Cert.Reference3Ideal.Value.run m' g')
    obtain ⟨h108, hargs⟩ := h c
    obtain ⟨e0, e1, e2, e3, e4, e5, e6, e7, e8, e9, e10, e11, e12, e13, e14, e15, e16⟩ := hagree c
    refine ⟨h108.trans ?_, hargs⟩
    refine (Cert.Reference3Ideal.Read.val_main_v108_eq _).trans ?_
    show Cert.Reference3Ideal.Read.val_main_v108 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)) (m' ((c.tc : Thread Cert.Reference3Ideal.nD Cert.Reference3Ideal.τ).loc Cert.Reference3Ideal.main_arg12)) (m' ((c.tc : Thread Cert.Reference3Ideal.nD Cert.Reference3Ideal.τ).loc Cert.Reference3Ideal.main_arg13)) (m' ((c.tc : Thread Cert.Reference3Ideal.nD Cert.Reference3Ideal.τ).loc Cert.Reference3Ideal.main_arg14)) (m' ((c.tc : Thread Cert.Reference3Ideal.nD Cert.Reference3Ideal.τ).loc Cert.Reference3Ideal.main_arg15)) (m' ((c.tc : Thread Cert.Reference3Ideal.nD Cert.Reference3Ideal.τ).loc Cert.Reference3Ideal.main_arg16)) = _
    rw [e0, e1, e2, e3, e4, e5, e6, e7, e8, e9, e10, e11, e12, e13, e14, e15, e16]; rfl

theorem frame_ref3 : Cert.quiescent_Reference3Ideal (hReference3Ideal := Cert.Reference3Ideal.Gen.facts) := by
  intro m g _
  exact (θ_run Cert.Reference3Ideal.defs _ _).mono (fun r h => ⟨fun c => (h c).2, sem_eq_zero_of_no_sems rfl r.2⟩)
    (Cert.Reference3Ideal.Value.run m g)

theorem frame_ref3_pre : Cert.quiescent_Reference3Ideal_pre_finite3 (hReference3Ideal := Cert.Reference3Ideal.Gen.facts)
    (hPre_finite3 := Cert.Pre_finite3.Gen.facts) :=
  fun m g _ => frame_ref3 m g trivial

theorem algebraic4 : Cert.algebraic_Kernel4Ideal_Reference4Ideal (hKernel4Ideal := Cert.Kernel4Ideal.Gen.facts)
    (hReference4Ideal := Cert.Reference4Ideal.Gen.facts) := by
  intro m g m' g' _ hagree
  refine ⟨fun c => Cert.Reference4Ideal.Read.val_main_v10 (F := Ideal) (Cert.Kernel4Ideal.Blk.KV m c) (Cert.Kernel4Ideal.Blk.CA m c), ?_, ?_⟩
  · refine (θ_run Cert.Kernel4Ideal.defs _ _).mono (fun r h c => ?_) (Cert.Kernel4Ideal.Value.run_blocks m g)
    obtain ⟨-, -, -, -, h13, hargs⟩ := h c
    exact ⟨h13.trans (Cert.Kernel4Ideal.Blk.arr13 m c), hargs⟩
  · refine (θ_run Cert.Reference4Ideal.defs _ _).mono (fun r h c => ?_) (Cert.Reference4Ideal.Value.run m' g')
    obtain ⟨h10, hargs⟩ := h c
    obtain ⟨-, -, -, -, e4, e5⟩ := hagree c
    refine ⟨h10.trans ?_, hargs⟩
    rw [Cert.Reference4Ideal.Read.val_main_v10_eq, e4, e5]; rfl

theorem frame_ref4 : Cert.quiescent_Reference4Ideal (hReference4Ideal := Cert.Reference4Ideal.Gen.facts) := by
  intro m g _
  exact (θ_run Cert.Reference4Ideal.defs _ _).mono (fun r h => ⟨fun c => (h c).2, sem_eq_zero_of_no_sems rfl r.2⟩)
    (Cert.Reference4Ideal.Value.run m g)

theorem algebraic5 : Cert.algebraic_Kernel5Ideal_Reference5Ideal (hKernel5Ideal := Cert.Kernel5Ideal.Gen.facts)
    (hReference5Ideal := Cert.Reference5Ideal.Gen.facts) := by
  intro m g m' g' _ hagree
  refine ⟨fun c => Cert.Reference5Ideal.Read.val_main_v10 (F := Ideal) (Cert.Kernel5Ideal.Blk.KV m c) (Cert.Kernel5Ideal.Blk.CA m c), ?_, ?_⟩
  · refine (θ_run Cert.Kernel5Ideal.defs _ _).mono (fun r h c => ?_) (Cert.Kernel5Ideal.Value.run_blocks m g)
    obtain ⟨-, -, -, -, h12, hargs⟩ := h c
    exact ⟨h12.trans (Cert.Kernel5Ideal.Blk.arr12 m c), hargs⟩
  · refine (θ_run Cert.Reference5Ideal.defs _ _).mono (fun r h c => ?_) (Cert.Reference5Ideal.Value.run m' g')
    obtain ⟨h10, hargs⟩ := h c
    obtain ⟨-, -, -, -, e4, e5⟩ := hagree c
    refine ⟨h10.trans ?_, hargs⟩
    rw [Cert.Reference5Ideal.Read.val_main_v10_eq, e4, e5]; rfl

theorem frame_ref5 : Cert.quiescent_Reference5Ideal (hReference5Ideal := Cert.Reference5Ideal.Gen.facts) := by
  intro m g _
  exact (θ_run Cert.Reference5Ideal.defs _ _).mono (fun r h => ⟨fun c => (h c).2, sem_eq_zero_of_no_sems rfl r.2⟩)
    (Cert.Reference5Ideal.Value.run m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.Gen.facts, Cert.Pre_finite3.Gen.facts,
  fun m ρ _ => Cert.Kernel.Gen.frame m ρ,
  fun m ρ _ => Cert.KernelIdeal.Gen.frame m ρ,
  fun m ρ _ => Cert.KernelIdeal.Gen.frame m ρ,
  frame_ref,
  frame_ref_pre,
  fun m ρ _ => Cert.Kernel2.Gen.frame m ρ,
  fun m ρ _ => Cert.Kernel2Ideal.Gen.frame m ρ,
  frame_ref2,
  fun m ρ _ => Cert.Kernel3.Gen.frame m ρ,
  fun m ρ _ => Cert.Kernel3Ideal.Gen.frame m ρ,
  fun m ρ _ => Cert.Kernel3Ideal.Gen.frame m ρ,
  frame_ref3,
  frame_ref3_pre,
  fun m ρ _ => Cert.Kernel4.Gen.frame m ρ,
  fun m ρ _ => Cert.Kernel4Ideal.Gen.frame m ρ,
  frame_ref4,
  fun m ρ _ => Cert.Kernel5.Gen.frame m ρ,
  fun m ρ _ => Cert.Kernel5Ideal.Gen.frame m ρ,
  frame_ref5,
  IdealRules.named_const.statement Cert.KernelIdeal.κ "mask" .f32 0xF149F2CA#32 ⊥ rfl,
  algebraic,
  trivial,
  algebraic2,
  trivial,
  algebraic3,
  IdealRules.named_const.statement Cert.Kernel4Ideal.κ "mask" .f32 0xF149F2CA#32 ⊥ rfl,
  algebraic4,
  IdealRules.named_const.statement Cert.Kernel5Ideal.κ "mask" .f32 0xF149F2CA#32 ⊥ rfl,
  algebraic5⟩

end Cert.Proof

end
